-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![4096, 1024]⟩ (Layout.meshBlock [2, 4, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![4096, 4096]⟩ (Layout.meshBlock [2, 4, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 4096]⟩ ⟨2, ![1024, 4096]⟩ (Layout.meshBlock [2, 4, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S256x4096 : Shape := ⟨2, ![256, 4096]⟩
abbrev S2x4x256x256 : Shape := ⟨4, ![2, 4, 256, 256]⟩
abbrev S2x4 : Shape := ⟨2, ![2, 4]⟩
abbrev S2x3 : Shape := ⟨2, ![2, 3]⟩
abbrev S2x4x2 : Shape := ⟨3, ![2, 4, 2]⟩
abbrev S_ : Shape := ⟨0, ![]⟩
abbrev S1024x256 : Shape := ⟨2, ![1024, 256]⟩
abbrev S256x256 : Shape := ⟨2, ![256, 256]⟩
abbrev S1x1x256x256 : Shape := ⟨4, ![1, 1, 256, 256]⟩
abbrev S1x1 : Shape := ⟨2, ![1, 1]⟩
abbrev S1x1x1 : Shape := ⟨3, ![1, 1, 1]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S256x4096, .f32⟩
  | .local _ .vmem, ⟨0, _⟩ => ⟨S1024x1024, .f32⟩
  | .local _ .vmem, ⟨1, _⟩ => ⟨S1024x4096, .f32⟩
  | .local _ .vmem, ⟨2, _⟩ => ⟨S256x4096, .f32⟩
  | .local _ .vmem, ⟨3, _⟩ => ⟨S2x4x256x256, .f32⟩
  | .local _ .vmem, ⟨4, _⟩ => ⟨S2x4x256x256, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  (ofTc nBuf bufTy 1 73 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_16 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_15 : BitVec 32 := 16#32
  let v25 : BitVec 32 := Scalar.muli v11 c16_i32_15
  let v26 : BitVec 32 := Scalar.addi c0_i32_16 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_17 : BitVec 32 := 4#32
  let v27 : BitVec 32 := Scalar.muli v5 c4_i32_17
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v29 : BitVec 32 := Scalar.muli v8 c1_i32_18
  let v30 : BitVec 32 := Scalar.addi v28 v29
  v30.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_4 : BitVec 32 := 0#32
  let v14 : BitVec 1 := Scalar.cmpi .sgt v5 c0_i32_4
  let v31 : BitVec 32 := Scalar.extui v14
  let c0_i32_19 : BitVec 32 := 0#32
  let v32 : BitVec 1 := Scalar.cmpi .ne v31 c0_i32_19
  v32

def k0_dev2 (d0 : Dev nD) : Nat :=
  let c0_i32_1398 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1397 : BitVec 32 := 16#32
  let v1053 : BitVec 32 := Scalar.muli v2 c16_i32_1397
  let v1054 : BitVec 32 := Scalar.addi c0_i32_1398 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v20 : BitVec 32 := Scalar.subi v5 c1_i32_10
  let c0_i32_11 : BitVec 32 := 0#32
  let v21 : BitVec 32 := Scalar.maxsi v20 c0_i32_11
  let c4_i32_1399 : BitVec 32 := 4#32
  let v1055 : BitVec 32 := Scalar.muli v21 c4_i32_1399
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1400 : BitVec 32 := 1#32
  let v1057 : BitVec 32 := Scalar.muli v8 c1_i32_1400
  let v1058 : BitVec 32 := Scalar.addi v1056 v1057
  v1058.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v15 : BitVec 1 := Scalar.cmpi .slt v5 c3_i32_5
  let v33 : BitVec 32 := Scalar.extui v15
  let c0_i32_20 : BitVec 32 := 0#32
  let v34 : BitVec 1 := Scalar.cmpi .ne v33 c0_i32_20
  v34

def k0_dev3 (d0 : Dev nD) : Nat :=
  let c0_i32_1398 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1397 : BitVec 32 := 16#32
  let v1053 : BitVec 32 := Scalar.muli v2 c16_i32_1397
  let v1054 : BitVec 32 := Scalar.addi c0_i32_1398 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v22 : BitVec 32 := Scalar.addi v5 c1_i32_12
  let c3_i32_13 : BitVec 32 := 3#32
  let v23 : BitVec 32 := Scalar.minsi v22 c3_i32_13
  let c4_i32_1399 : BitVec 32 := 4#32
  let v1055 : BitVec 32 := Scalar.muli v23 c4_i32_1399
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1400 : BitVec 32 := 1#32
  let v1057 : BitVec 32 := Scalar.muli v8 c1_i32_1400
  let v1058 : BitVec 32 := Scalar.addi v1056 v1057
  v1058.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let v35 : BitVec 32 := Scalar.extui v12
  let c0_i32_21 : BitVec 32 := 0#32
  let v36 : BitVec 1 := Scalar.cmpi .ne v35 c0_i32_21
  v36

def k0_dev4 (d0 : Dev nD) : Nat :=
  let c0_i32_1398 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1397 : BitVec 32 := 16#32
  let v1053 : BitVec 32 := Scalar.muli v2 c16_i32_1397
  let v1054 : BitVec 32 := Scalar.addi c0_i32_1398 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1399 : BitVec 32 := 4#32
  let v1055 : BitVec 32 := Scalar.muli v5 c4_i32_1399
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c0_i32_7 : BitVec 32 := 0#32
  let v17 : BitVec 32 := Scalar.maxsi v16 c0_i32_7
  let c1_i32_1400 : BitVec 32 := 1#32
  let v1057 : BitVec 32 := Scalar.muli v17 c1_i32_1400
  let v1058 : BitVec 32 := Scalar.addi v1056 v1057
  v1058.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v37 : BitVec 32 := Scalar.extui v13
  let c0_i32_22 : BitVec 32 := 0#32
  let v38 : BitVec 1 := Scalar.cmpi .ne v37 c0_i32_22
  v38

def k0_dev5 (d0 : Dev nD) : Nat :=
  let c0_i32_1398 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1397 : BitVec 32 := 16#32
  let v1053 : BitVec 32 := Scalar.muli v2 c16_i32_1397
  let v1054 : BitVec 32 := Scalar.addi c0_i32_1398 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1399 : BitVec 32 := 4#32
  let v1055 : BitVec 32 := Scalar.muli v5 c4_i32_1399
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v18 : BitVec 32 := Scalar.addi v8 c1_i32_8
  let c3_i32_9 : BitVec 32 := 3#32
  let v19 : BitVec 32 := Scalar.minsi v18 c3_i32_9
  let c1_i32_1400 : BitVec 32 := 1#32
  let v1057 : BitVec 32 := Scalar.muli v19 c1_i32_1400
  let v1058 : BitVec 32 := Scalar.addi v1056 v1057
  v1058.toNat
def k0_amt1 (d0 : Dev nD) : BitVec 32 :=
  let c1_i32_23 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_4 : BitVec 32 := 0#32
  let v14 : BitVec 1 := Scalar.cmpi .sgt v5 c0_i32_4
  let v39 : BitVec 32 := Scalar.extui v14
  let v40 : BitVec 32 := Scalar.addi c1_i32_23 v39
  let c3_i32_5 : BitVec 32 := 3#32
  let v15 : BitVec 1 := Scalar.cmpi .slt v5 c3_i32_5
  let v41 : BitVec 32 := Scalar.extui v15
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let v43 : BitVec 32 := Scalar.extui v12
  let v44 : BitVec 32 := Scalar.addi v42 v43
  let c3_i32 : BitVec 32 := 3#32
  let v13 : BitVec 1 := Scalar.cmpi .slt v8 c3_i32
  let v45 : BitVec 32 := Scalar.extui v13
  let v46 : BitVec 32 := Scalar.addi v44 v45
  v46

def k0_off1 (d0 : Dev nD) (c0_i32_25 : BitVec 32) : Fin 2 → Nat :=
  let c0_26 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v49 : BitVec 32 := Scalar.muli v10 c512_i32
  let v50 : BitVec 32 := Scalar.addi v49 c0_i32_25
  let v51 : Index := Scalar.indexCast v50
  ![0, v51.toNat]
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_42 : BitVec 32 := 0#32
  let v79 : BitVec 1 := Scalar.cmpi .eq v5 c0_i32_42
  let v82 : BitVec 32 := Scalar.extui v79
  let c0_i32_52 : BitVec 32 := 0#32
  let v83 : BitVec 1 := Scalar.cmpi .ne v82 c0_i32_52
  v83

def k0_dev6 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v22 : BitVec 32 := Scalar.addi v5 c1_i32_12
  let c3_i32_13 : BitVec 32 := 3#32
  let v23 : BitVec 32 := Scalar.minsi v22 c3_i32_13
  let c4_i32_1398 : BitVec 32 := 4#32
  let v1055 : BitVec 32 := Scalar.muli v23 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_53 : BitVec 32 := 0#32
  let v84 : BitVec 1 := Scalar.cmpi .eq v5 c0_i32_53
  let v87 : BitVec 32 := Scalar.extui v84
  let c0_i32_63 : BitVec 32 := 0#32
  let v88 : BitVec 1 := Scalar.cmpi .ne v87 c0_i32_63
  v88

def k0_dev7 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v22 : BitVec 32 := Scalar.addi v5 c1_i32_12
  let c3_i32_13 : BitVec 32 := 3#32
  let v23 : BitVec 32 := Scalar.minsi v22 c3_i32_13
  let c4_i32_1398 : BitVec 32 := 4#32
  let v1055 : BitVec 32 := Scalar.muli v23 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_64 : BitVec 32 := 0#32
  let v89 : BitVec 1 := Scalar.cmpi .eq v5 c0_i32_64
  let v92 : BitVec 32 := Scalar.extui v89
  let c0_i32_74 : BitVec 32 := 0#32
  let v93 : BitVec 1 := Scalar.cmpi .ne v92 c0_i32_74
  v93

def k0_dev8 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v22 : BitVec 32 := Scalar.addi v5 c1_i32_12
  let c3_i32_13 : BitVec 32 := 3#32
  let v23 : BitVec 32 := Scalar.minsi v22 c3_i32_13
  let c4_i32_1398 : BitVec 32 := 4#32
  let v1055 : BitVec 32 := Scalar.muli v23 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_75 : BitVec 32 := 3#32
  let v94 : BitVec 1 := Scalar.cmpi .eq v5 c3_i32_75
  let v97 : BitVec 32 := Scalar.extui v94
  let c0_i32_85 : BitVec 32 := 0#32
  let v98 : BitVec 1 := Scalar.cmpi .ne v97 c0_i32_85
  v98

def k0_dev9 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v20 : BitVec 32 := Scalar.subi v5 c1_i32_10
  let c0_i32_11 : BitVec 32 := 0#32
  let v21 : BitVec 32 := Scalar.maxsi v20 c0_i32_11
  let c4_i32_1398 : BitVec 32 := 4#32
  let v1055 : BitVec 32 := Scalar.muli v21 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_86 : BitVec 32 := 3#32
  let v99 : BitVec 1 := Scalar.cmpi .eq v5 c3_i32_86
  let v102 : BitVec 32 := Scalar.extui v99
  let c0_i32_96 : BitVec 32 := 0#32
  let v103 : BitVec 1 := Scalar.cmpi .ne v102 c0_i32_96
  v103

def k0_dev10 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v20 : BitVec 32 := Scalar.subi v5 c1_i32_10
  let c0_i32_11 : BitVec 32 := 0#32
  let v21 : BitVec 32 := Scalar.maxsi v20 c0_i32_11
  let c4_i32_1398 : BitVec 32 := 4#32
  let v1055 : BitVec 32 := Scalar.muli v21 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_97 : BitVec 32 := 3#32
  let v104 : BitVec 1 := Scalar.cmpi .eq v5 c3_i32_97
  let v107 : BitVec 32 := Scalar.extui v104
  let c0_i32_107 : BitVec 32 := 0#32
  let v108 : BitVec 1 := Scalar.cmpi .ne v107 c0_i32_107
  v108

def k0_dev11 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v20 : BitVec 32 := Scalar.subi v5 c1_i32_10
  let c0_i32_11 : BitVec 32 := 0#32
  let v21 : BitVec 32 := Scalar.maxsi v20 c0_i32_11
  let c4_i32_1398 : BitVec 32 := 4#32
  let v1055 : BitVec 32 := Scalar.muli v21 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond19 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_4 : BitVec 32 := 0#32
  let v14 : BitVec 1 := Scalar.cmpi .sgt v5 c0_i32_4
  let c3_i32_114 : BitVec 32 := 3#32
  let v113 : BitVec 1 := Scalar.cmpi .slt v5 c3_i32_114
  let v114 : BitVec 1 := Scalar.andi v14 v113
  let v117 : BitVec 32 := Scalar.extui v114
  let c0_i32_124 : BitVec 32 := 0#32
  let v118 : BitVec 1 := Scalar.cmpi .ne v117 c0_i32_124
  v118

def k0_dev12 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v22 : BitVec 32 := Scalar.addi v5 c1_i32_12
  let c3_i32_13 : BitVec 32 := 3#32
  let v23 : BitVec 32 := Scalar.minsi v22 c3_i32_13
  let c4_i32_1398 : BitVec 32 := 4#32
  let v1055 : BitVec 32 := Scalar.muli v23 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond22 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v15 : BitVec 1 := Scalar.cmpi .slt v5 c3_i32_5
  let c0_i32_131 : BitVec 32 := 0#32
  let v123 : BitVec 1 := Scalar.cmpi .sgt v5 c0_i32_131
  let v124 : BitVec 1 := Scalar.andi v15 v123
  let v127 : BitVec 32 := Scalar.extui v124
  let c0_i32_141 : BitVec 32 := 0#32
  let v128 : BitVec 1 := Scalar.cmpi .ne v127 c0_i32_141
  v128

def k0_dev13 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v20 : BitVec 32 := Scalar.subi v5 c1_i32_10
  let c0_i32_11 : BitVec 32 := 0#32
  let v21 : BitVec 32 := Scalar.maxsi v20 c0_i32_11
  let c4_i32_1398 : BitVec 32 := 4#32
  let v1055 : BitVec 32 := Scalar.muli v21 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond25 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_4 : BitVec 32 := 0#32
  let v14 : BitVec 1 := Scalar.cmpi .sgt v5 c0_i32_4
  let c2_i32_148 : BitVec 32 := 2#32
  let v133 : BitVec 1 := Scalar.cmpi .slt v5 c2_i32_148
  let v134 : BitVec 1 := Scalar.andi v14 v133
  let v137 : BitVec 32 := Scalar.extui v134
  let c0_i32_158 : BitVec 32 := 0#32
  let v138 : BitVec 1 := Scalar.cmpi .ne v137 c0_i32_158
  v138

def k0_dev14 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v22 : BitVec 32 := Scalar.addi v5 c1_i32_12
  let c3_i32_13 : BitVec 32 := 3#32
  let v23 : BitVec 32 := Scalar.minsi v22 c3_i32_13
  let c4_i32_1398 : BitVec 32 := 4#32
  let v1055 : BitVec 32 := Scalar.muli v23 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond28 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v15 : BitVec 1 := Scalar.cmpi .slt v5 c3_i32_5
  let c1_i32_165 : BitVec 32 := 1#32
  let v143 : BitVec 1 := Scalar.cmpi .sgt v5 c1_i32_165
  let v144 : BitVec 1 := Scalar.andi v15 v143
  let v147 : BitVec 32 := Scalar.extui v144
  let c0_i32_175 : BitVec 32 := 0#32
  let v148 : BitVec 1 := Scalar.cmpi .ne v147 c0_i32_175
  v148

def k0_dev15 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v20 : BitVec 32 := Scalar.subi v5 c1_i32_10
  let c0_i32_11 : BitVec 32 := 0#32
  let v21 : BitVec 32 := Scalar.maxsi v20 c0_i32_11
  let c4_i32_1398 : BitVec 32 := 4#32
  let v1055 : BitVec 32 := Scalar.muli v21 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond31 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_4 : BitVec 32 := 0#32
  let v14 : BitVec 1 := Scalar.cmpi .sgt v5 c0_i32_4
  let c1_i32_182 : BitVec 32 := 1#32
  let v153 : BitVec 1 := Scalar.cmpi .slt v5 c1_i32_182
  let v154 : BitVec 1 := Scalar.andi v14 v153
  let v157 : BitVec 32 := Scalar.extui v154
  let c0_i32_192 : BitVec 32 := 0#32
  let v158 : BitVec 1 := Scalar.cmpi .ne v157 c0_i32_192
  v158

def k0_dev16 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v22 : BitVec 32 := Scalar.addi v5 c1_i32_12
  let c3_i32_13 : BitVec 32 := 3#32
  let v23 : BitVec 32 := Scalar.minsi v22 c3_i32_13
  let c4_i32_1398 : BitVec 32 := 4#32
  let v1055 : BitVec 32 := Scalar.muli v23 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond34 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v15 : BitVec 1 := Scalar.cmpi .slt v5 c3_i32_5
  let c2_i32_199 : BitVec 32 := 2#32
  let v163 : BitVec 1 := Scalar.cmpi .sgt v5 c2_i32_199
  let v164 : BitVec 1 := Scalar.andi v15 v163
  let v167 : BitVec 32 := Scalar.extui v164
  let c0_i32_209 : BitVec 32 := 0#32
  let v168 : BitVec 1 := Scalar.cmpi .ne v167 c0_i32_209
  v168

def k0_dev17 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v20 : BitVec 32 := Scalar.subi v5 c1_i32_10
  let c0_i32_11 : BitVec 32 := 0#32
  let v21 : BitVec 32 := Scalar.maxsi v20 c0_i32_11
  let c4_i32_1398 : BitVec 32 := 4#32
  let v1055 : BitVec 32 := Scalar.muli v21 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond37 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_4 : BitVec 32 := 0#32
  let v14 : BitVec 1 := Scalar.cmpi .sgt v5 c0_i32_4
  let c0_i32_216 : BitVec 32 := 0#32
  let v173 : BitVec 1 := Scalar.cmpi .slt v5 c0_i32_216
  let v174 : BitVec 1 := Scalar.andi v14 v173
  let v177 : BitVec 32 := Scalar.extui v174
  let c0_i32_226 : BitVec 32 := 0#32
  let v178 : BitVec 1 := Scalar.cmpi .ne v177 c0_i32_226
  v178

def k0_dev18 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v22 : BitVec 32 := Scalar.addi v5 c1_i32_12
  let c3_i32_13 : BitVec 32 := 3#32
  let v23 : BitVec 32 := Scalar.minsi v22 c3_i32_13
  let c4_i32_1398 : BitVec 32 := 4#32
  let v1055 : BitVec 32 := Scalar.muli v23 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond40 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v15 : BitVec 1 := Scalar.cmpi .slt v5 c3_i32_5
  let c3_i32_233 : BitVec 32 := 3#32
  let v183 : BitVec 1 := Scalar.cmpi .sgt v5 c3_i32_233
  let v184 : BitVec 1 := Scalar.andi v15 v183
  let v187 : BitVec 32 := Scalar.extui v184
  let c0_i32_243 : BitVec 32 := 0#32
  let v188 : BitVec 1 := Scalar.cmpi .ne v187 c0_i32_243
  v188

def k0_dev19 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v20 : BitVec 32 := Scalar.subi v5 c1_i32_10
  let c0_i32_11 : BitVec 32 := 0#32
  let v21 : BitVec 32 := Scalar.maxsi v20 c0_i32_11
  let c4_i32_1398 : BitVec 32 := 4#32
  let v1055 : BitVec 32 := Scalar.muli v21 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_off2 (d0 : Dev nD) : Fin 4 → Nat :=
  let c0_247 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v195 : Index := Scalar.indexCast v5
  let c0_248 : Index := 0#32
  let c0_249 : Index := 0#32
  ![0, v195.toNat, 0, 0]
def k0_off3 (d0 : Dev nD) (c0_i32_256 : BitVec 32) : Fin 2 → Nat :=
  let c0_257 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32_255 : BitVec 32 := 512#32
  let v207 : BitVec 32 := Scalar.muli v10 c512_i32_255
  let v208 : BitVec 32 := Scalar.addi v207 c0_i32_256
  let v209 : Index := Scalar.indexCast v208
  ![0, v209.toNat]
def k0_off4 (d0 : Dev nD) : Fin 2 → Nat :=
  let c0_i32_264 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![0, v8.toNat]
def k0_off5 (d0 : Dev nD) (c0_i32_263 : BitVec 32) : Fin 2 → Nat :=
  let c0_i32_271 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_261 : BitVec 32 := 4#32
  let v215 : BitVec 32 := Scalar.muli v2 c4_i32_261
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v216 : BitVec 32 := Scalar.addi v215 v8
  let c512_i32_262 : BitVec 32 := 512#32
  let v217 : BitVec 32 := Scalar.muli v216 c512_i32_262
  let v218 : BitVec 32 := Scalar.addi v217 c0_i32_263
  ![0, v218.toNat]
def k0_dev20 (d0 : Dev nD) : Nat :=
  let c0_i32_268 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_267 : BitVec 32 := 16#32
  let v219 : BitVec 32 := Scalar.muli v11 c16_i32_267
  let v220 : BitVec 32 := Scalar.addi c0_i32_268 v219
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_269 : BitVec 32 := 4#32
  let v221 : BitVec 32 := Scalar.muli v5 c4_i32_269
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_270 : BitVec 32 := 1#32
  let v223 : BitVec 32 := Scalar.muli v8 c1_i32_270
  let v224 : BitVec 32 := Scalar.addi v222 v223
  v224.toNat
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let v239 : BitVec 32 := Scalar.extui v12
  let c0_i32_282 : BitVec 32 := 0#32
  let v240 : BitVec 1 := Scalar.cmpi .ne v239 c0_i32_282
  v240

def k0_off6 (d0 : Dev nD) : Fin 2 → Nat :=
  let c0_i32_279 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![0, v8.toNat]
def k0_off7 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_276 : BitVec 32 := 4#32
  let v235 : BitVec 32 := Scalar.muli v2 c4_i32_276
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v236 : BitVec 32 := Scalar.addi v235 v8
  let c512_i32_277 : BitVec 32 := 512#32
  let v237 : BitVec 32 := Scalar.muli v236 c512_i32_277
  let c0_i32_278 : BitVec 32 := 0#32
  let v238 : BitVec 32 := Scalar.addi v237 c0_i32_278
  ![0, v238.toNat]
def k0_dev21 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c0_i32_7 : BitVec 32 := 0#32
  let v17 : BitVec 32 := Scalar.maxsi v16 c0_i32_7
  let c1_i32_1399 : BitVec 32 := 1#32
  let v1057 : BitVec 32 := Scalar.muli v17 c1_i32_1399
  let v1058 : BitVec 32 := Scalar.addi v1056 v1057
  v1058.toNat
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v249 : BitVec 32 := Scalar.extui v13
  let c0_i32_292 : BitVec 32 := 0#32
  let v250 : BitVec 1 := Scalar.cmpi .ne v249 c0_i32_292
  v250

def k0_off8 (d0 : Dev nD) : Fin 2 → Nat :=
  let c0_i32_289 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![0, v8.toNat]
def k0_off9 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_286 : BitVec 32 := 4#32
  let v245 : BitVec 32 := Scalar.muli v2 c4_i32_286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v246 : BitVec 32 := Scalar.addi v245 v8
  let c512_i32_287 : BitVec 32 := 512#32
  let v247 : BitVec 32 := Scalar.muli v246 c512_i32_287
  let c0_i32_288 : BitVec 32 := 0#32
  let v248 : BitVec 32 := Scalar.addi v247 c0_i32_288
  ![0, v248.toNat]
def k0_dev22 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v18 : BitVec 32 := Scalar.addi v8 c1_i32_8
  let c3_i32_9 : BitVec 32 := 3#32
  let v19 : BitVec 32 := Scalar.minsi v18 c3_i32_9
  let c1_i32_1399 : BitVec 32 := 1#32
  let v1057 : BitVec 32 := Scalar.muli v19 c1_i32_1399
  let v1058 : BitVec 32 := Scalar.addi v1056 v1057
  v1058.toNat
def k0_cond44 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_316 : BitVec 32 := 0#32
  let v283 : BitVec 1 := Scalar.cmpi .eq v5 c0_i32_316
  let v286 : BitVec 32 := Scalar.extui v283
  let c0_i32_326 : BitVec 32 := 0#32
  let v287 : BitVec 1 := Scalar.cmpi .ne v286 c0_i32_326
  v287

def k0_dev23 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v22 : BitVec 32 := Scalar.addi v5 c1_i32_12
  let c3_i32_13 : BitVec 32 := 3#32
  let v23 : BitVec 32 := Scalar.minsi v22 c3_i32_13
  let c4_i32_1398 : BitVec 32 := 4#32
  let v1055 : BitVec 32 := Scalar.muli v23 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond46 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_327 : BitVec 32 := 0#32
  let v288 : BitVec 1 := Scalar.cmpi .eq v5 c0_i32_327
  let v291 : BitVec 32 := Scalar.extui v288
  let c0_i32_337 : BitVec 32 := 0#32
  let v292 : BitVec 1 := Scalar.cmpi .ne v291 c0_i32_337
  v292

def k0_dev24 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v22 : BitVec 32 := Scalar.addi v5 c1_i32_12
  let c3_i32_13 : BitVec 32 := 3#32
  let v23 : BitVec 32 := Scalar.minsi v22 c3_i32_13
  let c4_i32_1398 : BitVec 32 := 4#32
  let v1055 : BitVec 32 := Scalar.muli v23 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond48 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_338 : BitVec 32 := 0#32
  let v293 : BitVec 1 := Scalar.cmpi .eq v5 c0_i32_338
  let v296 : BitVec 32 := Scalar.extui v293
  let c0_i32_348 : BitVec 32 := 0#32
  let v297 : BitVec 1 := Scalar.cmpi .ne v296 c0_i32_348
  v297

def k0_dev25 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v22 : BitVec 32 := Scalar.addi v5 c1_i32_12
  let c3_i32_13 : BitVec 32 := 3#32
  let v23 : BitVec 32 := Scalar.minsi v22 c3_i32_13
  let c4_i32_1398 : BitVec 32 := 4#32
  let v1055 : BitVec 32 := Scalar.muli v23 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond50 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_349 : BitVec 32 := 3#32
  let v298 : BitVec 1 := Scalar.cmpi .eq v5 c3_i32_349
  let v301 : BitVec 32 := Scalar.extui v298
  let c0_i32_359 : BitVec 32 := 0#32
  let v302 : BitVec 1 := Scalar.cmpi .ne v301 c0_i32_359
  v302

def k0_dev26 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v20 : BitVec 32 := Scalar.subi v5 c1_i32_10
  let c0_i32_11 : BitVec 32 := 0#32
  let v21 : BitVec 32 := Scalar.maxsi v20 c0_i32_11
  let c4_i32_1398 : BitVec 32 := 4#32
  let v1055 : BitVec 32 := Scalar.muli v21 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond52 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_360 : BitVec 32 := 3#32
  let v303 : BitVec 1 := Scalar.cmpi .eq v5 c3_i32_360
  let v306 : BitVec 32 := Scalar.extui v303
  let c0_i32_370 : BitVec 32 := 0#32
  let v307 : BitVec 1 := Scalar.cmpi .ne v306 c0_i32_370
  v307

def k0_dev27 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v20 : BitVec 32 := Scalar.subi v5 c1_i32_10
  let c0_i32_11 : BitVec 32 := 0#32
  let v21 : BitVec 32 := Scalar.maxsi v20 c0_i32_11
  let c4_i32_1398 : BitVec 32 := 4#32
  let v1055 : BitVec 32 := Scalar.muli v21 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond54 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_371 : BitVec 32 := 3#32
  let v308 : BitVec 1 := Scalar.cmpi .eq v5 c3_i32_371
  let v311 : BitVec 32 := Scalar.extui v308
  let c0_i32_381 : BitVec 32 := 0#32
  let v312 : BitVec 1 := Scalar.cmpi .ne v311 c0_i32_381
  v312

def k0_dev28 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v20 : BitVec 32 := Scalar.subi v5 c1_i32_10
  let c0_i32_11 : BitVec 32 := 0#32
  let v21 : BitVec 32 := Scalar.maxsi v20 c0_i32_11
  let c4_i32_1398 : BitVec 32 := 4#32
  let v1055 : BitVec 32 := Scalar.muli v21 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond57 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_4 : BitVec 32 := 0#32
  let v14 : BitVec 1 := Scalar.cmpi .sgt v5 c0_i32_4
  let c3_i32_388 : BitVec 32 := 3#32
  let v317 : BitVec 1 := Scalar.cmpi .slt v5 c3_i32_388
  let v318 : BitVec 1 := Scalar.andi v14 v317
  let v321 : BitVec 32 := Scalar.extui v318
  let c0_i32_398 : BitVec 32 := 0#32
  let v322 : BitVec 1 := Scalar.cmpi .ne v321 c0_i32_398
  v322

def k0_dev29 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v22 : BitVec 32 := Scalar.addi v5 c1_i32_12
  let c3_i32_13 : BitVec 32 := 3#32
  let v23 : BitVec 32 := Scalar.minsi v22 c3_i32_13
  let c4_i32_1398 : BitVec 32 := 4#32
  let v1055 : BitVec 32 := Scalar.muli v23 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond60 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v15 : BitVec 1 := Scalar.cmpi .slt v5 c3_i32_5
  let c0_i32_405 : BitVec 32 := 0#32
  let v327 : BitVec 1 := Scalar.cmpi .sgt v5 c0_i32_405
  let v328 : BitVec 1 := Scalar.andi v15 v327
  let v331 : BitVec 32 := Scalar.extui v328
  let c0_i32_415 : BitVec 32 := 0#32
  let v332 : BitVec 1 := Scalar.cmpi .ne v331 c0_i32_415
  v332

def k0_dev30 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v20 : BitVec 32 := Scalar.subi v5 c1_i32_10
  let c0_i32_11 : BitVec 32 := 0#32
  let v21 : BitVec 32 := Scalar.maxsi v20 c0_i32_11
  let c4_i32_1398 : BitVec 32 := 4#32
  let v1055 : BitVec 32 := Scalar.muli v21 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond63 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_4 : BitVec 32 := 0#32
  let v14 : BitVec 1 := Scalar.cmpi .sgt v5 c0_i32_4
  let c2_i32_422 : BitVec 32 := 2#32
  let v337 : BitVec 1 := Scalar.cmpi .slt v5 c2_i32_422
  let v338 : BitVec 1 := Scalar.andi v14 v337
  let v341 : BitVec 32 := Scalar.extui v338
  let c0_i32_432 : BitVec 32 := 0#32
  let v342 : BitVec 1 := Scalar.cmpi .ne v341 c0_i32_432
  v342

def k0_dev31 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v22 : BitVec 32 := Scalar.addi v5 c1_i32_12
  let c3_i32_13 : BitVec 32 := 3#32
  let v23 : BitVec 32 := Scalar.minsi v22 c3_i32_13
  let c4_i32_1398 : BitVec 32 := 4#32
  let v1055 : BitVec 32 := Scalar.muli v23 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond66 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v15 : BitVec 1 := Scalar.cmpi .slt v5 c3_i32_5
  let c1_i32_439 : BitVec 32 := 1#32
  let v347 : BitVec 1 := Scalar.cmpi .sgt v5 c1_i32_439
  let v348 : BitVec 1 := Scalar.andi v15 v347
  let v351 : BitVec 32 := Scalar.extui v348
  let c0_i32_449 : BitVec 32 := 0#32
  let v352 : BitVec 1 := Scalar.cmpi .ne v351 c0_i32_449
  v352

def k0_dev32 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v20 : BitVec 32 := Scalar.subi v5 c1_i32_10
  let c0_i32_11 : BitVec 32 := 0#32
  let v21 : BitVec 32 := Scalar.maxsi v20 c0_i32_11
  let c4_i32_1398 : BitVec 32 := 4#32
  let v1055 : BitVec 32 := Scalar.muli v21 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond69 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_4 : BitVec 32 := 0#32
  let v14 : BitVec 1 := Scalar.cmpi .sgt v5 c0_i32_4
  let c1_i32_456 : BitVec 32 := 1#32
  let v357 : BitVec 1 := Scalar.cmpi .slt v5 c1_i32_456
  let v358 : BitVec 1 := Scalar.andi v14 v357
  let v361 : BitVec 32 := Scalar.extui v358
  let c0_i32_466 : BitVec 32 := 0#32
  let v362 : BitVec 1 := Scalar.cmpi .ne v361 c0_i32_466
  v362

def k0_dev33 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v22 : BitVec 32 := Scalar.addi v5 c1_i32_12
  let c3_i32_13 : BitVec 32 := 3#32
  let v23 : BitVec 32 := Scalar.minsi v22 c3_i32_13
  let c4_i32_1398 : BitVec 32 := 4#32
  let v1055 : BitVec 32 := Scalar.muli v23 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond72 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v15 : BitVec 1 := Scalar.cmpi .slt v5 c3_i32_5
  let c2_i32_473 : BitVec 32 := 2#32
  let v367 : BitVec 1 := Scalar.cmpi .sgt v5 c2_i32_473
  let v368 : BitVec 1 := Scalar.andi v15 v367
  let v371 : BitVec 32 := Scalar.extui v368
  let c0_i32_483 : BitVec 32 := 0#32
  let v372 : BitVec 1 := Scalar.cmpi .ne v371 c0_i32_483
  v372

def k0_dev34 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v20 : BitVec 32 := Scalar.subi v5 c1_i32_10
  let c0_i32_11 : BitVec 32 := 0#32
  let v21 : BitVec 32 := Scalar.maxsi v20 c0_i32_11
  let c4_i32_1398 : BitVec 32 := 4#32
  let v1055 : BitVec 32 := Scalar.muli v21 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond75 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_4 : BitVec 32 := 0#32
  let v14 : BitVec 1 := Scalar.cmpi .sgt v5 c0_i32_4
  let c0_i32_490 : BitVec 32 := 0#32
  let v377 : BitVec 1 := Scalar.cmpi .slt v5 c0_i32_490
  let v378 : BitVec 1 := Scalar.andi v14 v377
  let v381 : BitVec 32 := Scalar.extui v378
  let c0_i32_500 : BitVec 32 := 0#32
  let v382 : BitVec 1 := Scalar.cmpi .ne v381 c0_i32_500
  v382

def k0_dev35 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_12 : BitVec 32 := 1#32
  let v22 : BitVec 32 := Scalar.addi v5 c1_i32_12
  let c3_i32_13 : BitVec 32 := 3#32
  let v23 : BitVec 32 := Scalar.minsi v22 c3_i32_13
  let c4_i32_1398 : BitVec 32 := 4#32
  let v1055 : BitVec 32 := Scalar.muli v23 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond78 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_5 : BitVec 32 := 3#32
  let v15 : BitVec 1 := Scalar.cmpi .slt v5 c3_i32_5
  let c3_i32_507 : BitVec 32 := 3#32
  let v387 : BitVec 1 := Scalar.cmpi .sgt v5 c3_i32_507
  let v388 : BitVec 1 := Scalar.andi v15 v387
  let v391 : BitVec 32 := Scalar.extui v388
  let c0_i32_517 : BitVec 32 := 0#32
  let v392 : BitVec 1 := Scalar.cmpi .ne v391 c0_i32_517
  v392

def k0_dev36 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v20 : BitVec 32 := Scalar.subi v5 c1_i32_10
  let c0_i32_11 : BitVec 32 := 0#32
  let v21 : BitVec 32 := Scalar.maxsi v20 c0_i32_11
  let c4_i32_1398 : BitVec 32 := 4#32
  let v1055 : BitVec 32 := Scalar.muli v21 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_off10 (d0 : Dev nD) : Fin 4 → Nat :=
  let c1 : Index := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v399 : Index := Scalar.indexCast v5
  let c0_521 : Index := 0#32
  let c0_522 : Index := 0#32
  ![1, v399.toNat, 0, 0]
def k0_off11 (d0 : Dev nD) : Fin 2 → Nat :=
  let c1_i32_537 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![1, v8.toNat]
def k0_dev37 (d0 : Dev nD) : Nat :=
  let c0_i32_541 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_540 : BitVec 32 := 16#32
  let v423 : BitVec 32 := Scalar.muli v11 c16_i32_540
  let v424 : BitVec 32 := Scalar.addi c0_i32_541 v423
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_542 : BitVec 32 := 4#32
  let v425 : BitVec 32 := Scalar.muli v5 c4_i32_542
  let v426 : BitVec 32 := Scalar.addi v424 v425
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_543 : BitVec 32 := 1#32
  let v427 : BitVec 32 := Scalar.muli v8 c1_i32_543
  let v428 : BitVec 32 := Scalar.addi v426 v427
  v428.toNat
def k0_cond79 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let v443 : BitVec 32 := Scalar.extui v12
  let c0_i32_555 : BitVec 32 := 0#32
  let v444 : BitVec 1 := Scalar.cmpi .ne v443 c0_i32_555
  v444

def k0_off12 (d0 : Dev nD) : Fin 2 → Nat :=
  let c1_i32_552 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![1, v8.toNat]
def k0_off13 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_549 : BitVec 32 := 4#32
  let v439 : BitVec 32 := Scalar.muli v2 c4_i32_549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v440 : BitVec 32 := Scalar.addi v439 v8
  let c512_i32_550 : BitVec 32 := 512#32
  let v441 : BitVec 32 := Scalar.muli v440 c512_i32_550
  let c256_i32_551 : BitVec 32 := 256#32
  let v442 : BitVec 32 := Scalar.addi v441 c256_i32_551
  ![0, v442.toNat]
def k0_dev38 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c0_i32_7 : BitVec 32 := 0#32
  let v17 : BitVec 32 := Scalar.maxsi v16 c0_i32_7
  let c1_i32_1399 : BitVec 32 := 1#32
  let v1057 : BitVec 32 := Scalar.muli v17 c1_i32_1399
  let v1058 : BitVec 32 := Scalar.addi v1056 v1057
  v1058.toNat
def k0_cond80 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v453 : BitVec 32 := Scalar.extui v13
  let c0_i32_565 : BitVec 32 := 0#32
  let v454 : BitVec 1 := Scalar.cmpi .ne v453 c0_i32_565
  v454

def k0_off14 (d0 : Dev nD) : Fin 2 → Nat :=
  let c1_i32_562 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![1, v8.toNat]
def k0_off15 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_559 : BitVec 32 := 4#32
  let v449 : BitVec 32 := Scalar.muli v2 c4_i32_559
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v450 : BitVec 32 := Scalar.addi v449 v8
  let c512_i32_560 : BitVec 32 := 512#32
  let v451 : BitVec 32 := Scalar.muli v450 c512_i32_560
  let c256_i32_561 : BitVec 32 := 256#32
  let v452 : BitVec 32 := Scalar.addi v451 c256_i32_561
  ![0, v452.toNat]
def k0_dev39 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v18 : BitVec 32 := Scalar.addi v8 c1_i32_8
  let c3_i32_9 : BitVec 32 := 3#32
  let v19 : BitVec 32 := Scalar.minsi v18 c3_i32_9
  let c1_i32_1399 : BitVec 32 := 1#32
  let v1057 : BitVec 32 := Scalar.muli v19 c1_i32_1399
  let v1058 : BitVec 32 := Scalar.addi v1056 v1057
  v1058.toNat
def k0_cond81 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_566 : BitVec 32 := 1#32
  let v455 : BitVec 1 := Scalar.cmpi .sge v8 c1_i32_566
  let v462 : BitVec 32 := Scalar.extui v455
  let c0_i32_573 : BitVec 32 := 0#32
  let v463 : BitVec 1 := Scalar.cmpi .ne v462 c0_i32_573
  v463

def k0_off16 (d0 : Dev nD) : Fin 2 → Nat :=
  let c0_i32_572 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_567 : BitVec 32 := 1#32
  let v456 : BitVec 32 := Scalar.subi v8 c1_i32_567
  let c0_i32_568 : BitVec 32 := 0#32
  let v457 : BitVec 32 := Scalar.maxsi v456 c0_i32_568
  ![0, v457.toNat]
def k0_off17 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_569 : BitVec 32 := 4#32
  let v458 : BitVec 32 := Scalar.muli v2 c4_i32_569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_567 : BitVec 32 := 1#32
  let v456 : BitVec 32 := Scalar.subi v8 c1_i32_567
  let c0_i32_568 : BitVec 32 := 0#32
  let v457 : BitVec 32 := Scalar.maxsi v456 c0_i32_568
  let v459 : BitVec 32 := Scalar.addi v458 v457
  let c512_i32_570 : BitVec 32 := 512#32
  let v460 : BitVec 32 := Scalar.muli v459 c512_i32_570
  let c0_i32_571 : BitVec 32 := 0#32
  let v461 : BitVec 32 := Scalar.addi v460 c0_i32_571
  ![0, v461.toNat]
def k0_cond82 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_566 : BitVec 32 := 1#32
  let v455 : BitVec 1 := Scalar.cmpi .sge v8 c1_i32_566
  let c3_i32 : BitVec 32 := 3#32
  let v13 : BitVec 1 := Scalar.cmpi .slt v8 c3_i32
  let v472 : BitVec 1 := Scalar.andi v455 v13
  let v473 : BitVec 32 := Scalar.extui v472
  let c0_i32_583 : BitVec 32 := 0#32
  let v474 : BitVec 1 := Scalar.cmpi .ne v473 c0_i32_583
  v474

def k0_off18 (d0 : Dev nD) : Fin 3 → Nat :=
  let c0_i32_581 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_567 : BitVec 32 := 1#32
  let v456 : BitVec 32 := Scalar.subi v8 c1_i32_567
  let c0_i32_568 : BitVec 32 := 0#32
  let v457 : BitVec 32 := Scalar.maxsi v456 c0_i32_568
  let c0_i32_582 : BitVec 32 := 0#32
  ![0, v457.toNat, 0]
def k0_off19 (d0 : Dev nD) : Fin 2 → Nat :=
  let c0_i32_580 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_567 : BitVec 32 := 1#32
  let v456 : BitVec 32 := Scalar.subi v8 c1_i32_567
  let c0_i32_568 : BitVec 32 := 0#32
  let v457 : BitVec 32 := Scalar.maxsi v456 c0_i32_568
  ![0, v457.toNat]
def k0_off20 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_577 : BitVec 32 := 4#32
  let v468 : BitVec 32 := Scalar.muli v2 c4_i32_577
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_567 : BitVec 32 := 1#32
  let v456 : BitVec 32 := Scalar.subi v8 c1_i32_567
  let c0_i32_568 : BitVec 32 := 0#32
  let v457 : BitVec 32 := Scalar.maxsi v456 c0_i32_568
  let v469 : BitVec 32 := Scalar.addi v468 v457
  let c512_i32_578 : BitVec 32 := 512#32
  let v470 : BitVec 32 := Scalar.muli v469 c512_i32_578
  let c0_i32_579 : BitVec 32 := 0#32
  let v471 : BitVec 32 := Scalar.addi v470 c0_i32_579
  ![0, v471.toNat]
def k0_dev40 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v18 : BitVec 32 := Scalar.addi v8 c1_i32_8
  let c3_i32_9 : BitVec 32 := 3#32
  let v19 : BitVec 32 := Scalar.minsi v18 c3_i32_9
  let c1_i32_1399 : BitVec 32 := 1#32
  let v1057 : BitVec 32 := Scalar.muli v19 c1_i32_1399
  let v1058 : BitVec 32 := Scalar.addi v1056 v1057
  v1058.toNat
def k0_cond83 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_566 : BitVec 32 := 1#32
  let v455 : BitVec 1 := Scalar.cmpi .sge v8 c1_i32_566
  let v483 : BitVec 32 := Scalar.extui v455
  let c0_i32_593 : BitVec 32 := 0#32
  let v484 : BitVec 1 := Scalar.cmpi .ne v483 c0_i32_593
  v484

def k0_off21 (d0 : Dev nD) : Fin 3 → Nat :=
  let c0_i32_591 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_567 : BitVec 32 := 1#32
  let v456 : BitVec 32 := Scalar.subi v8 c1_i32_567
  let c0_i32_568 : BitVec 32 := 0#32
  let v457 : BitVec 32 := Scalar.maxsi v456 c0_i32_568
  let c1_i32_592 : BitVec 32 := 1#32
  ![0, v457.toNat, 1]
def k0_off22 (d0 : Dev nD) : Fin 2 → Nat :=
  let c0_i32_590 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_567 : BitVec 32 := 1#32
  let v456 : BitVec 32 := Scalar.subi v8 c1_i32_567
  let c0_i32_568 : BitVec 32 := 0#32
  let v457 : BitVec 32 := Scalar.maxsi v456 c0_i32_568
  ![0, v457.toNat]
def k0_off23 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_587 : BitVec 32 := 4#32
  let v479 : BitVec 32 := Scalar.muli v2 c4_i32_587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_567 : BitVec 32 := 1#32
  let v456 : BitVec 32 := Scalar.subi v8 c1_i32_567
  let c0_i32_568 : BitVec 32 := 0#32
  let v457 : BitVec 32 := Scalar.maxsi v456 c0_i32_568
  let v480 : BitVec 32 := Scalar.addi v479 v457
  let c512_i32_588 : BitVec 32 := 512#32
  let v481 : BitVec 32 := Scalar.muli v480 c512_i32_588
  let c0_i32_589 : BitVec 32 := 0#32
  let v482 : BitVec 32 := Scalar.addi v481 c0_i32_589
  ![0, v482.toNat]
def k0_dev41 (d0 : Dev nD) : Nat :=
  let c0_i32_1397 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1396 : BitVec 32 := 16#32
  let v1053 : BitVec 32 := Scalar.muli v11 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond84 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_594 : BitVec 32 := 1#32
  let v485 : BitVec 32 := Scalar.addi v8 c1_i32_594
  let c3_i32_595 : BitVec 32 := 3#32
  let v486 : BitVec 1 := Scalar.cmpi .sle v485 c3_i32_595
  let v493 : BitVec 32 := Scalar.extui v486
  let c0_i32_602 : BitVec 32 := 0#32
  let v494 : BitVec 1 := Scalar.cmpi .ne v493 c0_i32_602
  v494

def k0_off24 (d0 : Dev nD) : Fin 2 → Nat :=
  let c0_i32_601 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_596 : BitVec 32 := 1#32
  let v487 : BitVec 32 := Scalar.addi v8 c1_i32_596
  let c3_i32_597 : BitVec 32 := 3#32
  let v488 : BitVec 32 := Scalar.minsi v487 c3_i32_597
  ![0, v488.toNat]
def k0_off25 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_598 : BitVec 32 := 4#32
  let v489 : BitVec 32 := Scalar.muli v2 c4_i32_598
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_596 : BitVec 32 := 1#32
  let v487 : BitVec 32 := Scalar.addi v8 c1_i32_596
  let c3_i32_597 : BitVec 32 := 3#32
  let v488 : BitVec 32 := Scalar.minsi v487 c3_i32_597
  let v490 : BitVec 32 := Scalar.addi v489 v488
  let c512_i32_599 : BitVec 32 := 512#32
  let v491 : BitVec 32 := Scalar.muli v490 c512_i32_599
  let c0_i32_600 : BitVec 32 := 0#32
  let v492 : BitVec 32 := Scalar.addi v491 c0_i32_600
  ![0, v492.toNat]
def k0_cond85 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_594 : BitVec 32 := 1#32
  let v485 : BitVec 32 := Scalar.addi v8 c1_i32_594
  let c3_i32_595 : BitVec 32 := 3#32
  let v486 : BitVec 1 := Scalar.cmpi .sle v485 c3_i32_595
  let c0_i32 : BitVec 32 := 0#32
  let v12 : BitVec 1 := Scalar.cmpi .sgt v8 c0_i32
  let v503 : BitVec 1 := Scalar.andi v486 v12
  let v504 : BitVec 32 := Scalar.extui v503
  let c0_i32_612 : BitVec 32 := 0#32
  let v505 : BitVec 1 := Scalar.cmpi .ne v504 c0_i32_612
  v505

def k0_off26 (d0 : Dev nD) : Fin 3 → Nat :=
  let c0_i32_610 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_596 : BitVec 32 := 1#32
  let v487 : BitVec 32 := Scalar.addi v8 c1_i32_596
  let c3_i32_597 : BitVec 32 := 3#32
  let v488 : BitVec 32 := Scalar.minsi v487 c3_i32_597
  let c0_i32_611 : BitVec 32 := 0#32
  ![0, v488.toNat, 0]
def k0_off27 (d0 : Dev nD) : Fin 2 → Nat :=
  let c0_i32_609 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_596 : BitVec 32 := 1#32
  let v487 : BitVec 32 := Scalar.addi v8 c1_i32_596
  let c3_i32_597 : BitVec 32 := 3#32
  let v488 : BitVec 32 := Scalar.minsi v487 c3_i32_597
  ![0, v488.toNat]
def k0_off28 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_606 : BitVec 32 := 4#32
  let v499 : BitVec 32 := Scalar.muli v2 c4_i32_606
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_596 : BitVec 32 := 1#32
  let v487 : BitVec 32 := Scalar.addi v8 c1_i32_596
  let c3_i32_597 : BitVec 32 := 3#32
  let v488 : BitVec 32 := Scalar.minsi v487 c3_i32_597
  let v500 : BitVec 32 := Scalar.addi v499 v488
  let c512_i32_607 : BitVec 32 := 512#32
  let v501 : BitVec 32 := Scalar.muli v500 c512_i32_607
  let c0_i32_608 : BitVec 32 := 0#32
  let v502 : BitVec 32 := Scalar.addi v501 c0_i32_608
  ![0, v502.toNat]
def k0_dev42 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c0_i32_7 : BitVec 32 := 0#32
  let v17 : BitVec 32 := Scalar.maxsi v16 c0_i32_7
  let c1_i32_1399 : BitVec 32 := 1#32
  let v1057 : BitVec 32 := Scalar.muli v17 c1_i32_1399
  let v1058 : BitVec 32 := Scalar.addi v1056 v1057
  v1058.toNat
def k0_cond86 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_594 : BitVec 32 := 1#32
  let v485 : BitVec 32 := Scalar.addi v8 c1_i32_594
  let c3_i32_595 : BitVec 32 := 3#32
  let v486 : BitVec 1 := Scalar.cmpi .sle v485 c3_i32_595
  let v514 : BitVec 32 := Scalar.extui v486
  let c0_i32_622 : BitVec 32 := 0#32
  let v515 : BitVec 1 := Scalar.cmpi .ne v514 c0_i32_622
  v515

def k0_off29 (d0 : Dev nD) : Fin 3 → Nat :=
  let c0_i32_620 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_596 : BitVec 32 := 1#32
  let v487 : BitVec 32 := Scalar.addi v8 c1_i32_596
  let c3_i32_597 : BitVec 32 := 3#32
  let v488 : BitVec 32 := Scalar.minsi v487 c3_i32_597
  let c1_i32_621 : BitVec 32 := 1#32
  ![0, v488.toNat, 1]
def k0_off30 (d0 : Dev nD) : Fin 2 → Nat :=
  let c0_i32_619 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_596 : BitVec 32 := 1#32
  let v487 : BitVec 32 := Scalar.addi v8 c1_i32_596
  let c3_i32_597 : BitVec 32 := 3#32
  let v488 : BitVec 32 := Scalar.minsi v487 c3_i32_597
  ![0, v488.toNat]
def k0_off31 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_616 : BitVec 32 := 4#32
  let v510 : BitVec 32 := Scalar.muli v2 c4_i32_616
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_596 : BitVec 32 := 1#32
  let v487 : BitVec 32 := Scalar.addi v8 c1_i32_596
  let c3_i32_597 : BitVec 32 := 3#32
  let v488 : BitVec 32 := Scalar.minsi v487 c3_i32_597
  let v511 : BitVec 32 := Scalar.addi v510 v488
  let c512_i32_617 : BitVec 32 := 512#32
  let v512 : BitVec 32 := Scalar.muli v511 c512_i32_617
  let c0_i32_618 : BitVec 32 := 0#32
  let v513 : BitVec 32 := Scalar.addi v512 c0_i32_618
  ![0, v513.toNat]
def k0_dev43 (d0 : Dev nD) : Nat :=
  let c0_i32_1397 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1396 : BitVec 32 := 16#32
  let v1053 : BitVec 32 := Scalar.muli v11 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond87 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_623 : BitVec 32 := 2#32
  let v516 : BitVec 1 := Scalar.cmpi .sge v8 c2_i32_623
  let v523 : BitVec 32 := Scalar.extui v516
  let c0_i32_630 : BitVec 32 := 0#32
  let v524 : BitVec 1 := Scalar.cmpi .ne v523 c0_i32_630
  v524

def k0_off32 (d0 : Dev nD) : Fin 2 → Nat :=
  let c0_i32_629 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_624 : BitVec 32 := 2#32
  let v517 : BitVec 32 := Scalar.subi v8 c2_i32_624
  let c0_i32_625 : BitVec 32 := 0#32
  let v518 : BitVec 32 := Scalar.maxsi v517 c0_i32_625
  ![0, v518.toNat]
def k0_off33 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_626 : BitVec 32 := 4#32
  let v519 : BitVec 32 := Scalar.muli v2 c4_i32_626
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_624 : BitVec 32 := 2#32
  let v517 : BitVec 32 := Scalar.subi v8 c2_i32_624
  let c0_i32_625 : BitVec 32 := 0#32
  let v518 : BitVec 32 := Scalar.maxsi v517 c0_i32_625
  let v520 : BitVec 32 := Scalar.addi v519 v518
  let c512_i32_627 : BitVec 32 := 512#32
  let v521 : BitVec 32 := Scalar.muli v520 c512_i32_627
  let c0_i32_628 : BitVec 32 := 0#32
  let v522 : BitVec 32 := Scalar.addi v521 c0_i32_628
  ![0, v522.toNat]
def k0_cond88 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_623 : BitVec 32 := 2#32
  let v516 : BitVec 1 := Scalar.cmpi .sge v8 c2_i32_623
  let c3_i32 : BitVec 32 := 3#32
  let v13 : BitVec 1 := Scalar.cmpi .slt v8 c3_i32
  let v533 : BitVec 1 := Scalar.andi v516 v13
  let v534 : BitVec 32 := Scalar.extui v533
  let c0_i32_640 : BitVec 32 := 0#32
  let v535 : BitVec 1 := Scalar.cmpi .ne v534 c0_i32_640
  v535

def k0_off34 (d0 : Dev nD) : Fin 3 → Nat :=
  let c0_i32_638 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_624 : BitVec 32 := 2#32
  let v517 : BitVec 32 := Scalar.subi v8 c2_i32_624
  let c0_i32_625 : BitVec 32 := 0#32
  let v518 : BitVec 32 := Scalar.maxsi v517 c0_i32_625
  let c0_i32_639 : BitVec 32 := 0#32
  ![0, v518.toNat, 0]
def k0_off35 (d0 : Dev nD) : Fin 2 → Nat :=
  let c0_i32_637 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_624 : BitVec 32 := 2#32
  let v517 : BitVec 32 := Scalar.subi v8 c2_i32_624
  let c0_i32_625 : BitVec 32 := 0#32
  let v518 : BitVec 32 := Scalar.maxsi v517 c0_i32_625
  ![0, v518.toNat]
def k0_off36 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_634 : BitVec 32 := 4#32
  let v529 : BitVec 32 := Scalar.muli v2 c4_i32_634
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_624 : BitVec 32 := 2#32
  let v517 : BitVec 32 := Scalar.subi v8 c2_i32_624
  let c0_i32_625 : BitVec 32 := 0#32
  let v518 : BitVec 32 := Scalar.maxsi v517 c0_i32_625
  let v530 : BitVec 32 := Scalar.addi v529 v518
  let c512_i32_635 : BitVec 32 := 512#32
  let v531 : BitVec 32 := Scalar.muli v530 c512_i32_635
  let c0_i32_636 : BitVec 32 := 0#32
  let v532 : BitVec 32 := Scalar.addi v531 c0_i32_636
  ![0, v532.toNat]
def k0_dev44 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v18 : BitVec 32 := Scalar.addi v8 c1_i32_8
  let c3_i32_9 : BitVec 32 := 3#32
  let v19 : BitVec 32 := Scalar.minsi v18 c3_i32_9
  let c1_i32_1399 : BitVec 32 := 1#32
  let v1057 : BitVec 32 := Scalar.muli v19 c1_i32_1399
  let v1058 : BitVec 32 := Scalar.addi v1056 v1057
  v1058.toNat
def k0_cond89 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_623 : BitVec 32 := 2#32
  let v516 : BitVec 1 := Scalar.cmpi .sge v8 c2_i32_623
  let v544 : BitVec 32 := Scalar.extui v516
  let c0_i32_650 : BitVec 32 := 0#32
  let v545 : BitVec 1 := Scalar.cmpi .ne v544 c0_i32_650
  v545

def k0_off37 (d0 : Dev nD) : Fin 3 → Nat :=
  let c0_i32_648 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_624 : BitVec 32 := 2#32
  let v517 : BitVec 32 := Scalar.subi v8 c2_i32_624
  let c0_i32_625 : BitVec 32 := 0#32
  let v518 : BitVec 32 := Scalar.maxsi v517 c0_i32_625
  let c1_i32_649 : BitVec 32 := 1#32
  ![0, v518.toNat, 1]
def k0_off38 (d0 : Dev nD) : Fin 2 → Nat :=
  let c0_i32_647 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_624 : BitVec 32 := 2#32
  let v517 : BitVec 32 := Scalar.subi v8 c2_i32_624
  let c0_i32_625 : BitVec 32 := 0#32
  let v518 : BitVec 32 := Scalar.maxsi v517 c0_i32_625
  ![0, v518.toNat]
def k0_off39 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_644 : BitVec 32 := 4#32
  let v540 : BitVec 32 := Scalar.muli v2 c4_i32_644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_624 : BitVec 32 := 2#32
  let v517 : BitVec 32 := Scalar.subi v8 c2_i32_624
  let c0_i32_625 : BitVec 32 := 0#32
  let v518 : BitVec 32 := Scalar.maxsi v517 c0_i32_625
  let v541 : BitVec 32 := Scalar.addi v540 v518
  let c512_i32_645 : BitVec 32 := 512#32
  let v542 : BitVec 32 := Scalar.muli v541 c512_i32_645
  let c0_i32_646 : BitVec 32 := 0#32
  let v543 : BitVec 32 := Scalar.addi v542 c0_i32_646
  ![0, v543.toNat]
def k0_dev45 (d0 : Dev nD) : Nat :=
  let c0_i32_1397 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1396 : BitVec 32 := 16#32
  let v1053 : BitVec 32 := Scalar.muli v11 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond90 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_651 : BitVec 32 := 2#32
  let v546 : BitVec 32 := Scalar.addi v8 c2_i32_651
  let c3_i32_652 : BitVec 32 := 3#32
  let v547 : BitVec 1 := Scalar.cmpi .sle v546 c3_i32_652
  let v554 : BitVec 32 := Scalar.extui v547
  let c0_i32_659 : BitVec 32 := 0#32
  let v555 : BitVec 1 := Scalar.cmpi .ne v554 c0_i32_659
  v555

def k0_off40 (d0 : Dev nD) : Fin 2 → Nat :=
  let c0_i32_658 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_653 : BitVec 32 := 2#32
  let v548 : BitVec 32 := Scalar.addi v8 c2_i32_653
  let c3_i32_654 : BitVec 32 := 3#32
  let v549 : BitVec 32 := Scalar.minsi v548 c3_i32_654
  ![0, v549.toNat]
def k0_off41 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_655 : BitVec 32 := 4#32
  let v550 : BitVec 32 := Scalar.muli v2 c4_i32_655
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_653 : BitVec 32 := 2#32
  let v548 : BitVec 32 := Scalar.addi v8 c2_i32_653
  let c3_i32_654 : BitVec 32 := 3#32
  let v549 : BitVec 32 := Scalar.minsi v548 c3_i32_654
  let v551 : BitVec 32 := Scalar.addi v550 v549
  let c512_i32_656 : BitVec 32 := 512#32
  let v552 : BitVec 32 := Scalar.muli v551 c512_i32_656
  let c0_i32_657 : BitVec 32 := 0#32
  let v553 : BitVec 32 := Scalar.addi v552 c0_i32_657
  ![0, v553.toNat]
def k0_cond91 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_651 : BitVec 32 := 2#32
  let v546 : BitVec 32 := Scalar.addi v8 c2_i32_651
  let c3_i32_652 : BitVec 32 := 3#32
  let v547 : BitVec 1 := Scalar.cmpi .sle v546 c3_i32_652
  let c0_i32 : BitVec 32 := 0#32
  let v12 : BitVec 1 := Scalar.cmpi .sgt v8 c0_i32
  let v564 : BitVec 1 := Scalar.andi v547 v12
  let v565 : BitVec 32 := Scalar.extui v564
  let c0_i32_669 : BitVec 32 := 0#32
  let v566 : BitVec 1 := Scalar.cmpi .ne v565 c0_i32_669
  v566

def k0_off42 (d0 : Dev nD) : Fin 3 → Nat :=
  let c0_i32_667 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_653 : BitVec 32 := 2#32
  let v548 : BitVec 32 := Scalar.addi v8 c2_i32_653
  let c3_i32_654 : BitVec 32 := 3#32
  let v549 : BitVec 32 := Scalar.minsi v548 c3_i32_654
  let c0_i32_668 : BitVec 32 := 0#32
  ![0, v549.toNat, 0]
def k0_off43 (d0 : Dev nD) : Fin 2 → Nat :=
  let c0_i32_666 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_653 : BitVec 32 := 2#32
  let v548 : BitVec 32 := Scalar.addi v8 c2_i32_653
  let c3_i32_654 : BitVec 32 := 3#32
  let v549 : BitVec 32 := Scalar.minsi v548 c3_i32_654
  ![0, v549.toNat]
def k0_off44 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_663 : BitVec 32 := 4#32
  let v560 : BitVec 32 := Scalar.muli v2 c4_i32_663
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_653 : BitVec 32 := 2#32
  let v548 : BitVec 32 := Scalar.addi v8 c2_i32_653
  let c3_i32_654 : BitVec 32 := 3#32
  let v549 : BitVec 32 := Scalar.minsi v548 c3_i32_654
  let v561 : BitVec 32 := Scalar.addi v560 v549
  let c512_i32_664 : BitVec 32 := 512#32
  let v562 : BitVec 32 := Scalar.muli v561 c512_i32_664
  let c0_i32_665 : BitVec 32 := 0#32
  let v563 : BitVec 32 := Scalar.addi v562 c0_i32_665
  ![0, v563.toNat]
def k0_dev46 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c0_i32_7 : BitVec 32 := 0#32
  let v17 : BitVec 32 := Scalar.maxsi v16 c0_i32_7
  let c1_i32_1399 : BitVec 32 := 1#32
  let v1057 : BitVec 32 := Scalar.muli v17 c1_i32_1399
  let v1058 : BitVec 32 := Scalar.addi v1056 v1057
  v1058.toNat
def k0_cond92 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_651 : BitVec 32 := 2#32
  let v546 : BitVec 32 := Scalar.addi v8 c2_i32_651
  let c3_i32_652 : BitVec 32 := 3#32
  let v547 : BitVec 1 := Scalar.cmpi .sle v546 c3_i32_652
  let v575 : BitVec 32 := Scalar.extui v547
  let c0_i32_679 : BitVec 32 := 0#32
  let v576 : BitVec 1 := Scalar.cmpi .ne v575 c0_i32_679
  v576

def k0_off45 (d0 : Dev nD) : Fin 3 → Nat :=
  let c0_i32_677 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_653 : BitVec 32 := 2#32
  let v548 : BitVec 32 := Scalar.addi v8 c2_i32_653
  let c3_i32_654 : BitVec 32 := 3#32
  let v549 : BitVec 32 := Scalar.minsi v548 c3_i32_654
  let c1_i32_678 : BitVec 32 := 1#32
  ![0, v549.toNat, 1]
def k0_off46 (d0 : Dev nD) : Fin 2 → Nat :=
  let c0_i32_676 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_653 : BitVec 32 := 2#32
  let v548 : BitVec 32 := Scalar.addi v8 c2_i32_653
  let c3_i32_654 : BitVec 32 := 3#32
  let v549 : BitVec 32 := Scalar.minsi v548 c3_i32_654
  ![0, v549.toNat]
def k0_off47 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_673 : BitVec 32 := 4#32
  let v571 : BitVec 32 := Scalar.muli v2 c4_i32_673
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_653 : BitVec 32 := 2#32
  let v548 : BitVec 32 := Scalar.addi v8 c2_i32_653
  let c3_i32_654 : BitVec 32 := 3#32
  let v549 : BitVec 32 := Scalar.minsi v548 c3_i32_654
  let v572 : BitVec 32 := Scalar.addi v571 v549
  let c512_i32_674 : BitVec 32 := 512#32
  let v573 : BitVec 32 := Scalar.muli v572 c512_i32_674
  let c0_i32_675 : BitVec 32 := 0#32
  let v574 : BitVec 32 := Scalar.addi v573 c0_i32_675
  ![0, v574.toNat]
def k0_dev47 (d0 : Dev nD) : Nat :=
  let c0_i32_1397 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1396 : BitVec 32 := 16#32
  let v1053 : BitVec 32 := Scalar.muli v11 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond93 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_680 : BitVec 32 := 3#32
  let v577 : BitVec 1 := Scalar.cmpi .sge v8 c3_i32_680
  let v584 : BitVec 32 := Scalar.extui v577
  let c0_i32_687 : BitVec 32 := 0#32
  let v585 : BitVec 1 := Scalar.cmpi .ne v584 c0_i32_687
  v585

def k0_off48 (d0 : Dev nD) : Fin 2 → Nat :=
  let c0_i32_686 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_681 : BitVec 32 := 3#32
  let v578 : BitVec 32 := Scalar.subi v8 c3_i32_681
  let c0_i32_682 : BitVec 32 := 0#32
  let v579 : BitVec 32 := Scalar.maxsi v578 c0_i32_682
  ![0, v579.toNat]
def k0_off49 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_683 : BitVec 32 := 4#32
  let v580 : BitVec 32 := Scalar.muli v2 c4_i32_683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_681 : BitVec 32 := 3#32
  let v578 : BitVec 32 := Scalar.subi v8 c3_i32_681
  let c0_i32_682 : BitVec 32 := 0#32
  let v579 : BitVec 32 := Scalar.maxsi v578 c0_i32_682
  let v581 : BitVec 32 := Scalar.addi v580 v579
  let c512_i32_684 : BitVec 32 := 512#32
  let v582 : BitVec 32 := Scalar.muli v581 c512_i32_684
  let c0_i32_685 : BitVec 32 := 0#32
  let v583 : BitVec 32 := Scalar.addi v582 c0_i32_685
  ![0, v583.toNat]
def k0_cond94 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_680 : BitVec 32 := 3#32
  let v577 : BitVec 1 := Scalar.cmpi .sge v8 c3_i32_680
  let c3_i32 : BitVec 32 := 3#32
  let v13 : BitVec 1 := Scalar.cmpi .slt v8 c3_i32
  let v594 : BitVec 1 := Scalar.andi v577 v13
  let v595 : BitVec 32 := Scalar.extui v594
  let c0_i32_697 : BitVec 32 := 0#32
  let v596 : BitVec 1 := Scalar.cmpi .ne v595 c0_i32_697
  v596

def k0_off50 (d0 : Dev nD) : Fin 3 → Nat :=
  let c0_i32_695 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_681 : BitVec 32 := 3#32
  let v578 : BitVec 32 := Scalar.subi v8 c3_i32_681
  let c0_i32_682 : BitVec 32 := 0#32
  let v579 : BitVec 32 := Scalar.maxsi v578 c0_i32_682
  let c0_i32_696 : BitVec 32 := 0#32
  ![0, v579.toNat, 0]
def k0_off51 (d0 : Dev nD) : Fin 2 → Nat :=
  let c0_i32_694 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_681 : BitVec 32 := 3#32
  let v578 : BitVec 32 := Scalar.subi v8 c3_i32_681
  let c0_i32_682 : BitVec 32 := 0#32
  let v579 : BitVec 32 := Scalar.maxsi v578 c0_i32_682
  ![0, v579.toNat]
def k0_off52 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_691 : BitVec 32 := 4#32
  let v590 : BitVec 32 := Scalar.muli v2 c4_i32_691
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_681 : BitVec 32 := 3#32
  let v578 : BitVec 32 := Scalar.subi v8 c3_i32_681
  let c0_i32_682 : BitVec 32 := 0#32
  let v579 : BitVec 32 := Scalar.maxsi v578 c0_i32_682
  let v591 : BitVec 32 := Scalar.addi v590 v579
  let c512_i32_692 : BitVec 32 := 512#32
  let v592 : BitVec 32 := Scalar.muli v591 c512_i32_692
  let c0_i32_693 : BitVec 32 := 0#32
  let v593 : BitVec 32 := Scalar.addi v592 c0_i32_693
  ![0, v593.toNat]
def k0_dev48 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v18 : BitVec 32 := Scalar.addi v8 c1_i32_8
  let c3_i32_9 : BitVec 32 := 3#32
  let v19 : BitVec 32 := Scalar.minsi v18 c3_i32_9
  let c1_i32_1399 : BitVec 32 := 1#32
  let v1057 : BitVec 32 := Scalar.muli v19 c1_i32_1399
  let v1058 : BitVec 32 := Scalar.addi v1056 v1057
  v1058.toNat
def k0_cond95 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_680 : BitVec 32 := 3#32
  let v577 : BitVec 1 := Scalar.cmpi .sge v8 c3_i32_680
  let v605 : BitVec 32 := Scalar.extui v577
  let c0_i32_707 : BitVec 32 := 0#32
  let v606 : BitVec 1 := Scalar.cmpi .ne v605 c0_i32_707
  v606

def k0_off53 (d0 : Dev nD) : Fin 3 → Nat :=
  let c0_i32_705 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_681 : BitVec 32 := 3#32
  let v578 : BitVec 32 := Scalar.subi v8 c3_i32_681
  let c0_i32_682 : BitVec 32 := 0#32
  let v579 : BitVec 32 := Scalar.maxsi v578 c0_i32_682
  let c1_i32_706 : BitVec 32 := 1#32
  ![0, v579.toNat, 1]
def k0_off54 (d0 : Dev nD) : Fin 2 → Nat :=
  let c0_i32_704 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_681 : BitVec 32 := 3#32
  let v578 : BitVec 32 := Scalar.subi v8 c3_i32_681
  let c0_i32_682 : BitVec 32 := 0#32
  let v579 : BitVec 32 := Scalar.maxsi v578 c0_i32_682
  ![0, v579.toNat]
def k0_off55 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_701 : BitVec 32 := 4#32
  let v601 : BitVec 32 := Scalar.muli v2 c4_i32_701
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_681 : BitVec 32 := 3#32
  let v578 : BitVec 32 := Scalar.subi v8 c3_i32_681
  let c0_i32_682 : BitVec 32 := 0#32
  let v579 : BitVec 32 := Scalar.maxsi v578 c0_i32_682
  let v602 : BitVec 32 := Scalar.addi v601 v579
  let c512_i32_702 : BitVec 32 := 512#32
  let v603 : BitVec 32 := Scalar.muli v602 c512_i32_702
  let c0_i32_703 : BitVec 32 := 0#32
  let v604 : BitVec 32 := Scalar.addi v603 c0_i32_703
  ![0, v604.toNat]
def k0_dev49 (d0 : Dev nD) : Nat :=
  let c0_i32_1397 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1396 : BitVec 32 := 16#32
  let v1053 : BitVec 32 := Scalar.muli v11 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond96 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_708 : BitVec 32 := 3#32
  let v607 : BitVec 32 := Scalar.addi v8 c3_i32_708
  let c3_i32_709 : BitVec 32 := 3#32
  let v608 : BitVec 1 := Scalar.cmpi .sle v607 c3_i32_709
  let v615 : BitVec 32 := Scalar.extui v608
  let c0_i32_716 : BitVec 32 := 0#32
  let v616 : BitVec 1 := Scalar.cmpi .ne v615 c0_i32_716
  v616

def k0_off56 (d0 : Dev nD) : Fin 2 → Nat :=
  let c0_i32_715 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_710 : BitVec 32 := 3#32
  let v609 : BitVec 32 := Scalar.addi v8 c3_i32_710
  let c3_i32_711 : BitVec 32 := 3#32
  let v610 : BitVec 32 := Scalar.minsi v609 c3_i32_711
  ![0, v610.toNat]
def k0_off57 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_712 : BitVec 32 := 4#32
  let v611 : BitVec 32 := Scalar.muli v2 c4_i32_712
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_710 : BitVec 32 := 3#32
  let v609 : BitVec 32 := Scalar.addi v8 c3_i32_710
  let c3_i32_711 : BitVec 32 := 3#32
  let v610 : BitVec 32 := Scalar.minsi v609 c3_i32_711
  let v612 : BitVec 32 := Scalar.addi v611 v610
  let c512_i32_713 : BitVec 32 := 512#32
  let v613 : BitVec 32 := Scalar.muli v612 c512_i32_713
  let c0_i32_714 : BitVec 32 := 0#32
  let v614 : BitVec 32 := Scalar.addi v613 c0_i32_714
  ![0, v614.toNat]
def k0_cond97 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_708 : BitVec 32 := 3#32
  let v607 : BitVec 32 := Scalar.addi v8 c3_i32_708
  let c3_i32_709 : BitVec 32 := 3#32
  let v608 : BitVec 1 := Scalar.cmpi .sle v607 c3_i32_709
  let c0_i32 : BitVec 32 := 0#32
  let v12 : BitVec 1 := Scalar.cmpi .sgt v8 c0_i32
  let v625 : BitVec 1 := Scalar.andi v608 v12
  let v626 : BitVec 32 := Scalar.extui v625
  let c0_i32_726 : BitVec 32 := 0#32
  let v627 : BitVec 1 := Scalar.cmpi .ne v626 c0_i32_726
  v627

def k0_off58 (d0 : Dev nD) : Fin 3 → Nat :=
  let c0_i32_724 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_710 : BitVec 32 := 3#32
  let v609 : BitVec 32 := Scalar.addi v8 c3_i32_710
  let c3_i32_711 : BitVec 32 := 3#32
  let v610 : BitVec 32 := Scalar.minsi v609 c3_i32_711
  let c0_i32_725 : BitVec 32 := 0#32
  ![0, v610.toNat, 0]
def k0_off59 (d0 : Dev nD) : Fin 2 → Nat :=
  let c0_i32_723 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_710 : BitVec 32 := 3#32
  let v609 : BitVec 32 := Scalar.addi v8 c3_i32_710
  let c3_i32_711 : BitVec 32 := 3#32
  let v610 : BitVec 32 := Scalar.minsi v609 c3_i32_711
  ![0, v610.toNat]
def k0_off60 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_720 : BitVec 32 := 4#32
  let v621 : BitVec 32 := Scalar.muli v2 c4_i32_720
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_710 : BitVec 32 := 3#32
  let v609 : BitVec 32 := Scalar.addi v8 c3_i32_710
  let c3_i32_711 : BitVec 32 := 3#32
  let v610 : BitVec 32 := Scalar.minsi v609 c3_i32_711
  let v622 : BitVec 32 := Scalar.addi v621 v610
  let c512_i32_721 : BitVec 32 := 512#32
  let v623 : BitVec 32 := Scalar.muli v622 c512_i32_721
  let c0_i32_722 : BitVec 32 := 0#32
  let v624 : BitVec 32 := Scalar.addi v623 c0_i32_722
  ![0, v624.toNat]
def k0_dev50 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c0_i32_7 : BitVec 32 := 0#32
  let v17 : BitVec 32 := Scalar.maxsi v16 c0_i32_7
  let c1_i32_1399 : BitVec 32 := 1#32
  let v1057 : BitVec 32 := Scalar.muli v17 c1_i32_1399
  let v1058 : BitVec 32 := Scalar.addi v1056 v1057
  v1058.toNat
def k0_cond98 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_708 : BitVec 32 := 3#32
  let v607 : BitVec 32 := Scalar.addi v8 c3_i32_708
  let c3_i32_709 : BitVec 32 := 3#32
  let v608 : BitVec 1 := Scalar.cmpi .sle v607 c3_i32_709
  let v636 : BitVec 32 := Scalar.extui v608
  let c0_i32_736 : BitVec 32 := 0#32
  let v637 : BitVec 1 := Scalar.cmpi .ne v636 c0_i32_736
  v637

def k0_off61 (d0 : Dev nD) : Fin 3 → Nat :=
  let c0_i32_734 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_710 : BitVec 32 := 3#32
  let v609 : BitVec 32 := Scalar.addi v8 c3_i32_710
  let c3_i32_711 : BitVec 32 := 3#32
  let v610 : BitVec 32 := Scalar.minsi v609 c3_i32_711
  let c1_i32_735 : BitVec 32 := 1#32
  ![0, v610.toNat, 1]
def k0_off62 (d0 : Dev nD) : Fin 2 → Nat :=
  let c0_i32_733 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_710 : BitVec 32 := 3#32
  let v609 : BitVec 32 := Scalar.addi v8 c3_i32_710
  let c3_i32_711 : BitVec 32 := 3#32
  let v610 : BitVec 32 := Scalar.minsi v609 c3_i32_711
  ![0, v610.toNat]
def k0_off63 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_730 : BitVec 32 := 4#32
  let v632 : BitVec 32 := Scalar.muli v2 c4_i32_730
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_710 : BitVec 32 := 3#32
  let v609 : BitVec 32 := Scalar.addi v8 c3_i32_710
  let c3_i32_711 : BitVec 32 := 3#32
  let v610 : BitVec 32 := Scalar.minsi v609 c3_i32_711
  let v633 : BitVec 32 := Scalar.addi v632 v610
  let c512_i32_731 : BitVec 32 := 512#32
  let v634 : BitVec 32 := Scalar.muli v633 c512_i32_731
  let c0_i32_732 : BitVec 32 := 0#32
  let v635 : BitVec 32 := Scalar.addi v634 c0_i32_732
  ![0, v635.toNat]
def k0_dev51 (d0 : Dev nD) : Nat :=
  let c0_i32_1397 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1396 : BitVec 32 := 16#32
  let v1053 : BitVec 32 := Scalar.muli v11 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond99 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v638 : BitVec 1 := Scalar.cmpi .sge v8 c1_i32_737
  let v645 : BitVec 32 := Scalar.extui v638
  let c0_i32_744 : BitVec 32 := 0#32
  let v646 : BitVec 1 := Scalar.cmpi .ne v645 c0_i32_744
  v646

def k0_off64 (d0 : Dev nD) : Fin 2 → Nat :=
  let c1_i32_743 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v639 : BitVec 32 := Scalar.subi v8 c1_i32_738
  let c0_i32_739 : BitVec 32 := 0#32
  let v640 : BitVec 32 := Scalar.maxsi v639 c0_i32_739
  ![1, v640.toNat]
def k0_off65 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_740 : BitVec 32 := 4#32
  let v641 : BitVec 32 := Scalar.muli v2 c4_i32_740
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v639 : BitVec 32 := Scalar.subi v8 c1_i32_738
  let c0_i32_739 : BitVec 32 := 0#32
  let v640 : BitVec 32 := Scalar.maxsi v639 c0_i32_739
  let v642 : BitVec 32 := Scalar.addi v641 v640
  let c512_i32_741 : BitVec 32 := 512#32
  let v643 : BitVec 32 := Scalar.muli v642 c512_i32_741
  let c256_i32_742 : BitVec 32 := 256#32
  let v644 : BitVec 32 := Scalar.addi v643 c256_i32_742
  ![0, v644.toNat]
def k0_cond100 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v638 : BitVec 1 := Scalar.cmpi .sge v8 c1_i32_737
  let c3_i32 : BitVec 32 := 3#32
  let v13 : BitVec 1 := Scalar.cmpi .slt v8 c3_i32
  let v655 : BitVec 1 := Scalar.andi v638 v13
  let v656 : BitVec 32 := Scalar.extui v655
  let c0_i32_754 : BitVec 32 := 0#32
  let v657 : BitVec 1 := Scalar.cmpi .ne v656 c0_i32_754
  v657

def k0_off66 (d0 : Dev nD) : Fin 3 → Nat :=
  let c1_i32_752 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v639 : BitVec 32 := Scalar.subi v8 c1_i32_738
  let c0_i32_739 : BitVec 32 := 0#32
  let v640 : BitVec 32 := Scalar.maxsi v639 c0_i32_739
  let c0_i32_753 : BitVec 32 := 0#32
  ![1, v640.toNat, 0]
def k0_off67 (d0 : Dev nD) : Fin 2 → Nat :=
  let c1_i32_751 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v639 : BitVec 32 := Scalar.subi v8 c1_i32_738
  let c0_i32_739 : BitVec 32 := 0#32
  let v640 : BitVec 32 := Scalar.maxsi v639 c0_i32_739
  ![1, v640.toNat]
def k0_off68 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_748 : BitVec 32 := 4#32
  let v651 : BitVec 32 := Scalar.muli v2 c4_i32_748
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v639 : BitVec 32 := Scalar.subi v8 c1_i32_738
  let c0_i32_739 : BitVec 32 := 0#32
  let v640 : BitVec 32 := Scalar.maxsi v639 c0_i32_739
  let v652 : BitVec 32 := Scalar.addi v651 v640
  let c512_i32_749 : BitVec 32 := 512#32
  let v653 : BitVec 32 := Scalar.muli v652 c512_i32_749
  let c256_i32_750 : BitVec 32 := 256#32
  let v654 : BitVec 32 := Scalar.addi v653 c256_i32_750
  ![0, v654.toNat]
def k0_dev52 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v18 : BitVec 32 := Scalar.addi v8 c1_i32_8
  let c3_i32_9 : BitVec 32 := 3#32
  let v19 : BitVec 32 := Scalar.minsi v18 c3_i32_9
  let c1_i32_1399 : BitVec 32 := 1#32
  let v1057 : BitVec 32 := Scalar.muli v19 c1_i32_1399
  let v1058 : BitVec 32 := Scalar.addi v1056 v1057
  v1058.toNat
def k0_cond101 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v638 : BitVec 1 := Scalar.cmpi .sge v8 c1_i32_737
  let v666 : BitVec 32 := Scalar.extui v638
  let c0_i32_764 : BitVec 32 := 0#32
  let v667 : BitVec 1 := Scalar.cmpi .ne v666 c0_i32_764
  v667

def k0_off69 (d0 : Dev nD) : Fin 3 → Nat :=
  let c1_i32_762 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v639 : BitVec 32 := Scalar.subi v8 c1_i32_738
  let c0_i32_739 : BitVec 32 := 0#32
  let v640 : BitVec 32 := Scalar.maxsi v639 c0_i32_739
  let c1_i32_763 : BitVec 32 := 1#32
  ![1, v640.toNat, 1]
def k0_off70 (d0 : Dev nD) : Fin 2 → Nat :=
  let c1_i32_761 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v639 : BitVec 32 := Scalar.subi v8 c1_i32_738
  let c0_i32_739 : BitVec 32 := 0#32
  let v640 : BitVec 32 := Scalar.maxsi v639 c0_i32_739
  ![1, v640.toNat]
def k0_off71 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_758 : BitVec 32 := 4#32
  let v662 : BitVec 32 := Scalar.muli v2 c4_i32_758
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v639 : BitVec 32 := Scalar.subi v8 c1_i32_738
  let c0_i32_739 : BitVec 32 := 0#32
  let v640 : BitVec 32 := Scalar.maxsi v639 c0_i32_739
  let v663 : BitVec 32 := Scalar.addi v662 v640
  let c512_i32_759 : BitVec 32 := 512#32
  let v664 : BitVec 32 := Scalar.muli v663 c512_i32_759
  let c256_i32_760 : BitVec 32 := 256#32
  let v665 : BitVec 32 := Scalar.addi v664 c256_i32_760
  ![0, v665.toNat]
def k0_dev53 (d0 : Dev nD) : Nat :=
  let c0_i32_1397 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1396 : BitVec 32 := 16#32
  let v1053 : BitVec 32 := Scalar.muli v11 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond102 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_765 : BitVec 32 := 1#32
  let v668 : BitVec 32 := Scalar.addi v8 c1_i32_765
  let c3_i32_766 : BitVec 32 := 3#32
  let v669 : BitVec 1 := Scalar.cmpi .sle v668 c3_i32_766
  let v676 : BitVec 32 := Scalar.extui v669
  let c0_i32_773 : BitVec 32 := 0#32
  let v677 : BitVec 1 := Scalar.cmpi .ne v676 c0_i32_773
  v677

def k0_off72 (d0 : Dev nD) : Fin 2 → Nat :=
  let c1_i32_772 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_767 : BitVec 32 := 1#32
  let v670 : BitVec 32 := Scalar.addi v8 c1_i32_767
  let c3_i32_768 : BitVec 32 := 3#32
  let v671 : BitVec 32 := Scalar.minsi v670 c3_i32_768
  ![1, v671.toNat]
def k0_off73 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_769 : BitVec 32 := 4#32
  let v672 : BitVec 32 := Scalar.muli v2 c4_i32_769
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_767 : BitVec 32 := 1#32
  let v670 : BitVec 32 := Scalar.addi v8 c1_i32_767
  let c3_i32_768 : BitVec 32 := 3#32
  let v671 : BitVec 32 := Scalar.minsi v670 c3_i32_768
  let v673 : BitVec 32 := Scalar.addi v672 v671
  let c512_i32_770 : BitVec 32 := 512#32
  let v674 : BitVec 32 := Scalar.muli v673 c512_i32_770
  let c256_i32_771 : BitVec 32 := 256#32
  let v675 : BitVec 32 := Scalar.addi v674 c256_i32_771
  ![0, v675.toNat]
def k0_cond103 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_765 : BitVec 32 := 1#32
  let v668 : BitVec 32 := Scalar.addi v8 c1_i32_765
  let c3_i32_766 : BitVec 32 := 3#32
  let v669 : BitVec 1 := Scalar.cmpi .sle v668 c3_i32_766
  let c0_i32 : BitVec 32 := 0#32
  let v12 : BitVec 1 := Scalar.cmpi .sgt v8 c0_i32
  let v686 : BitVec 1 := Scalar.andi v669 v12
  let v687 : BitVec 32 := Scalar.extui v686
  let c0_i32_783 : BitVec 32 := 0#32
  let v688 : BitVec 1 := Scalar.cmpi .ne v687 c0_i32_783
  v688

def k0_off74 (d0 : Dev nD) : Fin 3 → Nat :=
  let c1_i32_781 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_767 : BitVec 32 := 1#32
  let v670 : BitVec 32 := Scalar.addi v8 c1_i32_767
  let c3_i32_768 : BitVec 32 := 3#32
  let v671 : BitVec 32 := Scalar.minsi v670 c3_i32_768
  let c0_i32_782 : BitVec 32 := 0#32
  ![1, v671.toNat, 0]
def k0_off75 (d0 : Dev nD) : Fin 2 → Nat :=
  let c1_i32_780 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_767 : BitVec 32 := 1#32
  let v670 : BitVec 32 := Scalar.addi v8 c1_i32_767
  let c3_i32_768 : BitVec 32 := 3#32
  let v671 : BitVec 32 := Scalar.minsi v670 c3_i32_768
  ![1, v671.toNat]
def k0_off76 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_777 : BitVec 32 := 4#32
  let v682 : BitVec 32 := Scalar.muli v2 c4_i32_777
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_767 : BitVec 32 := 1#32
  let v670 : BitVec 32 := Scalar.addi v8 c1_i32_767
  let c3_i32_768 : BitVec 32 := 3#32
  let v671 : BitVec 32 := Scalar.minsi v670 c3_i32_768
  let v683 : BitVec 32 := Scalar.addi v682 v671
  let c512_i32_778 : BitVec 32 := 512#32
  let v684 : BitVec 32 := Scalar.muli v683 c512_i32_778
  let c256_i32_779 : BitVec 32 := 256#32
  let v685 : BitVec 32 := Scalar.addi v684 c256_i32_779
  ![0, v685.toNat]
def k0_dev54 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c0_i32_7 : BitVec 32 := 0#32
  let v17 : BitVec 32 := Scalar.maxsi v16 c0_i32_7
  let c1_i32_1399 : BitVec 32 := 1#32
  let v1057 : BitVec 32 := Scalar.muli v17 c1_i32_1399
  let v1058 : BitVec 32 := Scalar.addi v1056 v1057
  v1058.toNat
def k0_cond104 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_765 : BitVec 32 := 1#32
  let v668 : BitVec 32 := Scalar.addi v8 c1_i32_765
  let c3_i32_766 : BitVec 32 := 3#32
  let v669 : BitVec 1 := Scalar.cmpi .sle v668 c3_i32_766
  let v697 : BitVec 32 := Scalar.extui v669
  let c0_i32_793 : BitVec 32 := 0#32
  let v698 : BitVec 1 := Scalar.cmpi .ne v697 c0_i32_793
  v698

def k0_off77 (d0 : Dev nD) : Fin 3 → Nat :=
  let c1_i32_791 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_767 : BitVec 32 := 1#32
  let v670 : BitVec 32 := Scalar.addi v8 c1_i32_767
  let c3_i32_768 : BitVec 32 := 3#32
  let v671 : BitVec 32 := Scalar.minsi v670 c3_i32_768
  let c1_i32_792 : BitVec 32 := 1#32
  ![1, v671.toNat, 1]
def k0_off78 (d0 : Dev nD) : Fin 2 → Nat :=
  let c1_i32_790 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_767 : BitVec 32 := 1#32
  let v670 : BitVec 32 := Scalar.addi v8 c1_i32_767
  let c3_i32_768 : BitVec 32 := 3#32
  let v671 : BitVec 32 := Scalar.minsi v670 c3_i32_768
  ![1, v671.toNat]
def k0_off79 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_787 : BitVec 32 := 4#32
  let v693 : BitVec 32 := Scalar.muli v2 c4_i32_787
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_767 : BitVec 32 := 1#32
  let v670 : BitVec 32 := Scalar.addi v8 c1_i32_767
  let c3_i32_768 : BitVec 32 := 3#32
  let v671 : BitVec 32 := Scalar.minsi v670 c3_i32_768
  let v694 : BitVec 32 := Scalar.addi v693 v671
  let c512_i32_788 : BitVec 32 := 512#32
  let v695 : BitVec 32 := Scalar.muli v694 c512_i32_788
  let c256_i32_789 : BitVec 32 := 256#32
  let v696 : BitVec 32 := Scalar.addi v695 c256_i32_789
  ![0, v696.toNat]
def k0_dev55 (d0 : Dev nD) : Nat :=
  let c0_i32_1397 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1396 : BitVec 32 := 16#32
  let v1053 : BitVec 32 := Scalar.muli v11 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond105 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_794 : BitVec 32 := 2#32
  let v699 : BitVec 1 := Scalar.cmpi .sge v8 c2_i32_794
  let v706 : BitVec 32 := Scalar.extui v699
  let c0_i32_801 : BitVec 32 := 0#32
  let v707 : BitVec 1 := Scalar.cmpi .ne v706 c0_i32_801
  v707

def k0_off80 (d0 : Dev nD) : Fin 2 → Nat :=
  let c1_i32_800 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_795 : BitVec 32 := 2#32
  let v700 : BitVec 32 := Scalar.subi v8 c2_i32_795
  let c0_i32_796 : BitVec 32 := 0#32
  let v701 : BitVec 32 := Scalar.maxsi v700 c0_i32_796
  ![1, v701.toNat]
def k0_off81 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_797 : BitVec 32 := 4#32
  let v702 : BitVec 32 := Scalar.muli v2 c4_i32_797
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_795 : BitVec 32 := 2#32
  let v700 : BitVec 32 := Scalar.subi v8 c2_i32_795
  let c0_i32_796 : BitVec 32 := 0#32
  let v701 : BitVec 32 := Scalar.maxsi v700 c0_i32_796
  let v703 : BitVec 32 := Scalar.addi v702 v701
  let c512_i32_798 : BitVec 32 := 512#32
  let v704 : BitVec 32 := Scalar.muli v703 c512_i32_798
  let c256_i32_799 : BitVec 32 := 256#32
  let v705 : BitVec 32 := Scalar.addi v704 c256_i32_799
  ![0, v705.toNat]
def k0_cond106 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_794 : BitVec 32 := 2#32
  let v699 : BitVec 1 := Scalar.cmpi .sge v8 c2_i32_794
  let c3_i32 : BitVec 32 := 3#32
  let v13 : BitVec 1 := Scalar.cmpi .slt v8 c3_i32
  let v716 : BitVec 1 := Scalar.andi v699 v13
  let v717 : BitVec 32 := Scalar.extui v716
  let c0_i32_811 : BitVec 32 := 0#32
  let v718 : BitVec 1 := Scalar.cmpi .ne v717 c0_i32_811
  v718

def k0_off82 (d0 : Dev nD) : Fin 3 → Nat :=
  let c1_i32_809 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_795 : BitVec 32 := 2#32
  let v700 : BitVec 32 := Scalar.subi v8 c2_i32_795
  let c0_i32_796 : BitVec 32 := 0#32
  let v701 : BitVec 32 := Scalar.maxsi v700 c0_i32_796
  let c0_i32_810 : BitVec 32 := 0#32
  ![1, v701.toNat, 0]
def k0_off83 (d0 : Dev nD) : Fin 2 → Nat :=
  let c1_i32_808 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_795 : BitVec 32 := 2#32
  let v700 : BitVec 32 := Scalar.subi v8 c2_i32_795
  let c0_i32_796 : BitVec 32 := 0#32
  let v701 : BitVec 32 := Scalar.maxsi v700 c0_i32_796
  ![1, v701.toNat]
def k0_off84 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_805 : BitVec 32 := 4#32
  let v712 : BitVec 32 := Scalar.muli v2 c4_i32_805
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_795 : BitVec 32 := 2#32
  let v700 : BitVec 32 := Scalar.subi v8 c2_i32_795
  let c0_i32_796 : BitVec 32 := 0#32
  let v701 : BitVec 32 := Scalar.maxsi v700 c0_i32_796
  let v713 : BitVec 32 := Scalar.addi v712 v701
  let c512_i32_806 : BitVec 32 := 512#32
  let v714 : BitVec 32 := Scalar.muli v713 c512_i32_806
  let c256_i32_807 : BitVec 32 := 256#32
  let v715 : BitVec 32 := Scalar.addi v714 c256_i32_807
  ![0, v715.toNat]
def k0_dev56 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v18 : BitVec 32 := Scalar.addi v8 c1_i32_8
  let c3_i32_9 : BitVec 32 := 3#32
  let v19 : BitVec 32 := Scalar.minsi v18 c3_i32_9
  let c1_i32_1399 : BitVec 32 := 1#32
  let v1057 : BitVec 32 := Scalar.muli v19 c1_i32_1399
  let v1058 : BitVec 32 := Scalar.addi v1056 v1057
  v1058.toNat
def k0_cond107 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_794 : BitVec 32 := 2#32
  let v699 : BitVec 1 := Scalar.cmpi .sge v8 c2_i32_794
  let v727 : BitVec 32 := Scalar.extui v699
  let c0_i32_821 : BitVec 32 := 0#32
  let v728 : BitVec 1 := Scalar.cmpi .ne v727 c0_i32_821
  v728

def k0_off85 (d0 : Dev nD) : Fin 3 → Nat :=
  let c1_i32_819 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_795 : BitVec 32 := 2#32
  let v700 : BitVec 32 := Scalar.subi v8 c2_i32_795
  let c0_i32_796 : BitVec 32 := 0#32
  let v701 : BitVec 32 := Scalar.maxsi v700 c0_i32_796
  let c1_i32_820 : BitVec 32 := 1#32
  ![1, v701.toNat, 1]
def k0_off86 (d0 : Dev nD) : Fin 2 → Nat :=
  let c1_i32_818 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_795 : BitVec 32 := 2#32
  let v700 : BitVec 32 := Scalar.subi v8 c2_i32_795
  let c0_i32_796 : BitVec 32 := 0#32
  let v701 : BitVec 32 := Scalar.maxsi v700 c0_i32_796
  ![1, v701.toNat]
def k0_off87 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_815 : BitVec 32 := 4#32
  let v723 : BitVec 32 := Scalar.muli v2 c4_i32_815
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_795 : BitVec 32 := 2#32
  let v700 : BitVec 32 := Scalar.subi v8 c2_i32_795
  let c0_i32_796 : BitVec 32 := 0#32
  let v701 : BitVec 32 := Scalar.maxsi v700 c0_i32_796
  let v724 : BitVec 32 := Scalar.addi v723 v701
  let c512_i32_816 : BitVec 32 := 512#32
  let v725 : BitVec 32 := Scalar.muli v724 c512_i32_816
  let c256_i32_817 : BitVec 32 := 256#32
  let v726 : BitVec 32 := Scalar.addi v725 c256_i32_817
  ![0, v726.toNat]
def k0_dev57 (d0 : Dev nD) : Nat :=
  let c0_i32_1397 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1396 : BitVec 32 := 16#32
  let v1053 : BitVec 32 := Scalar.muli v11 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond108 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_822 : BitVec 32 := 2#32
  let v729 : BitVec 32 := Scalar.addi v8 c2_i32_822
  let c3_i32_823 : BitVec 32 := 3#32
  let v730 : BitVec 1 := Scalar.cmpi .sle v729 c3_i32_823
  let v737 : BitVec 32 := Scalar.extui v730
  let c0_i32_830 : BitVec 32 := 0#32
  let v738 : BitVec 1 := Scalar.cmpi .ne v737 c0_i32_830
  v738

def k0_off88 (d0 : Dev nD) : Fin 2 → Nat :=
  let c1_i32_829 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_824 : BitVec 32 := 2#32
  let v731 : BitVec 32 := Scalar.addi v8 c2_i32_824
  let c3_i32_825 : BitVec 32 := 3#32
  let v732 : BitVec 32 := Scalar.minsi v731 c3_i32_825
  ![1, v732.toNat]
def k0_off89 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_826 : BitVec 32 := 4#32
  let v733 : BitVec 32 := Scalar.muli v2 c4_i32_826
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_824 : BitVec 32 := 2#32
  let v731 : BitVec 32 := Scalar.addi v8 c2_i32_824
  let c3_i32_825 : BitVec 32 := 3#32
  let v732 : BitVec 32 := Scalar.minsi v731 c3_i32_825
  let v734 : BitVec 32 := Scalar.addi v733 v732
  let c512_i32_827 : BitVec 32 := 512#32
  let v735 : BitVec 32 := Scalar.muli v734 c512_i32_827
  let c256_i32_828 : BitVec 32 := 256#32
  let v736 : BitVec 32 := Scalar.addi v735 c256_i32_828
  ![0, v736.toNat]
def k0_cond109 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_822 : BitVec 32 := 2#32
  let v729 : BitVec 32 := Scalar.addi v8 c2_i32_822
  let c3_i32_823 : BitVec 32 := 3#32
  let v730 : BitVec 1 := Scalar.cmpi .sle v729 c3_i32_823
  let c0_i32 : BitVec 32 := 0#32
  let v12 : BitVec 1 := Scalar.cmpi .sgt v8 c0_i32
  let v747 : BitVec 1 := Scalar.andi v730 v12
  let v748 : BitVec 32 := Scalar.extui v747
  let c0_i32_840 : BitVec 32 := 0#32
  let v749 : BitVec 1 := Scalar.cmpi .ne v748 c0_i32_840
  v749

def k0_off90 (d0 : Dev nD) : Fin 3 → Nat :=
  let c1_i32_838 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_824 : BitVec 32 := 2#32
  let v731 : BitVec 32 := Scalar.addi v8 c2_i32_824
  let c3_i32_825 : BitVec 32 := 3#32
  let v732 : BitVec 32 := Scalar.minsi v731 c3_i32_825
  let c0_i32_839 : BitVec 32 := 0#32
  ![1, v732.toNat, 0]
def k0_off91 (d0 : Dev nD) : Fin 2 → Nat :=
  let c1_i32_837 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_824 : BitVec 32 := 2#32
  let v731 : BitVec 32 := Scalar.addi v8 c2_i32_824
  let c3_i32_825 : BitVec 32 := 3#32
  let v732 : BitVec 32 := Scalar.minsi v731 c3_i32_825
  ![1, v732.toNat]
def k0_off92 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_834 : BitVec 32 := 4#32
  let v743 : BitVec 32 := Scalar.muli v2 c4_i32_834
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_824 : BitVec 32 := 2#32
  let v731 : BitVec 32 := Scalar.addi v8 c2_i32_824
  let c3_i32_825 : BitVec 32 := 3#32
  let v732 : BitVec 32 := Scalar.minsi v731 c3_i32_825
  let v744 : BitVec 32 := Scalar.addi v743 v732
  let c512_i32_835 : BitVec 32 := 512#32
  let v745 : BitVec 32 := Scalar.muli v744 c512_i32_835
  let c256_i32_836 : BitVec 32 := 256#32
  let v746 : BitVec 32 := Scalar.addi v745 c256_i32_836
  ![0, v746.toNat]
def k0_dev58 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c0_i32_7 : BitVec 32 := 0#32
  let v17 : BitVec 32 := Scalar.maxsi v16 c0_i32_7
  let c1_i32_1399 : BitVec 32 := 1#32
  let v1057 : BitVec 32 := Scalar.muli v17 c1_i32_1399
  let v1058 : BitVec 32 := Scalar.addi v1056 v1057
  v1058.toNat
def k0_cond110 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_822 : BitVec 32 := 2#32
  let v729 : BitVec 32 := Scalar.addi v8 c2_i32_822
  let c3_i32_823 : BitVec 32 := 3#32
  let v730 : BitVec 1 := Scalar.cmpi .sle v729 c3_i32_823
  let v758 : BitVec 32 := Scalar.extui v730
  let c0_i32_850 : BitVec 32 := 0#32
  let v759 : BitVec 1 := Scalar.cmpi .ne v758 c0_i32_850
  v759

def k0_off93 (d0 : Dev nD) : Fin 3 → Nat :=
  let c1_i32_848 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_824 : BitVec 32 := 2#32
  let v731 : BitVec 32 := Scalar.addi v8 c2_i32_824
  let c3_i32_825 : BitVec 32 := 3#32
  let v732 : BitVec 32 := Scalar.minsi v731 c3_i32_825
  let c1_i32_849 : BitVec 32 := 1#32
  ![1, v732.toNat, 1]
def k0_off94 (d0 : Dev nD) : Fin 2 → Nat :=
  let c1_i32_847 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_824 : BitVec 32 := 2#32
  let v731 : BitVec 32 := Scalar.addi v8 c2_i32_824
  let c3_i32_825 : BitVec 32 := 3#32
  let v732 : BitVec 32 := Scalar.minsi v731 c3_i32_825
  ![1, v732.toNat]
def k0_off95 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_844 : BitVec 32 := 4#32
  let v754 : BitVec 32 := Scalar.muli v2 c4_i32_844
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_824 : BitVec 32 := 2#32
  let v731 : BitVec 32 := Scalar.addi v8 c2_i32_824
  let c3_i32_825 : BitVec 32 := 3#32
  let v732 : BitVec 32 := Scalar.minsi v731 c3_i32_825
  let v755 : BitVec 32 := Scalar.addi v754 v732
  let c512_i32_845 : BitVec 32 := 512#32
  let v756 : BitVec 32 := Scalar.muli v755 c512_i32_845
  let c256_i32_846 : BitVec 32 := 256#32
  let v757 : BitVec 32 := Scalar.addi v756 c256_i32_846
  ![0, v757.toNat]
def k0_dev59 (d0 : Dev nD) : Nat :=
  let c0_i32_1397 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1396 : BitVec 32 := 16#32
  let v1053 : BitVec 32 := Scalar.muli v11 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond111 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_851 : BitVec 32 := 3#32
  let v760 : BitVec 1 := Scalar.cmpi .sge v8 c3_i32_851
  let v767 : BitVec 32 := Scalar.extui v760
  let c0_i32_858 : BitVec 32 := 0#32
  let v768 : BitVec 1 := Scalar.cmpi .ne v767 c0_i32_858
  v768

def k0_off96 (d0 : Dev nD) : Fin 2 → Nat :=
  let c1_i32_857 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_852 : BitVec 32 := 3#32
  let v761 : BitVec 32 := Scalar.subi v8 c3_i32_852
  let c0_i32_853 : BitVec 32 := 0#32
  let v762 : BitVec 32 := Scalar.maxsi v761 c0_i32_853
  ![1, v762.toNat]
def k0_off97 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_854 : BitVec 32 := 4#32
  let v763 : BitVec 32 := Scalar.muli v2 c4_i32_854
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_852 : BitVec 32 := 3#32
  let v761 : BitVec 32 := Scalar.subi v8 c3_i32_852
  let c0_i32_853 : BitVec 32 := 0#32
  let v762 : BitVec 32 := Scalar.maxsi v761 c0_i32_853
  let v764 : BitVec 32 := Scalar.addi v763 v762
  let c512_i32_855 : BitVec 32 := 512#32
  let v765 : BitVec 32 := Scalar.muli v764 c512_i32_855
  let c256_i32_856 : BitVec 32 := 256#32
  let v766 : BitVec 32 := Scalar.addi v765 c256_i32_856
  ![0, v766.toNat]
def k0_cond112 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_851 : BitVec 32 := 3#32
  let v760 : BitVec 1 := Scalar.cmpi .sge v8 c3_i32_851
  let c3_i32 : BitVec 32 := 3#32
  let v13 : BitVec 1 := Scalar.cmpi .slt v8 c3_i32
  let v777 : BitVec 1 := Scalar.andi v760 v13
  let v778 : BitVec 32 := Scalar.extui v777
  let c0_i32_868 : BitVec 32 := 0#32
  let v779 : BitVec 1 := Scalar.cmpi .ne v778 c0_i32_868
  v779

def k0_off98 (d0 : Dev nD) : Fin 3 → Nat :=
  let c1_i32_866 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_852 : BitVec 32 := 3#32
  let v761 : BitVec 32 := Scalar.subi v8 c3_i32_852
  let c0_i32_853 : BitVec 32 := 0#32
  let v762 : BitVec 32 := Scalar.maxsi v761 c0_i32_853
  let c0_i32_867 : BitVec 32 := 0#32
  ![1, v762.toNat, 0]
def k0_off99 (d0 : Dev nD) : Fin 2 → Nat :=
  let c1_i32_865 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_852 : BitVec 32 := 3#32
  let v761 : BitVec 32 := Scalar.subi v8 c3_i32_852
  let c0_i32_853 : BitVec 32 := 0#32
  let v762 : BitVec 32 := Scalar.maxsi v761 c0_i32_853
  ![1, v762.toNat]
def k0_off100 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_862 : BitVec 32 := 4#32
  let v773 : BitVec 32 := Scalar.muli v2 c4_i32_862
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_852 : BitVec 32 := 3#32
  let v761 : BitVec 32 := Scalar.subi v8 c3_i32_852
  let c0_i32_853 : BitVec 32 := 0#32
  let v762 : BitVec 32 := Scalar.maxsi v761 c0_i32_853
  let v774 : BitVec 32 := Scalar.addi v773 v762
  let c512_i32_863 : BitVec 32 := 512#32
  let v775 : BitVec 32 := Scalar.muli v774 c512_i32_863
  let c256_i32_864 : BitVec 32 := 256#32
  let v776 : BitVec 32 := Scalar.addi v775 c256_i32_864
  ![0, v776.toNat]
def k0_dev60 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v18 : BitVec 32 := Scalar.addi v8 c1_i32_8
  let c3_i32_9 : BitVec 32 := 3#32
  let v19 : BitVec 32 := Scalar.minsi v18 c3_i32_9
  let c1_i32_1399 : BitVec 32 := 1#32
  let v1057 : BitVec 32 := Scalar.muli v19 c1_i32_1399
  let v1058 : BitVec 32 := Scalar.addi v1056 v1057
  v1058.toNat
def k0_cond113 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_851 : BitVec 32 := 3#32
  let v760 : BitVec 1 := Scalar.cmpi .sge v8 c3_i32_851
  let v788 : BitVec 32 := Scalar.extui v760
  let c0_i32_878 : BitVec 32 := 0#32
  let v789 : BitVec 1 := Scalar.cmpi .ne v788 c0_i32_878
  v789

def k0_off101 (d0 : Dev nD) : Fin 3 → Nat :=
  let c1_i32_876 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_852 : BitVec 32 := 3#32
  let v761 : BitVec 32 := Scalar.subi v8 c3_i32_852
  let c0_i32_853 : BitVec 32 := 0#32
  let v762 : BitVec 32 := Scalar.maxsi v761 c0_i32_853
  let c1_i32_877 : BitVec 32 := 1#32
  ![1, v762.toNat, 1]
def k0_off102 (d0 : Dev nD) : Fin 2 → Nat :=
  let c1_i32_875 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_852 : BitVec 32 := 3#32
  let v761 : BitVec 32 := Scalar.subi v8 c3_i32_852
  let c0_i32_853 : BitVec 32 := 0#32
  let v762 : BitVec 32 := Scalar.maxsi v761 c0_i32_853
  ![1, v762.toNat]
def k0_off103 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_872 : BitVec 32 := 4#32
  let v784 : BitVec 32 := Scalar.muli v2 c4_i32_872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_852 : BitVec 32 := 3#32
  let v761 : BitVec 32 := Scalar.subi v8 c3_i32_852
  let c0_i32_853 : BitVec 32 := 0#32
  let v762 : BitVec 32 := Scalar.maxsi v761 c0_i32_853
  let v785 : BitVec 32 := Scalar.addi v784 v762
  let c512_i32_873 : BitVec 32 := 512#32
  let v786 : BitVec 32 := Scalar.muli v785 c512_i32_873
  let c256_i32_874 : BitVec 32 := 256#32
  let v787 : BitVec 32 := Scalar.addi v786 c256_i32_874
  ![0, v787.toNat]
def k0_dev61 (d0 : Dev nD) : Nat :=
  let c0_i32_1397 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1396 : BitVec 32 := 16#32
  let v1053 : BitVec 32 := Scalar.muli v11 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_cond114 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_879 : BitVec 32 := 3#32
  let v790 : BitVec 32 := Scalar.addi v8 c3_i32_879
  let c3_i32_880 : BitVec 32 := 3#32
  let v791 : BitVec 1 := Scalar.cmpi .sle v790 c3_i32_880
  let v798 : BitVec 32 := Scalar.extui v791
  let c0_i32_887 : BitVec 32 := 0#32
  let v799 : BitVec 1 := Scalar.cmpi .ne v798 c0_i32_887
  v799

def k0_off104 (d0 : Dev nD) : Fin 2 → Nat :=
  let c1_i32_886 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_881 : BitVec 32 := 3#32
  let v792 : BitVec 32 := Scalar.addi v8 c3_i32_881
  let c3_i32_882 : BitVec 32 := 3#32
  let v793 : BitVec 32 := Scalar.minsi v792 c3_i32_882
  ![1, v793.toNat]
def k0_off105 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_883 : BitVec 32 := 4#32
  let v794 : BitVec 32 := Scalar.muli v2 c4_i32_883
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_881 : BitVec 32 := 3#32
  let v792 : BitVec 32 := Scalar.addi v8 c3_i32_881
  let c3_i32_882 : BitVec 32 := 3#32
  let v793 : BitVec 32 := Scalar.minsi v792 c3_i32_882
  let v795 : BitVec 32 := Scalar.addi v794 v793
  let c512_i32_884 : BitVec 32 := 512#32
  let v796 : BitVec 32 := Scalar.muli v795 c512_i32_884
  let c256_i32_885 : BitVec 32 := 256#32
  let v797 : BitVec 32 := Scalar.addi v796 c256_i32_885
  ![0, v797.toNat]
def k0_cond115 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_879 : BitVec 32 := 3#32
  let v790 : BitVec 32 := Scalar.addi v8 c3_i32_879
  let c3_i32_880 : BitVec 32 := 3#32
  let v791 : BitVec 1 := Scalar.cmpi .sle v790 c3_i32_880
  let c0_i32 : BitVec 32 := 0#32
  let v12 : BitVec 1 := Scalar.cmpi .sgt v8 c0_i32
  let v808 : BitVec 1 := Scalar.andi v791 v12
  let v809 : BitVec 32 := Scalar.extui v808
  let c0_i32_897 : BitVec 32 := 0#32
  let v810 : BitVec 1 := Scalar.cmpi .ne v809 c0_i32_897
  v810

def k0_off106 (d0 : Dev nD) : Fin 3 → Nat :=
  let c1_i32_895 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_881 : BitVec 32 := 3#32
  let v792 : BitVec 32 := Scalar.addi v8 c3_i32_881
  let c3_i32_882 : BitVec 32 := 3#32
  let v793 : BitVec 32 := Scalar.minsi v792 c3_i32_882
  let c0_i32_896 : BitVec 32 := 0#32
  ![1, v793.toNat, 0]
def k0_off107 (d0 : Dev nD) : Fin 2 → Nat :=
  let c1_i32_894 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_881 : BitVec 32 := 3#32
  let v792 : BitVec 32 := Scalar.addi v8 c3_i32_881
  let c3_i32_882 : BitVec 32 := 3#32
  let v793 : BitVec 32 := Scalar.minsi v792 c3_i32_882
  ![1, v793.toNat]
def k0_off108 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_891 : BitVec 32 := 4#32
  let v804 : BitVec 32 := Scalar.muli v2 c4_i32_891
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_881 : BitVec 32 := 3#32
  let v792 : BitVec 32 := Scalar.addi v8 c3_i32_881
  let c3_i32_882 : BitVec 32 := 3#32
  let v793 : BitVec 32 := Scalar.minsi v792 c3_i32_882
  let v805 : BitVec 32 := Scalar.addi v804 v793
  let c512_i32_892 : BitVec 32 := 512#32
  let v806 : BitVec 32 := Scalar.muli v805 c512_i32_892
  let c256_i32_893 : BitVec 32 := 256#32
  let v807 : BitVec 32 := Scalar.addi v806 c256_i32_893
  ![0, v807.toNat]
def k0_dev62 (d0 : Dev nD) : Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1396 : BitVec 32 := 16#32
  let v1053 : BitVec 32 := Scalar.muli v2 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.subi v8 c1_i32_6
  let c0_i32_7 : BitVec 32 := 0#32
  let v17 : BitVec 32 := Scalar.maxsi v16 c0_i32_7
  let c1_i32_1399 : BitVec 32 := 1#32
  let v1057 : BitVec 32 := Scalar.muli v17 c1_i32_1399
  let v1058 : BitVec 32 := Scalar.addi v1056 v1057
  v1058.toNat
def k0_cond116 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_879 : BitVec 32 := 3#32
  let v790 : BitVec 32 := Scalar.addi v8 c3_i32_879
  let c3_i32_880 : BitVec 32 := 3#32
  let v791 : BitVec 1 := Scalar.cmpi .sle v790 c3_i32_880
  let v819 : BitVec 32 := Scalar.extui v791
  let c0_i32_907 : BitVec 32 := 0#32
  let v820 : BitVec 1 := Scalar.cmpi .ne v819 c0_i32_907
  v820

def k0_off109 (d0 : Dev nD) : Fin 3 → Nat :=
  let c1_i32_905 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_881 : BitVec 32 := 3#32
  let v792 : BitVec 32 := Scalar.addi v8 c3_i32_881
  let c3_i32_882 : BitVec 32 := 3#32
  let v793 : BitVec 32 := Scalar.minsi v792 c3_i32_882
  let c1_i32_906 : BitVec 32 := 1#32
  ![1, v793.toNat, 1]
def k0_off110 (d0 : Dev nD) : Fin 2 → Nat :=
  let c1_i32_904 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_881 : BitVec 32 := 3#32
  let v792 : BitVec 32 := Scalar.addi v8 c3_i32_881
  let c3_i32_882 : BitVec 32 := 3#32
  let v793 : BitVec 32 := Scalar.minsi v792 c3_i32_882
  ![1, v793.toNat]
def k0_off111 (d0 : Dev nD) : Fin 2 → Nat :=
  let c0_i32_1400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_901 : BitVec 32 := 4#32
  let v815 : BitVec 32 := Scalar.muli v2 c4_i32_901
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_881 : BitVec 32 := 3#32
  let v792 : BitVec 32 := Scalar.addi v8 c3_i32_881
  let c3_i32_882 : BitVec 32 := 3#32
  let v793 : BitVec 32 := Scalar.minsi v792 c3_i32_882
  let v816 : BitVec 32 := Scalar.addi v815 v793
  let c512_i32_902 : BitVec 32 := 512#32
  let v817 : BitVec 32 := Scalar.muli v816 c512_i32_902
  let c256_i32_903 : BitVec 32 := 256#32
  let v818 : BitVec 32 := Scalar.addi v817 c256_i32_903
  ![0, v818.toNat]
def k0_dev63 (d0 : Dev nD) : Nat :=
  let c0_i32_1397 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c16_i32_1396 : BitVec 32 := 16#32
  let v1053 : BitVec 32 := Scalar.muli v11 c16_i32_1396
  let v1054 : BitVec 32 := Scalar.addi c0_i32_1397 v1053
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1398 : BitVec 32 := 4#32
  let v1055 : BitVec 32 := Scalar.muli v5 c4_i32_1398
  let v1056 : BitVec 32 := Scalar.addi v1054 v1055
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1057 : BitVec 32 := Scalar.muli v8 c1_i32_1399
  let v1058 : BitVec 32 := Scalar.addi v1056 v1057
  v1058.toNat
def k0_off112 (d0 : Dev nD) (c0_i32_909 : BitVec 32) (c0_i32_911 : BitVec 32) : Fin 2 → Nat :=
  let c0_i32_920 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v11 : BitVec 32 := Scalar.subi c1_i32_3 v2
  let c4_i32_908 : BitVec 32 := 4#32
  let v821 : BitVec 32 := Scalar.muli v11 c4_i32_908
  let v822 : BitVec 32 := Scalar.addi v821 c0_i32_909
  let c512_i32_910 : BitVec 32 := 512#32
  let v823 : BitVec 32 := Scalar.muli v822 c512_i32_910
  let v824 : BitVec 32 := Scalar.addi v823 c0_i32_911
  ![0, v824.toNat]
def k0_cond131 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let v961 : BitVec 32 := Scalar.extui v12
  let c0_i32_1149 : BitVec 32 := 0#32
  let v962 : BitVec 1 := Scalar.cmpi .ne v961 c0_i32_1149
  v962

def k0_off113 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_273 : BitVec 32 := 4#32
  let v231 : BitVec 32 := Scalar.muli v2 c4_i32_273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v232 : BitVec 32 := Scalar.addi v231 v8
  let c512_i32_274 : BitVec 32 := 512#32
  let v233 : BitVec 32 := Scalar.muli v232 c512_i32_274
  let c0_i32_275 : BitVec 32 := 0#32
  let v234 : BitVec 32 := Scalar.addi v233 c0_i32_275
  ![0, v234.toNat]
def k0_cond132 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v963 : BitVec 32 := Scalar.extui v13
  let c0_i32_1153 : BitVec 32 := 0#32
  let v964 : BitVec 1 := Scalar.cmpi .ne v963 c0_i32_1153
  v964

def k0_off114 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_283 : BitVec 32 := 4#32
  let v241 : BitVec 32 := Scalar.muli v2 c4_i32_283
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v242 : BitVec 32 := Scalar.addi v241 v8
  let c512_i32_284 : BitVec 32 := 512#32
  let v243 : BitVec 32 := Scalar.muli v242 c512_i32_284
  let c0_i32_285 : BitVec 32 := 0#32
  let v244 : BitVec 32 := Scalar.addi v243 c0_i32_285
  ![0, v244.toNat]
def k0_cond147 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let v993 : BitVec 32 := Scalar.extui v12
  let c0_i32_1283 : BitVec 32 := 0#32
  let v994 : BitVec 1 := Scalar.cmpi .ne v993 c0_i32_1283
  v994

def k0_off115 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_546 : BitVec 32 := 4#32
  let v435 : BitVec 32 := Scalar.muli v2 c4_i32_546
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v436 : BitVec 32 := Scalar.addi v435 v8
  let c512_i32_547 : BitVec 32 := 512#32
  let v437 : BitVec 32 := Scalar.muli v436 c512_i32_547
  let c256_i32_548 : BitVec 32 := 256#32
  let v438 : BitVec 32 := Scalar.addi v437 c256_i32_548
  ![0, v438.toNat]
def k0_cond148 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v995 : BitVec 32 := Scalar.extui v13
  let c0_i32_1287 : BitVec 32 := 0#32
  let v996 : BitVec 1 := Scalar.cmpi .ne v995 c0_i32_1287
  v996

def k0_off116 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_556 : BitVec 32 := 4#32
  let v445 : BitVec 32 := Scalar.muli v2 c4_i32_556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v446 : BitVec 32 := Scalar.addi v445 v8
  let c512_i32_557 : BitVec 32 := 512#32
  let v447 : BitVec 32 := Scalar.muli v446 c512_i32_557
  let c256_i32_558 : BitVec 32 := 256#32
  let v448 : BitVec 32 := Scalar.addi v447 c256_i32_558
  ![0, v448.toNat]
def k0_cond149 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_566 : BitVec 32 := 1#32
  let v455 : BitVec 1 := Scalar.cmpi .sge v8 c1_i32_566
  let c3_i32 : BitVec 32 := 3#32
  let v13 : BitVec 1 := Scalar.cmpi .slt v8 c3_i32
  let v472 : BitVec 1 := Scalar.andi v455 v13
  let v997 : BitVec 32 := Scalar.extui v472
  let c0_i32_1291 : BitVec 32 := 0#32
  let v998 : BitVec 1 := Scalar.cmpi .ne v997 c0_i32_1291
  v998

def k0_off117 (d0 : Dev nD) : Fin 3 → Nat :=
  let c0_i32_1288 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_567 : BitVec 32 := 1#32
  let v456 : BitVec 32 := Scalar.subi v8 c1_i32_567
  let c0_i32_568 : BitVec 32 := 0#32
  let v457 : BitVec 32 := Scalar.maxsi v456 c0_i32_568
  let c0_i32_1289 : BitVec 32 := 0#32
  ![0, v457.toNat, 0]
def k0_off118 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_574 : BitVec 32 := 4#32
  let v464 : BitVec 32 := Scalar.muli v2 c4_i32_574
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_567 : BitVec 32 := 1#32
  let v456 : BitVec 32 := Scalar.subi v8 c1_i32_567
  let c0_i32_568 : BitVec 32 := 0#32
  let v457 : BitVec 32 := Scalar.maxsi v456 c0_i32_568
  let v465 : BitVec 32 := Scalar.addi v464 v457
  let c512_i32_575 : BitVec 32 := 512#32
  let v466 : BitVec 32 := Scalar.muli v465 c512_i32_575
  let c0_i32_576 : BitVec 32 := 0#32
  let v467 : BitVec 32 := Scalar.addi v466 c0_i32_576
  ![0, v467.toNat]
def k0_cond150 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_566 : BitVec 32 := 1#32
  let v455 : BitVec 1 := Scalar.cmpi .sge v8 c1_i32_566
  let v999 : BitVec 32 := Scalar.extui v455
  let c0_i32_1295 : BitVec 32 := 0#32
  let v1000 : BitVec 1 := Scalar.cmpi .ne v999 c0_i32_1295
  v1000

def k0_off119 (d0 : Dev nD) : Fin 3 → Nat :=
  let c0_i32_1292 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_567 : BitVec 32 := 1#32
  let v456 : BitVec 32 := Scalar.subi v8 c1_i32_567
  let c0_i32_568 : BitVec 32 := 0#32
  let v457 : BitVec 32 := Scalar.maxsi v456 c0_i32_568
  let c1_i32_1293 : BitVec 32 := 1#32
  ![0, v457.toNat, 1]
def k0_off120 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_584 : BitVec 32 := 4#32
  let v475 : BitVec 32 := Scalar.muli v2 c4_i32_584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_567 : BitVec 32 := 1#32
  let v456 : BitVec 32 := Scalar.subi v8 c1_i32_567
  let c0_i32_568 : BitVec 32 := 0#32
  let v457 : BitVec 32 := Scalar.maxsi v456 c0_i32_568
  let v476 : BitVec 32 := Scalar.addi v475 v457
  let c512_i32_585 : BitVec 32 := 512#32
  let v477 : BitVec 32 := Scalar.muli v476 c512_i32_585
  let c0_i32_586 : BitVec 32 := 0#32
  let v478 : BitVec 32 := Scalar.addi v477 c0_i32_586
  ![0, v478.toNat]
def k0_cond151 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_594 : BitVec 32 := 1#32
  let v485 : BitVec 32 := Scalar.addi v8 c1_i32_594
  let c3_i32_595 : BitVec 32 := 3#32
  let v486 : BitVec 1 := Scalar.cmpi .sle v485 c3_i32_595
  let c0_i32 : BitVec 32 := 0#32
  let v12 : BitVec 1 := Scalar.cmpi .sgt v8 c0_i32
  let v503 : BitVec 1 := Scalar.andi v486 v12
  let v1001 : BitVec 32 := Scalar.extui v503
  let c0_i32_1299 : BitVec 32 := 0#32
  let v1002 : BitVec 1 := Scalar.cmpi .ne v1001 c0_i32_1299
  v1002

def k0_off121 (d0 : Dev nD) : Fin 3 → Nat :=
  let c0_i32_1296 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_596 : BitVec 32 := 1#32
  let v487 : BitVec 32 := Scalar.addi v8 c1_i32_596
  let c3_i32_597 : BitVec 32 := 3#32
  let v488 : BitVec 32 := Scalar.minsi v487 c3_i32_597
  let c0_i32_1297 : BitVec 32 := 0#32
  ![0, v488.toNat, 0]
def k0_off122 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_603 : BitVec 32 := 4#32
  let v495 : BitVec 32 := Scalar.muli v2 c4_i32_603
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_596 : BitVec 32 := 1#32
  let v487 : BitVec 32 := Scalar.addi v8 c1_i32_596
  let c3_i32_597 : BitVec 32 := 3#32
  let v488 : BitVec 32 := Scalar.minsi v487 c3_i32_597
  let v496 : BitVec 32 := Scalar.addi v495 v488
  let c512_i32_604 : BitVec 32 := 512#32
  let v497 : BitVec 32 := Scalar.muli v496 c512_i32_604
  let c0_i32_605 : BitVec 32 := 0#32
  let v498 : BitVec 32 := Scalar.addi v497 c0_i32_605
  ![0, v498.toNat]
def k0_cond152 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_594 : BitVec 32 := 1#32
  let v485 : BitVec 32 := Scalar.addi v8 c1_i32_594
  let c3_i32_595 : BitVec 32 := 3#32
  let v486 : BitVec 1 := Scalar.cmpi .sle v485 c3_i32_595
  let v1003 : BitVec 32 := Scalar.extui v486
  let c0_i32_1303 : BitVec 32 := 0#32
  let v1004 : BitVec 1 := Scalar.cmpi .ne v1003 c0_i32_1303
  v1004

def k0_off123 (d0 : Dev nD) : Fin 3 → Nat :=
  let c0_i32_1300 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_596 : BitVec 32 := 1#32
  let v487 : BitVec 32 := Scalar.addi v8 c1_i32_596
  let c3_i32_597 : BitVec 32 := 3#32
  let v488 : BitVec 32 := Scalar.minsi v487 c3_i32_597
  let c1_i32_1301 : BitVec 32 := 1#32
  ![0, v488.toNat, 1]
def k0_off124 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_613 : BitVec 32 := 4#32
  let v506 : BitVec 32 := Scalar.muli v2 c4_i32_613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_596 : BitVec 32 := 1#32
  let v487 : BitVec 32 := Scalar.addi v8 c1_i32_596
  let c3_i32_597 : BitVec 32 := 3#32
  let v488 : BitVec 32 := Scalar.minsi v487 c3_i32_597
  let v507 : BitVec 32 := Scalar.addi v506 v488
  let c512_i32_614 : BitVec 32 := 512#32
  let v508 : BitVec 32 := Scalar.muli v507 c512_i32_614
  let c0_i32_615 : BitVec 32 := 0#32
  let v509 : BitVec 32 := Scalar.addi v508 c0_i32_615
  ![0, v509.toNat]
def k0_cond153 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_623 : BitVec 32 := 2#32
  let v516 : BitVec 1 := Scalar.cmpi .sge v8 c2_i32_623
  let c3_i32 : BitVec 32 := 3#32
  let v13 : BitVec 1 := Scalar.cmpi .slt v8 c3_i32
  let v533 : BitVec 1 := Scalar.andi v516 v13
  let v1005 : BitVec 32 := Scalar.extui v533
  let c0_i32_1307 : BitVec 32 := 0#32
  let v1006 : BitVec 1 := Scalar.cmpi .ne v1005 c0_i32_1307
  v1006

def k0_off125 (d0 : Dev nD) : Fin 3 → Nat :=
  let c0_i32_1304 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_624 : BitVec 32 := 2#32
  let v517 : BitVec 32 := Scalar.subi v8 c2_i32_624
  let c0_i32_625 : BitVec 32 := 0#32
  let v518 : BitVec 32 := Scalar.maxsi v517 c0_i32_625
  let c0_i32_1305 : BitVec 32 := 0#32
  ![0, v518.toNat, 0]
def k0_off126 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_631 : BitVec 32 := 4#32
  let v525 : BitVec 32 := Scalar.muli v2 c4_i32_631
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_624 : BitVec 32 := 2#32
  let v517 : BitVec 32 := Scalar.subi v8 c2_i32_624
  let c0_i32_625 : BitVec 32 := 0#32
  let v518 : BitVec 32 := Scalar.maxsi v517 c0_i32_625
  let v526 : BitVec 32 := Scalar.addi v525 v518
  let c512_i32_632 : BitVec 32 := 512#32
  let v527 : BitVec 32 := Scalar.muli v526 c512_i32_632
  let c0_i32_633 : BitVec 32 := 0#32
  let v528 : BitVec 32 := Scalar.addi v527 c0_i32_633
  ![0, v528.toNat]
def k0_cond154 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_623 : BitVec 32 := 2#32
  let v516 : BitVec 1 := Scalar.cmpi .sge v8 c2_i32_623
  let v1007 : BitVec 32 := Scalar.extui v516
  let c0_i32_1311 : BitVec 32 := 0#32
  let v1008 : BitVec 1 := Scalar.cmpi .ne v1007 c0_i32_1311
  v1008

def k0_off127 (d0 : Dev nD) : Fin 3 → Nat :=
  let c0_i32_1308 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_624 : BitVec 32 := 2#32
  let v517 : BitVec 32 := Scalar.subi v8 c2_i32_624
  let c0_i32_625 : BitVec 32 := 0#32
  let v518 : BitVec 32 := Scalar.maxsi v517 c0_i32_625
  let c1_i32_1309 : BitVec 32 := 1#32
  ![0, v518.toNat, 1]
def k0_off128 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_641 : BitVec 32 := 4#32
  let v536 : BitVec 32 := Scalar.muli v2 c4_i32_641
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_624 : BitVec 32 := 2#32
  let v517 : BitVec 32 := Scalar.subi v8 c2_i32_624
  let c0_i32_625 : BitVec 32 := 0#32
  let v518 : BitVec 32 := Scalar.maxsi v517 c0_i32_625
  let v537 : BitVec 32 := Scalar.addi v536 v518
  let c512_i32_642 : BitVec 32 := 512#32
  let v538 : BitVec 32 := Scalar.muli v537 c512_i32_642
  let c0_i32_643 : BitVec 32 := 0#32
  let v539 : BitVec 32 := Scalar.addi v538 c0_i32_643
  ![0, v539.toNat]
def k0_cond155 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_651 : BitVec 32 := 2#32
  let v546 : BitVec 32 := Scalar.addi v8 c2_i32_651
  let c3_i32_652 : BitVec 32 := 3#32
  let v547 : BitVec 1 := Scalar.cmpi .sle v546 c3_i32_652
  let c0_i32 : BitVec 32 := 0#32
  let v12 : BitVec 1 := Scalar.cmpi .sgt v8 c0_i32
  let v564 : BitVec 1 := Scalar.andi v547 v12
  let v1009 : BitVec 32 := Scalar.extui v564
  let c0_i32_1315 : BitVec 32 := 0#32
  let v1010 : BitVec 1 := Scalar.cmpi .ne v1009 c0_i32_1315
  v1010

def k0_off129 (d0 : Dev nD) : Fin 3 → Nat :=
  let c0_i32_1312 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_653 : BitVec 32 := 2#32
  let v548 : BitVec 32 := Scalar.addi v8 c2_i32_653
  let c3_i32_654 : BitVec 32 := 3#32
  let v549 : BitVec 32 := Scalar.minsi v548 c3_i32_654
  let c0_i32_1313 : BitVec 32 := 0#32
  ![0, v549.toNat, 0]
def k0_off130 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_660 : BitVec 32 := 4#32
  let v556 : BitVec 32 := Scalar.muli v2 c4_i32_660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_653 : BitVec 32 := 2#32
  let v548 : BitVec 32 := Scalar.addi v8 c2_i32_653
  let c3_i32_654 : BitVec 32 := 3#32
  let v549 : BitVec 32 := Scalar.minsi v548 c3_i32_654
  let v557 : BitVec 32 := Scalar.addi v556 v549
  let c512_i32_661 : BitVec 32 := 512#32
  let v558 : BitVec 32 := Scalar.muli v557 c512_i32_661
  let c0_i32_662 : BitVec 32 := 0#32
  let v559 : BitVec 32 := Scalar.addi v558 c0_i32_662
  ![0, v559.toNat]
def k0_cond156 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_651 : BitVec 32 := 2#32
  let v546 : BitVec 32 := Scalar.addi v8 c2_i32_651
  let c3_i32_652 : BitVec 32 := 3#32
  let v547 : BitVec 1 := Scalar.cmpi .sle v546 c3_i32_652
  let v1011 : BitVec 32 := Scalar.extui v547
  let c0_i32_1319 : BitVec 32 := 0#32
  let v1012 : BitVec 1 := Scalar.cmpi .ne v1011 c0_i32_1319
  v1012

def k0_off131 (d0 : Dev nD) : Fin 3 → Nat :=
  let c0_i32_1316 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_653 : BitVec 32 := 2#32
  let v548 : BitVec 32 := Scalar.addi v8 c2_i32_653
  let c3_i32_654 : BitVec 32 := 3#32
  let v549 : BitVec 32 := Scalar.minsi v548 c3_i32_654
  let c1_i32_1317 : BitVec 32 := 1#32
  ![0, v549.toNat, 1]
def k0_off132 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_670 : BitVec 32 := 4#32
  let v567 : BitVec 32 := Scalar.muli v2 c4_i32_670
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_653 : BitVec 32 := 2#32
  let v548 : BitVec 32 := Scalar.addi v8 c2_i32_653
  let c3_i32_654 : BitVec 32 := 3#32
  let v549 : BitVec 32 := Scalar.minsi v548 c3_i32_654
  let v568 : BitVec 32 := Scalar.addi v567 v549
  let c512_i32_671 : BitVec 32 := 512#32
  let v569 : BitVec 32 := Scalar.muli v568 c512_i32_671
  let c0_i32_672 : BitVec 32 := 0#32
  let v570 : BitVec 32 := Scalar.addi v569 c0_i32_672
  ![0, v570.toNat]
def k0_cond157 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_680 : BitVec 32 := 3#32
  let v577 : BitVec 1 := Scalar.cmpi .sge v8 c3_i32_680
  let c3_i32 : BitVec 32 := 3#32
  let v13 : BitVec 1 := Scalar.cmpi .slt v8 c3_i32
  let v594 : BitVec 1 := Scalar.andi v577 v13
  let v1013 : BitVec 32 := Scalar.extui v594
  let c0_i32_1323 : BitVec 32 := 0#32
  let v1014 : BitVec 1 := Scalar.cmpi .ne v1013 c0_i32_1323
  v1014

def k0_off133 (d0 : Dev nD) : Fin 3 → Nat :=
  let c0_i32_1320 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_681 : BitVec 32 := 3#32
  let v578 : BitVec 32 := Scalar.subi v8 c3_i32_681
  let c0_i32_682 : BitVec 32 := 0#32
  let v579 : BitVec 32 := Scalar.maxsi v578 c0_i32_682
  let c0_i32_1321 : BitVec 32 := 0#32
  ![0, v579.toNat, 0]
def k0_off134 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_688 : BitVec 32 := 4#32
  let v586 : BitVec 32 := Scalar.muli v2 c4_i32_688
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_681 : BitVec 32 := 3#32
  let v578 : BitVec 32 := Scalar.subi v8 c3_i32_681
  let c0_i32_682 : BitVec 32 := 0#32
  let v579 : BitVec 32 := Scalar.maxsi v578 c0_i32_682
  let v587 : BitVec 32 := Scalar.addi v586 v579
  let c512_i32_689 : BitVec 32 := 512#32
  let v588 : BitVec 32 := Scalar.muli v587 c512_i32_689
  let c0_i32_690 : BitVec 32 := 0#32
  let v589 : BitVec 32 := Scalar.addi v588 c0_i32_690
  ![0, v589.toNat]
def k0_cond158 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_680 : BitVec 32 := 3#32
  let v577 : BitVec 1 := Scalar.cmpi .sge v8 c3_i32_680
  let v1015 : BitVec 32 := Scalar.extui v577
  let c0_i32_1327 : BitVec 32 := 0#32
  let v1016 : BitVec 1 := Scalar.cmpi .ne v1015 c0_i32_1327
  v1016

def k0_off135 (d0 : Dev nD) : Fin 3 → Nat :=
  let c0_i32_1324 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_681 : BitVec 32 := 3#32
  let v578 : BitVec 32 := Scalar.subi v8 c3_i32_681
  let c0_i32_682 : BitVec 32 := 0#32
  let v579 : BitVec 32 := Scalar.maxsi v578 c0_i32_682
  let c1_i32_1325 : BitVec 32 := 1#32
  ![0, v579.toNat, 1]
def k0_off136 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_698 : BitVec 32 := 4#32
  let v597 : BitVec 32 := Scalar.muli v2 c4_i32_698
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_681 : BitVec 32 := 3#32
  let v578 : BitVec 32 := Scalar.subi v8 c3_i32_681
  let c0_i32_682 : BitVec 32 := 0#32
  let v579 : BitVec 32 := Scalar.maxsi v578 c0_i32_682
  let v598 : BitVec 32 := Scalar.addi v597 v579
  let c512_i32_699 : BitVec 32 := 512#32
  let v599 : BitVec 32 := Scalar.muli v598 c512_i32_699
  let c0_i32_700 : BitVec 32 := 0#32
  let v600 : BitVec 32 := Scalar.addi v599 c0_i32_700
  ![0, v600.toNat]
def k0_cond159 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_708 : BitVec 32 := 3#32
  let v607 : BitVec 32 := Scalar.addi v8 c3_i32_708
  let c3_i32_709 : BitVec 32 := 3#32
  let v608 : BitVec 1 := Scalar.cmpi .sle v607 c3_i32_709
  let c0_i32 : BitVec 32 := 0#32
  let v12 : BitVec 1 := Scalar.cmpi .sgt v8 c0_i32
  let v625 : BitVec 1 := Scalar.andi v608 v12
  let v1017 : BitVec 32 := Scalar.extui v625
  let c0_i32_1331 : BitVec 32 := 0#32
  let v1018 : BitVec 1 := Scalar.cmpi .ne v1017 c0_i32_1331
  v1018

def k0_off137 (d0 : Dev nD) : Fin 3 → Nat :=
  let c0_i32_1328 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_710 : BitVec 32 := 3#32
  let v609 : BitVec 32 := Scalar.addi v8 c3_i32_710
  let c3_i32_711 : BitVec 32 := 3#32
  let v610 : BitVec 32 := Scalar.minsi v609 c3_i32_711
  let c0_i32_1329 : BitVec 32 := 0#32
  ![0, v610.toNat, 0]
def k0_off138 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_717 : BitVec 32 := 4#32
  let v617 : BitVec 32 := Scalar.muli v2 c4_i32_717
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_710 : BitVec 32 := 3#32
  let v609 : BitVec 32 := Scalar.addi v8 c3_i32_710
  let c3_i32_711 : BitVec 32 := 3#32
  let v610 : BitVec 32 := Scalar.minsi v609 c3_i32_711
  let v618 : BitVec 32 := Scalar.addi v617 v610
  let c512_i32_718 : BitVec 32 := 512#32
  let v619 : BitVec 32 := Scalar.muli v618 c512_i32_718
  let c0_i32_719 : BitVec 32 := 0#32
  let v620 : BitVec 32 := Scalar.addi v619 c0_i32_719
  ![0, v620.toNat]
def k0_cond160 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_708 : BitVec 32 := 3#32
  let v607 : BitVec 32 := Scalar.addi v8 c3_i32_708
  let c3_i32_709 : BitVec 32 := 3#32
  let v608 : BitVec 1 := Scalar.cmpi .sle v607 c3_i32_709
  let v1019 : BitVec 32 := Scalar.extui v608
  let c0_i32_1335 : BitVec 32 := 0#32
  let v1020 : BitVec 1 := Scalar.cmpi .ne v1019 c0_i32_1335
  v1020

def k0_off139 (d0 : Dev nD) : Fin 3 → Nat :=
  let c0_i32_1332 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_710 : BitVec 32 := 3#32
  let v609 : BitVec 32 := Scalar.addi v8 c3_i32_710
  let c3_i32_711 : BitVec 32 := 3#32
  let v610 : BitVec 32 := Scalar.minsi v609 c3_i32_711
  let c1_i32_1333 : BitVec 32 := 1#32
  ![0, v610.toNat, 1]
def k0_off140 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_727 : BitVec 32 := 4#32
  let v628 : BitVec 32 := Scalar.muli v2 c4_i32_727
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_710 : BitVec 32 := 3#32
  let v609 : BitVec 32 := Scalar.addi v8 c3_i32_710
  let c3_i32_711 : BitVec 32 := 3#32
  let v610 : BitVec 32 := Scalar.minsi v609 c3_i32_711
  let v629 : BitVec 32 := Scalar.addi v628 v610
  let c512_i32_728 : BitVec 32 := 512#32
  let v630 : BitVec 32 := Scalar.muli v629 c512_i32_728
  let c0_i32_729 : BitVec 32 := 0#32
  let v631 : BitVec 32 := Scalar.addi v630 c0_i32_729
  ![0, v631.toNat]
def k0_cond161 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v638 : BitVec 1 := Scalar.cmpi .sge v8 c1_i32_737
  let c3_i32 : BitVec 32 := 3#32
  let v13 : BitVec 1 := Scalar.cmpi .slt v8 c3_i32
  let v655 : BitVec 1 := Scalar.andi v638 v13
  let v1021 : BitVec 32 := Scalar.extui v655
  let c0_i32_1339 : BitVec 32 := 0#32
  let v1022 : BitVec 1 := Scalar.cmpi .ne v1021 c0_i32_1339
  v1022

def k0_off141 (d0 : Dev nD) : Fin 3 → Nat :=
  let c1_i32_1336 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v639 : BitVec 32 := Scalar.subi v8 c1_i32_738
  let c0_i32_739 : BitVec 32 := 0#32
  let v640 : BitVec 32 := Scalar.maxsi v639 c0_i32_739
  let c0_i32_1337 : BitVec 32 := 0#32
  ![1, v640.toNat, 0]
def k0_off142 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_745 : BitVec 32 := 4#32
  let v647 : BitVec 32 := Scalar.muli v2 c4_i32_745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v639 : BitVec 32 := Scalar.subi v8 c1_i32_738
  let c0_i32_739 : BitVec 32 := 0#32
  let v640 : BitVec 32 := Scalar.maxsi v639 c0_i32_739
  let v648 : BitVec 32 := Scalar.addi v647 v640
  let c512_i32_746 : BitVec 32 := 512#32
  let v649 : BitVec 32 := Scalar.muli v648 c512_i32_746
  let c256_i32_747 : BitVec 32 := 256#32
  let v650 : BitVec 32 := Scalar.addi v649 c256_i32_747
  ![0, v650.toNat]
def k0_cond162 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_737 : BitVec 32 := 1#32
  let v638 : BitVec 1 := Scalar.cmpi .sge v8 c1_i32_737
  let v1023 : BitVec 32 := Scalar.extui v638
  let c0_i32_1343 : BitVec 32 := 0#32
  let v1024 : BitVec 1 := Scalar.cmpi .ne v1023 c0_i32_1343
  v1024

def k0_off143 (d0 : Dev nD) : Fin 3 → Nat :=
  let c1_i32_1340 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v639 : BitVec 32 := Scalar.subi v8 c1_i32_738
  let c0_i32_739 : BitVec 32 := 0#32
  let v640 : BitVec 32 := Scalar.maxsi v639 c0_i32_739
  let c1_i32_1341 : BitVec 32 := 1#32
  ![1, v640.toNat, 1]
def k0_off144 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_755 : BitVec 32 := 4#32
  let v658 : BitVec 32 := Scalar.muli v2 c4_i32_755
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v639 : BitVec 32 := Scalar.subi v8 c1_i32_738
  let c0_i32_739 : BitVec 32 := 0#32
  let v640 : BitVec 32 := Scalar.maxsi v639 c0_i32_739
  let v659 : BitVec 32 := Scalar.addi v658 v640
  let c512_i32_756 : BitVec 32 := 512#32
  let v660 : BitVec 32 := Scalar.muli v659 c512_i32_756
  let c256_i32_757 : BitVec 32 := 256#32
  let v661 : BitVec 32 := Scalar.addi v660 c256_i32_757
  ![0, v661.toNat]
def k0_cond163 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_765 : BitVec 32 := 1#32
  let v668 : BitVec 32 := Scalar.addi v8 c1_i32_765
  let c3_i32_766 : BitVec 32 := 3#32
  let v669 : BitVec 1 := Scalar.cmpi .sle v668 c3_i32_766
  let c0_i32 : BitVec 32 := 0#32
  let v12 : BitVec 1 := Scalar.cmpi .sgt v8 c0_i32
  let v686 : BitVec 1 := Scalar.andi v669 v12
  let v1025 : BitVec 32 := Scalar.extui v686
  let c0_i32_1347 : BitVec 32 := 0#32
  let v1026 : BitVec 1 := Scalar.cmpi .ne v1025 c0_i32_1347
  v1026

def k0_off145 (d0 : Dev nD) : Fin 3 → Nat :=
  let c1_i32_1344 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_767 : BitVec 32 := 1#32
  let v670 : BitVec 32 := Scalar.addi v8 c1_i32_767
  let c3_i32_768 : BitVec 32 := 3#32
  let v671 : BitVec 32 := Scalar.minsi v670 c3_i32_768
  let c0_i32_1345 : BitVec 32 := 0#32
  ![1, v671.toNat, 0]
def k0_off146 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_774 : BitVec 32 := 4#32
  let v678 : BitVec 32 := Scalar.muli v2 c4_i32_774
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_767 : BitVec 32 := 1#32
  let v670 : BitVec 32 := Scalar.addi v8 c1_i32_767
  let c3_i32_768 : BitVec 32 := 3#32
  let v671 : BitVec 32 := Scalar.minsi v670 c3_i32_768
  let v679 : BitVec 32 := Scalar.addi v678 v671
  let c512_i32_775 : BitVec 32 := 512#32
  let v680 : BitVec 32 := Scalar.muli v679 c512_i32_775
  let c256_i32_776 : BitVec 32 := 256#32
  let v681 : BitVec 32 := Scalar.addi v680 c256_i32_776
  ![0, v681.toNat]
def k0_cond164 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_765 : BitVec 32 := 1#32
  let v668 : BitVec 32 := Scalar.addi v8 c1_i32_765
  let c3_i32_766 : BitVec 32 := 3#32
  let v669 : BitVec 1 := Scalar.cmpi .sle v668 c3_i32_766
  let v1027 : BitVec 32 := Scalar.extui v669
  let c0_i32_1351 : BitVec 32 := 0#32
  let v1028 : BitVec 1 := Scalar.cmpi .ne v1027 c0_i32_1351
  v1028

def k0_off147 (d0 : Dev nD) : Fin 3 → Nat :=
  let c1_i32_1348 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_767 : BitVec 32 := 1#32
  let v670 : BitVec 32 := Scalar.addi v8 c1_i32_767
  let c3_i32_768 : BitVec 32 := 3#32
  let v671 : BitVec 32 := Scalar.minsi v670 c3_i32_768
  let c1_i32_1349 : BitVec 32 := 1#32
  ![1, v671.toNat, 1]
def k0_off148 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_784 : BitVec 32 := 4#32
  let v689 : BitVec 32 := Scalar.muli v2 c4_i32_784
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_767 : BitVec 32 := 1#32
  let v670 : BitVec 32 := Scalar.addi v8 c1_i32_767
  let c3_i32_768 : BitVec 32 := 3#32
  let v671 : BitVec 32 := Scalar.minsi v670 c3_i32_768
  let v690 : BitVec 32 := Scalar.addi v689 v671
  let c512_i32_785 : BitVec 32 := 512#32
  let v691 : BitVec 32 := Scalar.muli v690 c512_i32_785
  let c256_i32_786 : BitVec 32 := 256#32
  let v692 : BitVec 32 := Scalar.addi v691 c256_i32_786
  ![0, v692.toNat]
def k0_cond165 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_794 : BitVec 32 := 2#32
  let v699 : BitVec 1 := Scalar.cmpi .sge v8 c2_i32_794
  let c3_i32 : BitVec 32 := 3#32
  let v13 : BitVec 1 := Scalar.cmpi .slt v8 c3_i32
  let v716 : BitVec 1 := Scalar.andi v699 v13
  let v1029 : BitVec 32 := Scalar.extui v716
  let c0_i32_1355 : BitVec 32 := 0#32
  let v1030 : BitVec 1 := Scalar.cmpi .ne v1029 c0_i32_1355
  v1030

def k0_off149 (d0 : Dev nD) : Fin 3 → Nat :=
  let c1_i32_1352 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_795 : BitVec 32 := 2#32
  let v700 : BitVec 32 := Scalar.subi v8 c2_i32_795
  let c0_i32_796 : BitVec 32 := 0#32
  let v701 : BitVec 32 := Scalar.maxsi v700 c0_i32_796
  let c0_i32_1353 : BitVec 32 := 0#32
  ![1, v701.toNat, 0]
def k0_off150 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_802 : BitVec 32 := 4#32
  let v708 : BitVec 32 := Scalar.muli v2 c4_i32_802
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_795 : BitVec 32 := 2#32
  let v700 : BitVec 32 := Scalar.subi v8 c2_i32_795
  let c0_i32_796 : BitVec 32 := 0#32
  let v701 : BitVec 32 := Scalar.maxsi v700 c0_i32_796
  let v709 : BitVec 32 := Scalar.addi v708 v701
  let c512_i32_803 : BitVec 32 := 512#32
  let v710 : BitVec 32 := Scalar.muli v709 c512_i32_803
  let c256_i32_804 : BitVec 32 := 256#32
  let v711 : BitVec 32 := Scalar.addi v710 c256_i32_804
  ![0, v711.toNat]
def k0_cond166 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_794 : BitVec 32 := 2#32
  let v699 : BitVec 1 := Scalar.cmpi .sge v8 c2_i32_794
  let v1031 : BitVec 32 := Scalar.extui v699
  let c0_i32_1359 : BitVec 32 := 0#32
  let v1032 : BitVec 1 := Scalar.cmpi .ne v1031 c0_i32_1359
  v1032

def k0_off151 (d0 : Dev nD) : Fin 3 → Nat :=
  let c1_i32_1356 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_795 : BitVec 32 := 2#32
  let v700 : BitVec 32 := Scalar.subi v8 c2_i32_795
  let c0_i32_796 : BitVec 32 := 0#32
  let v701 : BitVec 32 := Scalar.maxsi v700 c0_i32_796
  let c1_i32_1357 : BitVec 32 := 1#32
  ![1, v701.toNat, 1]
def k0_off152 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_812 : BitVec 32 := 4#32
  let v719 : BitVec 32 := Scalar.muli v2 c4_i32_812
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_795 : BitVec 32 := 2#32
  let v700 : BitVec 32 := Scalar.subi v8 c2_i32_795
  let c0_i32_796 : BitVec 32 := 0#32
  let v701 : BitVec 32 := Scalar.maxsi v700 c0_i32_796
  let v720 : BitVec 32 := Scalar.addi v719 v701
  let c512_i32_813 : BitVec 32 := 512#32
  let v721 : BitVec 32 := Scalar.muli v720 c512_i32_813
  let c256_i32_814 : BitVec 32 := 256#32
  let v722 : BitVec 32 := Scalar.addi v721 c256_i32_814
  ![0, v722.toNat]
def k0_cond167 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_822 : BitVec 32 := 2#32
  let v729 : BitVec 32 := Scalar.addi v8 c2_i32_822
  let c3_i32_823 : BitVec 32 := 3#32
  let v730 : BitVec 1 := Scalar.cmpi .sle v729 c3_i32_823
  let c0_i32 : BitVec 32 := 0#32
  let v12 : BitVec 1 := Scalar.cmpi .sgt v8 c0_i32
  let v747 : BitVec 1 := Scalar.andi v730 v12
  let v1033 : BitVec 32 := Scalar.extui v747
  let c0_i32_1363 : BitVec 32 := 0#32
  let v1034 : BitVec 1 := Scalar.cmpi .ne v1033 c0_i32_1363
  v1034

def k0_off153 (d0 : Dev nD) : Fin 3 → Nat :=
  let c1_i32_1360 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_824 : BitVec 32 := 2#32
  let v731 : BitVec 32 := Scalar.addi v8 c2_i32_824
  let c3_i32_825 : BitVec 32 := 3#32
  let v732 : BitVec 32 := Scalar.minsi v731 c3_i32_825
  let c0_i32_1361 : BitVec 32 := 0#32
  ![1, v732.toNat, 0]
def k0_off154 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_831 : BitVec 32 := 4#32
  let v739 : BitVec 32 := Scalar.muli v2 c4_i32_831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_824 : BitVec 32 := 2#32
  let v731 : BitVec 32 := Scalar.addi v8 c2_i32_824
  let c3_i32_825 : BitVec 32 := 3#32
  let v732 : BitVec 32 := Scalar.minsi v731 c3_i32_825
  let v740 : BitVec 32 := Scalar.addi v739 v732
  let c512_i32_832 : BitVec 32 := 512#32
  let v741 : BitVec 32 := Scalar.muli v740 c512_i32_832
  let c256_i32_833 : BitVec 32 := 256#32
  let v742 : BitVec 32 := Scalar.addi v741 c256_i32_833
  ![0, v742.toNat]
def k0_cond168 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_822 : BitVec 32 := 2#32
  let v729 : BitVec 32 := Scalar.addi v8 c2_i32_822
  let c3_i32_823 : BitVec 32 := 3#32
  let v730 : BitVec 1 := Scalar.cmpi .sle v729 c3_i32_823
  let v1035 : BitVec 32 := Scalar.extui v730
  let c0_i32_1367 : BitVec 32 := 0#32
  let v1036 : BitVec 1 := Scalar.cmpi .ne v1035 c0_i32_1367
  v1036

def k0_off155 (d0 : Dev nD) : Fin 3 → Nat :=
  let c1_i32_1364 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_824 : BitVec 32 := 2#32
  let v731 : BitVec 32 := Scalar.addi v8 c2_i32_824
  let c3_i32_825 : BitVec 32 := 3#32
  let v732 : BitVec 32 := Scalar.minsi v731 c3_i32_825
  let c1_i32_1365 : BitVec 32 := 1#32
  ![1, v732.toNat, 1]
def k0_off156 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_841 : BitVec 32 := 4#32
  let v750 : BitVec 32 := Scalar.muli v2 c4_i32_841
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_824 : BitVec 32 := 2#32
  let v731 : BitVec 32 := Scalar.addi v8 c2_i32_824
  let c3_i32_825 : BitVec 32 := 3#32
  let v732 : BitVec 32 := Scalar.minsi v731 c3_i32_825
  let v751 : BitVec 32 := Scalar.addi v750 v732
  let c512_i32_842 : BitVec 32 := 512#32
  let v752 : BitVec 32 := Scalar.muli v751 c512_i32_842
  let c256_i32_843 : BitVec 32 := 256#32
  let v753 : BitVec 32 := Scalar.addi v752 c256_i32_843
  ![0, v753.toNat]
def k0_cond169 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_851 : BitVec 32 := 3#32
  let v760 : BitVec 1 := Scalar.cmpi .sge v8 c3_i32_851
  let c3_i32 : BitVec 32 := 3#32
  let v13 : BitVec 1 := Scalar.cmpi .slt v8 c3_i32
  let v777 : BitVec 1 := Scalar.andi v760 v13
  let v1037 : BitVec 32 := Scalar.extui v777
  let c0_i32_1371 : BitVec 32 := 0#32
  let v1038 : BitVec 1 := Scalar.cmpi .ne v1037 c0_i32_1371
  v1038

def k0_off157 (d0 : Dev nD) : Fin 3 → Nat :=
  let c1_i32_1368 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_852 : BitVec 32 := 3#32
  let v761 : BitVec 32 := Scalar.subi v8 c3_i32_852
  let c0_i32_853 : BitVec 32 := 0#32
  let v762 : BitVec 32 := Scalar.maxsi v761 c0_i32_853
  let c0_i32_1369 : BitVec 32 := 0#32
  ![1, v762.toNat, 0]
def k0_off158 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_859 : BitVec 32 := 4#32
  let v769 : BitVec 32 := Scalar.muli v2 c4_i32_859
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_852 : BitVec 32 := 3#32
  let v761 : BitVec 32 := Scalar.subi v8 c3_i32_852
  let c0_i32_853 : BitVec 32 := 0#32
  let v762 : BitVec 32 := Scalar.maxsi v761 c0_i32_853
  let v770 : BitVec 32 := Scalar.addi v769 v762
  let c512_i32_860 : BitVec 32 := 512#32
  let v771 : BitVec 32 := Scalar.muli v770 c512_i32_860
  let c256_i32_861 : BitVec 32 := 256#32
  let v772 : BitVec 32 := Scalar.addi v771 c256_i32_861
  ![0, v772.toNat]
def k0_cond170 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_851 : BitVec 32 := 3#32
  let v760 : BitVec 1 := Scalar.cmpi .sge v8 c3_i32_851
  let v1039 : BitVec 32 := Scalar.extui v760
  let c0_i32_1375 : BitVec 32 := 0#32
  let v1040 : BitVec 1 := Scalar.cmpi .ne v1039 c0_i32_1375
  v1040

def k0_off159 (d0 : Dev nD) : Fin 3 → Nat :=
  let c1_i32_1372 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_852 : BitVec 32 := 3#32
  let v761 : BitVec 32 := Scalar.subi v8 c3_i32_852
  let c0_i32_853 : BitVec 32 := 0#32
  let v762 : BitVec 32 := Scalar.maxsi v761 c0_i32_853
  let c1_i32_1373 : BitVec 32 := 1#32
  ![1, v762.toNat, 1]
def k0_off160 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_869 : BitVec 32 := 4#32
  let v780 : BitVec 32 := Scalar.muli v2 c4_i32_869
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_852 : BitVec 32 := 3#32
  let v761 : BitVec 32 := Scalar.subi v8 c3_i32_852
  let c0_i32_853 : BitVec 32 := 0#32
  let v762 : BitVec 32 := Scalar.maxsi v761 c0_i32_853
  let v781 : BitVec 32 := Scalar.addi v780 v762
  let c512_i32_870 : BitVec 32 := 512#32
  let v782 : BitVec 32 := Scalar.muli v781 c512_i32_870
  let c256_i32_871 : BitVec 32 := 256#32
  let v783 : BitVec 32 := Scalar.addi v782 c256_i32_871
  ![0, v783.toNat]
def k0_cond171 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_879 : BitVec 32 := 3#32
  let v790 : BitVec 32 := Scalar.addi v8 c3_i32_879
  let c3_i32_880 : BitVec 32 := 3#32
  let v791 : BitVec 1 := Scalar.cmpi .sle v790 c3_i32_880
  let c0_i32 : BitVec 32 := 0#32
  let v12 : BitVec 1 := Scalar.cmpi .sgt v8 c0_i32
  let v808 : BitVec 1 := Scalar.andi v791 v12
  let v1041 : BitVec 32 := Scalar.extui v808
  let c0_i32_1379 : BitVec 32 := 0#32
  let v1042 : BitVec 1 := Scalar.cmpi .ne v1041 c0_i32_1379
  v1042

def k0_off161 (d0 : Dev nD) : Fin 3 → Nat :=
  let c1_i32_1376 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_881 : BitVec 32 := 3#32
  let v792 : BitVec 32 := Scalar.addi v8 c3_i32_881
  let c3_i32_882 : BitVec 32 := 3#32
  let v793 : BitVec 32 := Scalar.minsi v792 c3_i32_882
  let c0_i32_1377 : BitVec 32 := 0#32
  ![1, v793.toNat, 0]
def k0_off162 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_888 : BitVec 32 := 4#32
  let v800 : BitVec 32 := Scalar.muli v2 c4_i32_888
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_881 : BitVec 32 := 3#32
  let v792 : BitVec 32 := Scalar.addi v8 c3_i32_881
  let c3_i32_882 : BitVec 32 := 3#32
  let v793 : BitVec 32 := Scalar.minsi v792 c3_i32_882
  let v801 : BitVec 32 := Scalar.addi v800 v793
  let c512_i32_889 : BitVec 32 := 512#32
  let v802 : BitVec 32 := Scalar.muli v801 c512_i32_889
  let c256_i32_890 : BitVec 32 := 256#32
  let v803 : BitVec 32 := Scalar.addi v802 c256_i32_890
  ![0, v803.toNat]
def k0_cond172 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_879 : BitVec 32 := 3#32
  let v790 : BitVec 32 := Scalar.addi v8 c3_i32_879
  let c3_i32_880 : BitVec 32 := 3#32
  let v791 : BitVec 1 := Scalar.cmpi .sle v790 c3_i32_880
  let v1043 : BitVec 32 := Scalar.extui v791
  let c0_i32_1383 : BitVec 32 := 0#32
  let v1044 : BitVec 1 := Scalar.cmpi .ne v1043 c0_i32_1383
  v1044

def k0_off163 (d0 : Dev nD) : Fin 3 → Nat :=
  let c1_i32_1380 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_881 : BitVec 32 := 3#32
  let v792 : BitVec 32 := Scalar.addi v8 c3_i32_881
  let c3_i32_882 : BitVec 32 := 3#32
  let v793 : BitVec 32 := Scalar.minsi v792 c3_i32_882
  let c1_i32_1381 : BitVec 32 := 1#32
  ![1, v793.toNat, 1]
def k0_off164 (d0 : Dev nD) : Fin 2 → Nat :=
  let c0_i32_1397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_898 : BitVec 32 := 4#32
  let v811 : BitVec 32 := Scalar.muli v2 c4_i32_898
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_881 : BitVec 32 := 3#32
  let v792 : BitVec 32 := Scalar.addi v8 c3_i32_881
  let c3_i32_882 : BitVec 32 := 3#32
  let v793 : BitVec 32 := Scalar.minsi v792 c3_i32_882
  let v812 : BitVec 32 := Scalar.addi v811 v793
  let c512_i32_899 : BitVec 32 := 512#32
  let v813 : BitVec 32 := Scalar.muli v812 c512_i32_899
  let c256_i32_900 : BitVec 32 := 256#32
  let v814 : BitVec 32 := Scalar.addi v813 c256_i32_900
  ![0, v814.toNat]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x1024 : Shape := ⟨2, ![4096, 1024]⟩
abbrev S4096x4096 : Shape := ⟨2, ![4096, 4096]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .hbm, ⟨3, _⟩ => ⟨S1024x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Keys.lean ====
/-
  The devices of the mesh, the keys that name the payments between them, and the order in which a
  device makes its payments.
-/
module

public import proofs.«01_k».proof.Proof.Gen.KernelIdeal
public import Idealize.ShloMosaic.Lib.Rounds
public import Idealize.ShloMosaic.Lib.Pipeline.Launch
public import Idealize.ShloMosaic.Lib.Pipeline.Kit
public import Idealize.ShloMosaic.Lib.Tactic
public import Mathlib.Tactic.DeriveFintype

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.Sem
open Cert.KernelIdeal.Gen

/-! ## Devices -/

/-- A device's place along the first mesh axis. -/
def X (c : Dev nD) : Fin 2 := ⟨c.val / 16, by have := c.isLt; revert this; generalize c.val = v; decide +revert⟩
/-- A device's place along the second mesh axis. -/
def Y (c : Dev nD) : Fin 4 := ⟨c.val / 4 % 4, Nat.mod_lt _ (by decide)⟩
/-- A device's place along the third mesh axis. -/
def Z (c : Dev nD) : Fin 4 := ⟨c.val % 4, Nat.mod_lt _ (by decide)⟩
/-- The device at a place of the mesh. -/
def dev (x : Fin 2) (y z : Fin 4) : Dev nD := ⟨16 * x.val + 4 * y.val + z.val, by revert x y z; decide⟩

/-- The other end of the first axis. -/
def xo (c : Dev nD) : Dev nD := dev (1 - X c) (Y c) (Z c)
/-- One step up the second axis, cyclically. -/
def yup (c : Dev nD) : Dev nD := dev (X c) (Y c + 1) (Z c)
/-- One step down the second axis, cyclically. -/
def ydn (c : Dev nD) : Dev nD := dev (X c) (Y c - 1) (Z c)
/-- One step up the third axis, cyclically. -/
def zup (c : Dev nD) : Dev nD := dev (X c) (Y c) (Z c + 1)
/-- One step down the third axis, cyclically. -/
def zdn (c : Dev nD) : Dev nD := dev (X c) (Y c) (Z c - 1)

/-- The step along the second axis that the chain with flag `b` takes: up for `false`, down for `true`. -/
def ynx (b : Bool) (c : Dev nD) : Dev nD := if b then ydn c else yup c
/-- The step back. -/
def ypv (b : Bool) (c : Dev nD) : Dev nD := if b then yup c else ydn c

/-- The place of a device in the chain with flag `b`, counted from the chain's start. -/
def yb (b : Bool) (c : Dev nD) : ℕ := if b then 3 - (Y c).val else (Y c).val
/-- The place of a row block in the chain with flag `b`. -/
def qb (b : Bool) (q : Fin 4) : ℕ := if b then 3 - q.val else q.val

/-! ## Keys -/

/-- The payments: each names a semaphore of the device that is paid, and the part of its count. -/
inductive Key
  /-- The barrier's signal from the neighbour in direction `d`: along the first axis, from below and above along the second, from below and above along the third. -/
  | bar (d : Fin 5)
  /-- A partial sum landing in the chain with flag `b`. -/
  | rc (b : Bool) (h : Fin 2) (q : Fin 4)
  /-- The send count of such a transfer, on its issuer. -/
  | sd (b : Bool) (h : Fin 2) (q : Fin 4)
  /-- A finished piece landing from the neighbour below (`false`) or above (`true`) along the third axis. -/
  | zc (b : Bool) (h : Fin 2) (j : Fin 4)
  /-- A finished piece landing from the other end of the first axis. -/
  | xr (h : Fin 2) (j : Fin 4)
  /-- The send counts of a device's own piece: downwards, upwards, across. -/
  | os (h : Fin 2) (k : Fin 3)
  /-- The send counts of a piece passed on: along the third axis, across. -/
  | es (h : Fin 2) (j : Fin 4) (k : Fin 2)
deriving DecidableEq, Fintype

/-- The semaphore a key is paid on. -/
def loc : Key → SemLoc sig
  | .bar _ => .reg (sig.barrier 0 rfl)
  | .rc b h q => .dma ⟨(if b then 11 else 3) + 4 * h.val + q.val, by revert b h q; decide⟩
  | .sd b h q => .dma ⟨(if b then 27 else 19) + 4 * h.val + q.val, by revert b h q; decide⟩
  | .zc _ h j => .dma ⟨35 + 4 * h.val + j.val, by revert h j; decide⟩
  | .xr h j => .dma ⟨43 + 4 * h.val + j.val, by revert h j; decide⟩
  | .os h k => .dma ⟨51 + 3 * h.val + k.val, by revert h k; decide⟩
  | .es h j k => .dma ⟨57 + 8 * h.val + 2 * j.val + k.val, by revert h j k; decide⟩

/-- Whether a key is paid at device `c`. -/
def act (c : Dev nD) : Key → Bool
  | .bar d => match d with
    | 0 => true
    | 1 => 0 < (Y c).val
    | 2 => (Y c).val < 3
    | 3 => 0 < (Z c).val
    | 4 => (Z c).val < 3
  | .rc b h q => 0 < yb b c && yb b c ≤ qb b q
  | .sd b h q => yb b c < qb b q
  | .zc b h j => if b then (Z c).val < j.val else j.val < (Z c).val
  | .xr _ _ => true
  | .os _ k => match k with
    | 0 => 0 < (Z c).val
    | 1 => (Z c).val < 3
    | 2 => true
  | .es _ j k => match k with
    | 0 => (j.val < (Z c).val && (Z c).val < 3) || ((Z c).val < j.val && 0 < (Z c).val)
    | 1 => j != Z c

/-- The device that payer `c` pays a key at (read cyclically). -/
def tgt : Key → Dev nD → Dev nD
  | .bar d => match d with
    | 0 => xo
    | 1 => yup
    | 2 => ydn
    | 3 => zup
    | 4 => zdn
  | .rc b _ _ => ynx b
  | .zc b _ _ => if b then zdn else zup
  | .xr _ _ => xo
  | .sd _ _ _ => id
  | .os _ _ => id
  | .es _ _ _ => id

/-- The payer of a key at device `c`. -/
def src : Key → Dev nD → Dev nD
  | .bar d => match d with
    | 0 => xo
    | 1 => ydn
    | 2 => yup
    | 3 => zdn
    | 4 => zup
  | .rc b _ _ => ypv b
  | .zc b _ _ => if b then zup else zdn
  | .xr _ _ => xo
  | .sd _ _ _ => id
  | .os _ _ => id
  | .es _ _ _ => id

/-- The other end's other end is the device itself. -/
theorem xo_xo (c : Dev nD) : xo (xo c) = c := by revert c; decide +kernel
/-- A step up the second axis and one down is none. -/
theorem ydn_yup (c : Dev nD) : ydn (yup c) = c := by revert c; decide +kernel
/-- A step down the second axis and one up is none. -/
theorem yup_ydn (c : Dev nD) : yup (ydn c) = c := by revert c; decide +kernel
/-- A step up the third axis and one down is none. -/
theorem zdn_zup (c : Dev nD) : zdn (zup c) = c := by revert c; decide +kernel
/-- A step down the third axis and one up is none. -/
theorem zup_zdn (c : Dev nD) : zup (zdn c) = c := by revert c; decide +kernel

/-- The payer of a key at the device it pays is itself. -/
theorem src_tgt (k : Key) (c : Dev nD) : src k (tgt k c) = c := by
  revert c; revert k; decide +kernel
/-- The device that a key's payer pays is the one paid. -/
theorem tgt_src (k : Key) (c : Dev nD) : tgt k (src k c) = c := by
  revert c; revert k; decide +kernel

/-- Paying a key permutes the devices. -/
def perm (k : Key) : Dev nD ≃ Dev nD := ⟨tgt k, src k, src_tgt k, tgt_src k⟩

/-- The send counts are paid by the device itself as its transfers complete: nobody owes them at launch. -/
def own : Key → Bool
  | .sd _ _ _ => true
  | .os _ _ => true
  | .es _ _ _ => true
  | _ => false

/-- The barrier's direction that hands a payer the place a key's transfer writes. -/
def dirOf : Key → Option (Fin 5)
  | .xr _ _ => some 0
  | .rc b _ _ => if b then some 1 else some 2
  | .zc b _ _ => if b then some 3 else some 4
  | _ => none

/-- A place's owner, reached from the payer, is where the barrier's signal comes from. -/
theorem dir_src (k : Key) (d : Fin 5) (h : dirOf k = some d) (c : Dev nD) : tgt k c = src (.bar d) c := by
  revert c; revert h; revert d; revert k; decide +kernel
/-- An active key's place is handed over by a signal that comes. -/
theorem dir_act (k : Key) (d : Fin 5) (h : dirOf k = some d) (c : Dev nD) (ha : act (tgt k c) k = true) : act c (.bar d) = true := by
  revert ha; revert c; revert h; revert d; revert k; decide +kernel

/-- Two keys on one semaphore are one, or both the barrier's, or the two directions of one landing. -/
def alike : Key → Key → Bool
  | .bar _, .bar _ => true
  | .zc _ h j, .zc _ h' j' => h == h' && j == j'
  | k, k' => k == k'

/-- Keys on one semaphore are alike. -/
theorem alike_of_loc : ∀ k k' : Key, loc k = loc k' → alike k k' = true := by decide +kernel

/-! ## The payments of a device, in order -/

/-- A payment made under a guard. -/
def pg (p : Bool) (k : Key) : Option Key := if p then some k else none

/-- The row blocks downward from the last of chain `b`. -/
def qn (b : Bool) (n : Fin 4) : Fin 4 := if b then n else 3 - n

/-- The pieces `n` steps below and above a device's own along the third axis (cyclically). -/
def jn (b : Bool) (c : Dev nD) (n : Fin 4) : Fin 4 := if b then Z c + n else Z c - n
/-- Whether there is such a piece. -/
def jin (b : Bool) (c : Dev nD) (n : Fin 4) : Bool := if b then (Z c).val + n.val ≤ 3 else n.val ≤ (Z c).val
/-- Whether it is passed on along the third axis. -/
def jfw (b : Bool) (c : Dev nD) : Bool := if b then 0 < (Z c).val else (Z c).val < 3

/-- Whether device `c` starts the chain's partial sum for block `q`. -/
def isS (b : Bool) (c : Dev nD) (q : Fin 4) : Bool := yb b c == 0 && 0 < qb b q
/-- Whether it adds to it and passes it on. -/
def isF (b : Bool) (c : Dev nD) (q : Fin 4) : Bool := 0 < yb b c && yb b c < qb b q
/-- Whether the sum ends there. -/
def isT (b : Bool) (c : Dev nD) (q : Fin 4) : Bool := 0 < yb b c && yb b c == qb b q

/-- The payments of device `c`, in the order the program makes them. -/
def pays (c : Dev nD) : List (Option Key) :=
  let st (b : Bool) (h : Fin 2) (q : Fin 4) := pg (isS b c q) (.rc b h q)
  let fw (b : Bool) (h : Fin 2) (q : Fin 4) := pg (isF b c q) (.rc b h q)
  let rf (b : Bool) (h : Fin 2) (n : Fin 4) := pg (jin b c n && jfw b c) (.zc b h (jn b c n))
  let rx (b : Bool) (h : Fin 2) (n : Fin 4) := pg (jin b c n) (.xr h (jn b c n))
  [some (.bar 0), pg (0 < (Y c).val) (.bar 2), pg ((Y c).val < 3) (.bar 1), pg (0 < (Z c).val) (.bar 4), pg ((Z c).val < 3) (.bar 3),
    st false 0 3, st false 0 2, st false 0 1, st true 0 0, st true 0 1, st true 0 2,
    fw false 0 3, fw true 0 0, fw false 0 2, fw true 0 1, fw false 0 1, fw true 0 2, fw false 0 0, fw true 0 3,
    some (.xr 0 (Z c)), pg (0 < (Z c).val) (.zc true 0 (Z c)), pg ((Z c).val < 3) (.zc false 0 (Z c)),
    st false 1 3, st false 1 2, st false 1 1, st true 1 0, st true 1 1, st true 1 2,
    fw false 1 3, fw true 1 0, fw false 1 2, fw true 1 1, fw false 1 1, fw true 1 2, fw false 1 0, fw true 1 3,
    some (.xr 1 (Z c)), pg (0 < (Z c).val) (.zc true 1 (Z c)), pg ((Z c).val < 3) (.zc false 1 (Z c)),
    rf false 0 1, rx false 0 1, rf true 0 1, rx true 0 1,
    rf false 0 2, rx false 0 2, rf true 0 2, rx true 0 2,
    rf false 0 3, rx false 0 3, rf true 0 3, rx true 0 3,
    rf false 1 1, rx false 1 1, rf true 1 1, rx true 1 1,
    rf false 1 2, rx false 1 2, rf true 1 2, rx true 1 2,
    rf false 1 3, rx false 1 3, rf true 1 3, rx true 1 3]

/-- The payments made from the `i`th on. -/
def rest (c : Dev nD) (i : ℕ) : List (Option Key) := (pays c).drop i

/-- Each key that is not a send count is paid once by its payer where it is active, and never where it is not. -/
theorem pays_count : ∀ (k : Key) (c : Dev nD), (pays c).count (some k) = if act (tgt k c) k && !own k then 1 else 0 := by
  decide +kernel
/-- After the barrier's signals, the keys left are those that hand over a place. -/
theorem rest_count : ∀ (k : Key) (c : Dev nD), (rest c 5).count (some k) = if act (tgt k c) k && (dirOf k).isSome then 1 else 0 := by
  decide +kernel

/-! ## Levels -/

/-- The level of a device's semaphore: its waits come before every payment of a higher one. -/
def lev (c : Dev nD) : SemLoc sig → ℕ
  | .reg _ => 1
  | .dma s =>
    let n := s.val
    if n < 3 then 0
    else if n < 11 then 2 + ((n - 3) / 4 * 4 + (3 - (n - 3) % 4)) * 8 + (Y c).val
    else if n < 19 then 2 + ((n - 11) / 4 * 4 + (n - 11) % 4) * 8 + 4 + (3 - (Y c).val)
    else if n < 35 then 0
    else if n < 43 then 100 + (n - 35) / 4 * 8 + (((n - 35) % 4 - (Z c).val) + ((Z c).val - (n - 35) % 4))
    else if n < 51 then 200
    else 0

/-- Whether device `c` may wait on the semaphore `s` with the payments from the `i`th on still to make. -/
def okWait (c : Dev nD) (s : SemLoc sig) (i : ℕ) : Bool :=
  (rest c i).all fun e => match e with
    | none => true
    | some k => lev c s < lev (tgt k c) (loc k)

end Cert.KernelIdeal.Relay

end
-- ==== Proof.Sched.lean ====
/-
  The contents that travel between the devices, and the schedule: what each payment hands over.
-/
module

public import proofs.«01_k».proof.Proof.Keys
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-! ## The ghost state -/

/-- The proof's resources beside memory: the library's own and the rounds'. -/
abbrev UU : Type := UR sig nD τ × URounds (GSem nD τ sig) Key
local notation "𝕄" => MT nD τ sig Unit (Elt F) ℕ UU ℕ

/-- How the first of them sits in the whole. -/
abbrev EP : Emb (UR sig nD τ) (MT nD τ sig Unit (Elt F) ℕ UU ℕ) := embL
/-- How the rounds' resources sit in the whole. -/
abbrev ER : Emb (URounds (GSem nD τ sig) Key) (MT nD τ sig Unit (Elt F) ℕ UU ℕ) := embR

variable (m : (ℓ : Loc nD τ sig) → Buf (Elt F) ℓ) (ρ : Dev nD → PrngReg)

/-! ## The buffers and their parts -/

/-- The staged first operand. -/
abbrev xM : Memref sig .tc .vmem S1024x1024 .f32 := Memref.whole cc0_stg0_0
/-- The staged second operand. -/
abbrev dM : Memref sig .tc .vmem S1024x4096 .f32 := Memref.whole cc0_stg1_0
/-- The staged result. -/
abbrev oM : Memref sig .tc .vmem S256x4096 .f32 := Memref.whole cc0_stg2_0
/-- The buffer of the chain with flag `b`. -/
def arr (b : Bool) : Memref sig .tc .vmem S2x4x256x256 .f32 :=
  match b with
  | false => Memref.whole cc0_scratch0
  | true => Memref.whole cc0_scratch1

/-- A slot lies inside its chain's buffer. -/
theorem srect_inb (h : Fin 2) (q : Fin 4) : ∀ a, (![h.val, q.val, 0, 0] : Fin 4 → ℕ) a + S1x1x256x256.size a ≤ S2x4x256x256.size a := by
  revert h q; decide
/-- The part of a chain's buffer that holds block `q` of half `h`. -/
abbrev srect (h : Fin 2) (q : Fin 4) : Rect S2x4x256x256 := Rect.unit (s := S2x4x256x256) ![h.val, q.val, 0, 0] S1x1x256x256.size (srect_inb h q)
/-- A slot as a part of its chain's buffer. -/
abbrev slotV (b : Bool) (h : Fin 2) (q : Fin 4) : View sig .tc .vmem S1x1x256x256 .f32 := (arr b).access (srect h q)
/-- A slot as a block of rows and columns. -/
abbrev slotM (b : Bool) (h : Fin 2) (q : Fin 4) : Memref sig .tc .vmem S256x256 .f32 :=
  ((arr b).slice (srect h q) (fun _ => rfl)).squeeze S256x256 squeezes_S1x1x256x256_S256x256

/-- A piece lies inside the result. -/
theorem prect_inb (x : Fin 2) (j : Fin 4) (h : Fin 2) : ∀ a, (![0, 2048 * x.val + 512 * j.val + 256 * h.val] : Fin 2 → ℕ) a + S256x256.size a ≤ S256x4096.size a := by
  revert x j h; decide
/-- The rectangle of a piece in the result. -/
abbrev prect (x : Fin 2) (j : Fin 4) (h : Fin 2) : Rect S256x4096 := Rect.unit (s := S256x4096) ![0, 2048 * x.val + 512 * j.val + 256 * h.val] S256x256.size (prect_inb x j h)
/-- Half `h` of the result's column block of the devices at `x` and `j` along the first and third axes. -/
abbrev pcM (x : Fin 2) (j : Fin 4) (h : Fin 2) : Memref sig .tc .vmem S256x256 .f32 := oM.slice (prect x j h) (fun _ => rfl)

/-- What a transfer adds to a semaphore. -/
abbrev N : ℕ := (pcM 0 0 0).view.dmaCredit
/-- A transfer adds something. -/
theorem N_pos : 0 < N := View.dmaCredit_pos _ (by decide)
/-- Every piece adds the same. -/
theorem N_pc (x : Fin 2) (j : Fin 4) (h : Fin 2) : (pcM x j h).view.dmaCredit = N := rfl
/-- Every slot adds the same. -/
theorem N_slot (b : Bool) (h : Fin 2) (q : Fin 4) : (slotM b h q).view.dmaCredit = N := by cases b <;> rfl

/-! ## Contents -/

/-- The words the program computes of its place. -/
def w2 (c : Dev nD) : BitVec 32 := Scalar.remsi (Scalar.divsi (Dev.word c) 16#32) 2#32
/-- The program's word for the place along the second axis. -/
def w5 (c : Dev nD) : BitVec 32 := Scalar.remsi (Scalar.divsi (Dev.word c) 4#32) 4#32
/-- The program's word for the place along the third axis. -/
def w8 (c : Dev nD) : BitVec 32 := Scalar.remsi (Scalar.divsi (Dev.word c) 1#32) 4#32
/-- Its bit for a neighbour below along the third axis. -/
def w12 (c : Dev nD) : BitVec 1 := Scalar.cmpi .sgt (w8 c) 0#32
/-- Its bit for a neighbour above along the third axis. -/
def w13 (c : Dev nD) : BitVec 1 := Scalar.cmpi .slt (w8 c) 3#32
/-- Its bit for a neighbour below along the second axis. -/
def w14 (c : Dev nD) : BitVec 1 := Scalar.cmpi .sgt (w5 c) 0#32
/-- Its bit for a neighbour above along the second axis. -/
def w15 (c : Dev nD) : BitVec 1 := Scalar.cmpi .slt (w5 c) 3#32

/-- A device's blocks of the two operands, as staged. -/
def xstg (c : Dev nD) : (cc0_stg0_0 : Ref sig .tc).ty.Contents (Elt F) :=
  (win0_0.blk (0 : Fin 1)).view.read (Elt F) ((s₀ m ρ).mem ((c : Thread nD τ).loc main_arg0))
/-- The second operand's block, as staged. -/
def dstg (c : Dev nD) : (cc0_stg1_0 : Ref sig .tc).ty.Contents (Elt F) :=
  (win0_1.blk (0 : Fin 1)).view.read (Elt F) ((s₀ m ρ).mem ((c : Thread nD τ).loc main_arg1))

/-- A row block's columns lie inside the first operand. -/
theorem xrect_inb (q : Fin 4) : ∀ a, (![0, 256 * q.val] : Fin 2 → ℕ) a + S1024x256.size a ≤ S1024x1024.size a := by revert q; decide
/-- Columns `256 q` on of the first operand. -/
def xs (c : Dev nD) (q : Fin 4) : Vec F S1024x256 .f32 :=
  (xM.access (Rect.unit (s := S1024x1024) ![0, 256 * q.val] S1024x256.size (xrect_inb q))).read (Elt F) (xstg m ρ c)
/-- The columns of the second operand that a device multiplies in half `h`. -/
def ds (c : Dev nD) (h : Fin 2) : Vec F S1024x256 .f32 :=
  (dM.access (Rect.unit (s := S1024x4096) (k0_off1 c (BitVec.ofNat 32 (256 * h.val))) S1024x256.size (k0_off1_inb c h))).read (Elt F) (dstg m ρ c)

/-- A device's own product for row block `q` and half `h`. -/
def part (c : Dev nD) (h : Fin 2) (q : Fin 4) : FVec F S256x256 .f32 := k0_pay1 (xs m ρ c q) (ds m ρ c h)

/-- The sum a chain has `n` steps from its start, at the device there. -/
def chain (b : Bool) (h : Fin 2) (q : Fin 4) : ℕ → Dev nD → Vec F S1x1x256x256 .f32
  | 0, c => k0_pay8 (part m ρ c h q)
  | n + 1, c => k0_pay12 (part m ρ c h q) (chain b h q n (ypv b c))
/-- What a device passes on, and what it is given. -/
def sent (b : Bool) (h : Fin 2) (q : Fin 4) (c : Dev nD) : Vec F S1x1x256x256 .f32 := chain m ρ b h q (yb b c) c
/-- The sum that a device is given by the one before it in the chain. -/
def given (b : Bool) (h : Fin 2) (q : Fin 4) (c : Dev nD) : Vec F S1x1x256x256 .f32 := chain m ρ b h q (yb b c - 1) (ypv b c)

/-- A device's finished piece of half `h`. -/
def piece (c : Dev nD) (h : Fin 2) : FVec F S256x256 .f32 :=
  k0_pay20 (w5 c) (w14 c) (w15 c) (part m ρ c h 0) (part m ρ c h 1) (part m ρ c h 2) (part m ρ c h 3)
    (given m ρ false h (Y c) c) (given m ρ true h (Y c) c)

/-- The result block of a device: piece by piece, from the devices at its place of the second axis. -/
def outAt (c : Dev nD) : (cc0_stg2_0 : Ref sig .tc).ty.Contents (Elt F) := fun i =>
  have h1 : (i 1).val < 4096 := (i 1).isLt
  piece m ρ (dev ⟨(i 1).val / 2048, by omega⟩ (Y c) ⟨(i 1).val / 512 % 4, Nat.mod_lt _ (by decide)⟩) ⟨(i 1).val / 256 % 2, Nat.mod_lt _ (by decide)⟩
    (fun | 0 => (⟨(i 0).val, (i 0).isLt⟩ : Fin 256) | 1 => (⟨(i 1).val % 256, Nat.mod_lt _ (by decide)⟩ : Fin 256))

/-! ## Assertions -/

/-- A slot of a chain's buffer on device `c`, holding `f`. -/
def slotPts (c : Dev nD) (b : Bool) (h : Fin 2) (q : Fin 4) (f : Buf (Elt F) ((slotM b h q).view.loc (c : Thread nD τ))) : sProp 𝕄 :=
  (slotM b h q).view.loc (c : Thread nD τ) ↦[(slotM b h q).view.set]{fullShare} f
/-- A slot holding anything. -/
def slotAny (c : Dev nD) (b : Bool) (h : Fin 2) (q : Fin 4) : sProp 𝕄 := iprop(∃ f, slotPts c b h q f)
/-- The slot reads as `w`. -/
def slotIs (c : Dev nD) (b : Bool) (h : Fin 2) (q : Fin 4) (w : Vec F S1x1x256x256 .f32) : sProp 𝕄 :=
  iprop(∃ f, ⌜(slotV b h q).read (Elt F) f = w⌝ ∗ slotPts c b h q f)

/-- A piece of the result on device `c`, at share `s`, holding `f`. -/
def pcPts (c : Dev nD) (x : Fin 2) (j : Fin 4) (h : Fin 2) (s : PosShare TreeShare) (f : Buf (Elt F) ((pcM x j h).view.loc (c : Thread nD τ))) : sProp 𝕄 :=
  (pcM x j h).view.loc (c : Thread nD τ) ↦[(pcM x j h).view.set]{s} f
/-- A piece of the result holding anything. -/
def pcAny (c : Dev nD) (x : Fin 2) (j : Fin 4) (h : Fin 2) : sProp 𝕄 := iprop(∃ f, pcPts c x j h fullShare f)
/-- The finished piece. -/
def pcIs (c : Dev nD) (x : Fin 2) (j : Fin 4) (h : Fin 2) (s : PosShare TreeShare) : sProp 𝕄 := pcPts c x j h s (outAt m ρ c)

/-- The place on device `p` that a landing writes. -/
def Dst (p : Dev nD) : Key → sProp 𝕄
  | .rc b h q => slotAny p b h q
  | .zc _ h j => pcAny p (X p) j h
  | .xr h j => pcAny p (1 - X p) j h
  | _ => iprop(emp)

/-- What the barrier's signal from direction `d` hands device `c`: the places on the signaller that `c` writes. -/
def barPay (c : Dev nD) (d : Fin 5) : sProp 𝕄 :=
  bigSep Finset.univ fun k : Key => if dirOf k = some d ∧ act (tgt k c) k = true then Dst (tgt k c) k else iprop(emp)

/-- The share of a piece that each of its transfers holds. -/
def shX : PosShare TreeShare := fullShare.left
/-- The share of a piece lent to the copy downwards. -/
def shD : PosShare TreeShare := fullShare.right.left
/-- The share of a piece lent to the copy upwards. -/
def shU : PosShare TreeShare := fullShare.right.right

/-- What the payment of a key hands device `c`. -/
def pay (c : Dev nD) : Key → sProp 𝕄
  | .bar d => barPay c d
  | .rc b h q => slotIs c b h q (given m ρ b h q c)
  | .sd b h q => slotAny c b h q
  | .zc _ h j => pcIs m ρ c (X c) j h fullShare
  | .xr h j => pcIs m ρ c (1 - X c) j h fullShare
  | .os h k => pcIs m ρ c (X c) (Z c) h (match k with | 0 => shD | 1 => shU | 2 => shX)
  | .es h j k => pcIs m ρ c (X c) j h (match k with | 0 => fullShare.left | 1 => fullShare.right)

/-- The units of a key. -/
def amt : Key → ℕ
  | .bar _ => 1
  | _ => N
/-- Every payment is of something. -/
theorem amt_pos (k : Key) : 0 < amt k := by cases k <;> first | exact Nat.one_pos | exact N_pos

instance slotPts_storable (c : Dev nD) (b h q f) : BI.Storable (upEmb : UEmb _ 𝕄) (slotPts (F := F) c b h q f) := by unfold slotPts; infer_instance
instance slotAny_storable (c : Dev nD) (b h q) : BI.Storable (upEmb : UEmb _ 𝕄) (slotAny (F := F) c b h q) := by unfold slotAny; infer_instance
instance slotIs_storable (c : Dev nD) (b h q w) : BI.Storable (upEmb : UEmb _ 𝕄) (slotIs (F := F) c b h q w) := by unfold slotIs; infer_instance
instance pcPts_storable (c : Dev nD) (x j h) (s : PosShare TreeShare) (f) : BI.Storable (upEmb : UEmb _ 𝕄) (pcPts (F := F) c x j h s f) := by unfold pcPts; infer_instance
instance pcAny_storable (c : Dev nD) (x j h) : BI.Storable (upEmb : UEmb _ 𝕄) (pcAny (F := F) c x j h) := by unfold pcAny; infer_instance
instance pcIs_storable (c : Dev nD) (x j h) (s : PosShare TreeShare) : BI.Storable (upEmb : UEmb _ 𝕄) (pcIs (F := F) m ρ c x j h s) := by unfold pcIs; infer_instance
instance Dst_storable (p : Dev nD) (k : Key) : BI.Storable (upEmb : UEmb _ 𝕄) (Dst (F := F) p k) := by
  cases k <;> (unfold Dst; infer_instance)
instance barPay_storable (c : Dev nD) (d : Fin 5) : BI.Storable (upEmb : UEmb _ 𝕄) (barPay (F := F) c d) := by
  unfold barPay
  have : ∀ k : Key, BI.Storable (upEmb : UEmb _ 𝕄) (if dirOf k = some d ∧ act (tgt k c) k = true then Dst (F := F) (tgt k c) k else iprop(emp)) :=
    fun k => by split <;> infer_instance
  infer_instance
instance pay_storable (c : Dev nD) (k : Key) : BI.Storable (upEmb : UEmb _ 𝕄) (pay (F := F) m ρ c k) := by
  cases k <;> (unfold pay; infer_instance)

/-! ## The schedule -/

/-- Each semaphore has one round, whose duties are the keys paid on it. -/
def Rd : Rounds.Schedule (GSem nD τ sig) Key 𝕄 where
  duties g r := if r = 0 ∧ g.1.2 = .tc then Finset.univ.filter fun k => loc k = g.2 ∧ act g.1.1 k = true else ∅
  unitless _ := False
  amount _ _ k := amt k
  payload g _ k := pay m ρ g.1.1 k
  amount_pos _ _ k _ := amt_pos k

instance Rd_storable (g : GSem nD τ sig) (r : ℕ) (k : Key) : BI.Storable (upEmb : UEmb _ 𝕄) ((Rd (F := F) m ρ).payload g r k) := by
  show BI.Storable upEmb (pay m ρ g.1.1 k); infer_instance

/-- The semaphore that key `k` is paid on at device `c`. -/
abbrev cell (c : Dev nD) (k : Key) : GSem nD τ sig := ((c : Thread nD τ), loc k)

/-- The payments on a semaphore in its only round: the active keys on it. -/
theorem duties_zero (c : Dev nD) (s : SemLoc sig) : (Rd (F := F) m ρ).duties ((c : Thread nD τ), s) 0 = Finset.univ.filter fun k => loc k = s ∧ act c k = true :=
  by dsimp only [Rd]; exact if_pos ⟨rfl, rfl⟩
/-- There are no payments in later rounds. -/
theorem duties_later (g : GSem nD τ sig) : ∀ r, 1 ≤ r → (Rd (F := F) m ρ).duties g r = ∅ :=
  fun r hr => by dsimp only [Rd]; exact if_neg fun h => by omega
/-- A semaphore without active keys is paid nothing in any round. -/
theorem duties_none (c : Dev nD) (s : SemLoc sig) (h : ∀ k, loc k = s → act c k = false) : ∀ r, (0 : ℕ) ≤ r → (Rd (F := F) m ρ).duties ((c : Thread nD τ), s) r = ∅ := by
  intro r _
  rcases Nat.eq_zero_or_pos r with rfl | hr
  · rw [duties_zero, Finset.filter_eq_empty_iff]
    rintro k - ⟨h1, h2⟩
    rw [h k h1] at h2; exact Bool.noConfusion h2
  · exact duties_later m ρ _ r hr
/-- An active key is among the payments on its semaphore. -/
theorem mem_duties (c : Dev nD) (k : Key) (h : act c k = true) : k ∈ (Rd (F := F) m ρ).duties (cell c k) 0 := by
  rw [duties_zero, Finset.mem_filter]; exact ⟨Finset.mem_univ _, rfl, h⟩

/-- A key that is not the barrier's. -/
def isBar : Key → Bool
  | .bar _ => true
  | _ => false

/-- Where an active key is paid, no other is, but on the barrier. -/
theorem alone (c : Dev nD) (k k' : Key) (hb : isBar k = false) (ha : act c k = true) (ha' : act c k' = true) (hl : loc k' = loc k) : k' = k := by
  have := alike_of_loc k' k hl
  cases k <;> cases k' <;> simp_all [alike, isBar]
  rename_i b h j b' h' j'
  simp only [act] at ha ha'
  cases b <;> cases b' <;> simp_all <;> omega

/-- A semaphore in use that is no barrier has one payment. -/
theorem duties_one (c : Dev nD) (k : Key) (hb : isBar k = false) (ha : act c k = true) : (Rd (F := F) m ρ).duties (cell c k) 0 = {k} := by
  rw [duties_zero]; ext k'
  rw [Finset.mem_filter, Finset.mem_singleton]
  exact ⟨fun h => alone c k k' hb ha h.2.2 h.2.1, fun h => by subst h; exact ⟨Finset.mem_univ _, rfl, ha⟩⟩
/-- Every payment but the barrier's is one transfer's. -/
theorem amt_one (k : Key) (hb : isBar k = false) : amt k = N := by cases k <;> first | rfl | exact Bool.noConfusion hb
/-- So such a semaphore expects one transfer. -/
theorem expect_one (c : Dev nD) (k : Key) (hb : isBar k = false) (ha : act c k = true) : (Rd (F := F) m ρ).expect (cell c k) 0 = N := by
  unfold Schedule.expect Schedule.amountOf
  rw [duties_one m ρ c k hb ha, Finset.sum_singleton]; exact amt_one k hb
/-- What is left to collect there is that payment's content. -/
theorem rest_one (c : Dev nD) (k : Key) (hb : isBar k = false) (ha : act c k = true) :
    bigSep ((Rd (F := F) m ρ).duties (cell c k) 0 \ ∅) (fun k' => (Rd (F := F) m ρ).payload (cell c k) 0 k') = pay m ρ c k := by
  rw [Finset.sdiff_empty, duties_one m ρ c k hb ha, bigSep_singleton]; rfl

/-- The keys of the barrier, as directions. -/
def barEmb : Fin 5 ↪ Key := ⟨Key.bar, fun a b h => by injection h⟩
/-- The barrier's payments are the signals of the neighbours there are. -/
theorem bar_filter (c : Dev nD) : (Finset.univ.filter fun k : Key => loc k = loc (.bar 0) ∧ act c k = true)
    = (Finset.univ.filter fun d : Fin 5 => act c (.bar d) = true).map barEmb := by
  ext k
  rw [Finset.mem_filter, Finset.mem_map]
  constructor
  · rintro ⟨-, h1, h2⟩
    have h3 := alike_of_loc k (.bar 0) h1
    cases k with
    | bar d => exact ⟨d, Finset.mem_filter.mpr ⟨Finset.mem_univ _, h2⟩, rfl⟩
    | _ => exact absurd h3 (by simp [alike])
  · rintro ⟨d, h, rfl⟩; exact ⟨Finset.mem_univ _, rfl, (Finset.mem_filter.mp h).2⟩

/-- The barrier's round at device `c`: one unit from each neighbour there is. -/
theorem expect_bar (c : Dev nD) : (Rd (F := F) m ρ).expect (cell c (.bar 0)) 0 = (Finset.univ.filter fun d : Fin 5 => act c (.bar d) = true).card := by
  unfold Schedule.expect Schedule.amountOf
  rw [duties_zero, bar_filter, Finset.sum_map, Finset.card_eq_sum_ones]; rfl
/-- What is left to collect there is all their contents. -/
theorem rest_bar (c : Dev nD) :
    bigSep ((Rd (F := F) m ρ).duties (cell c (.bar 0)) 0 \ ∅) (fun k => (Rd (F := F) m ρ).payload (cell c (.bar 0)) 0 k)
      = bigSep (Finset.univ.filter fun d : Fin 5 => act c (.bar d) = true) fun d => barPay (F := F) c d := by
  rw [Finset.sdiff_empty, duties_zero, bar_filter, bigSep_map]; rfl

/-! ## Levels and what a device owes -/

/-- The levels are kept for the cells of the main cores. -/
def L (g : GSem nD τ sig) : Finset Unit := if g.1.2 = .tc then {()} else ∅
/-- The level of a cell. -/
def lv (g : GSem nD τ sig) (_ : Unit) : ℕ := lev g.1.1 g.2
/-- Other cores keep none. -/
theorem L_of_ne (g : GSem nD τ sig) (h : g.1.2 ≠ .tc) : L g = ∅ := if_neg h
/-- A main core keeps one. -/
theorem L_tc (c : Dev nD) (s : SemLoc sig) : L ((c : Thread nD τ), s) = {()} := if_pos rfl

/-- What device `c` owes for a list of payments. -/
def owed (c : Dev nD) : List (Option Key) → CellTallies nD τ sig Unit
  | [] => 0
  | none :: l => owed c l
  | some k :: l => owed c l + tallyAt (cell (tgt k c) k) () (amt k)

/-- What is owed on a cell comes from a key of the list. -/
theorem owed_pos (c : Dev nD) : ∀ (l : List (Option Key)) {g : GSem nD τ sig} {u : Unit}, 0 < owed c l g u → ∃ k, some k ∈ l ∧ g = cell (tgt k c) k
  | [], g, u, h => absurd h (Nat.lt_irrefl 0)
  | none :: l, g, u, h => by
    obtain ⟨k, hk, e⟩ := owed_pos c l h
    exact ⟨k, List.mem_cons_of_mem _ hk, e⟩
  | some k :: l, g, u, h => by
    unfold owed at h
    rw [Pi.add_apply, Finsupp.add_apply] at h
    by_cases h' : 0 < owed c l g u
    · obtain ⟨k, hk, e⟩ := owed_pos c l h'
      exact ⟨k, List.mem_cons_of_mem _ hk, e⟩
    · rw [tallyAt_apply] at h
      by_cases hg : g = cell (tgt k c) k ∧ u = ()
      · exact ⟨k, List.mem_cons_self, hg.1⟩
      · rw [if_neg hg] at h; exact absurd h h'

/-- A wait below everything still owed is allowed. -/
theorem mayWait (c : Dev nD) (s : SemLoc sig) (i : ℕ) (h : okWait c s i = true) :
    (levAts L lv : sProp 𝕄) ⊢ MayWait (c : Thread nD τ) s () (owed c (rest c i)) :=
  MayOwe.of_cut (L := L) (lev := lv) (lev c s) (fun p hp => by rw [Finset.mem_singleton.mp hp, L_tc]; exact Finset.mem_singleton_self _)
    (fun g u hg => by obtain ⟨k, _, rfl⟩ := owed_pos c _ hg; rw [L_tc]; exact Finset.mem_singleton_self _)
    (fun p hp => by rw [Finset.mem_singleton.mp hp]; exact le_rfl)
    (fun g u hg => by
      obtain ⟨k, hk, rfl⟩ := owed_pos c _ hg
      have := (List.all_eq_true.mp h) _ hk
      simpa [lv] using this)

end Cert.KernelIdeal.Relay

end
-- ==== Proof.Steps.lean ====
/-
  What a device holds at each point of its program, and the steps between the points: a load, a
  store, a transfer sent, a wait.
-/
module

public import proofs.«01_k».proof.Proof.Sched

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)

/-! ## The semaphores -/

/-- The kernel's own semaphores: the barrier's, and the seventy of its transfers. -/
abbrev Ci : Type := Option (Fin 70)
/-- The semaphores in use, by number. -/
def cl : Ci → SemLoc sig
  | none => .reg (sig.barrier 0 rfl)
  | some n => .dma ⟨3 + n.val, by revert n; decide⟩
/-- The number of a key's semaphore. -/
def ci : Key → Ci
  | .bar _ => none
  | .rc b h q => some ⟨(if b then 8 else 0) + 4 * h.val + q.val, by revert b h q; decide⟩
  | .sd b h q => some ⟨(if b then 24 else 16) + 4 * h.val + q.val, by revert b h q; decide⟩
  | .zc _ h j => some ⟨32 + 4 * h.val + j.val, by revert h j; decide⟩
  | .xr h j => some ⟨40 + 4 * h.val + j.val, by revert h j; decide⟩
  | .os h k => some ⟨48 + 3 * h.val + k.val, by revert h k; decide⟩
  | .es h j k => some ⟨54 + 8 * h.val + 2 * j.val + k.val, by revert h j k; decide⟩
/-- The number of a key's semaphore names it. -/
theorem cl_ci (k : Key) : cl (ci k) = loc k := by revert k; decide +kernel

variable (K : Dev nD × Ci → ℕ)

/-- Every semaphore's invariant, and that its first round is reached. -/
def recs : sProp 𝕄 := bigSep Finset.univ fun p : Dev nD × Ci =>
  iprop(cellInv ER (Rd m ρ) (K p) ((p.1 : Thread nD τ), cl p.2) ∗ reached ER ((p.1 : Thread nD τ), cl p.2) 0)
instance recs_persistent : BI.Persistent (recs (F := F) m ρ K) := by unfold recs; infer_instance
/-- From the record of all cells, the record of a key's cell. -/
theorem recs_at (c : Dev nD) (k : Key) : recs (F := F) m ρ K ⊢ iprop(cellInv ER (Rd m ρ) (K (c, ci k)) (cell c k) ∗ reached ER (cell c k) 0) := by
  unfold cell; rw [← cl_ci k]; exact bigSep_elim (Finset.mem_univ (c, ci k))

/-! ## What is held of a semaphore -/

/-- The semaphore has no more payments coming. -/
def Cl (c : Dev nD) (s : SemLoc sig) : sProp 𝕄 :=
  iprop(∃ R, ⌜∀ r, R ≤ r → (Rd (F := F) m ρ).duties ((c : Thread nD τ), s) r = ∅⌝ ∗ atPos ER ((c : Thread nD τ), s) R ∅ 0)
/-- The key is to be waited for. -/
def Pre (c : Dev nD) (k : Key) : sProp 𝕄 := iprop(atPos ER (cell c k) 0 ∅ 0 ∗ cred (tallyAt (cell c k) () N))
/-- The send count of the key is still to be paid. -/
def SPre (c : Dev nD) (k : Key) : sProp 𝕄 := iprop(atPos ER (cell c k) 0 ∅ 0 ∗ dutyTok ER (cell c k) 0 k)
/-- What a device holds of a send count before the send, or its closed cell where it never sends. -/
def spre (c : Dev nD) (k : Key) : sProp 𝕄 := if act c k then SPre c k else Cl m ρ c (loc k)
/-- A share of a piece and its send count: to be sent, on its way, back. -/
def Snd (c : Dev nD) (k : Key) (n : ℕ) : sProp 𝕄 :=
  if act c k then (match n with
    | 0 => iprop(pay m ρ c k ∗ SPre c k)
    | 1 => Pre c k
    | _ => iprop(pay m ρ c k ∗ Cl m ρ c (loc k)))
  else iprop(pay m ρ c k ∗ Cl m ρ c (loc k))

/-! ## The parts of a device's state -/

inductive Slot
  /-- A slot of a chain's buffer. -/
  | ch (b : Bool) (h : Fin 2) (q : Fin 4)
  /-- The device's own piece. -/
  | ow (h : Fin 2)
  /-- The piece `n + 1` steps below or above along the third axis. -/
  | rl (b : Bool) (h : Fin 2) (n : Fin 3)
  /-- A piece from the other end of the first axis. -/
  | xp (h : Fin 2) (j : Fin 4)
deriving DecidableEq, Fintype

/-- The stage of a transfer made at step `a` and waited for at step `b`. -/
def stg (v a b : ℕ) : ℕ := if v < a then 0 else if v < b then 1 else 2

/-- A chain's slot after `v` steps: start stored, start sent, landing waited for, sum stored, sum sent, the two sends waited for. -/
def chA (c : Dev nD) (b : Bool) (h : Fin 2) (q : Fin 4) (v : ℕ) : sProp 𝕄 :=
  if isS b c q then iprop(Cl m ρ c (loc (.rc b h q)) ∗ (match v with
    | 0 => iprop(slotAny c b h q ∗ SPre c (.sd b h q))
    | 1 => iprop(slotIs c b h q (sent m ρ b h q c) ∗ SPre c (.sd b h q))
    | 2 => Pre c (.sd b h q)
    | 3 => Pre c (.sd b h q)
    | 4 => Pre c (.sd b h q)
    | 5 => Pre c (.sd b h q)
    | _ => iprop(slotAny c b h q ∗ Cl m ρ c (loc (.sd b h q)))))
  else if isF b c q then (match v with
    | 0 => iprop(Pre c (.rc b h q) ∗ SPre c (.sd b h q))
    | 1 => iprop(Pre c (.rc b h q) ∗ SPre c (.sd b h q))
    | 2 => iprop(Pre c (.rc b h q) ∗ SPre c (.sd b h q))
    | 3 => iprop(Cl m ρ c (loc (.rc b h q)) ∗ slotIs c b h q (given m ρ b h q c) ∗ SPre c (.sd b h q))
    | 4 => iprop(Cl m ρ c (loc (.rc b h q)) ∗ slotIs c b h q (sent m ρ b h q c) ∗ SPre c (.sd b h q))
    | 5 => iprop(Cl m ρ c (loc (.rc b h q)) ∗ Pre c (.sd b h q))
    | 6 => iprop(Cl m ρ c (loc (.rc b h q)) ∗ Pre c (.sd b h q))
    | _ => iprop(Cl m ρ c (loc (.rc b h q)) ∗ slotAny c b h q ∗ Cl m ρ c (loc (.sd b h q))))
  else if isT b c q then iprop((match v with
    | 0 => Pre c (.rc b h q)
    | 1 => Pre c (.rc b h q)
    | 2 => Pre c (.rc b h q)
    | _ => iprop(Cl m ρ c (loc (.rc b h q)) ∗ slotIs c b h q (given m ρ b h q c))) ∗ Cl m ρ c (loc (.sd b h q)))
  else iprop(slotAny c b h q ∗ Cl m ρ c (loc (.rc b h q)) ∗ Cl m ρ c (loc (.sd b h q)))

/-- The own piece after `v` steps: stored, sent across, down, up, the last two waited for, the first waited for. -/
def owA (c : Dev nD) (h : Fin 2) (v : ℕ) : sProp 𝕄 :=
  iprop((match v with
    | 0 => iprop(pcAny c (X c) (Z c) h ∗ spre m ρ c (.os h 2) ∗ spre m ρ c (.os h 0) ∗ spre m ρ c (.os h 1))
    | v + 1 => iprop(Snd m ρ c (.os h 2) (stg (v + 1) 2 7) ∗ Snd m ρ c (.os h 0) (stg (v + 1) 3 5) ∗ Snd m ρ c (.os h 1) (stg (v + 1) 4 6)))
    ∗ Cl m ρ c (loc (.zc false h (Z c))) ∗ Cl m ρ c (loc (.es h (Z c) 0)) ∗ Cl m ρ c (loc (.es h (Z c) 1)))

/-- A relayed piece after `v` steps: waited for, passed on, sent across, and the two sends waited for. -/
def rlA (c : Dev nD) (b : Bool) (h : Fin 2) (n : Fin 4) (v : ℕ) : sProp 𝕄 :=
  if jin b c n then (match v with
    | 0 => iprop(Pre c (.zc b h (jn b c n)) ∗ spre m ρ c (.es h (jn b c n) 0) ∗ spre m ρ c (.es h (jn b c n) 1))
    | v + 1 => iprop(Cl m ρ c (loc (.zc b h (jn b c n))) ∗ Snd m ρ c (.es h (jn b c n) 0) (stg (v + 1) 2 4) ∗ Snd m ρ c (.es h (jn b c n) 1) (stg (v + 1) 3 5)))
  else iprop(emp)

/-- The landing from across, before and after it is waited for. -/
def xpA (c : Dev nD) (h : Fin 2) (j : Fin 4) (v : ℕ) : sProp 𝕄 :=
  match v with
    | 0 => Pre c (.xr h j)
    | _ => iprop(pay m ρ c (.xr h j) ∗ Cl m ρ c (loc (.xr h j)))

/-- What a device holds of a part of its state after `v` of its operations. -/
def A (c : Dev nD) (s : Slot) (v : ℕ) : sProp 𝕄 :=
  match s with
  | .ch b h q => chA m ρ c b h q v
  | .ow h => owA m ρ c h v
  | .rl b h n => rlA m ρ c b h n.succ v
  | .xp h j => xpA m ρ c h j v

/-- What a device needs for its payments to come: the key's token, and the place its transfer writes. -/
def Kits (c : Dev nD) : List (Option Key) → sProp 𝕄
  | [] => iprop(emp)
  | none :: l => Kits c l
  | some k :: l => iprop((dutyTok ER (cell (tgt k c) k) 0 k ∗ Dst (tgt k c) k) ∗ Kits c l)

/-- The kits of a list that begins with a payment. -/
theorem Kits_some (c : Dev nD) (k : Key) (l : List (Option Key)) :
    Kits (F := F) c (some k :: l) = iprop((dutyTok ER (cell (tgt k c) k) 0 k ∗ Dst (tgt k c) k) ∗ Kits c l) := rfl
/-- The kits of a list that begins with none. -/
theorem Kits_none (c : Dev nD) (l : List (Option Key)) : Kits (F := F) c (none :: l) = Kits c l := rfl
/-- What is owed of a list that begins with a payment. -/
theorem owed_some (c : Dev nD) (k : Key) (l : List (Option Key)) : owed c (some k :: l) = owed c l + tallyAt (cell (tgt k c) k) () (amt k) := rfl
/-- What is owed of a list that begins with none. -/
theorem owed_none (c : Dev nD) (l : List (Option Key)) : owed c (none :: l) = owed c l := rfl

/-- The staged first operand, held. -/
def xst (c : Dev nD) : sProp 𝕄 := ((c : Thread nD τ).loc cc0_stg0_0) ↦{fullShare} xstg m ρ c
/-- The staged second operand, held. -/
def dst (c : Dev nD) : sProp 𝕄 := ((c : Thread nD τ).loc cc0_stg1_0) ↦{fullShare} dstg m ρ c

/-- What a device holds besides its parts, with the payments from the `i`th on still to make. -/
def Base (c : Dev nD) (i : ℕ) : sProp 𝕄 :=
  iprop(recs m ρ K ∗ levAts L lv ∗ (∃ W, owes (c : Thread nD τ) (owed c (rest c i)) W) ∗ Kits c (rest c i) ∗ xst m ρ c ∗ dst m ρ c)

/-! ## The program's steps, as the parts they change -/

/-- The chains and row blocks in the order in which they are started. -/
def startQ : List (Bool × Fin 4) := [(false, 3), (false, 2), (false, 1), (true, 0), (true, 1), (true, 2)]
/-- The chains and row blocks in the order in which their sums are waited for and passed on. -/
def fwdQ : List (Bool × Fin 4) := [(false, 3), (true, 0), (false, 2), (true, 1), (false, 1), (true, 2), (false, 0), (true, 3)]
/-- The operations of half `h` up to the sends of its finished piece, each by the part of the state it changes. -/
def opsPhase (h : Fin 2) : List Slot :=
  (startQ.flatMap fun p => List.replicate 2 (.ch p.1 h p.2)) ++ (fwdQ.flatMap fun p => List.replicate 3 (.ch p.1 h p.2)) ++ List.replicate 4 (.ow h)
/-- `k` operations in a row on each piece passed on. -/
def opsRelay (k : ℕ) (h : Fin 2) : List Slot :=
  [0, 1, 2].flatMap fun n => List.replicate k (.rl false h n) ++ List.replicate k (.rl true h n)
/-- The waits at the end for half `h`. -/
def opsEnd (h : Fin 2) : List Slot :=
  (startQ.map fun p => .ch p.1 h p.2) ++ (fwdQ.map fun p => .ch p.1 h p.2) ++ [.ow h, .ow h]
/-- All the operations of the program in order. -/
def ops : List Slot :=
  opsPhase 0 ++ opsPhase 1 ++ opsRelay 3 0 ++ opsRelay 3 1
    ++ [.xp 0 0, .xp 0 1, .xp 0 2, .xp 0 3, .xp 1 0, .xp 1 1, .xp 1 2, .xp 1 3]
    ++ opsEnd 0 ++ opsEnd 1 ++ opsRelay 2 0 ++ opsRelay 2 1 ++ [.ow 0, .ow 1]
/-- A chain's first block is never started, so its two first steps are not there. -/
def ini : Slot → ℕ
  | .ch b _ q => if qb b q = 0 then 2 else 0
  | _ => 0
/-- How many steps the part has made when the program has made `n`. -/
def cnt (n : ℕ) (s : Slot) : ℕ := ini s + (ops.take n).count s

/-- One operation more counts one more for its own part. -/
theorem cnt_succ {n : ℕ} {s : Slot} (h : ops[n]? = some s) (s' : Slot) : cnt (n + 1) s' = if s' = s then cnt n s' + 1 else cnt n s' := by
  unfold cnt
  rw [List.take_add_one, h, List.count_append]
  by_cases e : s' = s
  · subst e; simp; omega
  · rw [if_neg e]; simp [List.count_singleton, Ne.symm e, e]

/-- Device `c`'s state after `n` steps, with the payments from the `i`th on still to make. -/
def Core (c : Dev nD) (i n : ℕ) : sProp 𝕄 :=
  iprop(Base m ρ K c i ∗ bigSep Finset.univ fun s : Slot => A m ρ c s (cnt n s))

abbrev 𝒱₀ : Variants := Variants.none
/-- Running a part of device `c`'s program. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Two programs one after the other. -/
theorem seq {α : Type} {c : Dev nD} {P P' : sProp 𝕄} {p : Prog (TpuEff nD τ sig (Elt F) Λ₀ .tc) PUnit} {k : PUnit → Prog (TpuEff nD τ sig (Elt F) Λ₀ .tc) α}
    {Q : α → sProp 𝕄} (h : P ⊢ WP c p fun _ => P') (hk : P' ⊢ WP c (k ⟨⟩) Q) : P ⊢ WP c (p >>= k) Q := by
  unfold WP; rw [wp_bind]
  exact h.trans (wp_mono _ _ _ fun _ => hk)
/-- The same where the first gives a value. -/
theorem seqv {α β : Type} {c : Dev nD} {P P' : sProp 𝕄} {p : Prog (TpuEff nD τ sig (Elt F) Λ₀ .tc) β} {k : β → Prog (TpuEff nD τ sig (Elt F) Λ₀ .tc) α}
    {Q : α → sProp 𝕄} {φ : β → Prop} (h : P ⊢ WP c p fun v => iprop(⌜φ v⌝ ∗ P')) (hk : ∀ v, φ v → P' ⊢ WP c (k v) Q) : P ⊢ WP c (p >>= k) Q := by
  unfold WP; rw [wp_bind]
  refine h.trans (wp_mono _ _ _ fun v => ?_)
  iintro ⟨%hv, H⟩
  iapply (hk v hv); iexact H
/-- A program that only gives a value. -/
theorem ret {α : Type} {c : Dev nD} {P : sProp 𝕄} {v : α} {Q : α → sProp 𝕄} (h : P ⊢ Q v) : P ⊢ WP c (pure v) Q := by
  unfold WP; rw [wp_pure]
  iintro H; imodintro; iapply h; iexact H

/-- A guarded step. -/
theorem guarded {c : Dev nD} {C : Prop} [Decidable C] {G : Bool} {P Q : sProp 𝕄} {p : C → Prog (TpuEff nD τ sig (Elt F) Λ₀ .tc) PUnit}
    (hC : C ↔ G = true) (ht : ∀ h : C, G = true → P ⊢ WP c (p h) fun _ => Q) (hf : G = false → P ⊢ Q) :
    P ⊢ WP c (if h : C then p h else pure ⟨⟩) fun _ => Q := by
  by_cases h : C
  · rw [dif_pos h]; exact ht h (hC.mp h)
  · rw [dif_neg h]
    exact ret (hf (by cases G <;> simp_all))

/-- A step that changes one part. -/
theorem step {c : Dev nD} {i i' n v : ℕ} {s : Slot} {p : Prog (TpuEff nD τ sig (Elt F) Λ₀ .tc) PUnit} (hn : ops[n]? = some s) (hv : cnt n s = v)
    (hp : iprop(Base m ρ K c i ∗ A m ρ c s v) ⊢ WP c p fun _ => iprop(Base m ρ K c i' ∗ A m ρ c s (v + 1))) :
    Core m ρ K c i n ⊢ WP c p fun _ => Core m ρ K c i' (n + 1) := by
  unfold Core
  rw [bigSep_univ_at (fun s => A m ρ c s (cnt n s)) s, bigSep_univ_at (fun s => A m ρ c s (cnt (n + 1) s)) s, cnt_succ hn, if_pos rfl, hv,
    bigSep_congr (s := Finset.univ.erase s) (Φ := fun s => A m ρ c s (cnt (n + 1) s)) (Ψ := fun s => A m ρ c s (cnt n s))
      (fun s' hs => by rw [cnt_succ hn, if_neg (Finset.ne_of_mem_erase hs)])]
  iintro ⟨HB, HA, Hr⟩
  ihave H := hp $$ [HB HA]
  · isplitl [HB] <;> iassumption
  iapply (wp_wand _ _ _) $$ H
  iintro %_ ⟨HB, HA⟩
  isplitl [HB]; · iexact HB
  isplitl [HA] <;> iassumption

/-! ## One transfer, one wait -/

/-- A copy sent to another device, under the guard of its key. -/
theorem send_step (c : Dev nD) (i : ℕ) (kr ks : Key) {M src dst : Memref sig .tc .vmem S256x256 .f32} (hs : src = M) (hd : dst = M)
    {n : Dev nD} (hn : n = tgt kr c) {sS sem : SemLoc sig} (hsS : sS = loc ks) (hsem : sem = loc kr)
    {hsc : (dst : Memref sig (Dev.tc n : Thread nD τ).2.kind .vmem S256x256 .f32).view.ref.isScScratch = false} {hsrc : src.view.WordExact} {hdst : dst.view.WordExact}
    {hty : DmaTarget.Typed .vmem sem (.remote (Dev.tc n : Thread nD τ) (dst : Memref sig (Dev.tc n : Thread nD τ).2.kind .vmem S256x256 .f32) sS hsc)}
    (hb1 : isBar ks = false) (hb2 : isBar kr = false) (ha1 : act c ks = true) (ha2 : act (tgt kr c) kr = true)
    (hr : rest c i = some kr :: rest c (i + 1)) (q : PosShare TreeShare) (P : sProp 𝕄) (G : Buf (Elt F) (M.view.loc (c : Thread nD τ)) → Prop)
    (hN : M.view.amount (loc kr) = N)
    (hP : P ⊢ iprop(∃ fs, ⌜G fs⌝ ∗ (M.view.loc (c : Thread nD τ) ↦[M.view.set]{q} fs)))
    (hD : Dst (F := F) (tgt kr c) kr ⊢ iprop(∃ fd, (M.view.loc (tgt kr c : Thread nD τ) ↦[M.view.set]{fullShare} fd)))
    (hp1 : ∀ fs, G fs → (M.view.loc (c : Thread nD τ) ↦[M.view.set]{q} fs) ⊢ pay m ρ c ks)
    (hp2 : ∀ fs fd, G fs → (M.view.loc (tgt kr c : Thread nD τ) ↦[M.view.set]{fullShare} (M.view.write (Elt F) fd (M.view.read (Elt F) fs) Finset.univ)) ⊢ pay m ρ (tgt kr c) kr) :
    iprop(Base m ρ K c i ∗ P ∗ SPre c ks)
      ⊢ WP c (Prog.lift (.enqueueDma src (.remote (Dev.tc n : Thread nD τ) (dst : Memref sig (Dev.tc n : Thread nD τ).2.kind .vmem S256x256 .f32) sS hsc) sem hsrc hdst hty))
        fun _ => iprop(Base m ρ K c (i + 1) ∗ Pre c ks) := by
  subst hs hn hsS hsem
  subst hd
  unfold Base SPre
  rw [hr, Kits_some, owed_some, amt_one kr hb2]
  iintro ⟨⟨#HI, #HL, ⟨%W, HO⟩, ⟨⟨Ht, HD⟩, HK⟩, Hx, Hd⟩, HP, Hat, Htk⟩
  ihave HP' := hP $$ HP
  icases HP' with ⟨%fs, %hfs, Hsrc⟩
  ihave HD' := hD $$ HD
  icases HD' with ⟨%fd, Hdst⟩
  ihave H1 := (recs_at m ρ K c ks) $$ HI
  icases H1 with ⟨#HI1, #HR1⟩
  ihave H2 := (recs_at m ρ K (tgt kr c) kr) $$ HI
  icases H2 with ⟨#HI2, #HR2⟩
  unfold Prog.lift
  iapply (Rounds.wp_send_pointsTo 𝒱₀ ER (Rd m ρ) (c : Thread nD τ) none (κ₁ := K (c, ci ks)) (κ₂ := K (tgt kr c, ci kr))
    (r₁ := 0) (r₂ := 0) (d₁ := ks) (d₂ := kr) (fs := fs) (fd := fd) (q := q)
    (mem_duties m ρ c ks ha1) (mem_duties m ρ (tgt kr c) kr ha2) () () N hN (amt_one ks hb1) (amt_one kr hb2)
    (owed c (rest c (i + 1))) rfl (W := W) (hp1 fs hfs) (hp2 fs fd hfs)) $$ [Hsrc Hdst HO Htk Ht]
  · isplitr; · iexact HI1
    isplitr; · iexact HI2
    isplitl [Hsrc]; · iexact Hsrc
    isplitl [Hdst]; · iexact Hdst
    isplitl [HO]; · iexact HO
    isplitl [Htk]; · iexact Htk
    isplitr; · iexact HR1
    isplitl [Ht]; · iexact Ht
    iexact HR2
  iintro ⟨Hc, HO⟩
  rw [wp_ret]; imodintro
  unfold Pre
  isplitr [Hat Hc]
  · isplitr; · iexact HI
    isplitr; · iexact HL
    isplitl [HO]; · iexists W; iexact HO
    isplitl [HK]; · iexact HK
    isplitl [Hx] <;> iassumption
  · isplitl [Hat] <;> iassumption

/-- A wait on a semaphore with one payment collects its content. -/
theorem wait_step (c : Dev nD) (i : ℕ) (k : Key) {sem : DmaSem sig} (hsem : SemLoc.dma sem = loc k) {s s' : Shape}
    {src : Memref sig .tc .vmem s .f32} {dst : Memref sig .tc .vmem s' .f32} {hsrc : src.view.WordExact} {hdst : dst.view.WordExact}
    (hN : dst.view.dmaCredit = N) (hb : isBar k = false) (ha : act c k = true) (hok : okWait c (loc k) i = true) :
    iprop(Base m ρ K c i ∗ Pre c k)
      ⊢ WP c (Prog.lift (.waitDma2 sem src dst hsrc hdst)) fun _ => iprop(Base m ρ K c i ∗ pay m ρ c k ∗ Cl m ρ c (loc k)) := by
  unfold Base Pre
  iintro ⟨⟨#HI, #HL, ⟨%W, HO⟩, HK, Hx, Hd⟩, Hat, Hc⟩
  ihave H1 := (recs_at m ρ K c k) $$ HI
  icases H1 with ⟨#HI1, #HR1⟩
  unfold Prog.lift
  have he := expect_one m ρ c k hb ha
  have hrest := rest_one m ρ c k hb ha
  have hmw := mayWait (F := F) c (loc k) i hok
  have hlater := duties_later m ρ (cell c k)
  unfold cell at *
  rw [← hsem] at he hrest hmw hlater ⊢
  iapply (Rounds.wp_wait_rest_token 𝒱₀ ER (Rd m ρ) (c : Thread nD τ) none (κ := K (c, ci k))
      (wpE_waitDma2_eq 𝒱₀ (c : Thread nD τ) none Set.univ) (Set.mem_univ _) () (O := owed c (rest c i)) (W := W) (R := 0) (m := 0) (T := ∅)
      (by rw [Nat.zero_add, he, hN])) $$ [Hc HO Hat]
  · isplitr; · iexact HI1
    isplitl [Hc]; · rw [hN]; iexact Hc
    isplitl [HO]; · iexact HO
    isplitr; · iapply hmw; iexact HL
    iexact Hat
  iintro ⟨HO, Hat, -, Hp⟩
  ihave Hp := (Entails.of_eq hrest) $$ Hp
  rw [wp_ret]; imodintro
  isplitr [Hat Hp]
  · isplitr; · iexact HI
    isplitr; · iexact HL
    isplitl [HO]; · iexists _; iexact HO
    isplitl [HK]; · iexact HK
    isplitl [Hx] <;> iassumption
  · isplitl [Hp]; · iexact Hp
    unfold Cl
    iexists 1
    isplitr; · ipureintro; exact hlater
    iexact Hat

end Cert.KernelIdeal.Relay

end
-- ==== Proof.Moves.lean ====
/-
  The kinds of step the program makes, each as a change of one part of a device's state.
-/
module

public import proofs.«01_k».proof.Proof.Steps

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Ci → ℕ)

/-! ## Geometry -/

/-- A device is the one at its own place. -/
theorem dev_self (c : Dev nD) : dev (X c) (Y c) (Z c) = c := by revert c; decide +kernel
/-- The place along the first axis of a device at a place. -/
theorem X_dev (x : Fin 2) (y z : Fin 4) : X (dev x y z) = x := by revert x y z; decide +kernel
/-- The place along the second axis. -/
theorem Y_dev (x : Fin 2) (y z : Fin 4) : Y (dev x y z) = y := by revert x y z; decide +kernel
/-- The place along the third axis. -/
theorem Z_dev (x : Fin 2) (y z : Fin 4) : Z (dev x y z) = z := by revert x y z; decide +kernel

/-- A slot covers the same entries in both readings. -/
theorem slot_set (b : Bool) (h : Fin 2) (q : Fin 4) : (slotM b h q).view.set = (slotV b h q).set := View.set_reshape _ _

/-- Column `k` of half `h` of the block at `x`, `j`, in the whole row. -/
theorem out_emb (c : Dev nD) (x : Fin 2) (j : Fin 4) (h : Fin 2) (i : S256x256.Idx) :
    outAt (F := F) m ρ c ((prect x j h).emb i) = piece m ρ (dev x (Y c) j) h i := by
  have h0 : (((prect x j h).emb i) 0).val = (i 0).val := by
    show 0 + 1 * (i 0).val = _; omega
  have h1 : (((prect x j h).emb i) 1).val = 2048 * x.val + 512 * j.val + 256 * h.val + (i 1).val := by
    show (2048 * x.val + 512 * j.val + 256 * h.val) + 1 * (i 1).val = _; omega
  have hi0 : (i 0).val < 256 := (i 0).isLt
  have hi1 : (i 1).val < 256 := (i 1).isLt
  unfold outAt
  have e1 : (⟨((prect x j h).emb i 1).val / 2048, by have := ((prect x j h).emb i 1).isLt; have : ((prect x j h).emb i 1).val < 4096 := this; omega⟩ : Fin 2) = x := Fin.ext (by show ((prect x j h).emb i 1).val / 2048 = x.val; rw [h1]; omega)
  have e2 : (⟨((prect x j h).emb i 1).val / 512 % 4, Nat.mod_lt _ (by decide)⟩ : Fin 4) = j := Fin.ext (by show ((prect x j h).emb i 1).val / 512 % 4 = j.val; rw [h1]; omega)
  have e3 : (⟨((prect x j h).emb i 1).val / 256 % 2, Nat.mod_lt _ (by decide)⟩ : Fin 2) = h := Fin.ext (by show ((prect x j h).emb i 1).val / 256 % 2 = h.val; rw [h1]; omega)
  have e4 : (fun | 0 => (⟨((prect x j h).emb i 0).val, ((prect x j h).emb i 0).isLt⟩ : Fin 256) | 1 => (⟨((prect x j h).emb i 1).val % 256, Nat.mod_lt _ (by decide)⟩ : Fin 256) : S256x256.Idx) = i := by
    funext a
    match a with
    | 0 => exact Fin.ext h0
    | 1 => exact Fin.ext (by show ((prect x j h).emb i 1).val % 256 = (i 1).val; rw [h1]; omega)
  dsimp only
  rw [e1, e2, e3]
  exact congrArg _ e4

/-- The result block depends only on the place along the second axis. -/
theorem outAt_congr (c c' : Dev nD) (h : Y c = Y c') : outAt (F := F) m ρ c = outAt m ρ c' := by unfold outAt; rw [h]

/-- What lands in a slot is what was sent. -/
theorem slot_land (b : Bool) (h : Fin 2) (q : Fin 4) (fd fs : (slotM b h q).view.ty.Contents (Elt F)) :
    (slotV b h q).read (Elt F) ((slotM b h q).view.write (Elt F) fd ((slotM b h q).view.read (Elt F) fs) Finset.univ) = (slotV b h q).read (Elt F) fs := by
  refine (slotV b h q).read_congr fun i hi => ?_
  rw [View.write_read_eq_piecewise, View.setOn_univ, Finset.piecewise_eq_of_mem _ _ _ (by rw [slot_set]; exact hi)]
/-- What lands in a piece is what was sent. -/
theorem pc_land (x : Fin 2) (j : Fin 4) (h : Fin 2) (fd fs : (pcM x j h).view.ty.Contents (Elt F)) (i) (hi : i ∈ (pcM x j h).view.set) :
    (pcM x j h).view.write (Elt F) fd ((pcM x j h).view.read (Elt F) fs) Finset.univ i = fs i := by
  rw [View.write_read_eq_piecewise, View.setOn_univ, Finset.piecewise_eq_of_mem _ _ _ hi]

/-! ## Loads and stores -/

/-- A load of a slot gives what it holds. -/
theorem ld_slot (c : Dev nD) (R : sProp 𝕄) (b : Bool) (h : Fin 2) (q : Fin 4) (f : Buf (Elt F) ((slotM b h q).view.loc (c : Thread nD τ)))
    {a : Memref sig .tc .vmem S2x4x256x256 .f32} (ha : a = arr b) {off : Fin 4 → ℕ} (ho : off = ![h.val, q.val, 0, 0]) {inb}
    {hl : a.view.LoadsAt (Rect.unit (s := S2x4x256x256) off S1x1x256x256.size inb).toLoadRect} :
    iprop(R ∗ slotPts c b h q f) ⊢ WP c (Prog.lift (.load a (Rect.unit (s := S2x4x256x256) off S1x1x256x256.size inb).toLoadRect hl))
      fun v => iprop(⌜v = (slotV b h q).read (Elt F) f⌝ ∗ R ∗ slotPts c b h q f) := by
  subst ha ho
  unfold Prog.lift slotPts
  iintro ⟨HR, H⟩
  iapply (wp_load_rect 𝒱₀ (c : Thread nD τ) none Set.univ (m := arr b) (r := srect h q) (hl := hl) (by rw [slot_set])) $$ H
  iintro H
  rw [wp_ret]; imodintro
  isplitr; · ipureintro; rfl
  isplitl [HR] <;> iassumption

/-- A store into a slot leaves what was stored. -/
theorem st_slot (c : Dev nD) (R : sProp 𝕄) (b : Bool) (h : Fin 2) (q : Fin 4) (f : Buf (Elt F) ((slotM b h q).view.loc (c : Thread nD τ)))
    {a : Memref sig .tc .vmem S2x4x256x256 .f32} (ha : a = arr b) {off : Fin 4 → ℕ} (ho : off = ![h.val, q.val, 0, 0]) {inb}
    {w w' : Vec F S1x1x256x256 .f32} (hw : w = w')
    {hx : (a.access (Rect.unit (s := S2x4x256x256) off S1x1x256x256.size inb)).Stores Finset.univ} {hm} :
    iprop(R ∗ slotPts c b h q f) ⊢ WP c (Prog.lift (.store a (Rect.unit (s := S2x4x256x256) off S1x1x256x256.size inb) w Finset.univ hx hm))
      fun _ => iprop(R ∗ slotIs c b h q w') := by
  subst ha ho hw
  unfold Prog.lift slotPts slotIs slotPts
  iintro ⟨HR, H⟩
  iapply (wp_store 𝒱₀ (c : Thread nD τ) none Set.univ (m := arr b) (r := srect h q) (hx := hx) (hm := hm) (by rw [slot_set]; exact View.setOn_subset_set _ _)) $$ H
  iintro H
  rw [wp_ret]; imodintro
  isplitl [HR]; · iexact HR
  iexists _
  isplitr; rotate_left
  · iexact H
  ipureintro; exact View.read_write_univ _ _

/-- One step, with what it does not touch. -/
theorem once {c : Dev nD} {P P' P₀ R Q : sProp 𝕄} {p : Prog (TpuEff nD τ sig (Elt F) Λ₀ .tc) PUnit} (h : P ⊢ WP c p fun _ => P') (h0 : P₀ ⊢ iprop(P ∗ R))
    (hk : iprop(P' ∗ R) ⊢ Q) : P₀ ⊢ WP (α := PUnit) c (p >>= fun _ => pure ⟨⟩) fun _ => Q := by
  refine h0.trans (seq (P' := iprop(P' ∗ R)) ?_ (ret hk))
  iintro ⟨HP, HR⟩
  ihave H := h $$ HP
  iapply (wp_wand _ _ _) $$ H
  iintro %_ H
  isplitl [H] <;> iassumption

/-! ## The chains -/

section Chain
variable (c : Dev nD) (b : Bool) (h : Fin 2) (q : Fin 4)

/-- At the start of a chain: the send and the landing are in use, and the places. -/
theorem S_facts : isS b c q = true → act c (.sd b h q) = true ∧ act (ynx b c) (.rc b h q) = true ∧ yb b c = 0 ∧ yb b (ynx b c) - 1 = 0 := by
  revert c b h q; decide +kernel
/-- At a device that passes a chain on: the send and both landings are in use, and the places. -/
theorem F_facts : isF b c q = true → act c (.sd b h q) = true ∧ act (ynx b c) (.rc b h q) = true ∧ act c (.rc b h q) = true ∧ yb b c = yb b c - 1 + 1
    ∧ yb b (ynx b c) - 1 = yb b c ∧ isS b c q = false := by
  revert c b h q; decide +kernel
/-- At the end of a chain a sum lands, and none is started or passed on. -/
theorem T_facts : isT b c q = true → act c (.rc b h q) = true ∧ isS b c q = false ∧ isF b c q = false := by
  revert c b h q; decide +kernel
/-- Where a sum lands, it is passed on or ends. -/
theorem rc_iff : act c (.rc b h q) = true → isF b c q = true ∨ isT b c q = true := by
  revert c b h q; decide +kernel
/-- The device before the next one is the device itself. -/
theorem ypv_ynx : ypv b (ynx b c) = c := by revert c b; decide +kernel

/-- A chain's first device sends its own product. -/
theorem sent_S (hS : isS b c q = true) : sent (F := F) m ρ b h q c = k0_pay8 (part m ρ c h q) := by
  unfold sent; rw [(S_facts c b h q hS).2.2.1]; rfl
/-- A later one sends the sum it was given with its own product added. -/
theorem sent_F (hF : isF b c q = true) : sent (F := F) m ρ b h q c = k0_pay12 (part m ρ c h q) (given m ρ b h q c) := by
  unfold sent; rw [(F_facts c b h q hF).2.2.2.1]; rfl
/-- What the next device is given is what this one sends. -/
theorem given_nx (hg : isS b c q = true ∨ isF b c q = true) : given (F := F) m ρ b h q (ynx b c) = sent m ρ b h q c := by
  unfold given sent
  rw [ypv_ynx]
  rcases hg with hS | hF
  · rw [(S_facts c b h q hS).2.2.1, (S_facts c b h q hS).2.2.2]
  · rw [(F_facts c b h q hF).2.2.2.2.1]

/-- A payment that is not made changes nothing. -/
theorem Base_skip {i : ℕ} (hr : rest c i = none :: rest c (i + 1)) : Base (F := F) m ρ K c i = Base m ρ K c (i + 1) := by
  unfold Base; rw [hr, owed_none, Kits_none]

/-- The state of a chain's slot at its first device, step by step. -/
def chS (v : ℕ) : sProp 𝕄 := match v with
    | 0 => iprop(slotAny c b h q ∗ SPre c (.sd b h q))
    | 1 => iprop(slotIs c b h q (sent m ρ b h q c) ∗ SPre c (.sd b h q))
    | 2 => Pre c (.sd b h q)
    | 3 => Pre c (.sd b h q)
    | 4 => Pre c (.sd b h q)
    | 5 => Pre c (.sd b h q)
    | _ => iprop(slotAny c b h q ∗ Cl m ρ c (loc (.sd b h q)))
/-- The state of a chain's slot at a device that passes it on. -/
def chF (v : ℕ) : sProp 𝕄 := match v with
    | 0 => iprop(Pre c (.rc b h q) ∗ SPre c (.sd b h q))
    | 1 => iprop(Pre c (.rc b h q) ∗ SPre c (.sd b h q))
    | 2 => iprop(Pre c (.rc b h q) ∗ SPre c (.sd b h q))
    | 3 => iprop(Cl m ρ c (loc (.rc b h q)) ∗ slotIs c b h q (given m ρ b h q c) ∗ SPre c (.sd b h q))
    | 4 => iprop(Cl m ρ c (loc (.rc b h q)) ∗ slotIs c b h q (sent m ρ b h q c) ∗ SPre c (.sd b h q))
    | 5 => iprop(Cl m ρ c (loc (.rc b h q)) ∗ Pre c (.sd b h q))
    | 6 => iprop(Cl m ρ c (loc (.rc b h q)) ∗ Pre c (.sd b h q))
    | _ => iprop(Cl m ρ c (loc (.rc b h q)) ∗ slotAny c b h q ∗ Cl m ρ c (loc (.sd b h q)))
/-- The state of a chain's slot at its last device. -/
def chT (v : ℕ) : sProp 𝕄 := match v with
    | 0 => Pre c (.rc b h q)
    | 1 => Pre c (.rc b h q)
    | 2 => Pre c (.rc b h q)
    | _ => iprop(Cl m ρ c (loc (.rc b h q)) ∗ slotIs c b h q (given m ρ b h q c))

/-- The slot's state, read at a first device. -/
theorem chA_S (hS : isS b c q = true) (v : ℕ) {P : sProp 𝕄} (hP : chS m ρ c b h q v = P) :
    A (F := F) m ρ c (.ch b h q) v = iprop(Cl m ρ c (loc (.rc b h q)) ∗ P) := by
  subst hP; exact if_pos hS
/-- The slot's state, read at a device that passes it on. -/
theorem chA_F (hF : isF b c q = true) (v : ℕ) {P : sProp 𝕄} (hP : chF m ρ c b h q v = P) : A (F := F) m ρ c (.ch b h q) v = P := by
  subst hP; exact (if_neg (by rw [(F_facts c b h q hF).2.2.2.2.2]; decide)).trans (if_pos hF)
/-- The slot's state, read at a last device. -/
theorem chA_T (hT : isT b c q = true) (v : ℕ) {P : sProp 𝕄} (hP : chT m ρ c b h q v = P) :
    A (F := F) m ρ c (.ch b h q) v = iprop(P ∗ Cl m ρ c (loc (.sd b h q))) := by
  subst hP; exact (if_neg (by rw [(T_facts c b h q hT).2.1]; decide)).trans ((if_neg (by rw [(T_facts c b h q hT).2.2]; decide)).trans (if_pos hT))

/-- The slot's state where the chain does not come. -/
theorem chA_I (hS : ¬ isS b c q = true) (hF : ¬ isF b c q = true) (hT : ¬ isT b c q = true) (v : ℕ) :
    A (F := F) m ρ c (.ch b h q) v = iprop(slotAny c b h q ∗ Cl m ρ c (loc (.rc b h q)) ∗ Cl m ρ c (loc (.sd b h q))) :=
  (if_neg hS).trans ((if_neg hF).trans (if_neg hT))

/-- The states that a step not made leaves equal. -/
theorem chA_same {v : ℕ} (h0 : v < 2 → isS b c q = false) (h2 : v = 2 → act c (.rc b h q) = false) (h3 : v = 3 → isF b c q = false) (h4 : v = 4 → isF b c q = false)
    (h5 : v = 5 → isS b c q = false) (h6 : v = 6 → isF b c q = false) : A (F := F) m ρ c (.ch b h q) v = A m ρ c (.ch b h q) (v + 1) := by
  by_cases hS : isS b c q = true
  · rw [chA_S m ρ c b h q hS v rfl, chA_S m ρ c b h q hS (v + 1) rfl]
    match v, h0, h5 with
    | 0, h0, _ => exact absurd hS (by rw [h0 (by decide)]; decide)
    | 1, h0, _ => exact absurd hS (by rw [h0 (by decide)]; decide)
    | 2, _, _ => rfl
    | 3, _, _ => rfl
    | 4, _, _ => rfl
    | 5, _, h5 => exact absurd hS (by rw [h5 rfl]; decide)
    | n + 6, _, _ => rfl
  by_cases hF : isF b c q = true
  · rw [chA_F m ρ c b h q hF v rfl, chA_F m ρ c b h q hF (v + 1) rfl]
    match v, h2, h3, h4, h6 with
    | 0, _, _, _, _ => rfl
    | 1, _, _, _, _ => rfl
    | 2, h2, _, _, _ => exact absurd (F_facts c b h q hF).2.2.1 (by rw [h2 rfl]; decide)
    | 3, _, h3, _, _ => exact absurd hF (by rw [h3 rfl]; decide)
    | 4, _, _, h4, _ => exact absurd hF (by rw [h4 rfl]; decide)
    | 5, _, _, _, _ => rfl
    | 6, _, _, _, h6 => exact absurd hF (by rw [h6 rfl]; decide)
    | n + 7, _, _, _, _ => rfl
  by_cases hT : isT b c q = true
  · rw [chA_T m ρ c b h q hT v rfl, chA_T m ρ c b h q hT (v + 1) rfl]
    match v, h2 with
    | 0, _ => rfl
    | 1, _ => rfl
    | 2, h2 => exact absurd (T_facts c b h q hT).1 (by rw [h2 rfl]; decide)
    | n + 3, _ => rfl
  · rw [chA_I m ρ c b h q hS hF hT v, chA_I m ρ c b h q hS hF hT (v + 1)]

variable {C : Prop} [Decidable C]

/-- The start of a chain is stored. -/
theorem chStore (i : ℕ) (hC : C ↔ isS b c q = true) {a : Memref sig .tc .vmem S2x4x256x256 .f32} (ha : a = arr b)
    {off : Fin 4 → ℕ} (ho : off = ![h.val, q.val, 0, 0]) {inb inb' w} (hw : w = k0_pay8 (part m ρ c h q)) {hl hx hm} :
    iprop(Base m ρ K c i ∗ A m ρ c (.ch b h q) 0)
      ⊢ WP (α := PUnit) c (if hc : C then (Prog.lift (.load a (Rect.unit (s := S2x4x256x256) off S1x1x256x256.size inb).toLoadRect hl) >>= fun _ =>
          Prog.lift (.store a (Rect.unit (s := S2x4x256x256) off S1x1x256x256.size inb') w Finset.univ hx hm) >>= fun _ => pure ⟨⟩) else pure ⟨⟩)
        fun _ => iprop(Base m ρ K c i ∗ A m ρ c (.ch b h q) 1) := by
  refine guarded hC (fun hc hS => ?_) (fun hS => ?_)
  · rw [chA_S m ρ c b h q hS 0 (P := iprop(slotAny c b h q ∗ SPre c (.sd b h q))) rfl, chA_S m ρ c b h q hS 1 (P := iprop(slotIs c b h q (sent m ρ b h q c) ∗ SPre c (.sd b h q))) rfl]
    unfold slotAny
    iintro ⟨HB, HC, ⟨%f, Hs⟩, HP⟩
    ihave H := (show iprop(iprop(Base m ρ K c i ∗ Cl m ρ c (loc (.rc b h q)) ∗ SPre c (.sd b h q)) ∗ slotPts c b h q f)
        ⊢ WP (α := PUnit) c _ (fun _ => iprop(iprop(Base m ρ K c i ∗ Cl m ρ c (loc (.rc b h q)) ∗ SPre c (.sd b h q)) ∗ slotIs c b h q (sent m ρ b h q c))) from
      seqv (ld_slot c _ b h q f ha ho) fun v _ => seq (st_slot c _ b h q f ha ho (hw.trans (sent_S m ρ c b h q hS).symm)) (ret .rfl)) $$ [HB HC HP Hs]
    · isplitr [Hs]
      · isplitl [HB]; · iexact HB
        isplitl [HC] <;> iassumption
      · iexact Hs
    iapply (wp_wand _ _ _) $$ H
    iintro %_ ⟨⟨HB, HC, HP⟩, Hs⟩
    isplitl [HB]; · iexact HB
    isplitl [HC]; · iexact HC
    isplitl [Hs] <;> iassumption
  · rw [chA_same m ρ c b h q (v := 0) (fun _ => hS) (by simp) (by simp) (by simp) (by simp) (by simp)]

/-- A sum is stored over the one that came. -/
theorem chSum (i : ℕ) (hC : C ↔ isF b c q = true) {a : Memref sig .tc .vmem S2x4x256x256 .f32} (ha : a = arr b)
    {off : Fin 4 → ℕ} (ho : off = ![h.val, q.val, 0, 0]) {inb inb' inb''} {w : Vec F S1x1x256x256 .f32 → Vec F S1x1x256x256 .f32}
    (hw : ∀ v, w v = k0_pay12 (part m ρ c h q) v) {hl hl'} {hx : (a.access (Rect.unit (s := S2x4x256x256) off S1x1x256x256.size inb')).Stores Finset.univ} {hm} :
    iprop(Base m ρ K c i ∗ A m ρ c (.ch b h q) 3)
      ⊢ WP (α := PUnit) c (if hc : C then (Prog.lift (.load a (Rect.unit (s := S2x4x256x256) off S1x1x256x256.size inb).toLoadRect hl) >>= fun v =>
          Prog.lift (.load a (Rect.unit (s := S2x4x256x256) off S1x1x256x256.size inb'').toLoadRect hl') >>= fun _ =>
          Prog.lift (.store a (Rect.unit (s := S2x4x256x256) off S1x1x256x256.size inb') (w v) Finset.univ hx hm) >>= fun _ => pure ⟨⟩) else pure ⟨⟩)
        fun _ => iprop(Base m ρ K c i ∗ A m ρ c (.ch b h q) 4) := by
  refine guarded hC (fun hc hF => ?_) (fun hF => ?_)
  · rw [chA_F m ρ c b h q hF 3 (P := iprop(Cl m ρ c (loc (.rc b h q)) ∗ slotIs c b h q (given m ρ b h q c) ∗ SPre c (.sd b h q))) rfl, chA_F m ρ c b h q hF 4 (P := iprop(Cl m ρ c (loc (.rc b h q)) ∗ slotIs c b h q (sent m ρ b h q c) ∗ SPre c (.sd b h q))) rfl]
    rw [show slotIs c b h q (given m ρ b h q c) = iprop(∃ f, ⌜(slotV b h q).read (Elt F) f = given m ρ b h q c⌝ ∗ slotPts c b h q f) from rfl]
    iintro ⟨HB, HC, ⟨%f, %hf, Hs⟩, HP⟩
    ihave H := (show iprop(iprop(Base m ρ K c i ∗ Cl m ρ c (loc (.rc b h q)) ∗ SPre c (.sd b h q)) ∗ slotPts c b h q f)
        ⊢ WP (α := PUnit) c _ (fun _ => iprop(iprop(Base m ρ K c i ∗ Cl m ρ c (loc (.rc b h q)) ∗ SPre c (.sd b h q)) ∗ slotIs c b h q (sent m ρ b h q c))) from
      seqv (ld_slot c _ b h q f ha ho) fun v hv => seqv (ld_slot c _ b h q f ha ho) fun v' _ =>
        seq (st_slot c _ b h q f ha ho (((hw v).trans (by rw [hv, hf])).trans (sent_F m ρ c b h q hF).symm)) (ret .rfl)) $$ [HB HC HP Hs]
    · isplitr [Hs]
      · isplitl [HB]; · iexact HB
        isplitl [HC] <;> iassumption
      · iexact Hs
    iapply (wp_wand _ _ _) $$ H
    iintro %_ ⟨⟨HB, HC, HP⟩, Hs⟩
    isplitl [HB]; · iexact HB
    isplitl [HC]; · iexact HC
    isplitl [Hs]; · iexact Hs
    iexact HP
  · rw [chA_same m ρ c b h q (v := 3) (by simp) (by simp) (fun _ => hF) (by simp) (by simp) (by simp)]

/-- A slot's transfer adds one transfer's amount. -/
theorem slot_amount (k : Key) (hk : isBar k = false) : (slotM b h q).view.amount (loc k) = N := by
  cases k <;> first | exact Bool.noConfusion hk | exact N_slot b h q

/-- A slot's sum is on its way to the next device. -/
theorem ch_send (i : ℕ) (hg : isS b c q = true ∨ isF b c q = true) (hr : rest c i = some (.rc b h q) :: rest c (i + 1))
    {n : Dev nD} (hn : n = ynx b c) {src dst : Memref sig .tc .vmem S256x256 .f32} (hs : src = slotM b h q) (hd : dst = slotM b h q)
    {sS sem : SemLoc sig} (hsS : sS = loc (.sd b h q)) (hsem : sem = loc (.rc b h q))
    {hsc : (dst : Memref sig (Dev.tc n : Thread nD τ).2.kind .vmem S256x256 .f32).view.ref.isScScratch = false} {hsrc : src.view.WordExact} {hdst : dst.view.WordExact}
    {hty : DmaTarget.Typed .vmem sem (.remote (Dev.tc n : Thread nD τ) (dst : Memref sig (Dev.tc n : Thread nD τ).2.kind .vmem S256x256 .f32) sS hsc)} :
    iprop(Base m ρ K c i ∗ slotIs c b h q (sent m ρ b h q c) ∗ SPre c (.sd b h q))
      ⊢ WP c (Prog.lift (.enqueueDma src (.remote (Dev.tc n : Thread nD τ) (dst : Memref sig (Dev.tc n : Thread nD τ).2.kind .vmem S256x256 .f32) sS hsc) sem hsrc hdst hty))
        fun _ => iprop(Base m ρ K c (i + 1) ∗ Pre c (.sd b h q)) := by
  have hf : act c (.sd b h q) = true ∧ act (ynx b c) (.rc b h q) = true :=
    hg.elim (fun hS => ⟨(S_facts c b h q hS).1, (S_facts c b h q hS).2.1⟩) (fun hF => ⟨(F_facts c b h q hF).1, (F_facts c b h q hF).2.1⟩)
  refine send_step m ρ K c i (.rc b h q) (.sd b h q) hs hd hn hsS hsem rfl rfl hf.1 hf.2 hr fullShare _
    (fun fs => (slotV b h q).read (Elt F) fs = sent m ρ b h q c) (slot_amount b h q _ rfl) .rfl .rfl ?_ ?_
  · intro fs _
    show _ ⊢ slotAny c b h q
    unfold slotAny slotPts
    iintro H; iexists fs; iexact H
  · intro fs fd hfs
    show _ ⊢ slotIs (ynx b c) b h q (given m ρ b h q (ynx b c))
    rw [given_nx m ρ c b h q hg]
    unfold slotIs slotPts
    iintro H; iexists _
    isplitr; rotate_left
    · iexact H
    ipureintro; exact (slot_land b h q fd fs).trans hfs

/-- A chain's first send. -/
theorem chSend {n : C → Dev nD} (i : ℕ) (hC : C ↔ isS b c q = true) (hr : rest c i = pg (isS b c q) (.rc b h q) :: rest c (i + 1))
    (hn : ∀ hc, n hc = ynx b c) {src dst : Memref sig .tc .vmem S256x256 .f32} (hs : src = slotM b h q) (hd : dst = slotM b h q)
    {sS sem : SemLoc sig} (hsS : sS = loc (.sd b h q)) (hsem : sem = loc (.rc b h q))
    {hsc : ∀ hc, (dst : Memref sig (Dev.tc (n hc) : Thread nD τ).2.kind .vmem S256x256 .f32).view.ref.isScScratch = false} {hsrc : C → src.view.WordExact} {hdst : C → dst.view.WordExact}
    {hty : ∀ hc, DmaTarget.Typed .vmem sem (.remote (Dev.tc (n hc) : Thread nD τ) (dst : Memref sig (Dev.tc (n hc) : Thread nD τ).2.kind .vmem S256x256 .f32) sS (hsc hc))} :
    iprop(Base m ρ K c i ∗ A m ρ c (.ch b h q) 1)
      ⊢ WP (α := PUnit) c (if hc : C then (Prog.lift (.enqueueDma src (.remote (Dev.tc (n hc) : Thread nD τ) (dst : Memref sig (Dev.tc (n hc) : Thread nD τ).2.kind .vmem S256x256 .f32) sS (hsc hc)) sem (hsrc hc) (hdst hc) (hty hc))
          >>= fun _ => pure ⟨⟩) else pure ⟨⟩)
        fun _ => iprop(Base m ρ K c (i + 1) ∗ A m ρ c (.ch b h q) 2) := by
  refine guarded hC (fun hc hS => ?_) (fun hS => ?_)
  · rw [chA_S m ρ c b h q hS 1 (P := iprop(slotIs c b h q (sent m ρ b h q c) ∗ SPre c (.sd b h q))) rfl, chA_S m ρ c b h q hS 2 (P := Pre c (.sd b h q)) rfl]
    rw [hS] at hr
    refine once (ch_send m ρ K c b h q i (.inl hS) hr (hn hc) hs hd hsS hsem (hsc := hsc hc) (hsrc := hsrc hc) (hdst := hdst hc) (hty := hty hc))
      (R := Cl m ρ c (loc (.rc b h q))) ?_ ?_
    · iintro ⟨HB, HC, Hs, HP⟩
      isplitr [HC]; rotate_left
      · iexact HC
      isplitl [HB]; · iexact HB
      isplitl [Hs] <;> iassumption
    · iintro ⟨⟨HB, HP⟩, HC⟩
      isplitl [HB]; · iexact HB
      isplitl [HC] <;> iassumption
  · rw [hS] at hr
    rw [chA_same m ρ c b h q (v := 1) (fun _ => hS) (by simp) (by simp) (by simp) (by simp) (by simp), Base_skip m ρ K c hr]

/-- A chain's later sends. -/
theorem chPass {n : C → Dev nD} (i : ℕ) (hC : C ↔ isF b c q = true) (hr : rest c i = pg (isF b c q) (.rc b h q) :: rest c (i + 1))
    (hn : ∀ hc, n hc = ynx b c) {src dst : Memref sig .tc .vmem S256x256 .f32} (hs : src = slotM b h q) (hd : dst = slotM b h q)
    {sS sem : SemLoc sig} (hsS : sS = loc (.sd b h q)) (hsem : sem = loc (.rc b h q))
    {hsc : ∀ hc, (dst : Memref sig (Dev.tc (n hc) : Thread nD τ).2.kind .vmem S256x256 .f32).view.ref.isScScratch = false} {hsrc : C → src.view.WordExact} {hdst : C → dst.view.WordExact}
    {hty : ∀ hc, DmaTarget.Typed .vmem sem (.remote (Dev.tc (n hc) : Thread nD τ) (dst : Memref sig (Dev.tc (n hc) : Thread nD τ).2.kind .vmem S256x256 .f32) sS (hsc hc))} :
    iprop(Base m ρ K c i ∗ A m ρ c (.ch b h q) 4)
      ⊢ WP (α := PUnit) c (if hc : C then (Prog.lift (.enqueueDma src (.remote (Dev.tc (n hc) : Thread nD τ) (dst : Memref sig (Dev.tc (n hc) : Thread nD τ).2.kind .vmem S256x256 .f32) sS (hsc hc)) sem (hsrc hc) (hdst hc) (hty hc))
          >>= fun _ => pure ⟨⟩) else pure ⟨⟩)
        fun _ => iprop(Base m ρ K c (i + 1) ∗ A m ρ c (.ch b h q) 5) := by
  refine guarded hC (fun hc hF => ?_) (fun hF => ?_)
  · rw [chA_F m ρ c b h q hF 4 (P := iprop(Cl m ρ c (loc (.rc b h q)) ∗ slotIs c b h q (sent m ρ b h q c) ∗ SPre c (.sd b h q))) rfl, chA_F m ρ c b h q hF 5 (P := iprop(Cl m ρ c (loc (.rc b h q)) ∗ Pre c (.sd b h q))) rfl]
    rw [hF] at hr
    refine once (ch_send m ρ K c b h q i (.inr hF) hr (hn hc) hs hd hsS hsem (hsc := hsc hc) (hsrc := hsrc hc) (hdst := hdst hc) (hty := hty hc))
      (R := Cl m ρ c (loc (.rc b h q))) ?_ ?_
    · iintro ⟨HB, HC, Hs, HP⟩
      isplitr [HC]; rotate_left
      · iexact HC
      isplitl [HB]; · iexact HB
      isplitl [Hs] <;> iassumption
    · iintro ⟨⟨HB, HP⟩, HC⟩
      isplitl [HB]; · iexact HB
      isplitl [HC] <;> iassumption
  · rw [hF] at hr
    rw [chA_same m ρ c b h q (v := 4) (by simp) (by simp) (by simp) (fun _ => hF) (by simp) (by simp), Base_skip m ρ K c hr]

/-- A landing is waited for. -/
theorem chWait (i : ℕ) (hC : C ↔ act c (.rc b h q) = true) (hok : act c (.rc b h q) = true → okWait c (loc (.rc b h q)) i = true)
    {sem : DmaSem sig} (hsem : SemLoc.dma sem = loc (.rc b h q)) {src dst : Memref sig .tc .vmem S256x256 .f32} (hd : dst = slotM b h q) {hsrc : C → src.view.WordExact} {hdst : C → dst.view.WordExact} :
    iprop(Base m ρ K c i ∗ A m ρ c (.ch b h q) 2)
      ⊢ WP (α := PUnit) c (if hc : C then (Prog.lift (.waitDma2 sem src dst (hsrc hc) (hdst hc)) >>= fun _ => pure ⟨⟩) else pure ⟨⟩)
        fun _ => iprop(Base m ρ K c i ∗ A m ρ c (.ch b h q) 3) := by
  refine guarded hC (fun hc ha => ?_) (fun ha => ?_)
  · have hw := wait_step m ρ K c i (.rc b h q) hsem (src := src) (dst := dst) (hsrc := hsrc hc) (hdst := hdst hc) (by subst hd; exact N_slot b h q) rfl ha (hok ha)
    change _ ⊢ WP c _ (fun _ => iprop(_ ∗ slotIs c b h q (given m ρ b h q c) ∗ _)) at hw
    rcases rc_iff c b h q ha with hF | hT
    · rw [chA_F m ρ c b h q hF 2 (P := iprop(Pre c (.rc b h q) ∗ SPre c (.sd b h q))) rfl, chA_F m ρ c b h q hF 3 (P := iprop(Cl m ρ c (loc (.rc b h q)) ∗ slotIs c b h q (given m ρ b h q c) ∗ SPre c (.sd b h q))) rfl]
      refine once hw (R := SPre c (.sd b h q)) ?_ ?_
      · iintro ⟨HB, HP, HS⟩
        isplitr [HS]; rotate_left
        · iexact HS
        isplitl [HB] <;> iassumption
      · iintro ⟨⟨HB, Hp, HC⟩, HS⟩
        isplitl [HB]; · iexact HB
        isplitl [HC]; · iexact HC
        isplitl [Hp]; · iexact Hp
        iexact HS
    · rw [chA_T m ρ c b h q hT 2 (P := Pre c (.rc b h q)) rfl, chA_T m ρ c b h q hT 3 (P := iprop(Cl m ρ c (loc (.rc b h q)) ∗ slotIs c b h q (given m ρ b h q c))) rfl]
      refine once hw (R := Cl m ρ c (loc (.sd b h q))) ?_ ?_
      · iintro ⟨HB, HP, HS⟩
        isplitr [HS]; rotate_left
        · iexact HS
        isplitl [HB] <;> iassumption
      · iintro ⟨⟨HB, Hp, HC⟩, HS⟩
        isplitl [HB]; · iexact HB
        isplitr [HS]; rotate_left
        · iexact HS
        isplitl [HC]; · iexact HC
        iexact Hp
  · rw [chA_same m ρ c b h q (v := 2) (by simp) (fun _ => ha) (by simp) (by simp) (by simp) (by simp)]

/-- The send of a start is waited for. -/
theorem chWaitS (i : ℕ) (hC : C ↔ isS b c q = true) (hok : isS b c q = true → okWait c (loc (.sd b h q)) i = true)
    {sem : DmaSem sig} (hsem : SemLoc.dma sem = loc (.sd b h q)) {src dst : Memref sig .tc .vmem S256x256 .f32} (hd : dst = slotM b h q) {hsrc : C → src.view.WordExact} {hdst : C → dst.view.WordExact} :
    iprop(Base m ρ K c i ∗ A m ρ c (.ch b h q) 5)
      ⊢ WP (α := PUnit) c (if hc : C then (Prog.lift (.waitDma2 sem src dst (hsrc hc) (hdst hc)) >>= fun _ => pure ⟨⟩) else pure ⟨⟩)
        fun _ => iprop(Base m ρ K c i ∗ A m ρ c (.ch b h q) 6) := by
  refine guarded hC (fun hc hS => ?_) (fun hS => ?_)
  · have hw := wait_step m ρ K c i (.sd b h q) hsem (src := src) (dst := dst) (hsrc := hsrc hc) (hdst := hdst hc) (by subst hd; exact N_slot b h q) rfl (S_facts c b h q hS).1 (hok hS)
    change _ ⊢ WP c _ (fun _ => iprop(_ ∗ slotAny c b h q ∗ _)) at hw
    rw [chA_S m ρ c b h q hS 5 (P := Pre c (.sd b h q)) rfl, chA_S m ρ c b h q hS 6 (P := iprop(slotAny c b h q ∗ Cl m ρ c (loc (.sd b h q)))) rfl]
    refine once hw (R := Cl m ρ c (loc (.rc b h q))) ?_ ?_
    · iintro ⟨HB, HC, HP⟩
      isplitr [HC]; rotate_left
      · iexact HC
      isplitl [HB] <;> iassumption
    · iintro ⟨⟨HB, Hp, HC'⟩, HC⟩
      isplitl [HB]; · iexact HB
      isplitl [HC]; · iexact HC
      isplitl [Hp]; · iexact Hp
      iexact HC'
  · rw [chA_same m ρ c b h q (v := 5) (by simp) (by simp) (by simp) (by simp) (fun _ => hS) (by simp)]

/-- The row block of a chain's first place is neither started nor passed on in that chain. -/
theorem no_F (h0 : qb b q = 0) : isF b c q = false ∧ isS b c q = false := by revert h0; revert c b q; decide +kernel

/-- The send of a sum passed on is waited for. -/
theorem chWaitF (i : ℕ) {v : ℕ} (hv : v = 6 ∨ (qb b q = 0 ∧ v = 5)) (hC : C ↔ isF b c q = true) (hok : isF b c q = true → okWait c (loc (.sd b h q)) i = true)
    {sem : DmaSem sig} (hsem : SemLoc.dma sem = loc (.sd b h q)) {src dst : Memref sig .tc .vmem S256x256 .f32} (hd : dst = slotM b h q) {hsrc : C → src.view.WordExact} {hdst : C → dst.view.WordExact} :
    iprop(Base m ρ K c i ∗ A m ρ c (.ch b h q) v)
      ⊢ WP (α := PUnit) c (if hc : C then (Prog.lift (.waitDma2 sem src dst (hsrc hc) (hdst hc)) >>= fun _ => pure ⟨⟩) else pure ⟨⟩)
        fun _ => iprop(Base m ρ K c i ∗ A m ρ c (.ch b h q) (v + 1)) := by
  refine guarded hC (fun hc hF => ?_) (fun hF => ?_)
  · rcases hv with rfl | ⟨h0, -⟩
    · have hw := wait_step m ρ K c i (.sd b h q) hsem (src := src) (dst := dst) (hsrc := hsrc hc) (hdst := hdst hc) (by subst hd; exact N_slot b h q) rfl (F_facts c b h q hF).1 (hok hF)
      change _ ⊢ WP c _ (fun _ => iprop(_ ∗ slotAny c b h q ∗ _)) at hw
      rw [chA_F m ρ c b h q hF 6 (P := iprop(Cl m ρ c (loc (.rc b h q)) ∗ Pre c (.sd b h q))) rfl, chA_F m ρ c b h q hF (6 + 1) (P := iprop(Cl m ρ c (loc (.rc b h q)) ∗ slotAny c b h q ∗ Cl m ρ c (loc (.sd b h q)))) rfl]
      refine once hw (R := Cl m ρ c (loc (.rc b h q))) ?_ ?_
      · iintro ⟨HB, HC, HP⟩
        isplitr [HC]; rotate_left
        · iexact HC
        isplitl [HB] <;> iassumption
      · iintro ⟨⟨HB, Hp, HC'⟩, HC⟩
        isplitl [HB]; · iexact HB
        isplitl [HC]; · iexact HC
        isplitl [Hp]; · iexact Hp
        iexact HC'
    · rw [(no_F c b q h0).1] at hF; exact Bool.noConfusion hF
  · rcases hv with rfl | ⟨h0, rfl⟩
    · rw [chA_same m ρ c b h q (v := 6) (by simp) (by simp) (by simp) (by simp) (by simp) (fun _ => hF)]
    · rw [chA_same m ρ c b h q (v := 5) (by simp) (by simp) (by simp) (by simp) (fun _ => (no_F c b q h0).2) (by simp)]

end Chain

end Cert.KernelIdeal.Relay

end
-- ==== Proof.Moves2.lean ====
/-
  The steps of the program on the finished pieces, and the loads.
-/
module

public import proofs.«01_k».proof.Proof.Moves

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Ci → ℕ)

/-! ## The finished pieces -/

section Piece
variable (c : Dev nD)

/-- A piece's transfer adds one transfer's amount. -/
theorem pc_amount (x : Fin 2) (j : Fin 4) (h : Fin 2) (k : Key) (hk : isBar k = false) : (pcM x j h).view.amount (loc k) = N := by
  cases k <;> first | exact Bool.noConfusion hk | exact N_pc x j h

/-- What a finished piece's transfer needs to know of its two counts. -/
structure Route (c : Dev nD) (kr ks : Key) (j : Fin 4) (h : Fin 2) (sh : PosShare TreeShare) : Prop where
  bs : isBar ks = false
  br : isBar kr = false
  ps : pay (F := F) m ρ c ks = pcIs m ρ c (X c) j h sh
  pr : pay (F := F) m ρ (tgt kr c) kr = pcIs m ρ (tgt kr c) (X c) j h fullShare
  pd : Dst (F := F) (tgt kr c) kr = pcAny (tgt kr c) (X c) j h
  py : Y (tgt kr c) = Y c

/-- Across the first axis the second place stays. -/
theorem Y_xo : Y (xo c) = Y c := by revert c; decide +kernel
/-- Across the first axis the first place changes. -/
theorem X_xo : 1 - X (xo c) = X c := by revert c; decide +kernel
/-- Along the third axis the second place stays. -/
theorem Y_zn (b : Bool) : Y (tgt (.zc b 0 0) c) = Y c := by revert b c; decide +kernel
/-- Along the third axis the first place stays. -/
theorem X_zn (b : Bool) : X (tgt (.zc b 0 0) c) = X c := by revert b c; decide +kernel

/-- The route of a device's own piece across. -/
theorem route_ox (h : Fin 2) : Route (F := F) m ρ c (.xr h (Z c)) (.os h 2) (Z c) h shX where
  bs := rfl
  br := rfl
  ps := rfl
  pr := by show pcIs m ρ (xo c) (1 - X (xo c)) (Z c) h fullShare = _; rw [X_xo]; rfl
  pd := by show pcAny (xo c) (1 - X (xo c)) (Z c) h = _; rw [X_xo]; rfl
  py := Y_xo c
/-- The routes of pieces along the third axis. -/
theorem route_ez (b : Bool) (h : Fin 2) (j : Fin 4) (ks : Key) (sh : PosShare TreeShare) (hb : isBar ks = false) (hp : pay (F := F) m ρ c ks = pcIs m ρ c (X c) j h sh) :
    Route (F := F) m ρ c (.zc b h j) ks j h sh where
  bs := hb
  br := rfl
  ps := hp
  pr := by show pcIs m ρ (tgt (.zc b 0 0) c) (X (tgt (.zc b 0 0) c)) j h fullShare = pcIs m ρ (tgt (.zc b 0 0) c) _ j h fullShare; rw [X_zn]
  pd := by show pcAny (tgt (.zc b 0 0) c) (X (tgt (.zc b 0 0) c)) j h = pcAny (tgt (.zc b 0 0) c) _ j h; rw [X_zn]
  py := Y_zn c b
/-- The route of a piece passed on across. -/
theorem route_ex (h : Fin 2) (j : Fin 4) : Route (F := F) m ρ c (.xr h j) (.es h j 1) j h fullShare.right where
  bs := rfl
  br := rfl
  ps := rfl
  pr := by show pcIs m ρ (xo c) (1 - X (xo c)) j h fullShare = _; rw [X_xo]; rfl
  pd := by show pcAny (xo c) (1 - X (xo c)) j h = _; rw [X_xo]; rfl
  py := Y_xo c

variable {c}

/-- A send's states, when it is made. -/
def SndA (c : Dev nD) (k : Key) (n : ℕ) : sProp 𝕄 := match n with
    | 0 => iprop(pay m ρ c k ∗ SPre c k)
    | 1 => Pre c k
    | _ => iprop(pay m ρ c k ∗ Cl m ρ c (loc k))
/-- A send's state where it is made. -/
theorem Snd_act {k : Key} (ha : act c k = true) (n : ℕ) {P : sProp 𝕄} (hP : SndA m ρ c k n = P) : Snd (F := F) m ρ c k n = P := by
  subst hP; exact if_pos ha
/-- A send's state where it is not. -/
theorem Snd_off {k : Key} (ha : act c k = false) (n : ℕ) : Snd (F := F) m ρ c k n = iprop(pay m ρ c k ∗ Cl m ρ c (loc k)) := by
  unfold Snd; rw [if_neg (by rw [ha]; decide)]
/-- A send's state before it. -/
theorem Snd_zero (k : Key) : Snd (F := F) m ρ c k 0 = iprop(pay m ρ c k ∗ spre m ρ c k) := by
  unfold Snd spre; split <;> rfl

variable {kr ks : Key} {j : Fin 4} {h : Fin 2} {sh : PosShare TreeShare}

/-- A finished piece is on its way. -/
theorem pcSend' (R : Route (F := F) m ρ c kr ks j h sh) (i : ℕ) (ha : act c ks = true) (ha2 : act (tgt kr c) kr = true)
    (hr : rest c i = some kr :: rest c (i + 1))
    {n : Dev nD} (hn : n = tgt kr c) {src dst : Memref sig .tc .vmem S256x256 .f32} (hs : src = pcM (X c) j h) (hd : dst = pcM (X c) j h)
    {sS sem : SemLoc sig} (hsS : sS = loc ks) (hsem : sem = loc kr)
    {hsc : (dst : Memref sig (Dev.tc n : Thread nD τ).2.kind .vmem S256x256 .f32).view.ref.isScScratch = false}
    {hsrc : src.view.WordExact} {hdst : dst.view.WordExact}
    {hty : DmaTarget.Typed .vmem sem (.remote (Dev.tc n : Thread nD τ) (dst : Memref sig (Dev.tc n : Thread nD τ).2.kind .vmem S256x256 .f32) sS hsc)} :
    iprop(Base m ρ K c i ∗ Snd m ρ c ks 0)
      ⊢ WP (α := PUnit) c (Prog.lift (.enqueueDma src (.remote (Dev.tc n : Thread nD τ) (dst : Memref sig (Dev.tc n : Thread nD τ).2.kind .vmem S256x256 .f32) sS hsc) sem hsrc hdst hty))
        fun _ => iprop(Base m ρ K c (i + 1) ∗ Snd m ρ c ks 1) := by
  rw [Snd_act m ρ ha 0 rfl, Snd_act m ρ ha 1 rfl]
  refine send_step m ρ K c i kr ks hs hd hn hsS hsem R.bs R.br ha ha2 hr sh (pay m ρ c ks) (fun fs => fs = outAt m ρ c) (pc_amount _ _ _ _ R.br) ?_ ?_ ?_ ?_
  · rw [R.ps]; unfold pcIs pcPts
    iintro H; iexists (outAt m ρ c)
    isplitr; · ipureintro; rfl
    iexact H
  · rw [R.pd]; exact .rfl
  · intro fs hfs; subst hfs; rw [R.ps]; exact .rfl
  · intro fs fd hfs; subst hfs
    rw [R.pr, show pcIs m ρ (tgt kr c) (X c) j h fullShare = pcPts (tgt kr c) (X c) j h fullShare (outAt m ρ (tgt kr c)) from rfl, outAt_congr m ρ (tgt kr c) c R.py]
    unfold pcPts
    exact Entails.of_eq (pointsTo_congr fun i hi => pc_land (X c) j h fd (outAt m ρ c) i hi)

variable {C : Prop} [Decidable C]

/-- A piece sent along a route, under its guard. -/
theorem pcSend (R : Route (F := F) m ρ c kr ks j h sh) (i : ℕ) (hC : C ↔ act c ks = true) (ha2 : act c ks = true → act (tgt kr c) kr = true)
    (hr : rest c i = pg (act c ks) kr :: rest c (i + 1))
    {n : C → Dev nD} (hn : ∀ hc, n hc = tgt kr c) {src dst : C → Memref sig .tc .vmem S256x256 .f32} (hs : ∀ hc, src hc = pcM (X c) j h) (hd : ∀ hc, dst hc = pcM (X c) j h)
    {sS sem : C → SemLoc sig} (hsS : ∀ hc, sS hc = loc ks) (hsem : ∀ hc, sem hc = loc kr)
    {hsc : ∀ hc, (dst hc : Memref sig (Dev.tc (n hc) : Thread nD τ).2.kind .vmem S256x256 .f32).view.ref.isScScratch = false}
    {hsrc : ∀ hc, (src hc).view.WordExact} {hdst : ∀ hc, (dst hc).view.WordExact}
    {hty : ∀ hc, DmaTarget.Typed .vmem (sem hc) (.remote (Dev.tc (n hc) : Thread nD τ) (dst hc : Memref sig (Dev.tc (n hc) : Thread nD τ).2.kind .vmem S256x256 .f32) (sS hc) (hsc hc))} :
    iprop(Base m ρ K c i ∗ Snd m ρ c ks 0)
      ⊢ WP (α := PUnit) c (if hc : C then (Prog.lift (.enqueueDma (src hc) (.remote (Dev.tc (n hc) : Thread nD τ) (dst hc : Memref sig (Dev.tc (n hc) : Thread nD τ).2.kind .vmem S256x256 .f32) (sS hc) (hsc hc)) (sem hc) (hsrc hc) (hdst hc) (hty hc))
          >>= fun _ => pure ⟨⟩) else pure ⟨⟩)
        fun _ => iprop(Base m ρ K c (i + 1) ∗ Snd m ρ c ks 1) := by
  refine guarded hC (fun hc ha => ?_) (fun ha => ?_)
  · rw [ha] at hr
    exact seq (pcSend' m ρ K R i ha (ha2 ha) hr (hn hc) (hs hc) (hd hc) (hsS hc) (hsem hc)) (ret .rfl)
  · rw [ha] at hr
    rw [Snd_off m ρ ha 0, Snd_off m ρ ha 1, Base_skip m ρ K c hr]

/-- The send of a finished piece is waited for. -/
theorem pcWait' (i : ℕ) (hb : isBar ks = false) (ha : act c ks = true) (hok : okWait c (loc ks) i = true) {sem : DmaSem sig} (hsem : SemLoc.dma sem = loc ks)
    {x : Fin 2} {src dst : Memref sig .tc .vmem S256x256 .f32} (hd : dst = pcM x j h) {hsrc : src.view.WordExact} {hdst : dst.view.WordExact} :
    iprop(Base m ρ K c i ∗ Snd m ρ c ks 1)
      ⊢ WP (α := PUnit) c (Prog.lift (.waitDma2 sem src dst hsrc hdst)) fun _ => iprop(Base m ρ K c i ∗ Snd m ρ c ks 2) := by
  rw [Snd_act m ρ ha 1 rfl, Snd_act m ρ ha 2 rfl]
  exact wait_step m ρ K c i ks hsem (by subst hd; exact N_pc x j h) hb ha hok

/-- The wait for such a send, under its guard. -/
theorem pcWait (i : ℕ) (hb : isBar ks = false) (hC : C ↔ act c ks = true) (hok : act c ks = true → okWait c (loc ks) i = true) {sem : C → DmaSem sig} (hsem : ∀ hc, SemLoc.dma (sem hc) = loc ks)
    {x : Fin 2} {src dst : C → Memref sig .tc .vmem S256x256 .f32} (hd : ∀ hc, dst hc = pcM x j h) {hsrc : ∀ hc, (src hc).view.WordExact} {hdst : ∀ hc, (dst hc).view.WordExact} :
    iprop(Base m ρ K c i ∗ Snd m ρ c ks 1)
      ⊢ WP (α := PUnit) c (if hc : C then (Prog.lift (.waitDma2 (sem hc) (src hc) (dst hc) (hsrc hc) (hdst hc)) >>= fun _ => pure ⟨⟩) else pure ⟨⟩)
        fun _ => iprop(Base m ρ K c i ∗ Snd m ρ c ks 2) := by
  refine guarded hC (fun hc ha => ?_) (fun ha => ?_)
  · exact seq (pcWait' m ρ K i hb ha (hok ha) (hsem hc) (hd hc)) (ret .rfl)
  · rw [Snd_off m ρ ha 1, Snd_off m ρ ha 2]

end Piece

/-! ## One of several sends -/

section Own
variable {c : Dev nD} {h : Fin 2} {i i' : ℕ} {p : Prog (TpuEff nD τ sig (Elt F) Λ₀ .tc) PUnit}

/-- A step with a part of an assertion. -/
theorem within {B B' S S' R P P' : sProp 𝕄} (hs : iprop(B ∗ S) ⊢ WP (α := PUnit) c p fun _ => iprop(B' ∗ S')) (h1 : P ⊢ iprop(S ∗ R)) (h2 : iprop(S' ∗ R) ⊢ P') :
    iprop(B ∗ P) ⊢ WP (α := PUnit) c p fun _ => iprop(B' ∗ P') := by
  iintro ⟨HB, HP⟩
  ihave HP := h1 $$ HP
  icases HP with ⟨HS, HR⟩
  ihave H := hs $$ [HB HS]
  · isplitl [HB] <;> iassumption
  iapply (wp_wand _ _ _) $$ H
  iintro %_ ⟨HB, HS⟩
  isplitl [HB]; · iexact HB
  iapply h2
  isplitl [HS] <;> iassumption

/-- The own piece's state, as the states of its three sends. -/
def own3 (c : Dev nD) (h : Fin 2) (a b d : ℕ) : sProp 𝕄 :=
  iprop((Snd m ρ c (.os h 2) a ∗ Snd m ρ c (.os h 0) b ∗ Snd m ρ c (.os h 1) d)
    ∗ Cl m ρ c (loc (.zc false h (Z c))) ∗ Cl m ρ c (loc (.es h (Z c) 0)) ∗ Cl m ρ c (loc (.es h (Z c) 1)))

/-- A step of the copy across, as a step of the own piece. -/
theorem own_x {a a' b d v : ℕ} (hs : iprop(Base m ρ K c i ∗ Snd m ρ c (.os h 2) a) ⊢ WP c p fun _ => iprop(Base m ρ K c i' ∗ Snd m ρ c (.os h 2) a'))
    (h1 : A (F := F) m ρ c (.ow h) v = own3 m ρ c h a b d) (h2 : A (F := F) m ρ c (.ow h) (v + 1) = own3 m ρ c h a' b d) :
    iprop(Base m ρ K c i ∗ A m ρ c (.ow h) v) ⊢ WP c p fun _ => iprop(Base m ρ K c i' ∗ A m ρ c (.ow h) (v + 1)) := by
  rw [h1, h2]
  refine within hs (R := iprop((Snd m ρ c (.os h 0) b ∗ Snd m ρ c (.os h 1) d)
    ∗ Cl m ρ c (loc (.zc false h (Z c))) ∗ Cl m ρ c (loc (.es h (Z c) 0)) ∗ Cl m ρ c (loc (.es h (Z c) 1)))) ?_ ?_ <;> unfold own3
  · iintro ⟨⟨H2, H01⟩, Hr⟩
    isplitl [H2]; · iexact H2
    isplitl [H01] <;> iassumption
  · iintro ⟨H2, H01, Hr⟩
    isplitr [Hr]; · isplitl [H2] <;> iassumption
    iexact Hr
/-- A step of the copy downwards, as a step of the own piece. -/
theorem own_d {a b b' d v : ℕ} (hs : iprop(Base m ρ K c i ∗ Snd m ρ c (.os h 0) b) ⊢ WP c p fun _ => iprop(Base m ρ K c i' ∗ Snd m ρ c (.os h 0) b'))
    (h1 : A (F := F) m ρ c (.ow h) v = own3 m ρ c h a b d) (h2 : A (F := F) m ρ c (.ow h) (v + 1) = own3 m ρ c h a b' d) :
    iprop(Base m ρ K c i ∗ A m ρ c (.ow h) v) ⊢ WP c p fun _ => iprop(Base m ρ K c i' ∗ A m ρ c (.ow h) (v + 1)) := by
  rw [h1, h2]
  refine within hs (R := iprop((Snd m ρ c (.os h 2) a ∗ Snd m ρ c (.os h 1) d)
    ∗ Cl m ρ c (loc (.zc false h (Z c))) ∗ Cl m ρ c (loc (.es h (Z c) 0)) ∗ Cl m ρ c (loc (.es h (Z c) 1)))) ?_ ?_ <;> unfold own3
  · iintro ⟨⟨H2, H0, H1⟩, Hr⟩
    isplitl [H0]; · iexact H0
    isplitr [Hr]; · isplitl [H2] <;> iassumption
    iexact Hr
  · iintro ⟨H0, ⟨H2, H1⟩, Hr⟩
    isplitr [Hr]
    · isplitl [H2]; · iexact H2
      isplitl [H0] <;> iassumption
    iexact Hr
/-- A step of the copy upwards, as a step of the own piece. -/
theorem own_u {a b d d' v : ℕ} (hs : iprop(Base m ρ K c i ∗ Snd m ρ c (.os h 1) d) ⊢ WP c p fun _ => iprop(Base m ρ K c i' ∗ Snd m ρ c (.os h 1) d'))
    (h1 : A (F := F) m ρ c (.ow h) v = own3 m ρ c h a b d) (h2 : A (F := F) m ρ c (.ow h) (v + 1) = own3 m ρ c h a b d') :
    iprop(Base m ρ K c i ∗ A m ρ c (.ow h) v) ⊢ WP c p fun _ => iprop(Base m ρ K c i' ∗ A m ρ c (.ow h) (v + 1)) := by
  rw [h1, h2]
  refine within hs (R := iprop((Snd m ρ c (.os h 2) a ∗ Snd m ρ c (.os h 0) b)
    ∗ Cl m ρ c (loc (.zc false h (Z c))) ∗ Cl m ρ c (loc (.es h (Z c) 0)) ∗ Cl m ρ c (loc (.es h (Z c) 1)))) ?_ ?_ <;> unfold own3
  · iintro ⟨⟨H2, H0, H1⟩, Hr⟩
    isplitl [H1]; · iexact H1
    isplitr [Hr]; · isplitl [H2] <;> iassumption
    iexact Hr
  · iintro ⟨H1, ⟨H2, H0⟩, Hr⟩
    isplitr [Hr]
    · isplitl [H2]; · iexact H2
      isplitl [H0] <;> iassumption
    iexact Hr

/-- A finished piece's three shares. -/
theorem shares (x : Fin 2) (j : Fin 4) : pcIs (F := F) m ρ c x j h fullShare ⊢ iprop(pcIs m ρ c x j h shX ∗ pcIs m ρ c x j h shD ∗ pcIs m ρ c x j h shU) := by
  unfold pcIs pcPts shX shD shU
  iintro H
  ihave H := (pointsTo_share (PosShare.mem_left_op_right fullShare)).1 $$ H
  icases H with ⟨Hx, H⟩
  ihave H := (pointsTo_share (PosShare.mem_left_op_right fullShare.right)).1 $$ H
  icases H with ⟨Hd, Hu⟩
  isplitl [Hx]; · iexact Hx
  isplitl [Hd] <;> iassumption

/-- The own piece is stored. -/
theorem owStore (i : ℕ) {off : Fin 2 → ℕ} (ho : off = ![0, 2048 * (X c).val + 512 * (Z c).val + 256 * h.val]) {inb} {w : Vec F S256x256 .f32} (hw : w = piece m ρ c h)
    {hx : (oM.access (Rect.unit (s := S256x4096) off S256x256.size inb)).Stores Finset.univ} {hm} :
    iprop(Base m ρ K c i ∗ A m ρ c (.ow h) 0)
      ⊢ WP (α := PUnit) c (Prog.lift (.store oM (Rect.unit (s := S256x4096) off S256x256.size inb) w Finset.univ hx hm))
        fun _ => iprop(Base m ρ K c i ∗ A m ρ c (.ow h) 1) := by
  subst ho hw
  rw [show A (F := F) m ρ c (.ow h) 1 = own3 m ρ c h 0 0 0 from rfl]
  unfold A owA own3 pcAny pcPts
  rw [Snd_zero, Snd_zero, Snd_zero, show pay m ρ c (.os h 2) = pcIs m ρ c (X c) (Z c) h shX from rfl,
    show pay m ρ c (.os h 0) = pcIs m ρ c (X c) (Z c) h shD from rfl, show pay m ρ c (.os h 1) = pcIs m ρ c (X c) (Z c) h shU from rfl]
  unfold Prog.lift
  iintro ⟨HB, ⟨⟨%f, H⟩, S2, S0, S1⟩, Hr⟩
  iapply (wp_store 𝒱₀ (c : Thread nD τ) none Set.univ (m := oM) (r := prect (X c) (Z c) h) (hx := hx) (hm := hm) (View.setOn_subset_set _ _)) $$ H
  iintro H
  ihave H := (show _ ⊢ pcIs m ρ c (X c) (Z c) h fullShare from Entails.of_eq (pointsTo_congr fun i hi => by
    obtain ⟨e, -, rfl⟩ := Finset.mem_map.mp hi
    have h1 := View.write_emb_of_mem (v := (pcM (X c) (Z c) h).view) f (piece m ρ c h) (M := Finset.univ) (x := e) (Finset.mem_univ e)
    refine Eq.trans h1 ?_
    refine Eq.trans ?_ (out_emb m ρ c (X c) (Z c) h e).symm
    rw [dev_self]; rfl)) $$ H
  ihave H := (shares m ρ (X c) (Z c)) $$ H
  icases H with ⟨P2, P0, P1⟩
  rw [wp_ret]; imodintro
  isplitl [HB]; · iexact HB
  isplitr [Hr]
  · isplitl [P2 S2]
    · isplitl [P2]; · iexact P2
      iexact S2
    isplitl [P0 S0]
    · isplitl [P0]; · iexact P0
      iexact S0
    isplitl [P1]; · iexact P1
    iexact S1
  iexact Hr

/-- The load before it reads the old piece. -/
theorem owLoad (i : ℕ) {off : Fin 2 → ℕ} (ho : off = ![0, 2048 * (X c).val + 512 * (Z c).val + 256 * h.val]) {inb}
    {hl : oM.view.LoadsAt (Rect.unit (s := S256x4096) off S256x256.size inb).toLoadRect} :
    iprop(Base m ρ K c i ∗ A m ρ c (.ow h) 0)
      ⊢ WP c (Prog.lift (.load oM (Rect.unit (s := S256x4096) off S256x256.size inb).toLoadRect hl))
        fun v => iprop(⌜True⌝ ∗ Base m ρ K c i ∗ A m ρ c (.ow h) 0) := by
  subst ho
  unfold A owA pcAny pcPts
  unfold Prog.lift
  iintro ⟨HB, ⟨⟨%f, H⟩, S⟩, Hr⟩
  iapply (wp_load_rect 𝒱₀ (c : Thread nD τ) none Set.univ (m := oM) (r := prect (X c) (Z c) h) (hl := hl) (Finset.Subset.refl _)) $$ H
  iintro H
  rw [wp_ret]; imodintro
  isplitr; · ipureintro; trivial
  isplitl [HB]; · iexact HB
  isplitr [Hr]; rotate_left
  · iexact Hr
  isplitl [H]; · iexists f; iexact H
  iexact S

end Own

/-! ## Pieces passed on -/

section Relay
variable {c : Dev nD} {b : Bool} {h : Fin 2} {n : Fin 3} {i i' : ℕ} {C : Prop} [Decidable C]

/-- A piece that comes is sent on across. -/
theorem es_act : jin b c n.succ = true → act c (.es h (jn b c n.succ) 1) = true ∧ act c (.zc b h (jn b c n.succ)) = true := by
  revert n h c b; decide +kernel
/-- A piece that is passed on along the third axis has a receiver. -/
theorem es_fwd (j : Fin 4) : act c (.zc b h j) = true → act c (.es h j 0) = true → act (tgt (.zc b h j) c) (.zc b h j) = true := by
  revert j h c b; decide +kernel

/-- The state of a piece passed on: its two sends. -/
def rlState (c : Dev nD) (b : Bool) (h : Fin 2) (n : Fin 3) (x y : ℕ) : sProp 𝕄 :=
  iprop(Cl m ρ c (loc (.zc b h (jn b c n.succ))) ∗ Snd m ρ c (.es h (jn b c n.succ) 0) x ∗ Snd m ρ c (.es h (jn b c n.succ) 1) y)

/-- The state of a piece that comes, after it has landed. -/
theorem rl_in (hj : jin b c n.succ = true) (v : ℕ) : A (F := F) m ρ c (.rl b h n) (v + 1) = rlState m ρ c b h n (stg (v + 1) 2 4) (stg (v + 1) 3 5) := if_pos hj
/-- The state of a piece that comes, before it has landed. -/
theorem rl_zero (hj : jin b c n.succ = true) :
    A (F := F) m ρ c (.rl b h n) 0 = iprop(Pre c (.zc b h (jn b c n.succ)) ∗ spre m ρ c (.es h (jn b c n.succ) 0) ∗ spre m ρ c (.es h (jn b c n.succ) 1)) := if_pos hj
/-- A piece that does not come has no state. -/
theorem rl_out (hj : jin b c n.succ = false) (v : ℕ) : A (F := F) m ρ c (.rl b h n) v = iprop(emp) := if_neg (by rw [hj]; decide)

/-- The piece's landing is waited for. -/
theorem rlWait (i : ℕ) (hC : C ↔ jin b c n.succ = true) (hok : jin b c n.succ = true → okWait c (loc (.zc b h (jn b c n.succ))) i = true)
    {sem : C → DmaSem sig} (hsem : ∀ hc, SemLoc.dma (sem hc) = loc (.zc b h (jn b c n.succ)))
    {src dst : C → Memref sig .tc .vmem S256x256 .f32} (hd : ∀ hc, dst hc = pcM (X c) (jn b c n.succ) h)
    {hsrc : ∀ hc, (src hc).view.WordExact} {hdst : ∀ hc, (dst hc).view.WordExact} :
    iprop(Base m ρ K c i ∗ A m ρ c (.rl b h n) 0)
      ⊢ WP (α := PUnit) c (if hc : C then (Prog.lift (.waitDma2 (sem hc) (src hc) (dst hc) (hsrc hc) (hdst hc)) >>= fun _ => pure ⟨⟩) else pure ⟨⟩)
        fun _ => iprop(Base m ρ K c i ∗ A m ρ c (.rl b h n) 1) := by
  refine guarded hC (fun hc hj => ?_) (fun hj => ?_)
  · have hw := wait_step m ρ K c i (.zc b h (jn b c n.succ)) (hsem hc) (src := src hc) (dst := dst hc) (hsrc := hsrc hc) (hdst := hdst hc)
      (by rw [hd hc]) rfl (es_act (h := h) hj).2 (hok hj)
    rw [rl_zero m ρ hj, rl_in m ρ hj 0]
    unfold rlState
    rw [show stg (0 + 1) 2 4 = 0 from rfl, show stg (0 + 1) 3 5 = 0 from rfl, Snd_zero, Snd_zero]
    refine once hw (R := iprop(spre m ρ c (.es h (jn b c n.succ) 0) ∗ spre m ρ c (.es h (jn b c n.succ) 1))) ?_ ?_
    · iintro ⟨HB, HP, HR⟩
      isplitr [HR]; · isplitl [HB] <;> iassumption
      iexact HR
    · iintro ⟨⟨HB, Hp, HC⟩, S0, S1⟩
      isplitl [HB]; · iexact HB
      isplitl [HC]; · iexact HC
      ihave H := (show pay m ρ c (.zc b h (jn b c n.succ)) ⊢ iprop(pay m ρ c (.es h (jn b c n.succ) 0) ∗ pay m ρ c (.es h (jn b c n.succ) 1)) from
        (pointsTo_share (PosShare.mem_left_op_right fullShare)).1) $$ Hp
      icases H with ⟨P0, P1⟩
      isplitl [P0 S0]; · isplitl [P0] <;> iassumption
      isplitl [P1] <;> iassumption
  · rw [rl_out m ρ hj 0, rl_out m ρ hj 1]

/-- A step with the piece's first send, or its second. -/
theorem rl_first {x x' y v : ℕ} {p : Prog (TpuEff nD τ sig (Elt F) Λ₀ .tc) PUnit}
    (hs : iprop(Base m ρ K c i ∗ Snd m ρ c (.es h (jn b c n.succ) 0) x) ⊢ WP c p fun _ => iprop(Base m ρ K c i' ∗ Snd m ρ c (.es h (jn b c n.succ) 0) x')) :
    iprop(Base m ρ K c i ∗ rlState m ρ c b h n x y) ⊢ WP c p fun _ => iprop(Base m ρ K c i' ∗ rlState m ρ c b h n x' y) := by
  refine within hs (R := iprop(Cl m ρ c (loc (.zc b h (jn b c n.succ))) ∗ Snd m ρ c (.es h (jn b c n.succ) 1) y)) ?_ ?_ <;> unfold rlState
  · iintro ⟨H, H0, H1⟩
    isplitl [H0]; · iexact H0
    isplitl [H] <;> iassumption
  · iintro ⟨H0, H, H1⟩
    isplitl [H]; · iexact H
    isplitl [H0] <;> iassumption
/-- A step of the send across, as a step of the piece. -/
theorem rl_second {x y y' v : ℕ} {p : Prog (TpuEff nD τ sig (Elt F) Λ₀ .tc) PUnit}
    (hs : iprop(Base m ρ K c i ∗ Snd m ρ c (.es h (jn b c n.succ) 1) y) ⊢ WP c p fun _ => iprop(Base m ρ K c i' ∗ Snd m ρ c (.es h (jn b c n.succ) 1) y')) :
    iprop(Base m ρ K c i ∗ rlState m ρ c b h n x y) ⊢ WP c p fun _ => iprop(Base m ρ K c i' ∗ rlState m ρ c b h n x y') := by
  refine within hs (R := iprop(Cl m ρ c (loc (.zc b h (jn b c n.succ))) ∗ Snd m ρ c (.es h (jn b c n.succ) 0) x)) ?_ ?_ <;> unfold rlState
  · iintro ⟨H, H0, H1⟩
    isplitl [H1]; · iexact H1
    isplitl [H] <;> iassumption
  · iintro ⟨H1, H, H0⟩
    isplitl [H]; · iexact H
    isplitl [H0] <;> iassumption

/-- A guard on the piece's being there and being sent on. -/
theorem rl_guard {G : Bool} (hC : C ↔ G = true) (hG : jin b c n.succ = false → G = false) {v x y x' y' : ℕ} {p : C → Prog (TpuEff nD τ sig (Elt F) Λ₀ .tc) PUnit}
    (h1 : jin b c n.succ = true → A (F := F) m ρ c (.rl b h n) v = rlState m ρ c b h n x y)
    (h2 : jin b c n.succ = true → A (F := F) m ρ c (.rl b h n) (v + 1) = rlState m ρ c b h n x' y')
    (hB : jin b c n.succ = false → Base (F := F) m ρ K c i = Base m ρ K c i')
    (hs : jin b c n.succ = true → iprop(Base m ρ K c i ∗ rlState m ρ c b h n x y)
      ⊢ WP (α := PUnit) c (if hc : C then p hc else pure ⟨⟩) fun _ => iprop(Base m ρ K c i' ∗ rlState m ρ c b h n x' y')) :
    iprop(Base m ρ K c i ∗ A m ρ c (.rl b h n) v) ⊢ WP (α := PUnit) c (if hc : C then p hc else pure ⟨⟩) fun _ => iprop(Base m ρ K c i' ∗ A m ρ c (.rl b h n) (v + 1)) := by
  cases hj : jin b c n.succ with
  | true => rw [h1 hj, h2 hj]; exact hs hj
  | false =>
    rw [rl_out m ρ hj, rl_out m ρ hj, hB hj, dif_neg (fun hc => by have := hC.mp hc; rw [hG hj] at this; exact Bool.noConfusion this)]
    exact ret .rfl

/-- The program's guard of the send along the third axis is the key's. -/
theorem es_guard : jin b c n.succ = true → (jin b c n.succ && jfw b c) = act c (.es h (jn b c n.succ) 0) := by
  revert n h c b; decide +kernel

/-- The piece is passed on along the third axis. -/
theorem rlPass (i : ℕ) (hC : C ↔ (jin b c n.succ && jfw b c) = true) (hr : rest c i = pg (jin b c n.succ && jfw b c) (.zc b h (jn b c n.succ)) :: rest c (i + 1))
    {d : C → Dev nD} (hn : ∀ hc, d hc = tgt (.zc b h (jn b c n.succ)) c) {src dst : C → Memref sig .tc .vmem S256x256 .f32}
    (hs : ∀ hc, src hc = pcM (X c) (jn b c n.succ) h) (hd : ∀ hc, dst hc = pcM (X c) (jn b c n.succ) h)
    {sS sem : C → SemLoc sig} (hsS : ∀ hc, sS hc = loc (.es h (jn b c n.succ) 0)) (hsem : ∀ hc, sem hc = loc (.zc b h (jn b c n.succ)))
    {hsc : ∀ hc, (dst hc : Memref sig (Dev.tc (d hc) : Thread nD τ).2.kind .vmem S256x256 .f32).view.ref.isScScratch = false}
    {hsrc : ∀ hc, (src hc).view.WordExact} {hdst : ∀ hc, (dst hc).view.WordExact}
    {hty : ∀ hc, DmaTarget.Typed .vmem (sem hc) (.remote (Dev.tc (d hc) : Thread nD τ) (dst hc : Memref sig (Dev.tc (d hc) : Thread nD τ).2.kind .vmem S256x256 .f32) (sS hc) (hsc hc))} :
    iprop(Base m ρ K c i ∗ A m ρ c (.rl b h n) 1)
      ⊢ WP (α := PUnit) c (if hc : C then (Prog.lift (.enqueueDma (src hc) (.remote (Dev.tc (d hc) : Thread nD τ) (dst hc : Memref sig (Dev.tc (d hc) : Thread nD τ).2.kind .vmem S256x256 .f32) (sS hc) (hsc hc)) (sem hc) (hsrc hc) (hdst hc) (hty hc))
          >>= fun _ => pure ⟨⟩) else pure ⟨⟩)
        fun _ => iprop(Base m ρ K c (i + 1) ∗ A m ρ c (.rl b h n) 2) :=
  rl_guard m ρ K hC (fun hj => by rw [hj]; rfl) (fun hj => rl_in m ρ hj 0) (fun hj => rl_in m ρ hj 1)
    (fun hj => Base_skip m ρ K c (by rw [hj] at hr; exact hr))
    (fun hj => rl_first m ρ K (v := 0) (by
      have hg := es_guard (h := h) hj
      rw [hg] at hC hr
      exact pcSend m ρ K (route_ez m ρ c b h (jn b c n.succ) (.es h (jn b c n.succ) 0) fullShare.left rfl rfl) i hC
        (fun ha => es_fwd _ (es_act (h := h) hj).2 ha) hr hn hs hd hsS hsem))

/-- The piece is sent across the first axis. -/
theorem rlCross (i : ℕ) (hC : C ↔ jin b c n.succ = true) (hr : rest c i = pg (jin b c n.succ) (.xr h (jn b c n.succ)) :: rest c (i + 1))
    {d : C → Dev nD} (hn : ∀ hc, d hc = xo c) {src dst : C → Memref sig .tc .vmem S256x256 .f32}
    (hs : ∀ hc, src hc = pcM (X c) (jn b c n.succ) h) (hd : ∀ hc, dst hc = pcM (X c) (jn b c n.succ) h)
    {sS sem : C → SemLoc sig} (hsS : ∀ hc, sS hc = loc (.es h (jn b c n.succ) 1)) (hsem : ∀ hc, sem hc = loc (.xr h (jn b c n.succ)))
    {hsc : ∀ hc, (dst hc : Memref sig (Dev.tc (d hc) : Thread nD τ).2.kind .vmem S256x256 .f32).view.ref.isScScratch = false}
    {hsrc : ∀ hc, (src hc).view.WordExact} {hdst : ∀ hc, (dst hc).view.WordExact}
    {hty : ∀ hc, DmaTarget.Typed .vmem (sem hc) (.remote (Dev.tc (d hc) : Thread nD τ) (dst hc : Memref sig (Dev.tc (d hc) : Thread nD τ).2.kind .vmem S256x256 .f32) (sS hc) (hsc hc))} :
    iprop(Base m ρ K c i ∗ A m ρ c (.rl b h n) 2)
      ⊢ WP (α := PUnit) c (if hc : C then (Prog.lift (.enqueueDma (src hc) (.remote (Dev.tc (d hc) : Thread nD τ) (dst hc : Memref sig (Dev.tc (d hc) : Thread nD τ).2.kind .vmem S256x256 .f32) (sS hc) (hsc hc)) (sem hc) (hsrc hc) (hdst hc) (hty hc))
          >>= fun _ => pure ⟨⟩) else pure ⟨⟩)
        fun _ => iprop(Base m ρ K c (i + 1) ∗ A m ρ c (.rl b h n) 3) :=
  rl_guard m ρ K hC (fun hj => hj) (fun hj => rl_in m ρ hj 1) (fun hj => rl_in m ρ hj 2)
    (fun hj => Base_skip m ρ K c (by rw [hj] at hr; exact hr))
    (fun hj => rl_second m ρ K (v := 0) (by
      have hg := (es_act (h := h) hj).1
      rw [hj] at hC hr
      exact pcSend m ρ K (route_ex m ρ c h (jn b c n.succ)) i (by rw [hg]; exact hC) (fun _ => rfl) (by rw [hg]; exact hr) hn hs hd hsS hsem))

/-- The two sends are waited for. -/
theorem rlBack0 (i : ℕ) (hC : C ↔ (jin b c n.succ && jfw b c) = true) (hok : act c (.es h (jn b c n.succ) 0) = true → okWait c (loc (.es h (jn b c n.succ) 0)) i = true)
    {sem : C → DmaSem sig} (hsem : ∀ hc, SemLoc.dma (sem hc) = loc (.es h (jn b c n.succ) 0))
    {src dst : C → Memref sig .tc .vmem S256x256 .f32} (hd : ∀ hc, dst hc = pcM (X c) (jn b c n.succ) h)
    {hsrc : ∀ hc, (src hc).view.WordExact} {hdst : ∀ hc, (dst hc).view.WordExact} :
    iprop(Base m ρ K c i ∗ A m ρ c (.rl b h n) 3)
      ⊢ WP (α := PUnit) c (if hc : C then (Prog.lift (.waitDma2 (sem hc) (src hc) (dst hc) (hsrc hc) (hdst hc)) >>= fun _ => pure ⟨⟩) else pure ⟨⟩)
        fun _ => iprop(Base m ρ K c i ∗ A m ρ c (.rl b h n) 4) :=
  rl_guard m ρ K hC (fun hj => by rw [hj]; rfl) (fun hj => rl_in m ρ hj 2) (fun hj => rl_in m ρ hj 3) (fun _ => rfl)
    (fun hj => rl_first m ρ K (v := 0) (by
      rw [es_guard (h := h) hj] at hC
      exact pcWait m ρ K i rfl hC hok hsem hd))
/-- The wait for the send across. -/
theorem rlBack1 (i : ℕ) (hC : C ↔ jin b c n.succ = true) (hok : act c (.es h (jn b c n.succ) 1) = true → okWait c (loc (.es h (jn b c n.succ) 1)) i = true)
    {sem : C → DmaSem sig} (hsem : ∀ hc, SemLoc.dma (sem hc) = loc (.es h (jn b c n.succ) 1))
    {src dst : C → Memref sig .tc .vmem S256x256 .f32} (hd : ∀ hc, dst hc = pcM (X c) (jn b c n.succ) h)
    {hsrc : ∀ hc, (src hc).view.WordExact} {hdst : ∀ hc, (dst hc).view.WordExact} :
    iprop(Base m ρ K c i ∗ A m ρ c (.rl b h n) 4)
      ⊢ WP (α := PUnit) c (if hc : C then (Prog.lift (.waitDma2 (sem hc) (src hc) (dst hc) (hsrc hc) (hdst hc)) >>= fun _ => pure ⟨⟩) else pure ⟨⟩)
        fun _ => iprop(Base m ρ K c i ∗ A m ρ c (.rl b h n) 5) :=
  rl_guard m ρ K hC (fun hj => hj) (fun hj => rl_in m ρ hj 3) (fun hj => rl_in m ρ hj 4) (fun _ => rfl)
    (fun hj => rl_second m ρ K (v := 0) (by
      rw [hj] at hC
      exact pcWait m ρ K i rfl (by rw [(es_act (h := h) hj).1]; exact hC) hok hsem hd))

/-- A piece's landing from across the first axis is waited for. -/
theorem xpWait (i : ℕ) (j : Fin 4) (hok : okWait c (loc (.xr h j)) i = true) {sem : DmaSem sig} (hsem : SemLoc.dma sem = loc (.xr h j))
    {src dst : Memref sig .tc .vmem S256x256 .f32} (hd : dst = pcM (1 - X c) j h) {hsrc : src.view.WordExact} {hdst : dst.view.WordExact} :
    iprop(Base m ρ K c i ∗ A m ρ c (.xp h j) 0)
      ⊢ WP (α := PUnit) c (Prog.lift (.waitDma2 sem src dst hsrc hdst)) fun _ => iprop(Base m ρ K c i ∗ A m ρ c (.xp h j) 1) :=
  wait_step m ρ K c i (.xr h j) hsem (by subst hd; exact N_pc _ _ _) rfl rfl hok

end Relay

/-! ## Loads that leave the state -/

section Loads
variable {c : Dev nD} {i n : ℕ}

/-- A step that reads a part of the state and leaves it. -/
theorem peek {β : Type} {s : Slot} {v : ℕ} {φ : β → Prop} {p : Prog (TpuEff nD τ sig (Elt F) Λ₀ .tc) β} (hv : cnt n s = v)
    (hp : iprop(Base m ρ K c i ∗ A m ρ c s v) ⊢ WP c p fun x => iprop(⌜φ x⌝ ∗ Base m ρ K c i ∗ A m ρ c s v)) :
    Core m ρ K c i n ⊢ WP c p fun x => iprop(⌜φ x⌝ ∗ Core m ρ K c i n) := by
  unfold Core
  rw [bigSep_univ_at (fun s => A m ρ c s (cnt n s)) s, hv]
  iintro ⟨HB, HA, Hr⟩
  ihave H := hp $$ [HB HA]
  · isplitl [HB] <;> iassumption
  iapply (wp_wand _ _ _) $$ H
  iintro %x ⟨%hx, HB, HA⟩
  isplitr; · ipureintro; exact hx
  isplitl [HB]; · iexact HB
  isplitl [HA] <;> iassumption

/-- A load of a row block's columns of the first operand. -/
theorem ldX (q : Fin 4) {off : Fin 2 → ℕ} (ho : off = ![0, 256 * q.val]) {inb} {hl : xM.view.LoadsAt (Rect.unit (s := S1024x1024) off S1024x256.size inb).toLoadRect} :
    Core (F := F) m ρ K c i n ⊢ WP c (Prog.lift (.load xM (Rect.unit (s := S1024x1024) off S1024x256.size inb).toLoadRect hl))
      fun v => iprop(⌜v = xs m ρ c q⌝ ∗ Core m ρ K c i n) := by
  subst ho
  unfold Prog.lift Core Base xst
  iintro ⟨⟨HI, HL, HO, HK, Hx, Hd⟩, HA⟩
  iapply (wp_load_rect 𝒱₀ (c : Thread nD τ) none Set.univ (m := xM) (hl := hl) (Finset.subset_univ _)) $$ Hx
  iintro Hx
  rw [wp_ret]; imodintro
  isplitr; · ipureintro; rfl
  isplitr [HA]; rotate_left
  · iexact HA
  isplitl [HI]; · iexact HI
  isplitl [HL]; · iexact HL
  isplitl [HO]; · iexact HO
  isplitl [HK]; · iexact HK
  isplitl [Hx]; · iexact Hx
  iexact Hd

/-- A load of the device's columns of the second operand. -/
theorem ldD (h : Fin 2) {off : Fin 2 → ℕ} (ho : off = k0_off1 c (BitVec.ofNat 32 (256 * h.val))) {inb} {hl : dM.view.LoadsAt (Rect.unit (s := S1024x4096) off S1024x256.size inb).toLoadRect} :
    Core (F := F) m ρ K c i n ⊢ WP c (Prog.lift (.load dM (Rect.unit (s := S1024x4096) off S1024x256.size inb).toLoadRect hl))
      fun v => iprop(⌜v = ds m ρ c h⌝ ∗ Core m ρ K c i n) := by
  subst ho
  unfold Prog.lift Core Base dst
  iintro ⟨⟨HI, HL, HO, HK, Hx, Hd⟩, HA⟩
  iapply (wp_load_rect 𝒱₀ (c : Thread nD τ) none Set.univ (m := dM) (hl := hl) (Finset.subset_univ _)) $$ Hd
  iintro Hd
  rw [wp_ret]; imodintro
  isplitr; · ipureintro; rfl
  isplitr [HA]; rotate_left
  · iexact HA
  isplitl [HI]; · iexact HI
  isplitl [HL]; · iexact HL
  isplitl [HO]; · iexact HO
  isplitl [HK]; · iexact HK
  isplitl [Hx]; · iexact Hx
  iexact Hd

/-- For its own row block a device neither starts nor passes on a chain, and ends it when it is not at the first place. -/
theorem own_T (b : Bool) : isS b c (Y c) = false ∧ isF b c (Y c) = false ∧ (isT b c (Y c) = decide (0 < yb b c)) := by
  revert c b; decide +kernel

/-- The sum that ended here is read. -/
theorem ldSum (b : Bool) (h : Fin 2) {a : Memref sig .tc .vmem S2x4x256x256 .f32} (ha : a = arr b) {off : Fin 4 → ℕ} (ho : off = ![h.val, (Y c).val, 0, 0]) {inb}
    (hv : ∀ q, cnt n (.ch b h q) = 5)
    {hl : a.view.LoadsAt (Rect.unit (s := S2x4x256x256) off S1x1x256x256.size inb).toLoadRect} :
    Core (F := F) m ρ K c i n ⊢ WP c (Prog.lift (.load a (Rect.unit (s := S2x4x256x256) off S1x1x256x256.size inb).toLoadRect hl))
      fun v => iprop(⌜0 < yb b c → v = given m ρ b h (Y c) c⌝ ∗ Core m ρ K c i n) := by
  refine peek m ρ K (hv (Y c)) ?_
  by_cases hy : 0 < yb b c
  · rw [chA_T m ρ c b h (Y c) (by rw [(own_T b).2.2]; exact decide_eq_true hy) 5 rfl]
    rw [show chT m ρ c b h (Y c) 5 = iprop(Cl m ρ c (loc (.rc b h (Y c))) ∗ (∃ f, ⌜(slotV b h (Y c)).read (Elt F) f = given m ρ b h (Y c) c⌝ ∗ slotPts c b h (Y c) f)) from rfl]
    iintro ⟨HB, ⟨HC, ⟨%f, %hf, H⟩⟩, HC'⟩
    ihave W := (ld_slot c iprop(Base m ρ K c i ∗ Cl m ρ c (loc (.rc b h (Y c))) ∗ Cl m ρ c (loc (.sd b h (Y c)))) b h (Y c) f ha ho (inb := inb) (hl := hl)) $$ [HB HC HC' H]
    · isplitr [H]; rotate_left
      · iexact H
      isplitl [HB]; · iexact HB
      isplitl [HC] <;> iassumption
    iapply (wp_wand _ _ _) $$ W
    iintro %v ⟨%e, ⟨HB, HC, HC'⟩, H⟩
    isplitr; · ipureintro; intro _; exact e.trans hf
    isplitl [HB]; · iexact HB
    isplitr [HC']; rotate_left
    · iexact HC'
    isplitl [HC]; · iexact HC
    iexists f
    isplitr; · ipureintro; exact hf
    iexact H
  · rw [chA_I m ρ c b h (Y c) (by rw [(own_T b).1]; decide) (by rw [(own_T b).2.1]; decide) (by rw [(own_T b).2.2, decide_eq_false hy]; decide) 5]
    unfold slotAny
    iintro ⟨HB, ⟨%f, H⟩, HC⟩
    ihave W := (ld_slot c iprop(Base m ρ K c i ∗ Cl m ρ c (loc (.rc b h (Y c))) ∗ Cl m ρ c (loc (.sd b h (Y c)))) b h (Y c) f ha ho (inb := inb) (hl := hl)) $$ [HB HC H]
    · isplitr [H]; rotate_left
      · iexact H
      isplitl [HB] <;> iassumption
    iapply (wp_wand _ _ _) $$ W
    iintro %v ⟨%e, ⟨HB, HC⟩, H⟩
    isplitr; · ipureintro; intro h0; exact absurd h0 hy
    isplitl [HB]; · iexact HB
    isplitl [H]; · iexists f; iexact H
    iexact HC

/-- At the start of the upward chain the bit for below is off. -/
theorem w14_off : yb false c = 0 → w14 c = 0#1 := by revert c; decide +kernel
/-- At the start of the downward chain the bit for above is off. -/
theorem w15_off : yb true c = 0 → w15 c = 0#1 := by revert c; decide +kernel

/-- The sums that did not end here are not read. -/
theorem piece_eq (h : Fin 2) {r l : Vec F S1x1x256x256 .f32} (hr : 0 < yb false c → r = given m ρ false h (Y c) c) (hl : 0 < yb true c → l = given m ρ true h (Y c) c) :
    k0_pay20 (w5 c) (w14 c) (w15 c) (part m ρ c h 0) (part m ρ c h 1) (part m ρ c h 2) (part m ρ c h 3) r l = piece m ρ c h := by
  have e1 : ∀ v w : FVec F S256x256 .f32, w14 c = 0#1 → Scalar.select (w14 c) v w = w := fun v w e => by rw [e]; rfl
  have e2 : ∀ v w : FVec F S256x256 .f32, w15 c = 0#1 → Scalar.select (w15 c) v w = w := fun v w e => by rw [e]; rfl
  unfold piece k0_pay20
  dsimp only
  rcases Nat.eq_zero_or_pos (yb false c) with h0 | h0 <;> rcases Nat.eq_zero_or_pos (yb true c) with h1 | h1
  · rw [e1 _ _ (w14_off h0), e1 _ _ (w14_off h0), e2 _ _ (w15_off h1), e2 _ _ (w15_off h1)]
  · rw [e1 _ _ (w14_off h0), e1 _ _ (w14_off h0), hl h1]
  · rw [hr h0, e2 _ _ (w15_off h1), e2 _ _ (w15_off h1)]
  · rw [hr h0, hl h1]

end Loads

end Cert.KernelIdeal.Relay

end
-- ==== Proof.Steps2.lean ====
/-
  The steps with what follows them, as the parts of the program use them.
-/
module

public import proofs.«01_k».proof.Proof.Moves2

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Ci → ℕ)

/-- From `P`, device `c` runs `p` and ends with `Q`. -/
structure Runs {α : Type} (c : Dev nD) (P : sProp 𝕄) (p : Prog (TpuEff nD τ sig (Elt F) Λ₀ .tc) α) (Q : α → sProp 𝕄) : Prop where
  out : P ⊢ WP c p Q

/-- A program that only gives a value runs. -/
theorem Runs.ret {α : Type} {c : Dev nD} {P : sProp 𝕄} {v : α} {Q : α → sProp 𝕄} (h : P ⊢ Q v) : Runs c P (pure v) Q := ⟨Relay.ret h⟩

/-- The end of a part: its value, and the state reached. -/
theorem Runs.done {α : Type} {c : Dev nD} {P : sProp 𝕄} {v w : α} (h : v = w) : Runs c P (pure v) fun x => iprop(⌜x = w⌝ ∗ P) :=
  .ret (by iintro H; isplitr; · ipureintro; exact h
           iexact H)
/-- So does one that gives it and changes nothing. -/
theorem Runs.stop {α : Type} {c : Dev nD} {P : sProp 𝕄} {v : α} : Runs c P (pure v) fun _ => P := .ret .rfl

/-- A run with a value, followed by another. -/
theorem Runs.value {α β : Type} {c : Dev nD} {P P' : sProp 𝕄} {p : Prog (TpuEff nD τ sig (Elt F) Λ₀ .tc) β} {k : β → Prog (TpuEff nD τ sig (Elt F) Λ₀ .tc) α}
    {Q : α → sProp 𝕄} {w : β} (h : Runs c P p fun v => iprop(⌜v = w⌝ ∗ P')) (hk : Runs c P' (k w) Q) : Runs c P (p >>= k) Q :=
  ⟨seqv h.out fun v hv => by subst hv; exact hk.out⟩
/-- A run whose value is known, followed by another. -/
theorem Runs.thus {α β : Type} {c : Dev nD} {P P' : sProp 𝕄} {p : Prog (TpuEff nD τ sig (Elt F) Λ₀ .tc) β} {k : β → Prog (TpuEff nD τ sig (Elt F) Λ₀ .tc) α}
    {Q : α → sProp 𝕄} {φ : β → Prop} (h : Runs c P p fun v => iprop(⌜φ v⌝ ∗ P')) (hk : ∀ v, φ v → Runs c P' (k v) Q) : Runs c P (p >>= k) Q :=
  ⟨seqv h.out fun v hv => (hk v hv).out⟩
/-- A run without a value, followed by another. -/
theorem Runs.then {α β : Type} {c : Dev nD} {P P' : sProp 𝕄} {p : Prog (TpuEff nD τ sig (Elt F) Λ₀ .tc) β} {k : Prog (TpuEff nD τ sig (Elt F) Λ₀ .tc) α}
    {Q : α → sProp 𝕄} (h : Runs c P p fun _ => P') (hk : Runs c P' k Q) : Runs c P (p >>= fun _ => k) Q :=
  ⟨by
    unfold WP; rw [wp_bind]
    exact h.out.trans (wp_mono _ _ _ fun _ => hk.out)⟩

/-- A guarded step, and what follows. -/
theorem jump {c : Dev nD} {C : Prop} [Decidable C] {α : Type} {P P' : sProp 𝕄} {k : Prog (TpuEff nD τ sig (Elt F) Λ₀ .tc) α} {Q : α → sProp 𝕄}
    {p : C → Prog (TpuEff nD τ sig (Elt F) Λ₀ .tc) PUnit} {p' : C → Prog (TpuEff nD τ sig (Elt F) Λ₀ .tc) α} (hp : P ⊢ WP (α := PUnit) c (if hc : C then p hc else pure ⟨⟩) fun _ => P')
    (hk : P' ⊢ WP c k Q) (he : ∀ hc, p' hc = (p hc >>= fun _ => k)) : P ⊢ WP c (if hc : C then p' hc else k) Q := by
  by_cases hc : C
  · rw [dif_pos hc] at hp ⊢
    rw [he hc]; exact seq hp hk
  · rw [dif_neg hc] at hp ⊢
    refine hp.trans ?_
    unfold WP; rw [wp_pure]
    exact (fupd_mono hk).trans (fupd_wp _ _ _ _ _)
/-- A guard whose two answers lead to the same continuation. -/
theorem jump1 {c : Dev nD} {C : Prop} [Decidable C] {α : Type} {P P' : sProp 𝕄} {k : Prog (TpuEff nD τ sig (Elt F) Λ₀ .tc) α} {Q : α → sProp 𝕄}
    {p : C → Prog (TpuEff nD τ sig (Elt F) Λ₀ .tc) PUnit} (hp : P ⊢ WP (α := PUnit) c (if hc : C then (p hc >>= fun _ => pure ⟨⟩) else pure ⟨⟩) fun _ => P')
    (hk : P' ⊢ WP c k Q) : P ⊢ WP c (if hc : C then (p hc >>= fun _ => k) else k) Q :=
  jump hp hk fun hc => by rw [bind_assoc]; rfl

/-- The own piece sent downwards has a receiver. -/
theorem os_down (c : Dev nD) (h : Fin 2) : act c (.os h 0) = true → act (tgt (.zc true h (Z c)) c) (.zc true h (Z c)) = true := by revert c h; decide +kernel
/-- The own piece sent upwards has a receiver. -/
theorem os_up (c : Dev nD) (h : Fin 2) : act c (.os h 1) = true → act (tgt (.zc false h (Z c)) c) (.zc false h (Z c)) = true := by revert c h; decide +kernel

section Next
variable (c : Dev nD) {α : Type} {C : Prop} [Decidable C] {n : ℕ} {k : Prog (TpuEff nD τ sig (Elt F) Λ₀ .tc) α}

section Chain
variable (b : Bool) (h : Fin 2) (q : Fin 4) (i : ℕ)

/-- A start is stored. -/
theorem chStoreK (hn : ops[n]? = some (.ch b h q)) (hv : cnt n (.ch b h q) = 0) (hC : C ↔ isS b c q = true)
    {a : Memref sig .tc .vmem S2x4x256x256 .f32} (ha : a = arr b)
    {off : Fin 4 → ℕ} (ho : off = ![h.val, q.val, 0, 0]) {inb inb' w} (hw : w = k0_pay8 (part m ρ c h q)) {hl hx hm}
    {Q : α → sProp 𝕄} (hk : Runs c (Core m ρ K c i (n + 1)) k Q) :
    Runs c (Core m ρ K c i n) (if hc : C then (Prog.lift (.load a (Rect.unit (s := S2x4x256x256) off S1x1x256x256.size inb).toLoadRect hl) >>= fun _ =>
          Prog.lift (.store a (Rect.unit (s := S2x4x256x256) off S1x1x256x256.size inb') w Finset.univ hx hm) >>= fun _ => k) else k) Q :=
  ⟨jump (step m ρ K hn hv (chStore m ρ K c b h q i hC ha ho hw (inb := inb) (inb' := inb') (hl := hl) (hx := hx) (hm := hm))) hk.out fun _ => rfl⟩

/-- A sum is stored. -/
theorem chSumK (hn : ops[n]? = some (.ch b h q)) (hv : cnt n (.ch b h q) = 3) (hC : C ↔ isF b c q = true)
    {a : Memref sig .tc .vmem S2x4x256x256 .f32} (ha : a = arr b)
    {off : Fin 4 → ℕ} (ho : off = ![h.val, q.val, 0, 0]) {inb inb' inb''} {w : Vec F S1x1x256x256 .f32 → Vec F S1x1x256x256 .f32}
    (hw : ∀ v, w v = k0_pay12 (part m ρ c h q) v) {hl hl'} {hx : (a.access (Rect.unit (s := S2x4x256x256) off S1x1x256x256.size inb')).Stores Finset.univ} {hm}
    {Q : α → sProp 𝕄} (hk : Runs c (Core m ρ K c i (n + 1)) k Q) :
    Runs c (Core m ρ K c i n) (if hc : C then (Prog.lift (.load a (Rect.unit (s := S2x4x256x256) off S1x1x256x256.size inb).toLoadRect hl) >>= fun v =>
          Prog.lift (.load a (Rect.unit (s := S2x4x256x256) off S1x1x256x256.size inb'').toLoadRect hl') >>= fun _ =>
          Prog.lift (.store a (Rect.unit (s := S2x4x256x256) off S1x1x256x256.size inb') (w v) Finset.univ hx hm) >>= fun _ => k) else k) Q :=
  ⟨jump (step m ρ K hn hv (chSum m ρ K c b h q i hC ha ho hw (inb := inb) (inb' := inb') (inb'' := inb'') (hl := hl) (hl' := hl') (hx := hx) (hm := hm))) hk.out fun _ => rfl⟩

/-- A start is sent. -/
theorem chSendK {d : C → Dev nD} (hn : ops[n]? = some (.ch b h q)) (hv : cnt n (.ch b h q) = 1) (hr : rest c i = pg (isS b c q) (.rc b h q) :: rest c (i + 1))
    (hC : C ↔ isS b c q = true) (hd : ∀ hc, d hc = ynx b c) {src dst : Memref sig .tc .vmem S256x256 .f32} (hs : src = slotM b h q) (ht : dst = slotM b h q)
    {sS sem : SemLoc sig} (hsS : sS = loc (.sd b h q)) (hsem : sem = loc (.rc b h q))
    {hsc : ∀ hc, (dst : Memref sig (Dev.tc (d hc) : Thread nD τ).2.kind .vmem S256x256 .f32).view.ref.isScScratch = false} {hsrc : C → src.view.WordExact} {hdst : C → dst.view.WordExact}
    {hty : ∀ hc, DmaTarget.Typed .vmem sem (.remote (Dev.tc (d hc) : Thread nD τ) (dst : Memref sig (Dev.tc (d hc) : Thread nD τ).2.kind .vmem S256x256 .f32) sS (hsc hc))}
    {Q : α → sProp 𝕄} (hk : Runs c (Core m ρ K c (i + 1) (n + 1)) k Q) :
    Runs c (Core m ρ K c i n) (if hc : C then (Prog.lift (.enqueueDma src (.remote (Dev.tc (d hc) : Thread nD τ) (dst : Memref sig (Dev.tc (d hc) : Thread nD τ).2.kind .vmem S256x256 .f32) sS (hsc hc)) sem (hsrc hc) (hdst hc) (hty hc))
          >>= fun _ => k) else k) Q :=
  ⟨jump (step m ρ K hn hv (chSend m ρ K c b h q i hC hr hd hs ht hsS hsem (hsc := hsc) (hsrc := hsrc) (hdst := hdst) (hty := hty))) hk.out fun _ => rfl⟩

/-- A sum is passed on. -/
theorem chPassK {d : C → Dev nD} (hn : ops[n]? = some (.ch b h q)) (hv : cnt n (.ch b h q) = 4) (hr : rest c i = pg (isF b c q) (.rc b h q) :: rest c (i + 1))
    (hC : C ↔ isF b c q = true) (hd : ∀ hc, d hc = ynx b c) {src dst : Memref sig .tc .vmem S256x256 .f32} (hs : src = slotM b h q) (ht : dst = slotM b h q)
    {sS sem : SemLoc sig} (hsS : sS = loc (.sd b h q)) (hsem : sem = loc (.rc b h q))
    {hsc : ∀ hc, (dst : Memref sig (Dev.tc (d hc) : Thread nD τ).2.kind .vmem S256x256 .f32).view.ref.isScScratch = false} {hsrc : C → src.view.WordExact} {hdst : C → dst.view.WordExact}
    {hty : ∀ hc, DmaTarget.Typed .vmem sem (.remote (Dev.tc (d hc) : Thread nD τ) (dst : Memref sig (Dev.tc (d hc) : Thread nD τ).2.kind .vmem S256x256 .f32) sS (hsc hc))}
    {Q : α → sProp 𝕄} (hk : Runs c (Core m ρ K c (i + 1) (n + 1)) k Q) :
    Runs c (Core m ρ K c i n) (if hc : C then (Prog.lift (.enqueueDma src (.remote (Dev.tc (d hc) : Thread nD τ) (dst : Memref sig (Dev.tc (d hc) : Thread nD τ).2.kind .vmem S256x256 .f32) sS (hsc hc)) sem (hsrc hc) (hdst hc) (hty hc))
          >>= fun _ => k) else k) Q :=
  ⟨jump (step m ρ K hn hv (chPass m ρ K c b h q i hC hr hd hs ht hsS hsem (hsc := hsc) (hsrc := hsrc) (hdst := hdst) (hty := hty))) hk.out fun _ => rfl⟩

/-- A landing in a chain is waited for. -/
theorem chWaitK (hn : ops[n]? = some (.ch b h q)) (hv : cnt n (.ch b h q) = 2) (hC : C ↔ act c (.rc b h q) = true) (hok : act c (.rc b h q) = true → okWait c (loc (.rc b h q)) i = true)
    {sem : DmaSem sig} (hsem : SemLoc.dma sem = loc (.rc b h q)) {src dst : Memref sig .tc .vmem S256x256 .f32} (hd : dst = slotM b h q) {hsrc : C → src.view.WordExact} {hdst : C → dst.view.WordExact}
    {Q : α → sProp 𝕄} (hk : Runs c (Core m ρ K c i (n + 1)) k Q) :
    Runs c (Core m ρ K c i n) (if hc : C then (Prog.lift (.waitDma2 sem src dst (hsrc hc) (hdst hc)) >>= fun _ => k) else k) Q :=
  ⟨jump (step m ρ K hn hv (chWait m ρ K c b h q i hC hok hsem hd (hsrc := hsrc) (hdst := hdst))) hk.out fun _ => rfl⟩

/-- The send of a start is waited for. -/
theorem chWaitSK (hn : ops[n]? = some (.ch b h q)) (hv : cnt n (.ch b h q) = 5) (hC : C ↔ isS b c q = true) (hok : isS b c q = true → okWait c (loc (.sd b h q)) i = true)
    {sem : DmaSem sig} (hsem : SemLoc.dma sem = loc (.sd b h q)) {src dst : Memref sig .tc .vmem S256x256 .f32} (hd : dst = slotM b h q) {hsrc : C → src.view.WordExact} {hdst : C → dst.view.WordExact}
    {Q : α → sProp 𝕄} (hk : Runs c (Core m ρ K c i (n + 1)) k Q) :
    Runs c (Core m ρ K c i n) (if hc : C then (Prog.lift (.waitDma2 sem src dst (hsrc hc) (hdst hc)) >>= fun _ => k) else k) Q :=
  ⟨jump (step m ρ K hn hv (chWaitS m ρ K c b h q i hC hok hsem hd (hsrc := hsrc) (hdst := hdst))) hk.out fun _ => rfl⟩

/-- The send of a sum is waited for. -/
theorem chWaitFK {v : ℕ} (hn : ops[n]? = some (.ch b h q)) (hv : cnt n (.ch b h q) = v) (hv' : v = 6 ∨ (qb b q = 0 ∧ v = 5)) (hC : C ↔ isF b c q = true)
    (hok : isF b c q = true → okWait c (loc (.sd b h q)) i = true)
    {sem : DmaSem sig} (hsem : SemLoc.dma sem = loc (.sd b h q)) {src dst : Memref sig .tc .vmem S256x256 .f32} (hd : dst = slotM b h q) {hsrc : C → src.view.WordExact} {hdst : C → dst.view.WordExact}
    {Q : α → sProp 𝕄} (hk : Runs c (Core m ρ K c i (n + 1)) k Q) :
    Runs c (Core m ρ K c i n) (if hc : C then (Prog.lift (.waitDma2 sem src dst (hsrc hc) (hdst hc)) >>= fun _ => k) else k) Q :=
  ⟨jump (step m ρ K hn hv (chWaitF m ρ K c b h q i hv' hC hok hsem hd (hsrc := hsrc) (hdst := hdst))) hk.out fun _ => rfl⟩

end Chain

section Loads
variable {i : ℕ}

/-- The load of a row block's columns, with what follows. -/
theorem ldXK {k : Vec F S1024x256 .f32 → Prog (TpuEff nD τ sig (Elt F) Λ₀ .tc) α} (q : Fin 4) {off : Fin 2 → ℕ} (ho : off = ![0, 256 * q.val]) {inb} {hl : xM.view.LoadsAt (Rect.unit (s := S1024x1024) off S1024x256.size inb).toLoadRect}
    {Q : α → sProp 𝕄} (hk : Runs c (Core m ρ K c i n) (k (xs m ρ c q)) Q) :
    Runs c (Core m ρ K c i n) (Prog.lift (.load xM (Rect.unit (s := S1024x1024) off S1024x256.size inb).toLoadRect hl) >>= k) Q :=
  .value ⟨ldX m ρ K q ho⟩ hk
/-- The load of the second operand's columns, with what follows. -/
theorem ldDK {k : Vec F S1024x256 .f32 → Prog (TpuEff nD τ sig (Elt F) Λ₀ .tc) α} (h : Fin 2) {off : Fin 2 → ℕ} (ho : off = k0_off1 c (BitVec.ofNat 32 (256 * h.val))) {inb} {hl : dM.view.LoadsAt (Rect.unit (s := S1024x4096) off S1024x256.size inb).toLoadRect}
    {Q : α → sProp 𝕄} (hk : Runs c (Core m ρ K c i n) (k (ds m ρ c h)) Q) :
    Runs c (Core m ρ K c i n) (Prog.lift (.load dM (Rect.unit (s := S1024x4096) off S1024x256.size inb).toLoadRect hl) >>= k) Q :=
  .value ⟨ldD m ρ K h ho⟩ hk
/-- The load of a finished sum, with what follows. -/
theorem ldSumK {k : Vec F S1x1x256x256 .f32 → Prog (TpuEff nD τ sig (Elt F) Λ₀ .tc) α} (b : Bool) (h : Fin 2) (hv : ∀ q, cnt n (.ch b h q) = 5)
    {a : Memref sig .tc .vmem S2x4x256x256 .f32} (ha : a = arr b) {off : Fin 4 → ℕ} (ho : off = ![h.val, (Y c).val, 0, 0]) {inb}
    {hl : a.view.LoadsAt (Rect.unit (s := S2x4x256x256) off S1x1x256x256.size inb).toLoadRect}
    {Q : α → sProp 𝕄} (hk : ∀ v, (0 < yb b c → v = given m ρ b h (Y c) c) → Runs c (Core m ρ K c i n) (k v) Q) :
    Runs c (Core m ρ K c i n) (Prog.lift (.load a (Rect.unit (s := S2x4x256x256) off S1x1x256x256.size inb).toLoadRect hl) >>= k) Q :=
  .thus ⟨ldSum m ρ K b h ha ho hv⟩ hk

end Loads

section Own
variable (h : Fin 2) (i : ℕ)

/-- The finished piece is stored. -/
theorem owStoreK (hn : ops[n]? = some (.ow h)) (hv : cnt n (.ow h) = 0) {off : Fin 2 → ℕ} (ho : off = ![0, 2048 * (X c).val + 512 * (Z c).val + 256 * h.val]) {inb inb'}
    {w : Vec F S256x256 .f32} (hw : w = piece m ρ c h) {hl : oM.view.LoadsAt (Rect.unit (s := S256x4096) off S256x256.size inb').toLoadRect}
    {hx : (oM.access (Rect.unit (s := S256x4096) off S256x256.size inb)).Stores Finset.univ} {hm}
    {Q : α → sProp 𝕄} (hk : Runs c (Core m ρ K c i (n + 1)) k Q) :
    Runs c (Core m ρ K c i n) (Prog.lift (.load oM (Rect.unit (s := S256x4096) off S256x256.size inb').toLoadRect hl) >>= fun _ =>
      Prog.lift (.store oM (Rect.unit (s := S256x4096) off S256x256.size inb) w Finset.univ hx hm) >>= fun _ => k) Q :=
  .thus (φ := fun _ => True) ⟨peek m ρ K hv (owLoad m ρ K i ho)⟩ fun _ _ => .then ⟨step m ρ K hn hv (owStore m ρ K i ho hw)⟩ hk

/-- It is sent across. -/
theorem owCrossK (hn : ops[n]? = some (.ow h)) (hv : cnt n (.ow h) = 1) (hr : rest c i = some (.xr h (Z c)) :: rest c (i + 1))
    {d : Dev nD} (hd : d = xo c) {src dst : Memref sig .tc .vmem S256x256 .f32} (hs : src = pcM (X c) (Z c) h) (ht : dst = pcM (X c) (Z c) h)
    {sS sem : SemLoc sig} (hsS : sS = loc (.os h 2)) (hsem : sem = loc (.xr h (Z c)))
    {hsc : (dst : Memref sig (Dev.tc d : Thread nD τ).2.kind .vmem S256x256 .f32).view.ref.isScScratch = false}
    {hsrc : src.view.WordExact} {hdst : dst.view.WordExact}
    {hty : DmaTarget.Typed .vmem sem (.remote (Dev.tc d : Thread nD τ) (dst : Memref sig (Dev.tc d : Thread nD τ).2.kind .vmem S256x256 .f32) sS hsc)}
    {Q : α → sProp 𝕄} (hk : Runs c (Core m ρ K c (i + 1) (n + 1)) k Q) :
    Runs c (Core m ρ K c i n) (Prog.lift (.enqueueDma src (.remote (Dev.tc d : Thread nD τ) (dst : Memref sig (Dev.tc d : Thread nD τ).2.kind .vmem S256x256 .f32) sS hsc) sem hsrc hdst hty) >>= fun _ => k) Q :=
  .then ⟨step m ρ K hn hv (own_x m ρ K (b := 0) (d := 0) (pcSend' m ρ K (route_ox m ρ c h) i rfl rfl hr hd hs ht hsS hsem) rfl rfl)⟩ hk

/-- It is sent down. -/
theorem owDownK (hn : ops[n]? = some (.ow h)) (hv : cnt n (.ow h) = 2) (hr : rest c i = pg (act c (.os h 0)) (.zc true h (Z c)) :: rest c (i + 1))
    (hC : C ↔ act c (.os h 0) = true)
    {d : C → Dev nD} (hd : ∀ hc, d hc = tgt (.zc true h (Z c)) c) {src dst : C → Memref sig .tc .vmem S256x256 .f32} (hs : ∀ hc, src hc = pcM (X c) (Z c) h) (ht : ∀ hc, dst hc = pcM (X c) (Z c) h)
    {sS sem : C → SemLoc sig} (hsS : ∀ hc, sS hc = loc (.os h 0)) (hsem : ∀ hc, sem hc = loc (.zc true h (Z c)))
    {hsc : ∀ hc, (dst hc : Memref sig (Dev.tc (d hc) : Thread nD τ).2.kind .vmem S256x256 .f32).view.ref.isScScratch = false}
    {hsrc : ∀ hc, (src hc).view.WordExact} {hdst : ∀ hc, (dst hc).view.WordExact}
    {hty : ∀ hc, DmaTarget.Typed .vmem (sem hc) (.remote (Dev.tc (d hc) : Thread nD τ) (dst hc : Memref sig (Dev.tc (d hc) : Thread nD τ).2.kind .vmem S256x256 .f32) (sS hc) (hsc hc))}
    {Q : α → sProp 𝕄} (hk : Runs c (Core m ρ K c (i + 1) (n + 1)) k Q) :
    Runs c (Core m ρ K c i n) (if hc : C then (Prog.lift (.enqueueDma (src hc) (.remote (Dev.tc (d hc) : Thread nD τ) (dst hc : Memref sig (Dev.tc (d hc) : Thread nD τ).2.kind .vmem S256x256 .f32) (sS hc) (hsc hc)) (sem hc) (hsrc hc) (hdst hc) (hty hc))
          >>= fun _ => k) else k) Q :=
  ⟨jump (step m ρ K hn hv (own_d m ρ K (a := 1) (d := 0) (pcSend m ρ K (route_ez m ρ c true h (Z c) (.os h 0) shD rfl rfl) i hC (os_down c h) hr hd hs ht hsS hsem) rfl rfl)) hk.out fun _ => rfl⟩

/-- It is sent up. -/
theorem owUpK (hn : ops[n]? = some (.ow h)) (hv : cnt n (.ow h) = 3) (hr : rest c i = pg (act c (.os h 1)) (.zc false h (Z c)) :: rest c (i + 1))
    (hC : C ↔ act c (.os h 1) = true)
    {d : C → Dev nD} (hd : ∀ hc, d hc = tgt (.zc false h (Z c)) c) {src dst : C → Memref sig .tc .vmem S256x256 .f32} (hs : ∀ hc, src hc = pcM (X c) (Z c) h) (ht : ∀ hc, dst hc = pcM (X c) (Z c) h)
    {sS sem : C → SemLoc sig} (hsS : ∀ hc, sS hc = loc (.os h 1)) (hsem : ∀ hc, sem hc = loc (.zc false h (Z c)))
    {hsc : ∀ hc, (dst hc : Memref sig (Dev.tc (d hc) : Thread nD τ).2.kind .vmem S256x256 .f32).view.ref.isScScratch = false}
    {hsrc : ∀ hc, (src hc).view.WordExact} {hdst : ∀ hc, (dst hc).view.WordExact}
    {hty : ∀ hc, DmaTarget.Typed .vmem (sem hc) (.remote (Dev.tc (d hc) : Thread nD τ) (dst hc : Memref sig (Dev.tc (d hc) : Thread nD τ).2.kind .vmem S256x256 .f32) (sS hc) (hsc hc))}
    {Q : α → sProp 𝕄} (hk : Runs c (Core m ρ K c (i + 1) (n + 1)) k Q) :
    Runs c (Core m ρ K c i n) (if hc : C then (Prog.lift (.enqueueDma (src hc) (.remote (Dev.tc (d hc) : Thread nD τ) (dst hc : Memref sig (Dev.tc (d hc) : Thread nD τ).2.kind .vmem S256x256 .f32) (sS hc) (hsc hc)) (sem hc) (hsrc hc) (hdst hc) (hty hc))
          >>= fun _ => k) else k) Q :=
  ⟨jump (step m ρ K hn hv (own_u m ρ K (a := 1) (b := 1) (pcSend m ρ K (route_ez m ρ c false h (Z c) (.os h 1) shU rfl rfl) i hC (os_up c h) hr hd hs ht hsS hsem) rfl rfl)) hk.out fun _ => rfl⟩

/-- Its send is waited for. -/
theorem owBackDK (hn : ops[n]? = some (.ow h)) (hv : cnt n (.ow h) = 4) (hC : C ↔ act c (.os h 0) = true) (hok : act c (.os h 0) = true → okWait c (loc (.os h 0)) i = true)
    {sem : C → DmaSem sig} (hsem : ∀ hc, SemLoc.dma (sem hc) = loc (.os h 0))
    {src dst : C → Memref sig .tc .vmem S256x256 .f32} (hd : ∀ hc, dst hc = pcM (X c) (Z c) h) {hsrc : ∀ hc, (src hc).view.WordExact} {hdst : ∀ hc, (dst hc).view.WordExact}
    {Q : α → sProp 𝕄} (hk : Runs c (Core m ρ K c i (n + 1)) k Q) :
    Runs c (Core m ρ K c i n) (if hc : C then (Prog.lift (.waitDma2 (sem hc) (src hc) (dst hc) (hsrc hc) (hdst hc)) >>= fun _ => k) else k) Q :=
  ⟨jump (step m ρ K hn hv (own_d m ρ K (a := 1) (d := 1) (pcWait m ρ K i rfl hC hok hsem hd) rfl rfl)) hk.out fun _ => rfl⟩

/-- Its send is waited for. -/
theorem owBackUK (hn : ops[n]? = some (.ow h)) (hv : cnt n (.ow h) = 5) (hC : C ↔ act c (.os h 1) = true) (hok : act c (.os h 1) = true → okWait c (loc (.os h 1)) i = true)
    {sem : C → DmaSem sig} (hsem : ∀ hc, SemLoc.dma (sem hc) = loc (.os h 1))
    {src dst : C → Memref sig .tc .vmem S256x256 .f32} (hd : ∀ hc, dst hc = pcM (X c) (Z c) h) {hsrc : ∀ hc, (src hc).view.WordExact} {hdst : ∀ hc, (dst hc).view.WordExact}
    {Q : α → sProp 𝕄} (hk : Runs c (Core m ρ K c i (n + 1)) k Q) :
    Runs c (Core m ρ K c i n) (if hc : C then (Prog.lift (.waitDma2 (sem hc) (src hc) (dst hc) (hsrc hc) (hdst hc)) >>= fun _ => k) else k) Q :=
  ⟨jump (step m ρ K hn hv (own_u m ρ K (a := 1) (b := 2) (pcWait m ρ K i rfl hC hok hsem hd) rfl rfl)) hk.out fun _ => rfl⟩

/-- Its send across is waited for. -/
theorem owBackXK (hn : ops[n]? = some (.ow h)) (hv : cnt n (.ow h) = 6) (hok : okWait c (loc (.os h 2)) i = true)
    {sem : DmaSem sig} (hsem : SemLoc.dma sem = loc (.os h 2))
    {src dst : Memref sig .tc .vmem S256x256 .f32} (hd : dst = pcM (X c) (Z c) h) {hsrc : src.view.WordExact} {hdst : dst.view.WordExact}
    {Q : α → sProp 𝕄} (hk : Runs c (Core m ρ K c i (n + 1)) k Q) :
    Runs c (Core m ρ K c i n) (Prog.lift (.waitDma2 sem src dst hsrc hdst) >>= fun _ => k) Q :=
  .then ⟨step m ρ K hn hv (own_x m ρ K (b := 2) (d := 2) (pcWait' m ρ K i rfl rfl hok hsem hd) rfl rfl)⟩ hk

/-- A piece from across is waited for. -/
theorem xpWaitK (j : Fin 4) (hn : ops[n]? = some (.xp h j)) (hv : cnt n (.xp h j) = 0) (hok : okWait c (loc (.xr h j)) i = true)
    {sem : DmaSem sig} (hsem : SemLoc.dma sem = loc (.xr h j))
    {src dst : Memref sig .tc .vmem S256x256 .f32} (hd : dst = pcM (1 - X c) j h) {hsrc : src.view.WordExact} {hdst : dst.view.WordExact}
    {Q : α → sProp 𝕄} (hk : Runs c (Core m ρ K c i (n + 1)) k Q) :
    Runs c (Core m ρ K c i n) (Prog.lift (.waitDma2 sem src dst hsrc hdst) >>= fun _ => k) Q :=
  .then ⟨step m ρ K hn hv (xpWait m ρ K i j hok hsem hd)⟩ hk

end Own

section Relay
variable (b : Bool) (h : Fin 2) (l : Fin 3) (i : ℕ)

/-- The landing of a piece is waited for. -/
theorem rlWaitK (hn : ops[n]? = some (.rl b h l)) (hv : cnt n (.rl b h l) = 0) (hC : C ↔ jin b c l.succ = true) (hok : jin b c l.succ = true → okWait c (loc (.zc b h (jn b c l.succ))) i = true)
    {sem : C → DmaSem sig} (hsem : ∀ hc, SemLoc.dma (sem hc) = loc (.zc b h (jn b c l.succ)))
    {src dst : C → Memref sig .tc .vmem S256x256 .f32} (hd : ∀ hc, dst hc = pcM (X c) (jn b c l.succ) h)
    {hsrc : ∀ hc, (src hc).view.WordExact} {hdst : ∀ hc, (dst hc).view.WordExact}
    {Q : α → sProp 𝕄} (hk : Runs c (Core m ρ K c i (n + 1)) k Q) :
    Runs c (Core m ρ K c i n) (if hc : C then (Prog.lift (.waitDma2 (sem hc) (src hc) (dst hc) (hsrc hc) (hdst hc)) >>= fun _ => k) else k) Q :=
  ⟨jump (step m ρ K hn hv (rlWait m ρ K i hC hok hsem hd)) hk.out fun _ => rfl⟩

/-- Its send along the third axis is waited for. -/
theorem rlBack0K (hn : ops[n]? = some (.rl b h l)) (hv : cnt n (.rl b h l) = 3) (hC : C ↔ (jin b c l.succ && jfw b c) = true) (hok : act c (.es h (jn b c l.succ) 0) = true → okWait c (loc (.es h (jn b c l.succ) 0)) i = true)
    {sem : C → DmaSem sig} (hsem : ∀ hc, SemLoc.dma (sem hc) = loc (.es h (jn b c l.succ) 0))
    {src dst : C → Memref sig .tc .vmem S256x256 .f32} (hd : ∀ hc, dst hc = pcM (X c) (jn b c l.succ) h)
    {hsrc : ∀ hc, (src hc).view.WordExact} {hdst : ∀ hc, (dst hc).view.WordExact}
    {Q : α → sProp 𝕄} (hk : Runs c (Core m ρ K c i (n + 1)) k Q) :
    Runs c (Core m ρ K c i n) (if hc : C then (Prog.lift (.waitDma2 (sem hc) (src hc) (dst hc) (hsrc hc) (hdst hc)) >>= fun _ => k) else k) Q :=
  ⟨jump (step m ρ K hn hv (rlBack0 m ρ K i hC hok hsem hd)) hk.out fun _ => rfl⟩

/-- Its send across is waited for. -/
theorem rlBack1K (hn : ops[n]? = some (.rl b h l)) (hv : cnt n (.rl b h l) = 4) (hC : C ↔ jin b c l.succ = true) (hok : act c (.es h (jn b c l.succ) 1) = true → okWait c (loc (.es h (jn b c l.succ) 1)) i = true)
    {sem : C → DmaSem sig} (hsem : ∀ hc, SemLoc.dma (sem hc) = loc (.es h (jn b c l.succ) 1))
    {src dst : C → Memref sig .tc .vmem S256x256 .f32} (hd : ∀ hc, dst hc = pcM (X c) (jn b c l.succ) h)
    {hsrc : ∀ hc, (src hc).view.WordExact} {hdst : ∀ hc, (dst hc).view.WordExact}
    {Q : α → sProp 𝕄} (hk : Runs c (Core m ρ K c i (n + 1)) k Q) :
    Runs c (Core m ρ K c i n) (if hc : C then (Prog.lift (.waitDma2 (sem hc) (src hc) (dst hc) (hsrc hc) (hdst hc)) >>= fun _ => k) else k) Q :=
  ⟨jump (step m ρ K hn hv (rlBack1 m ρ K i hC hok hsem hd)) hk.out fun _ => rfl⟩

/-- It is passed on along the third axis. -/
theorem rlPassK (hn : ops[n]? = some (.rl b h l)) (hv : cnt n (.rl b h l) = 1) (hr : rest c i = pg (jin b c l.succ && jfw b c) (.zc b h (jn b c l.succ)) :: rest c (i + 1)) (hC : C ↔ (jin b c l.succ && jfw b c) = true)
    {d : C → Dev nD} (hd : ∀ hc, d hc = tgt (.zc b h (jn b c l.succ)) c) {src dst : C → Memref sig .tc .vmem S256x256 .f32}
    (hs : ∀ hc, src hc = pcM (X c) (jn b c l.succ) h) (ht : ∀ hc, dst hc = pcM (X c) (jn b c l.succ) h)
    {sS sem : C → SemLoc sig} (hsS : ∀ hc, sS hc = loc (.es h (jn b c l.succ) 0)) (hsem : ∀ hc, sem hc = loc (.zc b h (jn b c l.succ)))
    {hsc : ∀ hc, (dst hc : Memref sig (Dev.tc (d hc) : Thread nD τ).2.kind .vmem S256x256 .f32).view.ref.isScScratch = false}
    {hsrc : ∀ hc, (src hc).view.WordExact} {hdst : ∀ hc, (dst hc).view.WordExact}
    {hty : ∀ hc, DmaTarget.Typed .vmem (sem hc) (.remote (Dev.tc (d hc) : Thread nD τ) (dst hc : Memref sig (Dev.tc (d hc) : Thread nD τ).2.kind .vmem S256x256 .f32) (sS hc) (hsc hc))}
    {Q : α → sProp 𝕄} (hk : Runs c (Core m ρ K c (i + 1) (n + 1)) k Q) :
    Runs c (Core m ρ K c i n) (if hc : C then (Prog.lift (.enqueueDma (src hc) (.remote (Dev.tc (d hc) : Thread nD τ) (dst hc : Memref sig (Dev.tc (d hc) : Thread nD τ).2.kind .vmem S256x256 .f32) (sS hc) (hsc hc)) (sem hc) (hsrc hc) (hdst hc) (hty hc))
          >>= fun _ => k) else k) Q :=
  ⟨jump (step m ρ K hn hv (rlPass m ρ K i hC hr hd hs ht hsS hsem)) hk.out fun _ => rfl⟩

/-- It is sent across. -/
theorem rlCrossK (hn : ops[n]? = some (.rl b h l)) (hv : cnt n (.rl b h l) = 2) (hr : rest c i = pg (jin b c l.succ) (.xr h (jn b c l.succ)) :: rest c (i + 1)) (hC : C ↔ jin b c l.succ = true)
    {d : C → Dev nD} (hd : ∀ hc, d hc = xo c) {src dst : C → Memref sig .tc .vmem S256x256 .f32}
    (hs : ∀ hc, src hc = pcM (X c) (jn b c l.succ) h) (ht : ∀ hc, dst hc = pcM (X c) (jn b c l.succ) h)
    {sS sem : C → SemLoc sig} (hsS : ∀ hc, sS hc = loc (.es h (jn b c l.succ) 1)) (hsem : ∀ hc, sem hc = loc (.xr h (jn b c l.succ)))
    {hsc : ∀ hc, (dst hc : Memref sig (Dev.tc (d hc) : Thread nD τ).2.kind .vmem S256x256 .f32).view.ref.isScScratch = false}
    {hsrc : ∀ hc, (src hc).view.WordExact} {hdst : ∀ hc, (dst hc).view.WordExact}
    {hty : ∀ hc, DmaTarget.Typed .vmem (sem hc) (.remote (Dev.tc (d hc) : Thread nD τ) (dst hc : Memref sig (Dev.tc (d hc) : Thread nD τ).2.kind .vmem S256x256 .f32) (sS hc) (hsc hc))}
    {Q : α → sProp 𝕄} (hk : Runs c (Core m ρ K c (i + 1) (n + 1)) k Q) :
    Runs c (Core m ρ K c i n) (if hc : C then (Prog.lift (.enqueueDma (src hc) (.remote (Dev.tc (d hc) : Thread nD τ) (dst hc : Memref sig (Dev.tc (d hc) : Thread nD τ).2.kind .vmem S256x256 .f32) (sS hc) (hsc hc)) (sem hc) (hsrc hc) (hdst hc) (hty hc))
          >>= fun _ => k) else k) Q :=
  ⟨jump (step m ρ K hn hv (rlCross m ρ K i hC hr hd hs ht hsS hsem)) hk.out fun _ => rfl⟩

end Relay

end Next

end Cert.KernelIdeal.Relay

end
-- ==== Proof.Deal.lean ====
module

public import proofs.«01_k».proof.Proof.Steps2

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {M : Type} [URA M]

/-! ## Families over the keys, the semaphores and the parts -/

/-- The keys as a sum of products. -/
abbrev KeyS : Type := Fin 5 ⊕ (Bool × Fin 2 × Fin 4) ⊕ (Bool × Fin 2 × Fin 4) ⊕ (Bool × Fin 2 × Fin 4) ⊕ (Fin 2 × Fin 4) ⊕ (Fin 2 × Fin 3) ⊕ (Fin 2 × Fin 4 × Fin 2)
/-- The keys, kind by kind. -/
def keyOf : KeyS → Key
  | .inl d => .bar d
  | .inr (.inl (b, h, q)) => .rc b h q
  | .inr (.inr (.inl (b, h, q))) => .sd b h q
  | .inr (.inr (.inr (.inl (b, h, j)))) => .zc b h j
  | .inr (.inr (.inr (.inr (.inl (h, j))))) => .xr h j
  | .inr (.inr (.inr (.inr (.inr (.inl (h, k)))))) => .os h k
  | .inr (.inr (.inr (.inr (.inr (.inr (h, j, k)))))) => .es h j k
/-- A key in that sum. -/
def keyTo : Key → KeyS
  | .bar d => .inl d
  | .rc b h q => .inr (.inl (b, h, q))
  | .sd b h q => .inr (.inr (.inl (b, h, q)))
  | .zc b h j => .inr (.inr (.inr (.inl (b, h, j))))
  | .xr h j => .inr (.inr (.inr (.inr (.inl (h, j)))))
  | .os h k => .inr (.inr (.inr (.inr (.inr (.inl (h, k))))))
  | .es h j k => .inr (.inr (.inr (.inr (.inr (.inr (h, j, k))))))
/-- Keys and that sum are one. -/
def keyEquiv : KeyS ≃ Key := ⟨keyOf, keyTo, fun s => by rcases s with d | p | p | p | p | p | p <;> rfl, fun k => by cases k <;> rfl⟩

/-- A family over the keys, kind by kind. -/
theorem bigSep_key (Φ : Key → sProp M) : bigSep Finset.univ Φ = iprop((bigSep Finset.univ fun d => Φ (.bar d))
    ∗ (bigSep Finset.univ fun p : Bool × Fin 2 × Fin 4 => Φ (.rc p.1 p.2.1 p.2.2))
    ∗ (bigSep Finset.univ fun p : Bool × Fin 2 × Fin 4 => Φ (.sd p.1 p.2.1 p.2.2))
    ∗ (bigSep Finset.univ fun p : Bool × Fin 2 × Fin 4 => Φ (.zc p.1 p.2.1 p.2.2))
    ∗ (bigSep Finset.univ fun p : Fin 2 × Fin 4 => Φ (.xr p.1 p.2))
    ∗ (bigSep Finset.univ fun p : Fin 2 × Fin 3 => Φ (.os p.1 p.2))
    ∗ (bigSep Finset.univ fun p : Fin 2 × Fin 4 × Fin 2 => Φ (.es p.1 p.2.1 p.2.2))) := by
  rw [bigSep_univ_equiv keyEquiv, bigSep_univ_sum, bigSep_univ_sum, bigSep_univ_sum, bigSep_univ_sum, bigSep_univ_sum, bigSep_univ_sum]
  rfl

/-- The cells of a device as a sum of products. -/
abbrev CiS : Type := Unit ⊕ (Bool × Fin 2 × Fin 4) ⊕ (Bool × Fin 2 × Fin 4) ⊕ (Fin 2 × Fin 4) ⊕ (Fin 2 × Fin 4) ⊕ (Fin 2 × Fin 3) ⊕ (Fin 2 × Fin 4 × Fin 2)
/-- A cell from that sum. -/
def ciOf : CiS → Ci
  | .inl _ => ci (.bar 0)
  | .inr (.inl (b, h, q)) => ci (.rc b h q)
  | .inr (.inr (.inl (b, h, q))) => ci (.sd b h q)
  | .inr (.inr (.inr (.inl (h, j)))) => ci (.zc false h j)
  | .inr (.inr (.inr (.inr (.inl (h, j))))) => ci (.xr h j)
  | .inr (.inr (.inr (.inr (.inr (.inl (h, k)))))) => ci (.os h k)
  | .inr (.inr (.inr (.inr (.inr (.inr (h, j, k)))))) => ci (.es h j k)
/-- Every cell once. -/
theorem ciOf_bij : Function.Bijective ciOf := by decide +kernel
/-- Cells and that sum are one. -/
def ciEquiv : CiS ≃ Ci := Equiv.ofBijective ciOf ciOf_bij

/-- A family over a device's semaphores, kind by kind. -/
theorem bigSep_ci (Φ : Ci → sProp M) : bigSep Finset.univ Φ = iprop(Φ (ci (.bar 0))
    ∗ (bigSep Finset.univ fun p : Bool × Fin 2 × Fin 4 => Φ (ci (.rc p.1 p.2.1 p.2.2)))
    ∗ (bigSep Finset.univ fun p : Bool × Fin 2 × Fin 4 => Φ (ci (.sd p.1 p.2.1 p.2.2)))
    ∗ (bigSep Finset.univ fun p : Fin 2 × Fin 4 => Φ (ci (.zc false p.1 p.2)))
    ∗ (bigSep Finset.univ fun p : Fin 2 × Fin 4 => Φ (ci (.xr p.1 p.2)))
    ∗ (bigSep Finset.univ fun p : Fin 2 × Fin 3 => Φ (ci (.os p.1 p.2)))
    ∗ (bigSep Finset.univ fun p : Fin 2 × Fin 4 × Fin 2 => Φ (ci (.es p.1 p.2.1 p.2.2)))) := by
  rw [bigSep_univ_equiv ciEquiv, bigSep_univ_sum, bigSep_univ_sum, bigSep_univ_sum, bigSep_univ_sum, bigSep_univ_sum, bigSep_univ_sum,
    Finset.univ_unique, bigSep_singleton]
  rfl

/-- The parts of the state as a sum of products. -/
abbrev SlotS : Type := (Bool × Fin 2 × Fin 4) ⊕ Fin 2 ⊕ (Fin 2 × Bool × Fin 3) ⊕ (Fin 2 × Fin 4)
/-- A part from that sum. -/
def slotOf : SlotS → Slot
  | .inl (b, h, q) => .ch b h q
  | .inr (.inl h) => .ow h
  | .inr (.inr (.inl (h, b, n))) => .rl b h n
  | .inr (.inr (.inr (h, j))) => .xp h j
/-- A part in that sum. -/
def slotTo : Slot → SlotS
  | .ch b h q => .inl (b, h, q)
  | .ow h => .inr (.inl h)
  | .rl b h n => .inr (.inr (.inl (h, b, n)))
  | .xp h j => .inr (.inr (.inr (h, j)))
/-- Parts and that sum are one. -/
def slotEquiv : SlotS ≃ Slot := ⟨slotOf, slotTo, fun s => by rcases s with p | p | p | p <;> rfl, fun k => by cases k <;> rfl⟩

/-- A family over the parts of a device's state, kind by kind. -/
theorem bigSep_slot (Φ : Slot → sProp M) : bigSep Finset.univ Φ = iprop((bigSep Finset.univ fun p : Bool × Fin 2 × Fin 4 => Φ (.ch p.1 p.2.1 p.2.2))
    ∗ (bigSep Finset.univ fun h => Φ (.ow h))
    ∗ (bigSep Finset.univ fun h => bigSep Finset.univ fun p : Bool × Fin 3 => Φ (.rl p.1 h p.2))
    ∗ (bigSep Finset.univ fun p : Fin 2 × Fin 4 => Φ (.xp p.1 p.2))) := by
  rw [bigSep_univ_equiv slotEquiv, bigSep_univ_sum, bigSep_univ_sum, bigSep_univ_sum,
    bigSep_univ_prod (fun p : Fin 2 × Bool × Fin 3 => Φ (slotEquiv (.inr (.inr (.inl p)))))]
  rfl

/-- Nothing beside an assertion adds nothing. -/
theorem sep_no (P : sProp M) : iprop(P ∗ emp) = P := equiv_iff.mp BI.sep_emp
/-- The same from the left. -/
theorem no_sep (P : sProp M) : iprop(emp ∗ P) = P := equiv_iff.mp BI.emp_sep
/-- A family of nothings is nothing. -/
theorem bigSep_no {I : Type} (s : Finset I) : bigSep s (fun _ => (iprop(emp) : sProp M)) = iprop(emp) := bigSep_emp_const s
/-- A family with one member that counts. -/
theorem bigSep_only {I : Type} [Fintype I] [DecidableEq I] (i : I) (Φ : I → sProp M) :
    bigSep Finset.univ (fun j => if j = i then Φ j else iprop(emp)) = Φ i := by
  rw [bigSep_univ_at _ i, if_pos rfl, bigSep_congr (Ψ := fun _ => iprop(emp)) (fun j hj => if_neg (Finset.ne_of_mem_erase hj)), bigSep_no, sep_no]

/-! ## The third axis, from a device's place -/

/-- A family over the third axis: a device's own place, and the places below and above. -/
theorem bigSep_z (c : Dev nD) (Φ : Fin 4 → sProp M) : bigSep Finset.univ Φ
    = iprop(Φ (Z c) ∗ bigSep Finset.univ fun p : Bool × Fin 3 => if jin p.1 c p.2.succ = true then Φ (jn p.1 c p.2.succ) else iprop(emp)) := by
  have e : (Finset.univ.erase (Z c)) = (Finset.univ.filter fun p : Bool × Fin 3 => jin p.1 c p.2.succ = true).image fun p => jn p.1 c p.2.succ := by
    revert c; decide +kernel
  have inj : Set.InjOn (fun p : Bool × Fin 3 => jn p.1 c p.2.succ) (Finset.univ.filter fun p : Bool × Fin 3 => jin p.1 c p.2.succ = true : Finset (Bool × Fin 3)) := by
    have : ∀ p q : Bool × Fin 3, jin p.1 c p.2.succ = true → jin q.1 c q.2.succ = true → jn p.1 c p.2.succ = jn q.1 c q.2.succ → p = q := by
      revert c; decide +kernel
    intro p hp q hq h
    exact this p q (Finset.mem_filter.mp hp).2 (Finset.mem_filter.mp hq).2 h
  rw [bigSep_univ_at Φ (Z c), e, BI.bigSep_image_of_injOn inj, bigSep_filter]
  rfl

/-- Handing each of the third axis's places to where a transfer for it comes from. -/
theorem bigSep_z_act (c : Dev nD) (h : Fin 2) (Φ : Fin 4 → sProp M) : bigSep Finset.univ Φ
    = iprop(Φ (Z c) ∗ (bigSep Finset.univ fun j => if act c (.zc false h j) = true then Φ j else iprop(emp))
      ∗ bigSep Finset.univ fun j => if act c (.zc true h j) = true then Φ j else iprop(emp)) := by
  rw [← bigSep_sep']
  rw [show iprop(Φ (Z c)) = bigSep Finset.univ (fun j => if j = Z c then Φ j else iprop(emp)) from by
    rw [bigSep_only]]
  rw [← bigSep_sep']
  refine bigSep_congr fun j _ => ?_
  have h3 : ∀ j, (j = Z c ∧ act c (.zc false h j) = false ∧ act c (.zc true h j) = false) ∨ (j ≠ Z c ∧ act c (.zc false h j) = true ∧ act c (.zc true h j) = false)
      ∨ (j ≠ Z c ∧ act c (.zc false h j) = false ∧ act c (.zc true h j) = true) := by revert c h; decide +kernel
  rcases h3 j with ⟨h1, h2, h3⟩ | ⟨h1, h2, h3⟩ | ⟨h1, h2, h3⟩
  · rw [if_pos h1, h2, h3]; simp [sep_no, no_sep]
  · rw [if_neg h1, h2, h3]; simp [sep_no, no_sep]
  · rw [if_neg h1, h2, h3]; simp [sep_no, no_sep]

/-- A family over the first axis, from a device's place. -/
theorem bigSep_x (c : Dev nD) (Φ : Fin 2 → sProp M) : bigSep Finset.univ Φ = iprop(Φ (X c) ∗ Φ (1 - X c)) := by
  have e : (Finset.univ : Finset (Fin 2)).erase (X c) = {1 - X c} := by revert c; decide +kernel
  rw [bigSep_univ_at Φ (X c), e, bigSep_singleton]

/-- Summing a family by the direction of its keys. -/
theorem bigSep_dirs (P : Key → Bool) (Φ : Key → sProp M) :
    (bigSep Finset.univ fun d : Fin 5 => bigSep Finset.univ fun k : Key => if dirOf k = some d ∧ P k = true then Φ k else iprop(emp))
      = bigSep Finset.univ fun k : Key => if (P k && (dirOf k).isSome) = true then Φ k else iprop(emp) := by
  rw [bigSep_univ_comm]
  refine bigSep_congr fun k _ => ?_
  cases hd : dirOf k with
  | none => simp [bigSep_no]
  | some d₀ =>
    cases hP : P k with
    | false => simp [bigSep_no]
    | true =>
      rw [if_pos (by simp), bigSep_congr (Ψ := fun d => if d = d₀ then (fun _ => Φ k) d else iprop(emp)) (fun d _ => if_congr ⟨fun h => (Option.some.inj h.1).symm, fun h => ⟨h ▸ rfl, rfl⟩⟩ rfl rfl),
        bigSep_only]

/-! ## Dealing a family along a list -/

/-- A family along a list. -/
def along (Φ : Key → sProp M) : List (Option Key) → sProp M
  | [] => iprop(emp)
  | none :: l => along Φ l
  | some k :: l => iprop(Φ k ∗ along Φ l)

/-- A family that holds each of a list's keys deals them out along it. -/
theorem deal (Φ : Key → sProp M) : ∀ (l : List (Option Key)) (P : Key → Bool) (h : ∀ k, l.count (some k) ≤ if P k = true then 1 else 0),
    (bigSep Finset.univ fun k => if P k = true then Φ k else iprop(emp)) ⊢ along Φ l
  | [], P, h => by unfold along; iintro -; iempintro
  | none :: l, P, h => deal Φ l P fun k => by simpa using h k
  | some k :: l, P, h => by
    have hk : P k = true := by
      by_contra hn
      have := h k
      rw [if_neg hn, List.count_cons_self] at this; omega
    rw [bigSep_univ_at _ k, if_pos hk]
    have e : (bigSep (Finset.univ.erase k) fun k => if P k = true then Φ k else iprop(emp))
        ⊢ bigSep Finset.univ fun k' => if (P k' && k' != k) = true then Φ k' else iprop(emp) := by
      rw [bigSep_univ_at (fun k' => if (P k' && k' != k) = true then Φ k' else iprop(emp)) k, if_neg (by simp),
        bigSep_congr (s := Finset.univ.erase k) (Φ := fun k' => if (P k' && k' != k) = true then Φ k' else iprop(emp)) (Ψ := fun k => if P k = true then Φ k else iprop(emp))
          (fun k' hk' => by have := Finset.ne_of_mem_erase hk'; simp [this])]
      iintro H
      isplitr; · iempintro
      iexact H
    have ih := deal Φ l (fun k' => P k' && k' != k) (fun k' => by
      have := h k'
      by_cases e : k' = k
      · subst e; rw [List.count_cons_self, if_pos hk] at this; simp; omega
      · rw [List.count_cons_of_ne (by simpa using fun h => e h.symm)] at this
        simpa [e] using this)
    unfold along
    iintro ⟨H1, H2⟩
    isplitl [H1]; · iexact H1
    iapply ih; iapply e; iexact H2

end Cert.KernelIdeal.Relay
-- ==== Proof.Start.lean ====
module

public import proofs.«01_k».proof.Proof.Deal

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Ci → ℕ)

/-! ## What a semaphore is started with -/

/-- The units a device's semaphore is owed by the other devices at the start. -/
def credN (c : Dev nD) (s : SemLoc sig) : ℕ := ∑ k ∈ Finset.univ.filter (fun k : Key => loc k = s ∧ act c k = true ∧ own k = false), amt k
/-- A semaphore's position and what it is owed. -/
def posAt (c : Dev nD) (s : SemLoc sig) : sProp 𝕄 :=
  iprop(atPos ER ((c : Thread nD τ), s) 0 ∅ 0 ∗ cred (tallyAt ((c : Thread nD τ), s) () (credN c s)))

/-- The credit of a cell with one payment from another device is one transfer. -/
theorem credN_one (c : Dev nD) (k : Key) (hb : isBar k = false) (ha : act c k = true) (ho : own k = false) : credN c (loc k) = N := by
  have e : (Finset.univ.filter fun k' : Key => loc k' = loc k ∧ act c k' = true ∧ own k' = false) = {k} := by
    ext k'
    rw [Finset.mem_filter, Finset.mem_singleton]
    exact ⟨fun h => alone c k k' hb ha h.2.2.1 h.2.1, fun h => by subst h; exact ⟨Finset.mem_univ _, rfl, ha, ho⟩⟩
  unfold credN
  rw [e, Finset.sum_singleton, amt_one k hb]

/-- The barrier is not paid by its own device. -/
theorem own_bar (k : Key) (h : loc k = loc (.bar 0)) : own k = false := by
  have h3 := alike_of_loc k (.bar 0) h
  cases k <;> first | rfl | exact absurd h3 (by simp [alike])
/-- The credit of the barrier is the number of neighbours. -/
theorem credN_bar (c : Dev nD) : credN c (loc (.bar 0)) = (Finset.univ.filter fun d : Fin 5 => act c (.bar d) = true).card := by
  have e : (Finset.univ.filter fun k' : Key => loc k' = loc (.bar 0) ∧ act c k' = true ∧ own k' = false)
      = Finset.univ.filter fun k : Key => loc k = loc (.bar 0) ∧ act c k = true :=
    Finset.filter_congr fun k _ => ⟨fun h => ⟨h.1, h.2.1⟩, fun h => ⟨h.1, h.2, own_bar k h.1⟩⟩
  unfold credN
  rw [e, bar_filter, Finset.sum_map, Finset.card_eq_sum_ones]; rfl

/-- Where a key alone on its semaphore is idle, nothing is paid. -/
theorem idle (c : Dev nD) (k : Key) (ha : act c k = false) (hb : isBar k = false) (hz : ∀ b h j, k ≠ .zc b h j) : ∀ k', loc k' = loc k → act c k' = false := by
  intro k' h
  have h3 := alike_of_loc k' k h
  have : k' = k := by
    cases k <;> cases k' <;> simp_all [alike, isBar]
  rw [this]; exact ha
/-- A device's own piece never lands on it. -/
theorem idle_z (c : Dev nD) (h : Fin 2) : ∀ k', loc k' = loc (.zc false h (Z c)) → act c k' = false := by
  intro k' e
  have h3 := alike_of_loc k' _ e
  cases k' <;> simp_all [alike, act]

/-- The start of a cell that another device pays is what a wait on it needs. -/
theorem posAt_pre (c : Dev nD) (k : Key) (hb : isBar k = false) (ha : act c k = true) (ho : own k = false) : posAt (F := F) c (loc k) ⊢ Pre c k := by
  unfold posAt Pre; rw [credN_one c k hb ha ho]
/-- The start of a cell that nobody pays is its closed state. -/
theorem posAt_cl (c : Dev nD) (s : SemLoc sig) (h : ∀ k', loc k' = s → act c k' = false) : posAt (F := F) c s ⊢ Cl m ρ c s := by
  unfold posAt Cl
  iintro ⟨H, -⟩
  iexists 0
  isplitr; · ipureintro; exact duties_none m ρ c _ h
  iexact H
/-- The start of a send's cell with its token is what a send needs. -/
theorem posAt_sp (c : Dev nD) (k : Key) (ha : act c k = true) :
    iprop(posAt (F := F) c (loc k) ∗ (if act c k = true then dutyTok ER (cell c k) 0 k else iprop(emp))) ⊢ SPre c k := by
  unfold posAt SPre; rw [if_pos ha]
  iintro ⟨⟨H, -⟩, Ht⟩
  isplitl [H] <;> iassumption
/-- The same, closed where it never sends. -/
theorem posAt_spre (c : Dev nD) (k : Key) (hb : isBar k = false) (hz : ∀ b h j, k ≠ .zc b h j) :
    iprop(posAt (F := F) c (loc k) ∗ (if act c k = true then dutyTok ER (cell c k) 0 k else iprop(emp))) ⊢ spre m ρ c k := by
  by_cases ha : act c k = true
  · rw [show spre m ρ c k = SPre c k from by unfold spre; exact if_pos ha]; exact posAt_sp c k ha
  · rw [show spre m ρ c k = Cl m ρ c (loc k) from by unfold spre; exact if_neg ha]
    iintro ⟨H, -⟩
    iapply (posAt_cl m ρ c (loc k) (idle c k (by simpa using ha) hb hz)); iexact H

/-! ## The parts at the start -/

/-- The token of a send count that the device pays itself. -/
def otok (c : Dev nD) (k : Key) : sProp 𝕄 := if act c k = true then dutyTok ER (cell c k) 0 k else iprop(emp)

/-- Which keys are active where a chain starts, passes and ends. -/
theorem is_facts : ∀ (b : Bool) (c : Dev nD) (h : Fin 2) (q : Fin 4),
    (isS b c q = true → act c (.rc b h q) = false ∧ act c (.sd b h q) = true ∧ qb b q ≠ 0)
    ∧ (isF b c q = true → act c (.rc b h q) = true ∧ act c (.sd b h q) = true ∧ qb b q ≠ 0)
    ∧ (isT b c q = true → act c (.rc b h q) = true ∧ act c (.sd b h q) = false ∧ qb b q ≠ 0)
    ∧ (isS b c q = false → isF b c q = false → isT b c q = false → act c (.rc b h q) = false ∧ act c (.sd b h q) = false) := by decide +kernel

/-- Before the first operation every part is in its first state. -/
theorem cnt_zero (s : Slot) : cnt 0 s = ini s := rfl

/-- A chain's slot in its first state. -/
theorem ch_start (c : Dev nD) (b : Bool) (h : Fin 2) (q : Fin 4) :
    iprop(posAt (F := F) c (loc (.rc b h q)) ∗ posAt c (loc (.sd b h q)) ∗ otok c (.sd b h q) ∗ (if act c (.rc b h q) = true then iprop(emp) else slotAny c b h q))
      ⊢ A m ρ c (.ch b h q) (cnt 0 (.ch b h q)) := by
  show _ ⊢ chA m ρ c b h q (cnt 0 (.ch b h q))
  obtain ⟨hS, hF, hT, h0⟩ := is_facts b c h q
  have hi : qb b q ≠ 0 → cnt 0 (.ch b h q) = 0 := fun h => by rw [cnt_zero]; exact if_neg h
  unfold chA otok
  by_cases S : isS b c q = true
  · obtain ⟨h1, h2, h3⟩ := hS S
    rw [if_pos S, hi h3, h1, if_neg Bool.false_ne_true]
    show _ ⊢ iprop(Cl m ρ c (loc (.rc b h q)) ∗ slotAny c b h q ∗ SPre c (.sd b h q))
    iintro ⟨H1, H2, H3, H4⟩
    isplitl [H1]; · iapply (posAt_cl m ρ c _ (idle c (.rc b h q) h1 rfl fun _ _ _ => Key.noConfusion)); iexact H1
    isplitl [H4]; · iexact H4
    iapply (posAt_sp c _ h2); isplitl [H2] <;> iassumption
  rw [if_neg S]
  by_cases F' : isF b c q = true
  · obtain ⟨h1, h2, h3⟩ := hF F'
    rw [if_pos F', hi h3]
    show _ ⊢ iprop(Pre c (.rc b h q) ∗ SPre c (.sd b h q))
    iintro ⟨H1, H2, H3, H4⟩
    isplitl [H1]; · iapply (posAt_pre c (.rc b h q) rfl h1 rfl); iexact H1
    iapply (posAt_sp c _ h2); isplitl [H2] <;> iassumption
  rw [if_neg F']
  by_cases T : isT b c q = true
  · obtain ⟨h1, h2, h3⟩ := hT T
    rw [if_pos T, hi h3]
    show _ ⊢ iprop(Pre c (.rc b h q) ∗ Cl m ρ c (loc (.sd b h q)))
    iintro ⟨H1, H2, H3, H4⟩
    isplitl [H1]; · iapply (posAt_pre c (.rc b h q) rfl h1 rfl); iexact H1
    iapply (posAt_cl m ρ c _ (idle c (.sd b h q) h2 rfl fun _ _ _ => Key.noConfusion)); iexact H2
  rw [if_neg T]
  obtain ⟨h1, h2⟩ := h0 (by simpa using S) (by simpa using F') (by simpa using T)
  rw [h1, if_neg Bool.false_ne_true]
  show _ ⊢ iprop(slotAny c b h q ∗ Cl m ρ c (loc (.rc b h q)) ∗ Cl m ρ c (loc (.sd b h q)))
  iintro ⟨H1, H2, H3, H4⟩
  isplitl [H4]; · iexact H4
  isplitl [H1]; · iapply (posAt_cl m ρ c _ (idle c (.rc b h q) h1 rfl fun _ _ _ => Key.noConfusion)); iexact H1
  iapply (posAt_cl m ρ c _ (idle c (.sd b h q) h2 rfl fun _ _ _ => Key.noConfusion)); iexact H2

/-- A family over three. -/
theorem bigSep_three {M : Type} [URA M] (Φ : Fin 3 → sProp M) : bigSep Finset.univ Φ = iprop(Φ 0 ∗ Φ 1 ∗ Φ 2) := bigSep_univ_eq_bigSepL [0, 1, 2] (by decide) (by decide) Φ
/-- A family of two. -/
theorem bigSep_two {M : Type} [URA M] (Φ : Fin 2 → sProp M) : bigSep Finset.univ Φ = iprop(Φ 0 ∗ Φ 1) := bigSep_univ_eq_bigSepL [0, 1] (by decide) (by decide) Φ
/-- A family over a flag. -/
theorem bigSep_bit {M : Type} [URA M] (Φ : Bool → sProp M) : bigSep Finset.univ Φ = iprop(Φ false ∗ Φ true) := bigSep_univ_eq_bigSepL [false, true] (by decide) (by decide) Φ

/-- What the semaphores of a piece at `j` along the third axis are started with. -/
def zAt (c : Dev nD) (h : Fin 2) (j : Fin 4) : sProp 𝕄 :=
  iprop(posAt c (loc (.zc false h j)) ∗ (posAt c (loc (.es h j 0)) ∗ otok c (.es h j 0)) ∗ (posAt c (loc (.es h j 1)) ∗ otok c (.es h j 1)))

/-- The own piece in its first state. -/
theorem ow_start (c : Dev nD) (h : Fin 2) :
    iprop(pcAny c (X c) (Z c) h ∗ (bigSep Finset.univ fun k : Fin 3 => iprop(posAt (F := F) c (loc (.os h k)) ∗ otok c (.os h k))) ∗ zAt c h (Z c))
      ⊢ A m ρ c (.ow h) (cnt 0 (.ow h)) := by
  rw [bigSep_three]
  show _ ⊢ iprop(iprop(pcAny c (X c) (Z c) h ∗ spre m ρ c (.os h 2) ∗ spre m ρ c (.os h 0) ∗ spre m ρ c (.os h 1))
    ∗ Cl m ρ c (loc (.zc false h (Z c))) ∗ Cl m ρ c (loc (.es h (Z c) 0)) ∗ Cl m ρ c (loc (.es h (Z c) 1)))
  unfold zAt
  iintro ⟨Hp, ⟨H0, H1, H2⟩, Hz, ⟨He0, -⟩, ⟨He1, -⟩⟩
  isplitr [Hz He0 He1]
  · isplitl [Hp]; · iexact Hp
    isplitl [H2]; · iapply (posAt_spre m ρ c (.os h 2) rfl fun _ _ _ => Key.noConfusion); iexact H2
    isplitl [H0]; · iapply (posAt_spre m ρ c (.os h 0) rfl fun _ _ _ => Key.noConfusion); iexact H0
    iapply (posAt_spre m ρ c (.os h 1) rfl fun _ _ _ => Key.noConfusion); iexact H1
  · isplitl [Hz]; · iapply (posAt_cl m ρ c _ (idle_z c h)); iexact Hz
    isplitl [He0]
    · iapply (posAt_cl m ρ c _ (idle c (.es h (Z c) 0) (by revert c h; decide +kernel) rfl fun _ _ _ => Key.noConfusion)); iexact He0
    · iapply (posAt_cl m ρ c _ (idle c (.es h (Z c) 1) (by revert c h; decide +kernel) rfl fun _ _ _ => Key.noConfusion)); iexact He1

/-- A piece that comes along the third axis lands. -/
theorem jin_act : ∀ (b : Bool) (c : Dev nD) (h : Fin 2) (n : Fin 3), jin b c n.succ = true → act c (.zc b h (jn b c n.succ)) = true := by decide +kernel

/-- A piece passed on in its first state. -/
theorem rl_start (c : Dev nD) (h : Fin 2) (b : Bool) (n : Fin 3) :
    (if jin b c n.succ = true then zAt (F := F) c h (jn b c n.succ) else iprop(emp)) ⊢ A m ρ c (.rl b h n) (cnt 0 (.rl b h n)) := by
  show _ ⊢ (if jin b c n.succ = true then iprop(Pre c (.zc b h (jn b c n.succ)) ∗ spre m ρ c (.es h (jn b c n.succ) 0) ∗ spre m ρ c (.es h (jn b c n.succ) 1)) else iprop(emp))
  by_cases hj : jin b c n.succ = true
  · rw [if_pos hj, if_pos hj]
    unfold zAt
    iintro ⟨Hz, H0, H1⟩
    isplitl [Hz]; · iapply (posAt_pre c (.zc b h (jn b c n.succ)) rfl (jin_act b c h n hj) rfl); iexact Hz
    isplitl [H0]; · iapply (posAt_spre m ρ c (.es h (jn b c n.succ) 0) rfl fun _ _ _ => Key.noConfusion); iexact H0
    iapply (posAt_spre m ρ c (.es h (jn b c n.succ) 1) rfl fun _ _ _ => Key.noConfusion); iexact H1
  · rw [if_neg hj, if_neg hj]

/-- A landing from across in its first state. -/
theorem xp_start (c : Dev nD) (h : Fin 2) (j : Fin 4) : posAt (F := F) c (loc (.xr h j)) ⊢ A m ρ c (.xp h j) (cnt 0 (.xp h j)) := by
  show _ ⊢ Pre c (.xr h j)
  exact posAt_pre c (.xr h j) rfl rfl rfl

end Cert.KernelIdeal.Relay
-- ==== Proof.Start2.lean ====
module

public import proofs.«01_k».proof.Proof.Start

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Ci → ℕ)

/-! ## What a device starts with -/

/-- Its semaphores. -/
def POS (c : Dev nD) : sProp 𝕄 := bigSep Finset.univ fun i : Ci => posAt c (cl i)
/-- The token of the payment of a key by device `c`. -/
def tok (c : Dev nD) (k : Key) : sProp 𝕄 := dutyTok ER (cell (tgt k c) k) 0 k
/-- The tokens of all its payments. -/
def TOK (c : Dev nD) : sProp 𝕄 := bigSep Finset.univ fun k : Key => if act (tgt k c) k = true then tok c k else iprop(emp)
/-- The slots of the chains' buffers. -/
def SLOTS (c : Dev nD) : sProp 𝕄 := bigSep Finset.univ fun p : Bool × Fin 2 × Fin 4 => slotAny c p.1 p.2.1 p.2.2
/-- The pieces of the result. -/
def PIECES (c : Dev nD) : sProp 𝕄 := bigSep Finset.univ fun p : Fin 2 × Fin 2 × Fin 4 => pcAny c p.1 p.2.2 p.2.1

/-- The tokens of the barrier's signals, and of the transfers that the device owes. -/
def TOKB (c : Dev nD) : sProp 𝕄 := bigSep Finset.univ fun k : Key => if (act (tgt k c) k && isBar k) = true then tok c k else iprop(emp)
/-- The tokens whose places the barrier hands over. -/
def TOKD (c : Dev nD) : sProp 𝕄 := bigSep Finset.univ fun k : Key => if (act (tgt k c) k && (dirOf k).isSome) = true then tok c k else iprop(emp)
/-- The tokens of a device's own sends. -/
def TOKO (c : Dev nD) : sProp 𝕄 := bigSep Finset.univ fun k : Key => if (act (tgt k c) k && own k) = true then tok c k else iprop(emp)

/-- The tokens of a device: the barrier's signals, the transfers, the sends. -/
theorem tok_split (c : Dev nD) : TOK (F := F) c = iprop(TOKB c ∗ TOKD c ∗ TOKO c) := by
  unfold TOK TOKB TOKD TOKO
  rw [← bigSep_sep', ← bigSep_sep']
  refine bigSep_congr fun k _ => ?_
  have h : (isBar k = true ∧ (dirOf k).isSome = false ∧ own k = false) ∨ (isBar k = false ∧ (dirOf k).isSome = true ∧ own k = false)
      ∨ (isBar k = false ∧ (dirOf k).isSome = false ∧ own k = true) := by revert k; decide +kernel
  rcases h with ⟨h1, h2, h3⟩ | ⟨h1, h2, h3⟩ | ⟨h1, h2, h3⟩ <;> rw [h1, h2, h3] <;> simp [sep_no, no_sep]

/-- The tokens of its sends, by kind. -/
theorem toko_split (c : Dev nD) : TOKO (F := F) c ⊢ iprop((bigSep Finset.univ fun p : Bool × Fin 2 × Fin 4 => otok c (.sd p.1 p.2.1 p.2.2))
    ∗ (bigSep Finset.univ fun p : Fin 2 × Fin 3 => otok c (.os p.1 p.2)) ∗ (bigSep Finset.univ fun p : Fin 2 × Fin 4 × Fin 2 => otok c (.es p.1 p.2.1 p.2.2))) := by
  unfold TOKO
  rw [bigSep_key]
  have e : ∀ k : Key, own k = true → tgt k c = c → (if (act (tgt k c) k && own k) = true then tok (F := F) c k else iprop(emp)) = otok c k := fun k h h' => by
    unfold otok tok; rw [h, h', Bool.and_true]
  iintro ⟨-, -, Hs, -, -, Ho, He⟩
  isplitl [Hs]; · iapply (Entails.of_eq (bigSep_congr fun p _ => e (.sd p.1 p.2.1 p.2.2) rfl rfl)); iexact Hs
  isplitl [Ho]; · iapply (Entails.of_eq (bigSep_congr fun p _ => e (.os p.1 p.2) rfl rfl)); iexact Ho
  iapply (Entails.of_eq (bigSep_congr fun p _ => e (.es p.1 p.2.1 p.2.2) rfl rfl)); iexact He

/-- The places that the others write, and those that stay. -/
def GIVE (c : Dev nD) : sProp 𝕄 := bigSep Finset.univ fun k : Key => if (act c k && (dirOf k).isSome) = true then Dst c k else iprop(emp)
/-- What a device keeps of its own places. -/
def KEEP (c : Dev nD) : sProp 𝕄 :=
  iprop((bigSep Finset.univ fun p : Bool × Fin 2 × Fin 4 => if act c (.rc p.1 p.2.1 p.2.2) = true then iprop(emp) else slotAny c p.1 p.2.1 p.2.2)
    ∗ bigSep Finset.univ fun h : Fin 2 => pcAny c (X c) (Z c) h)

/-- The pieces: the own ones, those given away along the third axis, and those given away across. -/
theorem pieces_split (c : Dev nD) : PIECES (F := F) c
    = iprop(((bigSep Finset.univ fun h : Fin 2 => pcAny c (X c) (Z c) h)
      ∗ bigSep Finset.univ fun p : Bool × Fin 2 × Fin 4 => if act c (.zc p.1 p.2.1 p.2.2) = true then pcAny c (X c) p.2.2 p.2.1 else iprop(emp))
      ∗ bigSep Finset.univ fun p : Fin 2 × Fin 4 => pcAny c (1 - X c) p.2 p.1) := by
  unfold PIECES
  rw [bigSep_univ_prod (fun p : Fin 2 × Fin 2 × Fin 4 => pcAny (F := F) c p.1 p.2.2 p.2.1), bigSep_x c,
    bigSep_univ_prod (fun p : Fin 2 × Fin 4 => pcAny (F := F) c (X c) p.2 p.1),
    bigSep_univ_prod (fun p : Bool × Fin 2 × Fin 4 => if act c (.zc p.1 p.2.1 p.2.2) = true then pcAny (F := F) c (X c) p.2.2 p.2.1 else iprop(emp)),
    bigSep_bit,
    bigSep_univ_prod (fun p : Fin 2 × Fin 4 => if act c (.zc false p.1 p.2) = true then pcAny (F := F) c (X c) p.2 p.1 else iprop(emp)),
    bigSep_univ_prod (fun p : Fin 2 × Fin 4 => if act c (.zc true p.1 p.2) = true then pcAny (F := F) c (X c) p.2 p.1 else iprop(emp)),
    ← bigSep_sep', ← bigSep_sep']
  rw [bigSep_congr (s := Finset.univ) fun (h : Fin 2) _ => bigSep_z_act c h fun j => pcAny (F := F) c (X c) j h]

/-- The slots: those given away, where a sum lands, and those kept. -/
theorem slots_split (c : Dev nD) : SLOTS (F := F) c
    = iprop((bigSep Finset.univ fun p : Bool × Fin 2 × Fin 4 => if act c (.rc p.1 p.2.1 p.2.2) = true then slotAny c p.1 p.2.1 p.2.2 else iprop(emp))
      ∗ bigSep Finset.univ fun p : Bool × Fin 2 × Fin 4 => if act c (.rc p.1 p.2.1 p.2.2) = true then iprop(emp) else slotAny c p.1 p.2.1 p.2.2) := by
  unfold SLOTS
  rw [← bigSep_sep']
  refine bigSep_congr fun p _ => ?_
  by_cases h : act c (.rc p.1 p.2.1 p.2.2) = true
  · rw [if_pos h, if_pos h, sep_no]
  · rw [if_neg h, if_neg h, no_sep]

/-- So all places: given away or kept. -/
theorem places_split (c : Dev nD) : iprop(SLOTS (F := F) c ∗ PIECES c) ⊢ iprop(GIVE c ∗ KEEP c) := by
  unfold GIVE KEEP
  rw [slots_split, pieces_split, bigSep_key]
  have e : ∀ k : Key, (dirOf k).isSome = true → (if (act c k && (dirOf k).isSome) = true then Dst (F := F) c k else iprop(emp)) = if act c k = true then Dst c k else iprop(emp) := fun k h => by
    rw [h, Bool.and_true]
  have e' : ∀ k : Key, (dirOf k).isSome = false → (if (act c k && (dirOf k).isSome) = true then Dst (F := F) c k else iprop(emp)) = iprop(emp) := fun k h => by
    rw [h, Bool.and_false, if_neg Bool.false_ne_true]
  rw [bigSep_congr (fun (d : Fin 5) _ => e' (.bar d) rfl), bigSep_congr (fun (p : Bool × Fin 2 × Fin 4) _ => e' (.sd p.1 p.2.1 p.2.2) rfl),
    bigSep_congr (fun (p : Fin 2 × Fin 3) _ => e' (.os p.1 p.2) rfl), bigSep_congr (fun (p : Fin 2 × Fin 4 × Fin 2) _ => e' (.es p.1 p.2.1 p.2.2) rfl),
    bigSep_no, bigSep_no, bigSep_no, bigSep_no,
    bigSep_congr (fun (p : Bool × Fin 2 × Fin 4) _ => e (.rc p.1 p.2.1 p.2.2) (by cases p.1 <;> rfl)),
    bigSep_congr (fun (p : Bool × Fin 2 × Fin 4) _ => e (.zc p.1 p.2.1 p.2.2) (by cases p.1 <;> rfl)),
    bigSep_congr (fun (p : Fin 2 × Fin 4) _ => e (.xr p.1 p.2) rfl)]
  iintro ⟨⟨Ha, Hb⟩, ⟨Hc, Hd⟩, He⟩
  isplitr [Hb Hc]
  · isplitr; · iempintro
    isplitl [Ha]; · iexact Ha
    isplitr; · iempintro
    isplitl [Hd]; · iexact Hd
    isplitl [He]; · iexact He
    isplitr <;> iempintro
  · isplitl [Hb] <;> iassumption

/-- What becomes the parts at the start. -/
def PARTS (c : Dev nD) : sProp 𝕄 :=
  iprop((bigSep Finset.univ fun p : Bool × Fin 2 × Fin 4 => posAt c (loc (.rc p.1 p.2.1 p.2.2)))
    ∗ (bigSep Finset.univ fun p : Bool × Fin 2 × Fin 4 => posAt c (loc (.sd p.1 p.2.1 p.2.2)))
    ∗ (bigSep Finset.univ fun p : Fin 2 × Fin 4 => posAt c (loc (.zc false p.1 p.2)))
    ∗ (bigSep Finset.univ fun p : Fin 2 × Fin 4 => posAt c (loc (.xr p.1 p.2)))
    ∗ (bigSep Finset.univ fun p : Fin 2 × Fin 3 => posAt c (loc (.os p.1 p.2)))
    ∗ (bigSep Finset.univ fun p : Fin 2 × Fin 4 × Fin 2 => posAt c (loc (.es p.1 p.2.1 p.2.2))))

/-- The cells of a device: the barrier's and the parts'. -/
theorem pos_split (c : Dev nD) : POS (F := F) c = iprop(posAt c (loc (.bar 0)) ∗ PARTS c) := by
  unfold POS PARTS
  rw [bigSep_ci]; simp only [cl_ci]

/-- A family, member by member. -/
theorem fam_mono {M I : Type} [URA M] [Fintype I] {Φ Ψ : I → sProp M} (h : ∀ i, Φ i ⊢ Ψ i) : bigSep Finset.univ Φ ⊢ bigSep Finset.univ Ψ :=
  bigSep_mono fun i _ => h i
/-- Four assertions, regrouped. -/
theorem four {M : Type} [URA M] (P Q R S : sProp M) : iprop((P ∗ Q) ∗ R ∗ S) = iprop((P ∗ R) ∗ Q ∗ S) := by
  have h : ∀ P Q R S : sProp M, iprop((P ∗ Q) ∗ R ∗ S) ⊢ iprop((P ∗ R) ∗ Q ∗ S) := fun P Q R S => by
    iintro ⟨⟨H1, H2⟩, H3, H4⟩
    isplitl [H1 H3]
    · isplitl [H1] <;> iassumption
    · isplitl [H2] <;> iassumption
  exact BI.Entails.antisymm (h P Q R S) (h P R Q S)

/-- The parts in their first states, from the cells, the tokens and the places kept. -/
theorem parts_start (c : Dev nD) : iprop(PARTS (F := F) c ∗ TOKO c ∗ KEEP c) ⊢ bigSep Finset.univ fun s : Slot => A m ρ c s (cnt 0 s) := by
  have hz : ∀ h : Fin 2, iprop((bigSep Finset.univ fun j : Fin 4 => zAt (F := F) c h j))
      ⊢ iprop(zAt c h (Z c) ∗ bigSep Finset.univ fun p : Bool × Fin 3 => A m ρ c (.rl p.1 h p.2) (cnt 0 (.rl p.1 h p.2))) := fun h => by
    rw [bigSep_z c (fun j => zAt (F := F) c h j)]
    exact sep_mono_right (bigSep_mono fun p _ => rl_start m ρ c h p.1 p.2)
  have hes : ∀ Φ : Fin 2 × Fin 4 × Fin 2 → sProp 𝕄, bigSep Finset.univ Φ
      = bigSep Finset.univ fun p : Fin 2 × Fin 4 => iprop(Φ (p.1, p.2, 0) ∗ Φ (p.1, p.2, 1)) := fun Φ => by
    rw [bigSep_univ_equiv (Equiv.prodAssoc (Fin 2) (Fin 4) (Fin 2)) Φ, bigSep_univ_prod]
    exact bigSep_congr fun p _ => bigSep_two _
  have hzs : ∀ h : Fin 2, ∀ j, zAt (F := F) c h j = iprop(posAt c (loc (.zc false h j)) ∗ (posAt c (loc (.es h j 0)) ∗ otok c (.es h j 0)) ∗ (posAt c (loc (.es h j 1)) ∗ otok c (.es h j 1))) := fun _ _ => rfl
  rw [bigSep_slot]
  unfold PARTS KEEP
  iintro ⟨⟨Hrc, Hsd, Hzc, Hxr, Hos, Hes⟩, Ht, Hk, Hown⟩
  ihave Ht' := (toko_split c) $$ Ht
  icases Ht' with ⟨Tsd, Tos, Tes⟩
  isplitl [Hrc Hsd Tsd Hk]
  · iapply (fam_mono (Φ := fun p : Bool × Fin 2 × Fin 4 => iprop(posAt c (loc (.rc p.1 p.2.1 p.2.2)) ∗ posAt c (loc (.sd p.1 p.2.1 p.2.2)) ∗ otok c (.sd p.1 p.2.1 p.2.2)
      ∗ (if act c (.rc p.1 p.2.1 p.2.2) = true then iprop(emp) else slotAny c p.1 p.2.1 p.2.2))) fun p => ch_start m ρ c p.1 p.2.1 p.2.2)
    rw [bigSep_sep', bigSep_sep', bigSep_sep']
    isplitl [Hrc]; · iexact Hrc
    isplitl [Hsd]; · iexact Hsd
    isplitl [Tsd]; · iexact Tsd
    iexact Hk
  ihave HZ := (show iprop((bigSep Finset.univ fun p : Fin 2 × Fin 4 => posAt (F := F) c (loc (.zc false p.1 p.2)))
      ∗ (bigSep Finset.univ fun p : Fin 2 × Fin 4 × Fin 2 => posAt c (loc (.es p.1 p.2.1 p.2.2)))
      ∗ (bigSep Finset.univ fun p : Fin 2 × Fin 4 × Fin 2 => otok c (.es p.1 p.2.1 p.2.2)))
      ⊢ iprop((bigSep Finset.univ fun h : Fin 2 => zAt c h (Z c)) ∗ bigSep Finset.univ fun h : Fin 2 => bigSep Finset.univ fun p : Bool × Fin 3 => A m ρ c (.rl p.1 h p.2) (cnt 0 (.rl p.1 h p.2))) from by
    rw [← bigSep_sep' (s := Finset.univ) (Φ := fun h : Fin 2 => zAt (F := F) c h (Z c)), hes, hes, ← bigSep_sep', ← bigSep_sep']
    rw [bigSep_univ_prod (fun p : Fin 2 × Fin 4 => _)]
    refine bigSep_mono fun h _ => .trans (Entails.of_eq (bigSep_congr fun j _ => ?_)) (hz h)
    rw [hzs]
    exact congrArg _ (four _ _ _ _)) $$ [Hzc Hes Tes]
  · isplitl [Hzc]; · iexact Hzc
    isplitl [Hes] <;> iassumption
  icases HZ with ⟨HZ, HR⟩
  isplitl [Hown Hos Tos HZ]
  · iapply (fam_mono (Φ := fun h : Fin 2 => iprop(pcAny c (X c) (Z c) h ∗ (bigSep Finset.univ fun k : Fin 3 => iprop(posAt (F := F) c (loc (.os h k)) ∗ otok c (.os h k))) ∗ zAt c h (Z c)))
      fun h => ow_start m ρ c h)
    rw [bigSep_sep', bigSep_sep', ← bigSep_univ_prod (fun p : Fin 2 × Fin 3 => iprop(posAt (F := F) c (loc (.os p.1 p.2)) ∗ otok c (.os p.1 p.2))), bigSep_sep']
    isplitl [Hown]; · iexact Hown
    isplitl [Hos Tos]
    · isplitl [Hos] <;> iassumption
    iexact HZ
  isplitl [HR]; · iexact HR
  iapply (fam_mono (Φ := fun p : Fin 2 × Fin 4 => posAt (F := F) c (loc (.xr p.1 p.2))) fun p => xp_start m ρ c p.1 p.2)
  iexact Hxr

end Cert.KernelIdeal.Relay
-- ==== Proof.BodyA.lean ====
module

public import proofs.«01_k».proof.Proof.Steps2

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Ci → ℕ)

/-- The upward chain's buffer. -/
abbrev rM : Memref sig .tc .vmem S2x4x256x256 .f32 := Memref.whole cc0_scratch0
/-- The downward chain's buffer. -/
abbrev lM : Memref sig .tc .vmem S2x4x256x256 .f32 := Memref.whole cc0_scratch1

/-- The word that says the device is the first, or the last, of its chain. -/
abbrev e0 (c : Dev nD) : BitVec 1 := Scalar.cmpi .eq (w5 c) 0#32
/-- The program's test for the last place along the second axis. -/
abbrev e3 (c : Dev nD) : BitVec 1 := Scalar.cmpi .eq (w5 c) 3#32
/-- The words that say the device adds to block `q` and passes it on. -/
abbrev fq (c : Dev nD) (q : ℕ) : BitVec 1 := Scalar.andi (w14 c) (Scalar.cmpi .slt (w5 c) (BitVec.ofNat 32 q))
/-- The program's test for a device that passes block `q` on in the downward chain. -/
abbrev tq (c : Dev nD) (q : ℕ) : BitVec 1 := Scalar.andi (w15 c) (Scalar.cmpi .sgt (w5 c) (BitVec.ofNat 32 q))

/-- A piece named by its offsets. -/
theorem pc_at {x : Fin 2} {j : Fin 4} {h : Fin 2} {off : Fin 2 → ℕ} {inb} (e : off = ![0, 2048 * x.val + 512 * j.val + 256 * h.val]) :
    oM.slice (Rect.unit (s := S256x4096) off S256x256.size inb) (fun _ => rfl) = pcM x j h := by
  subst e; rfl
/-- Where the finished sum of the first half lies. -/
theorem sum0_at (c : Dev nD) : k0_off2 c = ![(0 : Fin 2).val, (Y c).val, 0, 0] := by revert c; decide +kernel
/-- Where the finished sum of the second half lies. -/
theorem sum1_at (c : Dev nD) : k0_off10 c = ![(1 : Fin 2).val, (Y c).val, 0, 0] := by revert c; decide +kernel
/-- Where the own piece of the first half lies. -/
theorem own0_at (c : Dev nD) : k0_off3 c 0#32 = ![0, 2048 * (X c).val + 512 * (Z c).val + 256 * (0 : Fin 2).val] := by revert c; decide +kernel
/-- Where the own piece of the second half lies. -/
theorem own1_at (c : Dev nD) : k0_off3 c 256#32 = ![0, 2048 * (X c).val + 512 * (Z c).val + 256 * (1 : Fin 2).val] := by revert c; decide +kernel

variable (c : Dev nD) {hx : xM.IsWhole} {hd : dM.IsWhole} {ho : oM.IsWhole} {hr : rM.IsWhole} {hl : lM.IsWhole}

set_option maxRecDepth 65536 in
/-- The last two products of the first half are formed, and the chains' first starts stored and sent. -/
theorem part3 (v10 v23 v65 c0_i32_34 : BitVec 32) : Runs c (Core m ρ K c 5 0)
    (k0_part3 (F := F) xM hx dM hd oM ho rM hr lM hl cc0_scratch2 cc0_scratch3 cc0_scratch4 cc0_scratch5 cc0_scratch6 cc0_scratch7 cc0_scratch8 cc0_scratch9
      c (w2 c) (w5 c) (w8 c) v10 v23 (k0_pay3 (xs m ρ c 2)) v65 c0_i32_34)
    (fun v => iprop(⌜v = ⟨part m ρ c 0 2, part m ρ c 0 3, e0 c, e0 c, e0 c, Scalar.extui (e0 c)⟩⌝ ∗ Core m ρ K c 7 4)) := by
  rw [k0_part3_eq_skeleton]; unfold k0_part3_skel
  refine ldDK m ρ K c 0 rfl ?_
  refine ldXK m ρ K c 3 rfl ?_
  refine ldDK m ρ K c 0 rfl ?_
  refine chStoreK m ρ K c false 0 3 5 rfl rfl (by revert c; decide +kernel) rfl rfl rfl ?_
  refine chSendK m ρ K c false 0 3 5 rfl rfl rfl (by revert c; decide +kernel) (fun hc => Fin.ext (by revert hc; revert c; decide +kernel)) rfl rfl rfl rfl ?_
  refine chStoreK m ρ K c false 0 2 6 rfl rfl (by revert c; decide +kernel) rfl rfl rfl ?_
  refine chSendK m ρ K c false 0 2 6 rfl rfl rfl (by revert c; decide +kernel) (fun hc => Fin.ext (by revert hc; revert c; decide +kernel)) rfl rfl rfl rfl ?_
  exact .done rfl

set_option maxRecDepth 65536 in
/-- Further starts. -/
theorem part4 (v21 v23 : BitVec 32) : Runs c (Core m ρ K c 7 4)
    (k0_part4 (F := F) xM hx dM hd oM ho rM hr lM hl cc0_scratch2 cc0_scratch3 cc0_scratch4 cc0_scratch5 cc0_scratch6 cc0_scratch7 cc0_scratch8 cc0_scratch9
      c (w2 c) (w5 c) (w8 c) v21 v23 (part m ρ c 0 0) (part m ρ c 0 1) (part m ρ c 0 2) (e0 c) (Scalar.extui (e0 c)))
    (fun v => iprop(⌜v = ⟨e3 c, e3 c, e3 c, Scalar.extui (e3 c)⟩⌝ ∗ Core m ρ K c 10 11)) := by
  rw [k0_part4_eq_skeleton]; unfold k0_part4_skel
  refine chStoreK m ρ K c false 0 1 7 rfl rfl (by revert c; decide +kernel) rfl rfl rfl ?_
  refine chSendK m ρ K c false 0 1 7 rfl rfl rfl (by revert c; decide +kernel) (fun hc => Fin.ext (by revert hc; revert c; decide +kernel)) rfl rfl rfl rfl ?_
  refine chStoreK m ρ K c true 0 0 8 rfl rfl (by revert c; decide +kernel) rfl rfl rfl ?_
  refine chSendK m ρ K c true 0 0 8 rfl rfl rfl (by revert c; decide +kernel) (fun hc => Fin.ext (by revert hc; revert c; decide +kernel)) rfl rfl rfl rfl ?_
  refine chStoreK m ρ K c true 0 1 9 rfl rfl (by revert c; decide +kernel) rfl rfl rfl ?_
  refine chSendK m ρ K c true 0 1 9 rfl rfl rfl (by revert c; decide +kernel) (fun hc => Fin.ext (by revert hc; revert c; decide +kernel)) rfl rfl rfl rfl ?_
  refine chStoreK m ρ K c true 0 2 10 rfl rfl (by revert c; decide +kernel) rfl rfl rfl ?_
  exact .done rfl

set_option maxRecDepth 65536 in
/-- Sums of the chains are formed and passed on. -/
theorem part5 (v21 v23 v107 : BitVec 32) : Runs c (Core m ρ K c 10 11)
    (k0_part5 (F := F) xM hx dM hd oM ho rM hr lM hl cc0_scratch2 cc0_scratch3 cc0_scratch4 cc0_scratch5 cc0_scratch6 cc0_scratch7 cc0_scratch8 cc0_scratch9
      c (w2 c) (w5 c) (w8 c) (w14 c) (w15 c) v21 v23 (part m ρ c 0 0) (part m ρ c 0 3) v107)
    (fun v => iprop(⌜v = ⟨fq c 3, tq c 0, Scalar.extui (tq c 0)⟩⌝ ∗ Core m ρ K c 12 17)) := by
  rw [k0_part5_eq_skeleton]; unfold k0_part5_skel
  refine chSendK m ρ K c true 0 2 10 rfl rfl rfl (by revert c; decide +kernel) (fun hc => Fin.ext (by revert hc; revert c; decide +kernel)) rfl rfl rfl rfl ?_
  refine chWaitK m ρ K c false 0 3 11 rfl rfl (by revert c; decide +kernel) (by revert c; decide +kernel) rfl rfl ?_
  refine chSumK m ρ K c false 0 3 11 rfl rfl (by revert c; decide +kernel) rfl rfl (fun _ => rfl) ?_
  refine chPassK m ρ K c false 0 3 11 rfl rfl rfl (by revert c; decide +kernel) (fun hc => Fin.ext (by revert hc; revert c; decide +kernel)) rfl rfl rfl rfl ?_
  refine chWaitK m ρ K c true 0 0 12 rfl rfl (by revert c; decide +kernel) (by revert c; decide +kernel) rfl rfl ?_
  refine chSumK m ρ K c true 0 0 12 rfl rfl (by revert c; decide +kernel) rfl rfl (fun _ => rfl) ?_
  exact .done rfl

set_option maxRecDepth 65536 in
/-- Sums of the chains are formed and passed on. -/
theorem part6 (v21 v23 v127 : BitVec 32) : Runs c (Core m ρ K c 12 17)
    (k0_part6 (F := F) xM hx dM hd oM ho rM hr lM hl cc0_scratch2 cc0_scratch3 cc0_scratch4 cc0_scratch5 cc0_scratch6 cc0_scratch7 cc0_scratch8 cc0_scratch9
      c (w2 c) (w5 c) (w8 c) (w14 c) (w15 c) v21 v23 (part m ρ c 0 1) (part m ρ c 0 2) v127)
    (fun v => iprop(⌜v = ⟨fq c 2, tq c 1, Scalar.extui (tq c 1)⟩⌝ ∗ Core m ρ K c 14 23)) := by
  rw [k0_part6_eq_skeleton]; unfold k0_part6_skel
  refine chPassK m ρ K c true 0 0 12 rfl rfl rfl (by revert c; decide +kernel) (fun hc => Fin.ext (by revert hc; revert c; decide +kernel)) rfl rfl rfl rfl ?_
  refine chWaitK m ρ K c false 0 2 13 rfl rfl (by revert c; decide +kernel) (by revert c; decide +kernel) rfl rfl ?_
  refine chSumK m ρ K c false 0 2 13 rfl rfl (by revert c; decide +kernel) rfl rfl (fun _ => rfl) ?_
  refine chPassK m ρ K c false 0 2 13 rfl rfl rfl (by revert c; decide +kernel) (fun hc => Fin.ext (by revert hc; revert c; decide +kernel)) rfl rfl rfl rfl ?_
  refine chWaitK m ρ K c true 0 1 14 rfl rfl (by revert c; decide +kernel) (by revert c; decide +kernel) rfl rfl ?_
  refine chSumK m ρ K c true 0 1 14 rfl rfl (by revert c; decide +kernel) rfl rfl (fun _ => rfl) ?_
  exact .done rfl

set_option maxRecDepth 65536 in
/-- Sums of the chains are formed and passed on. -/
theorem part7 (v21 v23 v147 : BitVec 32) : Runs c (Core m ρ K c 14 23)
    (k0_part7 (F := F) xM hx dM hd oM ho rM hr lM hl cc0_scratch2 cc0_scratch3 cc0_scratch4 cc0_scratch5 cc0_scratch6 cc0_scratch7 cc0_scratch8 cc0_scratch9
      c (w2 c) (w5 c) (w8 c) (w14 c) (w15 c) v21 v23 (part m ρ c 0 1) (part m ρ c 0 2) v147)
    (fun v => iprop(⌜v = ⟨fq c 1, tq c 2, Scalar.extui (tq c 2)⟩⌝ ∗ Core m ρ K c 16 29)) := by
  rw [k0_part7_eq_skeleton]; unfold k0_part7_skel
  refine chPassK m ρ K c true 0 1 14 rfl rfl rfl (by revert c; decide +kernel) (fun hc => Fin.ext (by revert hc; revert c; decide +kernel)) rfl rfl rfl rfl ?_
  refine chWaitK m ρ K c false 0 1 15 rfl rfl (by revert c; decide +kernel) (by revert c; decide +kernel) rfl rfl ?_
  refine chSumK m ρ K c false 0 1 15 rfl rfl (by revert c; decide +kernel) rfl rfl (fun _ => rfl) ?_
  refine chPassK m ρ K c false 0 1 15 rfl rfl rfl (by revert c; decide +kernel) (fun hc => Fin.ext (by revert hc; revert c; decide +kernel)) rfl rfl rfl rfl ?_
  refine chWaitK m ρ K c true 0 2 16 rfl rfl (by revert c; decide +kernel) (by revert c; decide +kernel) rfl rfl ?_
  refine chSumK m ρ K c true 0 2 16 rfl rfl (by revert c; decide +kernel) rfl rfl (fun _ => rfl) ?_
  exact .done rfl

set_option maxRecDepth 65536 in
/-- Sums of the chains are formed and passed on. -/
theorem part8 (v21 v23 v167 : BitVec 32) : Runs c (Core m ρ K c 16 29)
    (k0_part8 (F := F) xM hx dM hd oM ho rM hr lM hl cc0_scratch2 cc0_scratch3 cc0_scratch4 cc0_scratch5 cc0_scratch6 cc0_scratch7 cc0_scratch8 cc0_scratch9
      c (w2 c) (w5 c) (w8 c) (w14 c) (w15 c) v21 v23 (part m ρ c 0 0) (part m ρ c 0 3) v167)
    (fun v => iprop(⌜v = ⟨fq c 0, tq c 3, Scalar.extui (tq c 3)⟩⌝ ∗ Core m ρ K c 18 35)) := by
  rw [k0_part8_eq_skeleton]; unfold k0_part8_skel
  refine chPassK m ρ K c true 0 2 16 rfl rfl rfl (by revert c; decide +kernel) (fun hc => Fin.ext (by revert hc; revert c; decide +kernel)) rfl rfl rfl rfl ?_
  refine chWaitK m ρ K c false 0 0 17 rfl rfl (by revert c; decide +kernel) (by revert c; decide +kernel) rfl rfl ?_
  refine chSumK m ρ K c false 0 0 17 rfl rfl (by revert c; decide +kernel) rfl rfl (fun _ => rfl) ?_
  refine chPassK m ρ K c false 0 0 17 rfl rfl rfl (by revert c; decide +kernel) (fun hc => Fin.ext (by revert hc; revert c; decide +kernel)) rfl rfl rfl rfl ?_
  refine chWaitK m ρ K c true 0 3 18 rfl rfl (by revert c; decide +kernel) (by revert c; decide +kernel) rfl rfl ?_
  refine chSumK m ρ K c true 0 3 18 rfl rfl (by revert c; decide +kernel) rfl rfl (fun _ => rfl) ?_
  exact .done rfl

set_option maxRecDepth 65536 in
/-- The last sum is passed on and the first half's piece is stored. -/
theorem part9 (v10 v21 v187 : BitVec 32) : Runs c (Core m ρ K c 18 35)
    (k0_part9 (F := F) xM hx dM hd oM ho rM hr lM hl cc0_scratch2 cc0_scratch3 cc0_scratch4 cc0_scratch5 cc0_scratch6 cc0_scratch7 cc0_scratch8 cc0_scratch9
      c (w2 c) (w5 c) (w8 c) v10 (w14 c) (w15 c) v21 (part m ρ c 0 0) (part m ρ c 0 1) (part m ρ c 0 2) (part m ρ c 0 3) v187)
    (fun _ => Core m ρ K c 19 37) := by
  rw [k0_part9_eq_skeleton]; unfold k0_part9_skel
  refine chPassK m ρ K c true 0 3 18 rfl rfl rfl (by revert c; decide +kernel) (fun hc => Fin.ext (by revert hc; revert c; decide +kernel)) rfl rfl rfl rfl ?_
  refine ldSumK m ρ K c false 0 (by decide) rfl (sum0_at c) fun r hr => ?_
  refine ldSumK m ρ K c true 0 (by decide) rfl (sum0_at c) fun l hl => ?_
  refine owStoreK m ρ K c 0 19 rfl rfl (own0_at c) (piece_eq m ρ 0 hr hl) ?_
  exact .stop

end Cert.KernelIdeal.Relay
-- ==== Proof.Begin.lean ====
module

public import proofs.«01_k».proof.Proof.Start2
public import proofs.«01_k».proof.Proof.BodyA

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Ci → ℕ)

/-! ## The barrier -/

/-- The places a device hands over with its signal in direction `d`. -/
def ownDir (c : Dev nD) (d : Fin 5) : sProp 𝕄 := bigSep Finset.univ fun k : Key => if dirOf k = some d ∧ act c k = true then Dst c k else iprop(emp)
/-- What a device needs for a signal. -/
def sigK (c : Dev nD) (k : Key) : sProp 𝕄 := iprop(tok c k ∗ (match k with | .bar d => ownDir c d | _ => iprop(emp)))

/-- What a device gives away at the barrier, direction by direction. -/
theorem give_dirs (c : Dev nD) : GIVE (F := F) c = bigSep Finset.univ fun d : Fin 5 => ownDir c d := by
  unfold GIVE ownDir; exact (bigSep_dirs (act c) _).symm

/-- What a signal carries is what its sender owns in that direction. -/
theorem barPay_own (c : Dev nD) (d : Fin 5) : barPay (F := F) (tgt (.bar d) c) d = ownDir c d := by
  unfold barPay ownDir
  refine bigSep_congr fun k _ => ?_
  by_cases h : dirOf k = some d
  · have e : tgt k (tgt (.bar d) c) = c := by rw [dir_src k d h, src_tgt]
    rw [e]
  · rw [if_neg fun h' => h h'.1, if_neg fun h' => h h'.1]

/-- The signals a device makes, dealt what they need. -/
theorem sig_deal (c : Dev nD) : iprop(TOKB (F := F) c ∗ GIVE c) ⊢ along (sigK c) ((pays c).take 5) := by
  refine .trans ?_ (deal (sigK c) _ (fun k => act (tgt k c) k && isBar k) fun k => by revert c; revert k; decide +kernel)
  unfold TOKB sigK
  rw [give_dirs]
  have e : (bigSep Finset.univ fun d : Fin 5 => ownDir (F := F) c d)
      ⊢ bigSep Finset.univ fun k : Key => if (act (tgt k c) k && isBar k) = true then (match k with | .bar d => ownDir c d | _ => iprop(emp)) else iprop(emp) := by
    rw [bigSep_key]
    simp only [isBar, Bool.and_false, Bool.and_true, Bool.false_eq_true, if_false, bigSep_no, sep_no]
    refine fam_mono fun d => ?_
    split
    · exact .rfl
    · iintro -; iempintro
  refine (sep_mono_right e).trans ?_
  rw [← bigSep_sep']
  refine fam_mono fun k => ?_
  split
  · exact .rfl
  · iintro -; iempintro

/-- A device's state before the barrier is passed: `i` signals made. -/
def S0 (c : Dev nD) (i : ℕ) (R : sProp 𝕄) : sProp 𝕄 :=
  iprop(recs m ρ K ∗ levAts L lv ∗ (∃ W, owes (c : Thread nD τ) (owed c (rest c i)) W) ∗ along (sigK c) (((pays c).take 5).drop i) ∗ R)

/-- A signal of the barrier under its guard. -/
theorem signal_step (c : Dev nD) (i : ℕ) (R : sProp 𝕄) (d : Fin 5) {n : Dev nD} (hn : n = tgt (.bar d) c) (ha : act (tgt (.bar d) c) (.bar d) = true)
    (hr : rest c i = some (.bar d) :: rest c (i + 1)) (hb : ((pays c).take 5).drop i = some (.bar d) :: ((pays c).take 5).drop (i + 1)) :
    S0 m ρ K c i R ⊢ WP c (semSignalWord n (sig.barrier 0 rfl) 1#32) fun _ => S0 m ρ K c (i + 1) R := by
  subst hn
  have hp : ownDir (F := F) c d ⊢ (Rd m ρ).payload ((tgt (.bar d) c : Thread nD τ), .reg (sig.barrier 0 rfl)) 0 (.bar d) := Entails.of_eq (barPay_own c d).symm
  unfold S0 semSignalWord
  rw [hr, hb, owed_some]
  show iprop(recs m ρ K ∗ levAts L lv ∗ (∃ W, owes (c : Thread nD τ) (owed c (rest c (i + 1)) + tallyAt (cell (tgt (.bar d) c) (.bar d)) () 1) W)
    ∗ (sigK c (.bar d) ∗ along (sigK c) (((pays c).take 5).drop (i + 1))) ∗ R) ⊢ _
  unfold sigK tok
  iintro ⟨#HI, #HL, ⟨%W, HO⟩, ⟨⟨Ht, HD⟩, HK⟩, HR⟩
  ihave H2 := (recs_at m ρ K (tgt (.bar d) c) (.bar d)) $$ HI
  icases H2 with ⟨#HI2, #HR2⟩
  rw [show (1#32 : BitVec 32).toInt = ((1 : ℕ) : ℤ) from rfl]
  iapply (Rounds.wp_signal 𝒱₀ ER (Rd m ρ) (c : Thread nD τ) none (dst := (tgt (.bar d) c : Thread nD τ)) (κ := K (tgt (.bar d) c, ci (.bar d))) (r := 0)
    (d := .bar d) (k' := 1) (mem_duties m ρ (tgt (.bar d) c) (.bar d) ha) rfl () (owed c (rest c (i + 1))) rfl (W := W)) $$ [HO Ht HD]
  · isplitr; · iexact HI2
    isplitl [HO]; · iexact HO
    isplitl [Ht]; · iexact Ht
    isplitl [HD]; · iapply hp; iexact HD
    iexact HR2
  iintro HO
  rw [wp_ret]; imodintro
  isplitr; · iexact HI
  isplitr; · iexact HL
  isplitl [HO]; · iexists W; iexact HO
  isplitl [HK] <;> iassumption

/-- A signal made under a guard, and what follows. -/
theorem signalK (c : Dev nD) (i : ℕ) (R : sProp 𝕄) (d : Fin 5) {α : Type} {C : Prop} [Decidable C] {k : Prog (TpuEff nD τ sig (Elt F) Λ₀ .tc) α} {n : C → Dev nD}
    (G : Bool) (hr : rest c i = pg G (.bar d) :: rest c (i + 1)) (hb : ((pays c).take 5).drop i = pg G (.bar d) :: ((pays c).take 5).drop (i + 1))
    (hC : C ↔ G = true) (hn : ∀ hc, n hc = tgt (.bar d) c) (ha : G = true → act (tgt (.bar d) c) (.bar d) = true)
    {Q : α → sProp 𝕄} (hk : Runs c (S0 m ρ K c (i + 1) R) k Q) :
    Runs c (S0 m ρ K c i R) (if hc : C then (semSignalWord (n hc) (sig.barrier 0 rfl) 1#32 >>= fun _ => k) else k) Q :=
  ⟨jump (p := fun hc => semSignalWord (n hc) (sig.barrier 0 rfl) 1#32) (guarded hC (fun hc hG => by
      subst hG
      exact signal_step m ρ K c i R d (hn hc) (ha rfl) hr hb)
    fun hG => by
      subst hG
      unfold S0
      rw [hr, hb]; exact .rfl) hk.out fun _ => rfl⟩

/-- What device `c` holds besides, until the barrier is passed. -/
def Held (c : Dev nD) : sProp 𝕄 :=
  iprop(posAt c (loc (.bar 0)) ∗ TOKD c ∗ (PARTS c ∗ TOKO c ∗ KEEP c) ∗ xst m ρ c ∗ dst m ρ c)

/-- What the barrier's signals bring, dealt to the transfers. -/
theorem kit_deal (c : Dev nD) : iprop(TOKD (F := F) c ∗ bigSep (Finset.univ.filter fun d : Fin 5 => act c (.bar d) = true) fun d => barPay c d) ⊢ Kits c (rest c 5) := by
  have hK : ∀ l, along (fun k => iprop(tok (F := F) c k ∗ Dst (tgt k c) k)) l = Kits c l := by
    intro l
    induction l with
    | nil => rfl
    | cons a l ih => cases a with
      | none => exact ih
      | some k => rw [Kits_some, ← ih]; rfl
  rw [← hK]
  refine .trans ?_ (deal _ _ (fun k => act (tgt k c) k && (dirOf k).isSome) fun k => (rest_count k c).le)
  have e : (bigSep (Finset.univ.filter fun d : Fin 5 => act c (.bar d) = true) fun d => barPay (F := F) c d)
      ⊢ bigSep Finset.univ fun k : Key => if (act (tgt k c) k && (dirOf k).isSome) = true then Dst (tgt k c) k else iprop(emp) := by
    rw [bigSep_filter, ← bigSep_dirs (fun k => act (tgt k c) k)]
    refine fam_mono fun d => ?_
    by_cases h : act c (.bar d) = true
    · rw [if_pos h]; exact .rfl
    · rw [if_neg h, bigSep_congr (Ψ := fun _ => iprop(emp)) (fun k _ => if_neg fun h' => h (dir_act k d h'.1 c h'.2)), bigSep_no]
      exact .rfl
  unfold TOKD
  refine (sep_mono_right e).trans ?_
  rw [← bigSep_sep']
  refine fam_mono fun k => ?_
  split
  · exact .rfl
  · iintro -; iempintro

/-- The wait at the barrier collects every neighbour's places. -/
theorem barrier_step (c : Dev nD) :
    S0 m ρ K c 5 (Held m ρ c) ⊢ WP c (semWaitWord (sig.barrier 0 rfl) (k0_amt1 c)) fun _ => iprop(Core m ρ K c 5 0 ∗ Cl m ρ c (loc (.bar 0))) := by
  have hamt : (k0_amt1 c).toInt = (((Finset.univ.filter fun d : Fin 5 => act c (.bar d) = true).card : ℕ) : ℤ) := by revert c; decide +kernel
  have hmw := mayWait (F := F) c (loc (.bar 0)) 5 (by revert c; decide +kernel)
  have hlater := duties_later m ρ (cell c (.bar 0))
  have hrest : (bigSep ((Rd m ρ).duties ((c : Thread nD τ), .reg (sig.barrier 0 rfl)) 0 \ ∅) fun k => (Rd m ρ).payload ((c : Thread nD τ), .reg (sig.barrier 0 rfl)) 0 k)
    = bigSep (Finset.univ.filter fun d : Fin 5 => act c (.bar d) = true) fun d => barPay c d := rest_bar m ρ c
  have he := expect_bar m ρ c
  unfold S0 Held posAt semWaitWord
  rw [hamt, credN_bar]
  iintro ⟨#HI, #HL, ⟨%W, HO⟩, -, ⟨Hat, Hc⟩, HT, HP, Hx, Hd⟩
  ihave H1 := (recs_at m ρ K c (.bar 0)) $$ HI
  icases H1 with ⟨#HI1, #HR1⟩
  iapply (Rounds.wp_wait_rest_token 𝒱₀ ER (Rd m ρ) (c : Thread nD τ) none (κ := K (c, ci (.bar 0)))
      (wpE_semWait_eq 𝒱₀ (c : Thread nD τ) none Set.univ) (Set.mem_univ _) () (O := owed c (rest c 5)) (W := W) (R := 0) (m := 0) (T := ∅)
      (by rw [Nat.zero_add]; exact he.symm)) $$ [Hc HO Hat]
  · isplitr; · iexact HI1
    isplitl [Hc]; · iexact Hc
    isplitl [HO]; · iexact HO
    isplitr; · iapply hmw; iexact HL
    iexact Hat
  iintro ⟨HO, Hat, -, Hp⟩
  ihave Hp := (Entails.of_eq hrest) $$ Hp
  ihave HK := (kit_deal c) $$ [HT Hp]
  · isplitl [HT] <;> iassumption
  ihave HA := (parts_start m ρ c) $$ HP
  rw [wp_ret]; imodintro
  isplitr [Hat]
  · unfold Core Base
    isplitr [HA]
    · isplitr; · iexact HI
      isplitr; · iexact HL
      isplitl [HO]; · iexists _; iexact HO
      isplitl [HK]; · iexact HK
      isplitl [Hx] <;> iassumption
    iexact HA
  · unfold Cl
    iexists 1
    isplitr; · ipureintro; exact hlater
    iexact Hat

/-- A part of the program leaves the rest of the state alone. -/
theorem Runs.frame {α : Type} {c : Dev nD} {P R : sProp 𝕄} {p : Prog (TpuEff nD τ sig (Elt F) Λ₀ .tc) α} {Q : α → sProp 𝕄} (h : Runs c P p Q) :
    Runs c iprop(P ∗ R) p fun v => iprop(Q v ∗ R) :=
  ⟨by
    iintro ⟨HP, HR⟩
    ihave H := h.out $$ HP
    iapply (wp_wand _ _ _) $$ H
    iintro %v HQ
    isplitl [HQ] <;> iassumption⟩
/-- A run with a weaker end. -/
theorem Runs.post {α : Type} {c : Dev nD} {P : sProp 𝕄} {p : Prog (TpuEff nD τ sig (Elt F) Λ₀ .tc) α} {Q Q' : α → sProp 𝕄} (h : Runs c P p Q) (hq : ∀ v, Q v ⊢ Q' v) :
    Runs c P p Q' := ⟨h.out.trans (wp_mono _ _ _ hq)⟩
/-- A run with a stronger beginning. -/
theorem Runs.pre {α : Type} {c : Dev nD} {P P' : sProp 𝕄} {p : Prog (TpuEff nD τ sig (Elt F) Λ₀ .tc) α} {Q : α → sProp 𝕄} (h : Runs c P p Q) (hp : P' ⊢ P) :
    Runs c P' p Q := ⟨hp.trans h.out⟩

/-- What the whole launch gives device `c`. -/
def Init (c : Dev nD) : sProp 𝕄 :=
  iprop(recs m ρ K ∗ levAts L lv ∗ (∃ W, owes (c : Thread nD τ) (owed c (pays c)) W) ∗ POS c ∗ TOK c ∗ (SLOTS c ∗ PIECES c) ∗ xst m ρ c ∗ dst m ρ c)

/-- The state at the launch is the state before the first operation. -/
theorem init_S0 (c : Dev nD) : Init m ρ K c ⊢ S0 m ρ K c 0 (Held m ρ c) := by
  unfold Init S0 Held
  rw [pos_split, tok_split]
  iintro ⟨HI, HL, HO, ⟨Hp, HP⟩, ⟨HB, HD, HT⟩, HS, Hx, Hd⟩
  ihave HS' := (places_split c) $$ HS
  icases HS' with ⟨HG, HK⟩
  ihave Hs := (sig_deal c) $$ [HB HG]
  · isplitl [HB] <;> iassumption
  isplitl [HI]; · iexact HI
  isplitl [HL]; · iexact HL
  isplitl [HO]; · iexact HO
  isplitl [Hs]; · iexact Hs
  isplitl [Hp]; · iexact Hp
  isplitl [HD]; · iexact HD
  isplitr [Hx Hd]
  · isplitl [HP]; · iexact HP
    isplitl [HT] <;> iassumption
  isplitl [Hx] <;> iassumption

variable (c : Dev nD)

variable {hx : xM.IsWhole} {hd : dM.IsWhole} {ho : oM.IsWhole} {hr : rM.IsWhole} {hl : lM.IsWhole}

set_option maxRecDepth 65536 in
/-- The first signal, and the words of the device's place. -/
theorem part1 : Runs c (S0 m ρ K c 0 (Held m ρ c))
    (k0_part1 (F := F) xM hx dM hd oM ho rM hr lM hl cc0_scratch2 cc0_scratch3 cc0_scratch4 cc0_scratch5 cc0_scratch6 cc0_scratch7 cc0_scratch8 cc0_scratch9)
    (fun v => iprop(⌜v = ⟨c, w2 c, w5 c, w8 c, Scalar.addi (Scalar.muli (w2 c) 4#32) (w8 c), Scalar.subi 1#32 (w2 c), w12 c, w13 c, w14 c, w15 c,
      Scalar.maxsi (Scalar.subi (w8 c) 1#32) 0#32, Scalar.minsi (Scalar.addi (w8 c) 1#32) 3#32, Scalar.maxsi (Scalar.subi (w5 c) 1#32) 0#32, Scalar.minsi (Scalar.addi (w5 c) 1#32) 3#32,
      SemArray.scalar (sig.barrier 0 rfl), Scalar.extui (w14 c), 0#32⟩⌝ ∗ S0 m ρ K c 1 (Held m ρ c))) := by
  rw [k0_part1_eq_skeleton]; unfold k0_part1_skel
  refine .value (w := c) (P' := S0 m ρ K c 0 (Held m ρ c)) ⟨?_⟩ ?_
  · unfold WP Prog.lift
    rw [wp_deviceId, wp_ret]
    iintro H; imodintro
    isplitr; · ipureintro; rfl
    iexact H
  · refine .then (P' := S0 m ρ K c 1 (Held m ρ c)) ⟨signal_step m ρ K c 0 _ 0 (Fin.ext (by revert c; decide +kernel)) rfl rfl rfl⟩ ?_
    exact .done rfl

set_option maxRecDepth 65536 in
/-- The other signals, the barrier's wait, and the first products. -/
theorem part2 (v10 v17 v19 v21 v23 v31 c0_i32_19 : BitVec 32) : Runs c (S0 m ρ K c 1 (Held m ρ c))
    (k0_part2 (F := F) xM hx dM hd oM ho rM hr lM hl cc0_scratch2 cc0_scratch3 cc0_scratch4 cc0_scratch5 cc0_scratch6 cc0_scratch7 cc0_scratch8 cc0_scratch9
      c (w2 c) (w5 c) (w8 c) v10 (w12 c) (w13 c) (w14 c) (w15 c) v17 v19 v21 v23 (SemArray.scalar (sig.barrier 0 rfl)) v31 c0_i32_19)
    (fun v => iprop(⌜v = ⟨part m ρ c 0 0, part m ρ c 0 1, k0_pay3 (xs m ρ c 2), Scalar.muli v10 512#32, 0#32⟩⌝ ∗ Core m ρ K c 5 0 ∗ Cl m ρ c (loc (.bar 0)))) := by
  rw [k0_part2_eq_skeleton]; unfold k0_part2_skel
  refine signalK m ρ K c 1 _ 2 _ rfl rfl (by revert c; decide +kernel) (fun hc => Fin.ext (by revert hc; revert c; decide +kernel)) (by revert c; decide +kernel) ?_
  refine signalK m ρ K c 2 _ 1 _ rfl rfl (by revert c; decide +kernel) (fun hc => Fin.ext (by revert hc; revert c; decide +kernel)) (by revert c; decide +kernel) ?_
  refine signalK m ρ K c 3 _ 4 _ rfl rfl (by revert c; decide +kernel) (fun hc => Fin.ext (by revert hc; revert c; decide +kernel)) (by revert c; decide +kernel) ?_
  refine signalK m ρ K c 4 _ 3 _ rfl rfl (by revert c; decide +kernel) (fun hc => Fin.ext (by revert hc; revert c; decide +kernel)) (by revert c; decide +kernel) ?_
  refine .then ⟨barrier_step m ρ K c⟩ ?_
  refine .post (.frame (Q := fun v => iprop(⌜v = _⌝ ∗ Core m ρ K c 5 0)) ?_) fun v => by
    iintro ⟨⟨H1, H2⟩, H3⟩
    isplitl [H1]; · iexact H1
    isplitl [H2] <;> iassumption
  refine ldXK m ρ K c 0 rfl ?_
  refine ldDK m ρ K c 0 rfl ?_
  refine ldXK m ρ K c 1 rfl ?_
  refine ldDK m ρ K c 0 rfl ?_
  refine ldXK m ρ K c 2 rfl ?_
  exact .done rfl

end Cert.KernelIdeal.Relay
-- ==== Proof.BodyB.lean ====
module

public import proofs.«01_k».proof.Proof.BodyA

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Ci → ℕ)

variable (c : Dev nD) {hx : xM.IsWhole} {hd : dM.IsWhole} {ho : oM.IsWhole} {hr : rM.IsWhole} {hl : lM.IsWhole}

set_option maxRecDepth 65536 in
/-- The first piece is sent across and down. -/
theorem part10 (v11 v17 : BitVec 32) (v12 v13 : BitVec 1) : Runs c (Core m ρ K c 19 37)
    (k0_part10 (F := F) xM hx dM hd oM ho rM hr lM hl cc0_scratch2 cc0_scratch3 cc0_scratch4 cc0_scratch5 cc0_scratch6 cc0_scratch7 cc0_scratch8 cc0_scratch9
      c (w2 c) (w5 c) (w8 c) v11 v12 v13 v17)
    (fun _ => Core m ρ K c 21 39) := by
  rw [k0_part10_eq_skeleton]; unfold k0_part10_skel
  refine owCrossK m ρ K c 0 19 rfl rfl rfl (Fin.ext (by revert c; decide +kernel)) (pc_at (by revert c; decide +kernel)) (pc_at (by revert c; decide +kernel)) rfl (by revert c; decide +kernel) ?_
  refine owDownK m ρ K c 0 20 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  exact .stop

set_option maxRecDepth 65536 in
/-- It is sent up, and the products of the second half are formed. -/
theorem part11 (v10 v19 v249 : BitVec 32) : Runs c (Core m ρ K c 21 39)
    (k0_part11 (F := F) xM hx dM hd oM ho rM hr lM hl cc0_scratch2 cc0_scratch3 cc0_scratch4 cc0_scratch5 cc0_scratch6 cc0_scratch7 cc0_scratch8 cc0_scratch9
      c (w2 c) (w5 c) v10 v19 v249)
    (fun v => iprop(⌜v = ⟨part m ρ c 1 0, part m ρ c 1 1, part m ρ c 1 2, part m ρ c 1 3⟩⌝ ∗ Core m ρ K c 22 40)) := by
  rw [k0_part11_eq_skeleton]; unfold k0_part11_skel
  refine owUpK m ρ K c 0 21 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  refine ldXK m ρ K c 0 rfl ?_
  refine ldDK m ρ K c 1 rfl ?_
  refine ldXK m ρ K c 1 rfl ?_
  refine ldDK m ρ K c 1 rfl ?_
  refine ldXK m ρ K c 2 rfl ?_
  refine ldDK m ρ K c 1 rfl ?_
  refine ldXK m ρ K c 3 rfl ?_
  refine ldDK m ρ K c 1 rfl ?_
  exact .done rfl

set_option maxRecDepth 65536 in
/-- Starts of the second half. -/
theorem part12 (v23 : BitVec 32) : Runs c (Core m ρ K c 22 40)
    (k0_part12 (F := F) xM hx dM hd oM ho rM hr lM hl cc0_scratch2 cc0_scratch3 cc0_scratch4 cc0_scratch5 cc0_scratch6 cc0_scratch7 cc0_scratch8 cc0_scratch9
      c (w2 c) (w5 c) (w8 c) v23 (part m ρ c 1 0) (part m ρ c 1 1) (part m ρ c 1 2) (part m ρ c 1 3))
    (fun v => iprop(⌜v = ⟨e0 c, e0 c, e0 c, e3 c⟩⌝ ∗ Core m ρ K c 25 47)) := by
  rw [k0_part12_eq_skeleton]; unfold k0_part12_skel
  refine chStoreK m ρ K c false 1 3 22 rfl rfl (by revert c; decide +kernel) rfl rfl rfl ?_
  refine chSendK m ρ K c false 1 3 22 rfl rfl rfl (by revert c; decide +kernel) (fun hc => Fin.ext (by revert hc; revert c; decide +kernel)) rfl rfl rfl rfl ?_
  refine chStoreK m ρ K c false 1 2 23 rfl rfl (by revert c; decide +kernel) rfl rfl rfl ?_
  refine chSendK m ρ K c false 1 2 23 rfl rfl rfl (by revert c; decide +kernel) (fun hc => Fin.ext (by revert hc; revert c; decide +kernel)) rfl rfl rfl rfl ?_
  refine chStoreK m ρ K c false 1 1 24 rfl rfl (by revert c; decide +kernel) rfl rfl rfl ?_
  refine chSendK m ρ K c false 1 1 24 rfl rfl rfl (by revert c; decide +kernel) (fun hc => Fin.ext (by revert hc; revert c; decide +kernel)) rfl rfl rfl rfl ?_
  refine chStoreK m ρ K c true 1 0 25 rfl rfl (by revert c; decide +kernel) rfl rfl rfl ?_
  exact .done rfl

set_option maxRecDepth 65536 in
/-- Starts of the second half, and the first landing. -/
theorem part13 (v21 : BitVec 32) : Runs c (Core m ρ K c 25 47)
    (k0_part13 (F := F) xM hx dM hd oM ho rM hr lM hl cc0_scratch2 cc0_scratch3 cc0_scratch4 cc0_scratch5 cc0_scratch6 cc0_scratch7 cc0_scratch8 cc0_scratch9
      c (w2 c) (w5 c) (w8 c) (w14 c) v21 (part m ρ c 1 1) (part m ρ c 1 2) (e3 c))
    (fun v => iprop(⌜v = ⟨e3 c, e3 c, 3#32⟩⌝ ∗ Core m ρ K c 28 53)) := by
  rw [k0_part13_eq_skeleton]; unfold k0_part13_skel
  refine chSendK m ρ K c true 1 0 25 rfl rfl rfl (by revert c; decide +kernel) (fun hc => Fin.ext (by revert hc; revert c; decide +kernel)) rfl rfl rfl rfl ?_
  refine chStoreK m ρ K c true 1 1 26 rfl rfl (by revert c; decide +kernel) rfl rfl rfl ?_
  refine chSendK m ρ K c true 1 1 26 rfl rfl rfl (by revert c; decide +kernel) (fun hc => Fin.ext (by revert hc; revert c; decide +kernel)) rfl rfl rfl rfl ?_
  refine chStoreK m ρ K c true 1 2 27 rfl rfl (by revert c; decide +kernel) rfl rfl rfl ?_
  refine chSendK m ρ K c true 1 2 27 rfl rfl rfl (by revert c; decide +kernel) (fun hc => Fin.ext (by revert hc; revert c; decide +kernel)) rfl rfl rfl rfl ?_
  refine chWaitK m ρ K c false 1 3 28 rfl rfl (by revert c; decide +kernel) (by revert c; decide +kernel) rfl rfl ?_
  exact .done rfl

set_option maxRecDepth 65536 in
/-- Sums of the chains are formed and passed on. -/
theorem part14 (v21 v23 : BitVec 32) : Runs c (Core m ρ K c 28 53)
    (k0_part14 (F := F) xM hx dM hd oM ho rM hr lM hl cc0_scratch2 cc0_scratch3 cc0_scratch4 cc0_scratch5 cc0_scratch6 cc0_scratch7 cc0_scratch8 cc0_scratch9
      c (w2 c) (w5 c) (w8 c) (w14 c) (w15 c) v21 v23 (part m ρ c 1 0) (part m ρ c 1 3) 3#32)
    (fun v => iprop(⌜v = ⟨fq c 3, tq c 0, 2#32⟩⌝ ∗ Core m ρ K c 30 59)) := by
  rw [k0_part14_eq_skeleton]; unfold k0_part14_skel
  refine chSumK m ρ K c false 1 3 28 rfl rfl (by revert c; decide +kernel) rfl rfl (fun _ => rfl) ?_
  refine chPassK m ρ K c false 1 3 28 rfl rfl rfl (by revert c; decide +kernel) (fun hc => Fin.ext (by revert hc; revert c; decide +kernel)) rfl rfl rfl rfl ?_
  refine chWaitK m ρ K c true 1 0 29 rfl rfl (by revert c; decide +kernel) (by revert c; decide +kernel) rfl rfl ?_
  refine chSumK m ρ K c true 1 0 29 rfl rfl (by revert c; decide +kernel) rfl rfl (fun _ => rfl) ?_
  refine chPassK m ρ K c true 1 0 29 rfl rfl rfl (by revert c; decide +kernel) (fun hc => Fin.ext (by revert hc; revert c; decide +kernel)) rfl rfl rfl rfl ?_
  refine chWaitK m ρ K c false 1 2 30 rfl rfl (by revert c; decide +kernel) (by revert c; decide +kernel) rfl rfl ?_
  exact .done rfl

set_option maxRecDepth 65536 in
/-- Sums of the chains are formed and passed on. -/
theorem part15 (v21 v23 : BitVec 32) : Runs c (Core m ρ K c 30 59)
    (k0_part15 (F := F) xM hx dM hd oM ho rM hr lM hl cc0_scratch2 cc0_scratch3 cc0_scratch4 cc0_scratch5 cc0_scratch6 cc0_scratch7 cc0_scratch8 cc0_scratch9
      c (w2 c) (w5 c) (w8 c) (w14 c) (w15 c) v21 v23 (part m ρ c 1 1) (part m ρ c 1 2) 2#32)
    (fun v => iprop(⌜v = ⟨fq c 2, tq c 1, 1#32⟩⌝ ∗ Core m ρ K c 32 65)) := by
  rw [k0_part15_eq_skeleton]; unfold k0_part15_skel
  refine chSumK m ρ K c false 1 2 30 rfl rfl (by revert c; decide +kernel) rfl rfl (fun _ => rfl) ?_
  refine chPassK m ρ K c false 1 2 30 rfl rfl rfl (by revert c; decide +kernel) (fun hc => Fin.ext (by revert hc; revert c; decide +kernel)) rfl rfl rfl rfl ?_
  refine chWaitK m ρ K c true 1 1 31 rfl rfl (by revert c; decide +kernel) (by revert c; decide +kernel) rfl rfl ?_
  refine chSumK m ρ K c true 1 1 31 rfl rfl (by revert c; decide +kernel) rfl rfl (fun _ => rfl) ?_
  refine chPassK m ρ K c true 1 1 31 rfl rfl rfl (by revert c; decide +kernel) (fun hc => Fin.ext (by revert hc; revert c; decide +kernel)) rfl rfl rfl rfl ?_
  refine chWaitK m ρ K c false 1 1 32 rfl rfl (by revert c; decide +kernel) (by revert c; decide +kernel) rfl rfl ?_
  exact .done rfl

set_option maxRecDepth 65536 in
/-- Sums of the chains are formed and passed on. -/
theorem part16 (v21 v23 : BitVec 32) : Runs c (Core m ρ K c 32 65)
    (k0_part16 (F := F) xM hx dM hd oM ho rM hr lM hl cc0_scratch2 cc0_scratch3 cc0_scratch4 cc0_scratch5 cc0_scratch6 cc0_scratch7 cc0_scratch8 cc0_scratch9
      c (w2 c) (w5 c) (w8 c) (w14 c) (w15 c) v21 v23 (part m ρ c 1 1) (part m ρ c 1 2) 1#32)
    (fun v => iprop(⌜v = ⟨fq c 1, tq c 2, 0#32⟩⌝ ∗ Core m ρ K c 34 71)) := by
  rw [k0_part16_eq_skeleton]; unfold k0_part16_skel
  refine chSumK m ρ K c false 1 1 32 rfl rfl (by revert c; decide +kernel) rfl rfl (fun _ => rfl) ?_
  refine chPassK m ρ K c false 1 1 32 rfl rfl rfl (by revert c; decide +kernel) (fun hc => Fin.ext (by revert hc; revert c; decide +kernel)) rfl rfl rfl rfl ?_
  refine chWaitK m ρ K c true 1 2 33 rfl rfl (by revert c; decide +kernel) (by revert c; decide +kernel) rfl rfl ?_
  refine chSumK m ρ K c true 1 2 33 rfl rfl (by revert c; decide +kernel) rfl rfl (fun _ => rfl) ?_
  refine chPassK m ρ K c true 1 2 33 rfl rfl rfl (by revert c; decide +kernel) (fun hc => Fin.ext (by revert hc; revert c; decide +kernel)) rfl rfl rfl rfl ?_
  refine chWaitK m ρ K c false 1 0 34 rfl rfl (by revert c; decide +kernel) (by revert c; decide +kernel) rfl rfl ?_
  exact .done rfl

set_option maxRecDepth 65536 in
/-- The last sums of the second half. -/
theorem part17 (v21 v23 : BitVec 32) : Runs c (Core m ρ K c 34 71)
    (k0_part17 (F := F) xM hx dM hd oM ho rM hr lM hl cc0_scratch2 cc0_scratch3 cc0_scratch4 cc0_scratch5 cc0_scratch6 cc0_scratch7 cc0_scratch8 cc0_scratch9
      c (w2 c) (w5 c) (w8 c) (w14 c) (w15 c) v21 v23 (part m ρ c 1 0) (part m ρ c 1 1) (part m ρ c 1 2) (part m ρ c 1 3) 0#32)
    (fun v => iprop(⌜v = ⟨fq c 0, tq c 3, k0_pay39 (w5 c) (part m ρ c 1 0) (part m ρ c 1 1) (part m ρ c 1 2) (part m ρ c 1 3)⟩⌝ ∗ Core m ρ K c 36 76)) := by
  rw [k0_part17_eq_skeleton]; unfold k0_part17_skel
  refine chSumK m ρ K c false 1 0 34 rfl rfl (by revert c; decide +kernel) rfl rfl (fun _ => rfl) ?_
  refine chPassK m ρ K c false 1 0 34 rfl rfl rfl (by revert c; decide +kernel) (fun hc => Fin.ext (by revert hc; revert c; decide +kernel)) rfl rfl rfl rfl ?_
  refine chWaitK m ρ K c true 1 3 35 rfl rfl (by revert c; decide +kernel) (by revert c; decide +kernel) rfl rfl ?_
  refine chSumK m ρ K c true 1 3 35 rfl rfl (by revert c; decide +kernel) rfl rfl (fun _ => rfl) ?_
  refine chPassK m ρ K c true 1 3 35 rfl rfl rfl (by revert c; decide +kernel) (fun hc => Fin.ext (by revert hc; revert c; decide +kernel)) rfl rfl rfl rfl ?_
  exact .done rfl

set_option maxRecDepth 65536 in
/-- The second half's piece is stored. -/
theorem part18 (v10 v11 : BitVec 32) : Runs c (Core m ρ K c 36 76)
    (k0_part18 (F := F) xM hx dM hd oM ho rM hr lM hl cc0_scratch2 cc0_scratch3 cc0_scratch4 cc0_scratch5 cc0_scratch6 cc0_scratch7 cc0_scratch8 cc0_scratch9
      c (w2 c) (w5 c) (w8 c) v10 v11 (w14 c) (w15 c) (k0_pay39 (w5 c) (part m ρ c 1 0) (part m ρ c 1 1) (part m ρ c 1 2) (part m ρ c 1 3)))
    (fun _ => Core m ρ K c 36 77) := by
  rw [k0_part18_eq_skeleton]; unfold k0_part18_skel
  refine ldSumK m ρ K c false 1 (by decide) rfl (sum1_at c) fun r hr => ?_
  refine ldSumK m ρ K c true 1 (by decide) rfl (sum1_at c) fun l hl => ?_
  refine owStoreK m ρ K c 1 36 rfl rfl (own1_at c) (piece_eq m ρ 1 hr hl) ?_
  exact .stop

end Cert.KernelIdeal.Relay
-- ==== Proof.BodyC.lean ====
module

public import proofs.«01_k».proof.Proof.BodyA

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Ci → ℕ)

variable (c : Dev nD) {hx : xM.IsWhole} {hd : dM.IsWhole} {ho : oM.IsWhole} {hr : rM.IsWhole} {hl : lM.IsWhole}

set_option maxRecDepth 65536 in
/-- It is sent across, down and up. -/
theorem part19 (v17 v19 : BitVec 32) (v12 v13 : BitVec 1) : Runs c (Core m ρ K c 36 77)
    (k0_part19 (F := F) xM hx dM hd oM ho rM hr lM hl cc0_scratch2 cc0_scratch3 cc0_scratch4 cc0_scratch5 cc0_scratch6 cc0_scratch7 cc0_scratch8 cc0_scratch9
      c (w2 c) (w5 c) (w8 c) v12 v13 v17 v19)
    (fun _ => Core m ρ K c 39 80) := by
  rw [k0_part19_eq_skeleton]; unfold k0_part19_skel
  refine owCrossK m ρ K c 1 36 rfl rfl rfl (Fin.ext (by revert c; decide +kernel)) (pc_at (by revert c; decide +kernel)) (pc_at (by revert c; decide +kernel)) rfl (by revert c; decide +kernel) ?_
  refine owDownK m ρ K c 1 37 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  refine owUpK m ρ K c 1 38 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  exact .stop

set_option maxRecDepth 65536 in
/-- Pieces that have landed are passed on. -/
theorem part20 (v11 v17 v19 v457 : BitVec 32) (v13 v455 : BitVec 1) : Runs c (Core m ρ K c 39 80)
    (k0_part20 (F := F) xM hx dM hd oM ho rM hr lM hl cc0_scratch2 cc0_scratch3 cc0_scratch4 cc0_scratch5 cc0_scratch6 cc0_scratch7 cc0_scratch8 cc0_scratch9
      c (w2 c) (w5 c) (w8 c) v11 v13 v17 v19 v455 v457)
    (fun _ => Core m ρ K c 41 83) := by
  rw [k0_part20_eq_skeleton]; unfold k0_part20_skel
  refine rlWaitK m ρ K c false 0 0 39 rfl rfl (by revert c; decide +kernel) (by revert c; decide +kernel) (fun hc => by revert hc; revert c; decide +kernel) (fun hc => pc_at (by revert hc; revert c; decide +kernel)) ?_
  refine rlPassK m ρ K c false 0 0 39 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  refine rlCrossK m ρ K c false 0 0 40 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  exact .stop

set_option maxRecDepth 65536 in
/-- Pieces that have landed are passed on. -/
theorem part21 (v11 v17 v19 v488 v493 : BitVec 32) (v12 v486 : BitVec 1) : Runs c (Core m ρ K c 41 83)
    (k0_part21 (F := F) xM hx dM hd oM ho rM hr lM hl cc0_scratch2 cc0_scratch3 cc0_scratch4 cc0_scratch5 cc0_scratch6 cc0_scratch7 cc0_scratch8 cc0_scratch9
      c (w2 c) (w5 c) (w8 c) v11 v12 v17 v19 v486 v488 v493)
    (fun _ => Core m ρ K c 43 86) := by
  rw [k0_part21_eq_skeleton]; unfold k0_part21_skel
  refine rlWaitK m ρ K c true 0 0 41 rfl rfl (by revert c; decide +kernel) (by revert c; decide +kernel) (fun hc => by revert hc; revert c; decide +kernel) (fun hc => pc_at (by revert hc; revert c; decide +kernel)) ?_
  refine rlPassK m ρ K c true 0 0 41 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  refine rlCrossK m ρ K c true 0 0 42 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  exact .stop

set_option maxRecDepth 65536 in
/-- Pieces that have landed are passed on. -/
theorem part22 (v11 v17 v19 v518 : BitVec 32) (v13 v516 : BitVec 1) : Runs c (Core m ρ K c 43 86)
    (k0_part22 (F := F) xM hx dM hd oM ho rM hr lM hl cc0_scratch2 cc0_scratch3 cc0_scratch4 cc0_scratch5 cc0_scratch6 cc0_scratch7 cc0_scratch8 cc0_scratch9
      c (w2 c) (w5 c) (w8 c) v11 v13 v17 v19 v516 v518)
    (fun _ => Core m ρ K c 45 89) := by
  rw [k0_part22_eq_skeleton]; unfold k0_part22_skel
  refine rlWaitK m ρ K c false 0 1 43 rfl rfl (by revert c; decide +kernel) (by revert c; decide +kernel) (fun hc => by revert hc; revert c; decide +kernel) (fun hc => pc_at (by revert hc; revert c; decide +kernel)) ?_
  refine rlPassK m ρ K c false 0 1 43 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  refine rlCrossK m ρ K c false 0 1 44 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  exact .stop

set_option maxRecDepth 65536 in
/-- Pieces that have landed are passed on. -/
theorem part23 (v11 v17 v19 v549 v551 c512_i32_656 : BitVec 32) (v12 v547 : BitVec 1) : Runs c (Core m ρ K c 45 89)
    (k0_part23 (F := F) xM hx dM hd oM ho rM hr lM hl cc0_scratch2 cc0_scratch3 cc0_scratch4 cc0_scratch5 cc0_scratch6 cc0_scratch7 cc0_scratch8 cc0_scratch9
      c (w2 c) (w5 c) (w8 c) v11 v12 v17 v19 v547 v549 v551 c512_i32_656)
    (fun _ => Core m ρ K c 47 92) := by
  rw [k0_part23_eq_skeleton]; unfold k0_part23_skel
  refine rlWaitK m ρ K c true 0 1 45 rfl rfl (by revert c; decide +kernel) (by revert c; decide +kernel) (fun hc => by revert hc; revert c; decide +kernel) (fun hc => pc_at (by revert hc; revert c; decide +kernel)) ?_
  refine rlPassK m ρ K c true 0 1 45 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  refine rlCrossK m ρ K c true 0 1 46 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  exact .stop

set_option maxRecDepth 65536 in
/-- Pieces that have landed are passed on. -/
theorem part24 (v11 v17 v19 v579 v581 : BitVec 32) (v13 v577 : BitVec 1) : Runs c (Core m ρ K c 47 92)
    (k0_part24 (F := F) xM hx dM hd oM ho rM hr lM hl cc0_scratch2 cc0_scratch3 cc0_scratch4 cc0_scratch5 cc0_scratch6 cc0_scratch7 cc0_scratch8 cc0_scratch9
      c (w2 c) (w5 c) (w8 c) v11 v13 v17 v19 v577 v579 v581)
    (fun _ => Core m ρ K c 49 95) := by
  rw [k0_part24_eq_skeleton]; unfold k0_part24_skel
  refine rlWaitK m ρ K c false 0 2 47 rfl rfl (by revert c; decide +kernel) (by revert c; decide +kernel) (fun hc => by revert hc; revert c; decide +kernel) (fun hc => pc_at (by revert hc; revert c; decide +kernel)) ?_
  refine rlPassK m ρ K c false 0 2 47 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  refine rlCrossK m ρ K c false 0 2 48 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  exact .stop

set_option maxRecDepth 65536 in
/-- Pieces that have landed are passed on. -/
theorem part25 (v11 v17 v19 v610 : BitVec 32) (v12 v608 : BitVec 1) : Runs c (Core m ρ K c 49 95)
    (k0_part25 (F := F) xM hx dM hd oM ho rM hr lM hl cc0_scratch2 cc0_scratch3 cc0_scratch4 cc0_scratch5 cc0_scratch6 cc0_scratch7 cc0_scratch8 cc0_scratch9
      c (w2 c) (w5 c) (w8 c) v11 v12 v17 v19 v608 v610)
    (fun _ => Core m ρ K c 51 98) := by
  rw [k0_part25_eq_skeleton]; unfold k0_part25_skel
  refine rlWaitK m ρ K c true 0 2 49 rfl rfl (by revert c; decide +kernel) (by revert c; decide +kernel) (fun hc => by revert hc; revert c; decide +kernel) (fun hc => pc_at (by revert hc; revert c; decide +kernel)) ?_
  refine rlPassK m ρ K c true 0 2 49 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  refine rlCrossK m ρ K c true 0 2 50 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  exact .stop

end Cert.KernelIdeal.Relay
-- ==== Proof.BodyD.lean ====
module

public import proofs.«01_k».proof.Proof.BodyA

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Ci → ℕ)

variable (c : Dev nD) {hx : xM.IsWhole} {hd : dM.IsWhole} {ho : oM.IsWhole} {hr : rM.IsWhole} {hl : lM.IsWhole}

set_option maxRecDepth 65536 in
/-- Pieces that have landed are passed on. -/
theorem part26 (v11 v17 v19 v639 c0_i32_739 : BitVec 32) (v13 v638 : BitVec 1) : Runs c (Core m ρ K c 51 98)
    (k0_part26 (F := F) xM hx dM hd oM ho rM hr lM hl cc0_scratch2 cc0_scratch3 cc0_scratch4 cc0_scratch5 cc0_scratch6 cc0_scratch7 cc0_scratch8 cc0_scratch9
      c (w2 c) (w5 c) (w8 c) v11 v13 v17 v19 v638 v639 c0_i32_739)
    (fun _ => Core m ρ K c 53 101) := by
  rw [k0_part26_eq_skeleton]; unfold k0_part26_skel
  refine rlWaitK m ρ K c false 1 0 51 rfl rfl (by revert c; decide +kernel) (by revert c; decide +kernel) (fun hc => by revert hc; revert c; decide +kernel) (fun hc => pc_at (by revert hc; revert c; decide +kernel)) ?_
  refine rlPassK m ρ K c false 1 0 51 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  refine rlCrossK m ρ K c false 1 0 52 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  exact .stop

set_option maxRecDepth 65536 in
/-- Pieces that have landed are passed on. -/
theorem part27 (v11 v17 v19 : BitVec 32) (v12 v669 : BitVec 1) : Runs c (Core m ρ K c 53 101)
    (k0_part27 (F := F) xM hx dM hd oM ho rM hr lM hl cc0_scratch2 cc0_scratch3 cc0_scratch4 cc0_scratch5 cc0_scratch6 cc0_scratch7 cc0_scratch8 cc0_scratch9
      c (w2 c) (w5 c) (w8 c) v11 v12 v17 v19 v669)
    (fun _ => Core m ρ K c 55 104) := by
  rw [k0_part27_eq_skeleton]; unfold k0_part27_skel
  refine rlWaitK m ρ K c true 1 0 53 rfl rfl (by revert c; decide +kernel) (by revert c; decide +kernel) (fun hc => by revert hc; revert c; decide +kernel) (fun hc => pc_at (by revert hc; revert c; decide +kernel)) ?_
  refine rlPassK m ρ K c true 1 0 53 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  refine rlCrossK m ρ K c true 1 0 54 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  exact .stop

set_option maxRecDepth 65536 in
/-- Pieces that have landed are passed on. -/
theorem part28 (v11 v17 v19 c2_i32_794 : BitVec 32) (v13 : BitVec 1) : Runs c (Core m ρ K c 55 104)
    (k0_part28 (F := F) xM hx dM hd oM ho rM hr lM hl cc0_scratch2 cc0_scratch3 cc0_scratch4 cc0_scratch5 cc0_scratch6 cc0_scratch7 cc0_scratch8 cc0_scratch9
      c (w2 c) (w5 c) (w8 c) v11 v13 v17 v19 c2_i32_794)
    (fun _ => Core m ρ K c 57 107) := by
  rw [k0_part28_eq_skeleton]; unfold k0_part28_skel
  refine rlWaitK m ρ K c false 1 1 55 rfl rfl (by revert c; decide +kernel) (by revert c; decide +kernel) (fun hc => by revert hc; revert c; decide +kernel) (fun hc => pc_at (by revert hc; revert c; decide +kernel)) ?_
  refine rlPassK m ρ K c false 1 1 55 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  refine rlCrossK m ρ K c false 1 1 56 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  exact .stop

set_option maxRecDepth 65536 in
/-- Pieces that have landed are passed on. -/
theorem part29 (v17 v19 : BitVec 32) (v12 : BitVec 1) : Runs c (Core m ρ K c 57 107)
    (k0_part29 (F := F) xM hx dM hd oM ho rM hr lM hl cc0_scratch2 cc0_scratch3 cc0_scratch4 cc0_scratch5 cc0_scratch6 cc0_scratch7 cc0_scratch8 cc0_scratch9
      c (w2 c) (w5 c) (w8 c) v12 v17 v19)
    (fun _ => Core m ρ K c 58 109) := by
  rw [k0_part29_eq_skeleton]; unfold k0_part29_skel
  refine rlWaitK m ρ K c true 1 1 57 rfl rfl (by revert c; decide +kernel) (by revert c; decide +kernel) (fun hc => by revert hc; revert c; decide +kernel) (fun hc => pc_at (by revert hc; revert c; decide +kernel)) ?_
  refine rlPassK m ρ K c true 1 1 57 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  exact .stop

set_option maxRecDepth 65536 in
/-- Pieces that have landed are passed on. -/
theorem part30 (v11 v17 v19 v758 : BitVec 32) (v13 : BitVec 1) : Runs c (Core m ρ K c 58 109)
    (k0_part30 (F := F) xM hx dM hd oM ho rM hr lM hl cc0_scratch2 cc0_scratch3 cc0_scratch4 cc0_scratch5 cc0_scratch6 cc0_scratch7 cc0_scratch8 cc0_scratch9
      c (w2 c) (w5 c) (w8 c) v11 v13 v17 v19 v758)
    (fun _ => Core m ρ K c 60 112) := by
  rw [k0_part30_eq_skeleton]; unfold k0_part30_skel
  refine rlCrossK m ρ K c true 1 1 58 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  refine rlWaitK m ρ K c false 1 2 59 rfl rfl (by revert c; decide +kernel) (by revert c; decide +kernel) (fun hc => by revert hc; revert c; decide +kernel) (fun hc => pc_at (by revert hc; revert c; decide +kernel)) ?_
  refine rlPassK m ρ K c false 1 2 59 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  exact .stop

set_option maxRecDepth 65536 in
/-- Pieces that have landed are passed on. -/
theorem part31 (v11 v17 v19 v788 : BitVec 32) (v12 : BitVec 1) : Runs c (Core m ρ K c 60 112)
    (k0_part31 (F := F) xM hx dM hd oM ho rM hr lM hl cc0_scratch2 cc0_scratch3 cc0_scratch4 cc0_scratch5 cc0_scratch6 cc0_scratch7 cc0_scratch8 cc0_scratch9
      c (w2 c) (w5 c) (w8 c) v11 v12 v17 v19 v788)
    (fun _ => Core m ρ K c 62 115) := by
  rw [k0_part31_eq_skeleton]; unfold k0_part31_skel
  refine rlCrossK m ρ K c false 1 2 60 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  refine rlWaitK m ρ K c true 1 2 61 rfl rfl (by revert c; decide +kernel) (by revert c; decide +kernel) (fun hc => by revert hc; revert c; decide +kernel) (fun hc => pc_at (by revert hc; revert c; decide +kernel)) ?_
  refine rlPassK m ρ K c true 1 2 61 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  exact .stop

set_option maxRecDepth 65536 in
/-- Pieces that have landed are passed on. -/
theorem part32 (v11 : BitVec 32) (v791 : BitVec 1) : Runs c (Core m ρ K c 62 115)
    (k0_part32 (F := F) xM hx dM hd oM ho rM hr lM hl cc0_scratch2 cc0_scratch3 cc0_scratch4 cc0_scratch5 cc0_scratch6 cc0_scratch7 cc0_scratch8 cc0_scratch9
      c (w5 c) (w8 c) v11 v791)
    (fun _ => Core m ρ K c 63 117) := by
  rw [k0_part32_eq_skeleton]; unfold k0_part32_skel
  refine rlCrossK m ρ K c true 1 2 62 rfl rfl rfl (by revert c; decide +kernel) (fun hc => Fin.ext (by revert hc; revert c; decide +kernel)) (fun hc => pc_at (by revert hc; revert c; decide +kernel)) (fun hc => pc_at (by revert hc; revert c; decide +kernel)) (fun hc => by revert hc; revert c; decide +kernel) (fun hc => by revert hc; revert c; decide +kernel) ?_
  refine xpWaitK m ρ K c 0 63 0 rfl rfl (by revert c; decide +kernel) rfl (pc_at (by revert c; decide +kernel)) ?_
  exact .stop

set_option maxRecDepth 65536 in
/-- Pieces landing from across are waited for. -/
theorem part33 (v11 : BitVec 32) : Runs c (Core m ρ K c 63 117)
    (k0_part33 (F := F) xM hx dM hd oM ho rM hr lM hl cc0_scratch2 cc0_scratch3 cc0_scratch4 cc0_scratch5 cc0_scratch6 cc0_scratch7 cc0_scratch8 cc0_scratch9
      c (w5 c) (w8 c) v11)
    (fun _ => Core m ρ K c 63 119) := by
  rw [k0_part33_eq_skeleton]; unfold k0_part33_skel
  refine xpWaitK m ρ K c 0 63 1 rfl rfl (by revert c; decide +kernel) rfl (pc_at (by revert c; decide +kernel)) ?_
  refine xpWaitK m ρ K c 0 63 2 rfl rfl (by revert c; decide +kernel) rfl (pc_at (by revert c; decide +kernel)) ?_
  exact .stop

set_option maxRecDepth 65536 in
/-- Pieces landing from across are waited for. -/
theorem part34 (v11 : BitVec 32) : Runs c (Core m ρ K c 63 119)
    (k0_part34 (F := F) xM hx dM hd oM ho rM hr lM hl cc0_scratch2 cc0_scratch3 cc0_scratch4 cc0_scratch5 cc0_scratch6 cc0_scratch7 cc0_scratch8 cc0_scratch9
      c (w5 c) (w8 c) v11)
    (fun _ => Core m ρ K c 63 121) := by
  rw [k0_part34_eq_skeleton]; unfold k0_part34_skel
  refine xpWaitK m ρ K c 0 63 3 rfl rfl (by revert c; decide +kernel) rfl (pc_at (by revert c; decide +kernel)) ?_
  refine xpWaitK m ρ K c 1 63 0 rfl rfl (by revert c; decide +kernel) rfl (pc_at (by revert c; decide +kernel)) ?_
  exact .stop

set_option maxRecDepth 65536 in
/-- The last landings from across. -/
theorem part35 (v11 : BitVec 32) : Runs c (Core m ρ K c 63 121)
    (k0_part35 (F := F) xM hx dM hd oM ho rM hr lM hl cc0_scratch2 cc0_scratch3 cc0_scratch4 cc0_scratch5 cc0_scratch6 cc0_scratch7 cc0_scratch8 cc0_scratch9
      c (w5 c) (w8 c) v11 (e0 c))
    (fun v => iprop(⌜v = Scalar.extui (e0 c)⌝ ∗ Core m ρ K c 63 124)) := by
  rw [k0_part35_eq_skeleton]; unfold k0_part35_skel
  refine xpWaitK m ρ K c 1 63 1 rfl rfl (by revert c; decide +kernel) rfl (pc_at (by revert c; decide +kernel)) ?_
  refine xpWaitK m ρ K c 1 63 2 rfl rfl (by revert c; decide +kernel) rfl (pc_at (by revert c; decide +kernel)) ?_
  refine xpWaitK m ρ K c 1 63 3 rfl rfl (by revert c; decide +kernel) rfl (pc_at (by revert c; decide +kernel)) ?_
  exact .done rfl

end Cert.KernelIdeal.Relay
-- ==== Proof.BodyE.lean ====
module

public import proofs.«01_k».proof.Proof.BodyA

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Ci → ℕ)

variable (c : Dev nD) {hx : xM.IsWhole} {hd : dM.IsWhole} {ho : oM.IsWhole} {hr : rM.IsWhole} {hl : lM.IsWhole}

set_option maxRecDepth 65536 in
/-- The sends of the chains and of the pieces are waited for. -/
theorem part36 : Runs c (Core m ρ K c 63 124)
    (k0_part36 (F := F) xM hx dM hd oM ho rM hr lM hl cc0_scratch2 cc0_scratch3 cc0_scratch4 cc0_scratch5 cc0_scratch6 cc0_scratch7 cc0_scratch8 cc0_scratch9
      (e0 c) (e0 c) (e3 c) (e3 c) (e3 c) (Scalar.extui (e0 c)))
    (fun v => iprop(⌜v = Scalar.extui (e3 c)⌝ ∗ Core m ρ K c 63 129)) := by
  rw [k0_part36_eq_skeleton]; unfold k0_part36_skel
  refine chWaitSK m ρ K c false 0 3 63 rfl rfl (by revert c; decide +kernel) (by revert c; decide +kernel) rfl rfl ?_
  refine chWaitSK m ρ K c false 0 2 63 rfl rfl (by revert c; decide +kernel) (by revert c; decide +kernel) rfl rfl ?_
  refine chWaitSK m ρ K c false 0 1 63 rfl rfl (by revert c; decide +kernel) (by revert c; decide +kernel) rfl rfl ?_
  refine chWaitSK m ρ K c true 0 0 63 rfl rfl (by revert c; decide +kernel) (by revert c; decide +kernel) rfl rfl ?_
  refine chWaitSK m ρ K c true 0 1 63 rfl rfl (by revert c; decide +kernel) (by revert c; decide +kernel) rfl rfl ?_
  exact .done rfl

set_option maxRecDepth 65536 in
/-- The sends of the chains and of the pieces are waited for. -/
theorem part37 : Runs c (Core m ρ K c 63 129)
    (k0_part37 (F := F) xM hx dM hd oM ho rM hr lM hl cc0_scratch2 cc0_scratch3 cc0_scratch4 cc0_scratch5 cc0_scratch6 cc0_scratch7 cc0_scratch8 cc0_scratch9
      (fq c 3) (tq c 0) (fq c 2) (tq c 1) (fq c 1) (Scalar.extui (e3 c)))
    (fun v => iprop(⌜v = Scalar.extui (fq c 1)⌝ ∗ Core m ρ K c 63 134)) := by
  rw [k0_part37_eq_skeleton]; unfold k0_part37_skel
  refine chWaitSK m ρ K c true 0 2 63 rfl rfl (by revert c; decide +kernel) (by revert c; decide +kernel) rfl rfl ?_
  refine chWaitFK m ρ K c false 0 3 63 rfl rfl (by decide) (by revert c; decide +kernel) (by revert c; decide +kernel) rfl rfl ?_
  refine chWaitFK m ρ K c true 0 0 63 rfl rfl (by decide) (by revert c; decide +kernel) (by revert c; decide +kernel) rfl rfl ?_
  refine chWaitFK m ρ K c false 0 2 63 rfl rfl (by decide) (by revert c; decide +kernel) (by revert c; decide +kernel) rfl rfl ?_
  refine chWaitFK m ρ K c true 0 1 63 rfl rfl (by decide) (by revert c; decide +kernel) (by revert c; decide +kernel) rfl rfl ?_
  exact .done rfl

set_option maxRecDepth 65536 in
/-- The sends of the chains and of the pieces are waited for. -/
theorem part38 (v12 v13 : BitVec 1) : Runs c (Core m ρ K c 63 134)
    (k0_part38 (F := F) xM hx dM hd oM ho rM hr lM hl cc0_scratch2 cc0_scratch3 cc0_scratch4 cc0_scratch5 cc0_scratch6 cc0_scratch7 cc0_scratch8 cc0_scratch9
      c v12 v13 (tq c 2) (fq c 0) (tq c 3) (Scalar.extui (fq c 1)))
    (fun _ => Core m ρ K c 63 139) := by
  rw [k0_part38_eq_skeleton]; unfold k0_part38_skel
  refine chWaitFK m ρ K c false 0 1 63 rfl rfl (by decide) (by revert c; decide +kernel) (by revert c; decide +kernel) rfl rfl ?_
  refine chWaitFK m ρ K c true 0 2 63 rfl rfl (by decide) (by revert c; decide +kernel) (by revert c; decide +kernel) rfl rfl ?_
  refine chWaitFK m ρ K c false 0 0 63 rfl rfl (by decide) (by revert c; decide +kernel) (by revert c; decide +kernel) rfl rfl ?_
  refine chWaitFK m ρ K c true 0 3 63 rfl rfl (by decide) (by revert c; decide +kernel) (by revert c; decide +kernel) rfl rfl ?_
  refine owBackDK m ρ K c 0 63 rfl rfl (by revert c; decide +kernel) (by revert c; decide +kernel) (fun _ => rfl) (fun hc => pc_at (by revert hc; revert c; decide +kernel)) ?_
  exact .stop

set_option maxRecDepth 65536 in
/-- The sends of the chains and of the pieces are waited for. -/
theorem part39 : Runs c (Core m ρ K c 63 139)
    (k0_part39 (F := F) xM hx dM hd oM ho rM hr lM hl cc0_scratch2 cc0_scratch3 cc0_scratch4 cc0_scratch5 cc0_scratch6 cc0_scratch7 cc0_scratch8 cc0_scratch9
      c (e0 c) (e0 c) (e0 c) (e3 c) (e3 c))
    (fun v => iprop(⌜v = Scalar.cmpi .ne (Scalar.extui (e3 c)) 0#32⌝ ∗ Core m ρ K c 63 144)) := by
  rw [k0_part39_eq_skeleton]; unfold k0_part39_skel
  refine owBackUK m ρ K c 0 63 rfl rfl (by revert c; decide +kernel) (by revert c; decide +kernel) (fun _ => rfl) (fun hc => pc_at (by revert hc; revert c; decide +kernel)) ?_
  refine chWaitSK m ρ K c false 1 3 63 rfl rfl (by revert c; decide +kernel) (by revert c; decide +kernel) rfl rfl ?_
  refine chWaitSK m ρ K c false 1 2 63 rfl rfl (by revert c; decide +kernel) (by revert c; decide +kernel) rfl rfl ?_
  refine chWaitSK m ρ K c false 1 1 63 rfl rfl (by revert c; decide +kernel) (by revert c; decide +kernel) rfl rfl ?_
  refine chWaitSK m ρ K c true 1 0 63 rfl rfl (by revert c; decide +kernel) (by revert c; decide +kernel) rfl rfl ?_
  exact .done rfl

set_option maxRecDepth 65536 in
/-- The sends of the chains and of the pieces are waited for. -/
theorem part40 : Runs c (Core m ρ K c 63 144)
    (k0_part40 (F := F) xM hx dM hd oM ho rM hr lM hl cc0_scratch2 cc0_scratch3 cc0_scratch4 cc0_scratch5 cc0_scratch6 cc0_scratch7 cc0_scratch8 cc0_scratch9
      (e3 c) (fq c 3) (tq c 0) (fq c 2) (tq c 1) (Scalar.cmpi .ne (Scalar.extui (e3 c)) 0#32))
    (fun v => iprop(⌜v = Scalar.cmpi .ne (Scalar.extui (tq c 1)) 0#32⌝ ∗ Core m ρ K c 63 149)) := by
  rw [k0_part40_eq_skeleton]; unfold k0_part40_skel
  refine chWaitSK m ρ K c true 1 1 63 rfl rfl (by revert c; decide +kernel) (by revert c; decide +kernel) rfl rfl ?_
  refine chWaitSK m ρ K c true 1 2 63 rfl rfl (by revert c; decide +kernel) (by revert c; decide +kernel) rfl rfl ?_
  refine chWaitFK m ρ K c false 1 3 63 rfl rfl (by decide) (by revert c; decide +kernel) (by revert c; decide +kernel) rfl rfl ?_
  refine chWaitFK m ρ K c true 1 0 63 rfl rfl (by decide) (by revert c; decide +kernel) (by revert c; decide +kernel) rfl rfl ?_
  refine chWaitFK m ρ K c false 1 2 63 rfl rfl (by decide) (by revert c; decide +kernel) (by revert c; decide +kernel) rfl rfl ?_
  exact .done rfl

set_option maxRecDepth 65536 in
/-- The sends of the chains and of the pieces are waited for. -/
theorem part41 (v12 v13 : BitVec 1) : Runs c (Core m ρ K c 63 149)
    (k0_part41 (F := F) xM hx dM hd oM ho rM hr lM hl cc0_scratch2 cc0_scratch3 cc0_scratch4 cc0_scratch5 cc0_scratch6 cc0_scratch7 cc0_scratch8 cc0_scratch9
      c v12 v13 (fq c 1) (tq c 2) (fq c 0) (tq c 3) (Scalar.cmpi .ne (Scalar.extui (tq c 1)) 0#32))
    (fun _ => Core m ρ K c 63 155) := by
  rw [k0_part41_eq_skeleton]; unfold k0_part41_skel
  refine chWaitFK m ρ K c true 1 1 63 rfl rfl (by decide) (by revert c; decide +kernel) (by revert c; decide +kernel) rfl rfl ?_
  refine chWaitFK m ρ K c false 1 1 63 rfl rfl (by decide) (by revert c; decide +kernel) (by revert c; decide +kernel) rfl rfl ?_
  refine chWaitFK m ρ K c true 1 2 63 rfl rfl (by decide) (by revert c; decide +kernel) (by revert c; decide +kernel) rfl rfl ?_
  refine chWaitFK m ρ K c false 1 0 63 rfl rfl (by decide) (by revert c; decide +kernel) (by revert c; decide +kernel) rfl rfl ?_
  refine chWaitFK m ρ K c true 1 3 63 rfl rfl (by decide) (by revert c; decide +kernel) (by revert c; decide +kernel) rfl rfl ?_
  refine owBackDK m ρ K c 1 63 rfl rfl (by revert c; decide +kernel) (by revert c; decide +kernel) (fun _ => rfl) (fun hc => pc_at (by revert hc; revert c; decide +kernel)) ?_
  exact .stop

set_option maxRecDepth 65536 in
/-- The sends of the chains and of the pieces are waited for. -/
theorem part42 (v995 : BitVec 32) (v455 v472 v486 v503 v516 v533 v547 v564 v594 : BitVec 1) : Runs c (Core m ρ K c 63 155)
    (k0_part42 (F := F) xM hx dM hd oM ho rM hr lM hl cc0_scratch2 cc0_scratch3 cc0_scratch4 cc0_scratch5 cc0_scratch6 cc0_scratch7 cc0_scratch8 cc0_scratch9
      c v455 v472 v486 v503 v516 v533 v547 v564 v594 v995)
    (fun _ => Core m ρ K c 63 164) := by
  rw [k0_part42_eq_skeleton]; unfold k0_part42_skel
  refine owBackUK m ρ K c 1 63 rfl rfl (by revert c; decide +kernel) (by revert c; decide +kernel) (fun _ => rfl) (fun hc => pc_at (by revert hc; revert c; decide +kernel)) ?_
  refine rlBack0K m ρ K c false 0 0 63 rfl rfl (by revert c; decide +kernel) (by revert c; decide +kernel) (fun hc => by revert hc; revert c; decide +kernel) (fun hc => pc_at (by revert hc; revert c; decide +kernel)) ?_
  refine rlBack1K m ρ K c false 0 0 63 rfl rfl (by revert c; decide +kernel) (by revert c; decide +kernel) (fun hc => by revert hc; revert c; decide +kernel) (fun hc => pc_at (by revert hc; revert c; decide +kernel)) ?_
  refine rlBack0K m ρ K c true 0 0 63 rfl rfl (by revert c; decide +kernel) (by revert c; decide +kernel) (fun hc => by revert hc; revert c; decide +kernel) (fun hc => pc_at (by revert hc; revert c; decide +kernel)) ?_
  refine rlBack1K m ρ K c true 0 0 63 rfl rfl (by revert c; decide +kernel) (by revert c; decide +kernel) (fun hc => by revert hc; revert c; decide +kernel) (fun hc => pc_at (by revert hc; revert c; decide +kernel)) ?_
  refine rlBack0K m ρ K c false 0 1 63 rfl rfl (by revert c; decide +kernel) (by revert c; decide +kernel) (fun hc => by revert hc; revert c; decide +kernel) (fun hc => pc_at (by revert hc; revert c; decide +kernel)) ?_
  refine rlBack1K m ρ K c false 0 1 63 rfl rfl (by revert c; decide +kernel) (by revert c; decide +kernel) (fun hc => by revert hc; revert c; decide +kernel) (fun hc => pc_at (by revert hc; revert c; decide +kernel)) ?_
  refine rlBack0K m ρ K c true 0 1 63 rfl rfl (by revert c; decide +kernel) (by revert c; decide +kernel) (fun hc => by revert hc; revert c; decide +kernel) (fun hc => pc_at (by revert hc; revert c; decide +kernel)) ?_
  refine rlBack1K m ρ K c true 0 1 63 rfl rfl (by revert c; decide +kernel) (by revert c; decide +kernel) (fun hc => by revert hc; revert c; decide +kernel) (fun hc => pc_at (by revert hc; revert c; decide +kernel)) ?_
  exact .stop

set_option maxRecDepth 65536 in
/-- The sends of the chains and of the pieces are waited for. -/
theorem part43 (v1013 : BitVec 32) (v577 v608 v625 v638 v655 v669 v686 v716 : BitVec 1) : Runs c (Core m ρ K c 63 164)
    (k0_part43 (F := F) xM hx dM hd oM ho rM hr lM hl cc0_scratch2 cc0_scratch3 cc0_scratch4 cc0_scratch5 cc0_scratch6 cc0_scratch7 cc0_scratch8 cc0_scratch9
      c v577 v608 v625 v638 v655 v669 v686 v716 v1013)
    (fun _ => Core m ρ K c 63 172) := by
  rw [k0_part43_eq_skeleton]; unfold k0_part43_skel
  refine rlBack0K m ρ K c false 0 2 63 rfl rfl (by revert c; decide +kernel) (by revert c; decide +kernel) (fun hc => by revert hc; revert c; decide +kernel) (fun hc => pc_at (by revert hc; revert c; decide +kernel)) ?_
  refine rlBack1K m ρ K c false 0 2 63 rfl rfl (by revert c; decide +kernel) (by revert c; decide +kernel) (fun hc => by revert hc; revert c; decide +kernel) (fun hc => pc_at (by revert hc; revert c; decide +kernel)) ?_
  refine rlBack0K m ρ K c true 0 2 63 rfl rfl (by revert c; decide +kernel) (by revert c; decide +kernel) (fun hc => by revert hc; revert c; decide +kernel) (fun hc => pc_at (by revert hc; revert c; decide +kernel)) ?_
  refine rlBack1K m ρ K c true 0 2 63 rfl rfl (by revert c; decide +kernel) (by revert c; decide +kernel) (fun hc => by revert hc; revert c; decide +kernel) (fun hc => pc_at (by revert hc; revert c; decide +kernel)) ?_
  refine rlBack0K m ρ K c false 1 0 63 rfl rfl (by revert c; decide +kernel) (by revert c; decide +kernel) (fun hc => by revert hc; revert c; decide +kernel) (fun hc => pc_at (by revert hc; revert c; decide +kernel)) ?_
  refine rlBack1K m ρ K c false 1 0 63 rfl rfl (by revert c; decide +kernel) (by revert c; decide +kernel) (fun hc => by revert hc; revert c; decide +kernel) (fun hc => pc_at (by revert hc; revert c; decide +kernel)) ?_
  refine rlBack0K m ρ K c true 1 0 63 rfl rfl (by revert c; decide +kernel) (by revert c; decide +kernel) (fun hc => by revert hc; revert c; decide +kernel) (fun hc => pc_at (by revert hc; revert c; decide +kernel)) ?_
  refine rlBack1K m ρ K c true 1 0 63 rfl rfl (by revert c; decide +kernel) (by revert c; decide +kernel) (fun hc => by revert hc; revert c; decide +kernel) (fun hc => pc_at (by revert hc; revert c; decide +kernel)) ?_
  exact .stop

set_option maxRecDepth 65536 in
/-- The sends of the chains and of the pieces are waited for. -/
theorem part44 (v1029 c0_i32_1355 : BitVec 32) (v699 v730 v747 v760 v777 v791 v808 : BitVec 1) : Runs c (Core m ρ K c 63 172)
    (k0_part44 (F := F) xM hx dM hd oM ho rM hr lM hl cc0_scratch2 cc0_scratch3 cc0_scratch4 cc0_scratch5 cc0_scratch6 cc0_scratch7 cc0_scratch8 cc0_scratch9
      c v699 v730 v747 v760 v777 v791 v808 v1029 c0_i32_1355)
    (fun _ => Core m ρ K c 63 180) := by
  rw [k0_part44_eq_skeleton]; unfold k0_part44_skel
  refine rlBack0K m ρ K c false 1 1 63 rfl rfl (by revert c; decide +kernel) (by revert c; decide +kernel) (fun hc => by revert hc; revert c; decide +kernel) (fun hc => pc_at (by revert hc; revert c; decide +kernel)) ?_
  refine rlBack1K m ρ K c false 1 1 63 rfl rfl (by revert c; decide +kernel) (by revert c; decide +kernel) (fun hc => by revert hc; revert c; decide +kernel) (fun hc => pc_at (by revert hc; revert c; decide +kernel)) ?_
  refine rlBack0K m ρ K c true 1 1 63 rfl rfl (by revert c; decide +kernel) (by revert c; decide +kernel) (fun hc => by revert hc; revert c; decide +kernel) (fun hc => pc_at (by revert hc; revert c; decide +kernel)) ?_
  refine rlBack1K m ρ K c true 1 1 63 rfl rfl (by revert c; decide +kernel) (by revert c; decide +kernel) (fun hc => by revert hc; revert c; decide +kernel) (fun hc => pc_at (by revert hc; revert c; decide +kernel)) ?_
  refine rlBack0K m ρ K c false 1 2 63 rfl rfl (by revert c; decide +kernel) (by revert c; decide +kernel) (fun hc => by revert hc; revert c; decide +kernel) (fun hc => pc_at (by revert hc; revert c; decide +kernel)) ?_
  refine rlBack1K m ρ K c false 1 2 63 rfl rfl (by revert c; decide +kernel) (by revert c; decide +kernel) (fun hc => by revert hc; revert c; decide +kernel) (fun hc => pc_at (by revert hc; revert c; decide +kernel)) ?_
  refine rlBack0K m ρ K c true 1 2 63 rfl rfl (by revert c; decide +kernel) (by revert c; decide +kernel) (fun hc => by revert hc; revert c; decide +kernel) (fun hc => pc_at (by revert hc; revert c; decide +kernel)) ?_
  refine rlBack1K m ρ K c true 1 2 63 rfl rfl (by revert c; decide +kernel) (by revert c; decide +kernel) (fun hc => by revert hc; revert c; decide +kernel) (fun hc => pc_at (by revert hc; revert c; decide +kernel)) ?_
  exact .stop

end Cert.KernelIdeal.Relay
-- ==== Proof.Body.lean ====
module

public import proofs.«01_k».proof.Proof.Begin
public import proofs.«01_k».proof.Proof.BodyB
public import proofs.«01_k».proof.Proof.BodyC
public import proofs.«01_k».proof.Proof.BodyD
public import proofs.«01_k».proof.Proof.BodyE

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Ci → ℕ)

/-- A run whose value does not matter, followed by another. -/
theorem Runs.any {α β : Type} {c : Dev nD} {P P' : sProp 𝕄} {p : Prog (TpuEff nD τ sig (Elt F) Λ₀ .tc) β} {k : β → Prog (TpuEff nD τ sig (Elt F) Λ₀ .tc) α}
    {Q : α → sProp 𝕄} (h : Runs c P p fun _ => P') (hk : ∀ v, Runs c P' (k v) Q) : Runs c P (p >>= k) Q :=
  ⟨by
    unfold WP; rw [wp_bind]
    exact h.out.trans (wp_mono _ _ _ fun v => (hk v).out)⟩

variable (c : Dev nD) {hx : xM.IsWhole} {hd : dM.IsWhole} {ho : oM.IsWhole} {hr : rM.IsWhole} {hl : lM.IsWhole}

set_option maxRecDepth 65536 in
/-- The whole program of a device: from what the launch gives to the end of its last wait. -/
theorem body_runs : Runs c (Init m ρ K c)
    (cc0_body (F := F) xM hx dM hd oM ho rM hr lM hl cc0_scratch2 cc0_scratch3 cc0_scratch4 cc0_scratch5 cc0_scratch6 cc0_scratch7 cc0_scratch8 cc0_scratch9)
    (fun _ => iprop(Core m ρ K c 63 182 ∗ Cl m ρ c (loc (.bar 0)))) := by
  rw [cc0_body_eq_skeleton]; unfold cc0_body_skel
  refine .value ((part1 m ρ K c).pre (init_S0 m ρ K c)) ?_
  refine .value (part2 m ρ K c _ _ _ _ _ _ _) ?_
  refine Runs.frame (Q := fun _ => Core m ρ K c 63 182) ?_
  refine .value (part3 m ρ K c _ _ _ _) ?_
  refine .value (part4 m ρ K c _ _) ?_
  refine .value (part5 m ρ K c _ _ _) ?_
  refine .value (part6 m ρ K c _ _ _) ?_
  refine .value (part7 m ρ K c _ _ _) ?_
  refine .value (part8 m ρ K c _ _ _) ?_
  refine .any (part9 m ρ K c _ _ _) ?_
  intro a9
  refine .any (part10 m ρ K c _ _ _ _) ?_
  intro a10
  refine .value (part11 m ρ K c _ _ _) ?_
  refine .value (part12 m ρ K c _) ?_
  refine .value (part13 m ρ K c _) ?_
  refine .value (part14 m ρ K c _ _) ?_
  refine .value (part15 m ρ K c _ _) ?_
  refine .value (part16 m ρ K c _ _) ?_
  refine .value (part17 m ρ K c _ _) ?_
  refine .any (part18 m ρ K c _ _) ?_
  intro a18
  refine .any (part19 m ρ K c _ _ _ _) ?_
  rintro ⟨a19_0, a19_1⟩
  refine .any (part20 m ρ K c _ _ _ _ _ _) ?_
  rintro ⟨a20_0, a20_1, a20_2, a20_3⟩
  refine .any (part21 m ρ K c _ _ _ _ _ _ _) ?_
  rintro ⟨a21_0, a21_1, a21_2⟩
  refine .any (part22 m ρ K c _ _ _ _ _ _) ?_
  rintro ⟨a22_0, a22_1, a22_2, a22_3, a22_4⟩
  refine .any (part23 m ρ K c _ _ _ _ _ _ _ _) ?_
  rintro ⟨a23_0, a23_1, a23_2, a23_3⟩
  refine .any (part24 m ρ K c _ _ _ _ _ _ _) ?_
  rintro ⟨a24_0, a24_1, a24_2⟩
  refine .any (part25 m ρ K c _ _ _ _ _ _) ?_
  rintro ⟨a25_0, a25_1, a25_2, a25_3⟩
  refine .any (part26 m ρ K c _ _ _ _ _ _ _) ?_
  rintro ⟨a26_0, a26_1⟩
  refine .any (part27 m ρ K c _ _ _ _ _) ?_
  rintro ⟨a27_0, a27_1⟩
  refine .any (part28 m ρ K c _ _ _ _ _) ?_
  rintro ⟨a28_0, a28_1⟩
  refine .any (part29 m ρ K c _ _ _) ?_
  rintro ⟨a29_0, a29_1, a29_2⟩
  refine .any (part30 m ρ K c _ _ _ _ _) ?_
  rintro ⟨a30_0, a30_1, a30_2⟩
  refine .any (part31 m ρ K c _ _ _ _ _) ?_
  rintro ⟨a31_0, a31_1⟩
  refine .any (part32 m ρ K c _ _) ?_
  intro a32
  refine .any (part33 m ρ K c _) ?_
  intro a33
  refine .any (part34 m ρ K c _) ?_
  intro a34
  refine .value (part35 m ρ K c _) ?_
  refine .value (part36 m ρ K c) ?_
  refine .value (part37 m ρ K c) ?_
  refine .any (part38 m ρ K c _ _) ?_
  intro a38
  refine .value (part39 m ρ K c) ?_
  refine .value (part40 m ρ K c) ?_
  refine .any (part41 m ρ K c _ _) ?_
  intro a41
  refine .any (part42 m ρ K c _ _ _ _ _ _ _ _ _ _) ?_
  intro a42
  refine .any (part43 m ρ K c _ _ _ _ _ _ _ _ _) ?_
  rintro ⟨a43_0, a43_1⟩
  refine .any (part44 m ρ K c _ _ _ _ _ _ _ _ _) ?_
  intro a44
  refine owBackXK m ρ K c 0 63 rfl rfl (by revert c; decide +kernel) rfl (pc_at (by revert c; decide +kernel)) ?_
  refine owBackXK m ρ K c 1 63 rfl rfl (by revert c; decide +kernel) rfl (pc_at (by revert c; decide +kernel)) ?_
  exact .stop

end Cert.KernelIdeal.Relay
-- ==== Proof.Finish.lean ====
module

public import proofs.«01_k».proof.Proof.Start2

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Ci → ℕ)

/-! ## The parts at the end -/

/-- How often each chain's slot was operated on in all. -/
theorem cnt_ch : ∀ (b : Bool) (h : Fin 2) (q : Fin 4), cnt 182 (.ch b h q) = 6 ∧ qb b q = 0 ∨ cnt 182 (.ch b h q) = 7 := by decide +kernel
/-- How often each own piece was. -/
theorem cnt_ow : ∀ h : Fin 2, cnt 182 (.ow h) = 7 := by decide +kernel
/-- How often each piece passed on was. -/
theorem cnt_rl : ∀ (b : Bool) (h : Fin 2) (n : Fin 3), cnt 182 (.rl b h n) = 5 := by decide +kernel
/-- How often each landing from across was. -/
theorem cnt_xp : ∀ (h : Fin 2) (j : Fin 4), cnt 182 (.xp h j) = 1 := by decide +kernel
/-- The row block of a chain's first place is neither started nor passed on in that chain. -/
theorem sf_zero : ∀ (b : Bool) (c : Dev nD) (q : Fin 4), qb b q = 0 → isS b c q = false ∧ isF b c q = false := by decide +kernel

/-- A slot that holds something known holds anything. -/
theorem any_of_is (c : Dev nD) (b : Bool) (h : Fin 2) (q : Fin 4) (w : Vec F S1x1x256x256 .f32) : slotIs c b h q w ⊢ slotAny c b h q := by
  unfold slotIs slotAny
  iintro ⟨%f, -, H⟩
  iexists f; iexact H

/-- A slot at the end: back, and its semaphores done. -/
def chEnd (c : Dev nD) (b : Bool) (h : Fin 2) (q : Fin 4) : sProp 𝕄 :=
  iprop(slotAny c b h q ∗ Cl m ρ c (loc (.rc b h q)) ∗ Cl m ρ c (loc (.sd b h q)))

/-- A chain's slot in its last state is given back, its cells closed. -/
theorem ch_last (c : Dev nD) (b : Bool) (h : Fin 2) (q : Fin 4) {v : ℕ} (hv : v = 6 ∧ isF b c q = false ∨ v = 7) : chA m ρ c b h q v ⊢ chEnd m ρ c b h q := by
  unfold chA chEnd
  by_cases S : isS b c q = true
  · rw [if_pos S]
    have e : iprop(Cl m ρ c (loc (.rc b h q)) ∗ slotAny c b h q ∗ Cl m ρ c (loc (.sd b h q))) ⊢ iprop(slotAny c b h q ∗ Cl m ρ c (loc (.rc b h q)) ∗ Cl m ρ c (loc (.sd b h q))) := by
      iintro ⟨H1, H2, H3⟩
      isplitl [H2]; · iexact H2
      isplitl [H1] <;> iassumption
    rcases hv with ⟨rfl, -⟩ | rfl <;> exact e
  rw [if_neg S]
  by_cases F' : isF b c q = true
  · rw [if_pos F']
    rcases hv with ⟨rfl, hf⟩ | rfl
    · rw [F'] at hf; exact Bool.noConfusion hf
    show iprop(Cl m ρ c (loc (.rc b h q)) ∗ slotAny c b h q ∗ Cl m ρ c (loc (.sd b h q))) ⊢ _
    iintro ⟨H1, H2, H3⟩
    isplitl [H2]; · iexact H2
    isplitl [H1] <;> iassumption
  rw [if_neg F']
  by_cases T : isT b c q = true
  · rw [if_pos T]
    have e : iprop(iprop(Cl m ρ c (loc (.rc b h q)) ∗ slotIs c b h q (given m ρ b h q c)) ∗ Cl m ρ c (loc (.sd b h q)))
        ⊢ iprop(slotAny c b h q ∗ Cl m ρ c (loc (.rc b h q)) ∗ Cl m ρ c (loc (.sd b h q))) := by
      iintro ⟨⟨H1, H2⟩, H3⟩
      isplitl [H2]; · iapply (any_of_is c b h q _); iexact H2
      isplitl [H1] <;> iassumption
    rcases hv with ⟨rfl, -⟩ | rfl <;> exact e
  rw [if_neg T]

/-- So at the end of the program. -/
theorem ch_end (c : Dev nD) (b : Bool) (h : Fin 2) (q : Fin 4) : A m ρ c (.ch b h q) (cnt 182 (.ch b h q)) ⊢ chEnd m ρ c b h q :=
  ch_last m ρ c b h q ((cnt_ch b h q).imp (fun h' => ⟨h'.1, (sf_zero b c q h'.2).2⟩) id)

/-- A send that was waited for, or never made, leaves its share of the piece and its cell closed. -/
theorem snd_two (c : Dev nD) (k : Key) : Snd m ρ c k 2 = iprop(pay m ρ c k ∗ Cl m ρ c (loc k)) := by
  unfold Snd; split <;> rfl

/-- The semaphores of a piece at `j` along the third axis, done. -/
def zEnd (c : Dev nD) (h : Fin 2) (j : Fin 4) : sProp 𝕄 :=
  iprop(Cl m ρ c (loc (.zc false h j)) ∗ Cl m ρ c (loc (.es h j 0)) ∗ Cl m ρ c (loc (.es h j 1)))

/-- Two halves of a share of a piece are the share. -/
theorem halves (c : Dev nD) (x : Fin 2) (j : Fin 4) (h : Fin 2) (s : PosShare TreeShare) :
    iprop(pcIs (F := F) m ρ c x j h s.left ∗ pcIs m ρ c x j h s.right) ⊢ pcIs m ρ c x j h s :=
  (pointsTo_share (PosShare.mem_left_op_right s)).2

/-- At the end the own piece is whole, its cells closed. -/
theorem ow_end (c : Dev nD) (h : Fin 2) : A m ρ c (.ow h) (cnt 182 (.ow h))
    ⊢ iprop(pcIs m ρ c (X c) (Z c) h fullShare ∗ (bigSep Finset.univ fun k : Fin 3 => Cl m ρ c (loc (.os h k))) ∗ zEnd m ρ c h (Z c)) := by
  rw [cnt_ow, bigSep_three]
  show iprop(iprop(Snd m ρ c (.os h 2) 2 ∗ Snd m ρ c (.os h 0) 2 ∗ Snd m ρ c (.os h 1) 2) ∗ zEnd m ρ c h (Z c)) ⊢ _
  rw [snd_two, snd_two, snd_two]
  show iprop(iprop((pcIs m ρ c (X c) (Z c) h fullShare.left ∗ _) ∗ (pcIs m ρ c (X c) (Z c) h fullShare.right.left ∗ _) ∗ (pcIs m ρ c (X c) (Z c) h fullShare.right.right ∗ _)) ∗ zEnd m ρ c h (Z c)) ⊢ _
  iintro ⟨⟨⟨P2, H2⟩, ⟨P0, H0⟩, ⟨P1, H1⟩⟩, HZ⟩
  isplitl [P0 P1 P2]
  · iapply (halves m ρ c (X c) (Z c) h fullShare)
    isplitl [P2]; · iexact P2
    iapply (halves m ρ c (X c) (Z c) h fullShare.right)
    isplitl [P0] <;> iassumption
  isplitl [H0 H1 H2]
  · isplitl [H0]; · iexact H0
    isplitl [H1] <;> iassumption
  iexact HZ

/-- At the end a piece passed on is whole, its cells closed. -/
theorem rl_end (c : Dev nD) (h : Fin 2) (b : Bool) (n : Fin 3) : A m ρ c (.rl b h n) (cnt 182 (.rl b h n))
    ⊢ if jin b c n.succ = true then iprop(pcIs m ρ c (X c) (jn b c n.succ) h fullShare ∗ zEnd m ρ c h (jn b c n.succ)) else iprop(emp) := by
  rw [cnt_rl]
  show (if jin b c n.succ = true then iprop(Cl m ρ c (loc (.zc b h (jn b c n.succ))) ∗ Snd m ρ c (.es h (jn b c n.succ) 0) 2 ∗ Snd m ρ c (.es h (jn b c n.succ) 1) 2) else iprop(emp)) ⊢ _
  by_cases hj : jin b c n.succ = true
  · rw [if_pos hj, if_pos hj, snd_two, snd_two]
    unfold zEnd
    show iprop(_ ∗ (pcIs m ρ c (X c) (jn b c n.succ) h fullShare.left ∗ _) ∗ (pcIs m ρ c (X c) (jn b c n.succ) h fullShare.right ∗ _)) ⊢ _
    rw [show loc (.zc b h (jn b c n.succ)) = loc (.zc false h (jn b c n.succ)) from by cases b <;> rfl]
    iintro ⟨Hz, ⟨P0, H0⟩, ⟨P1, H1⟩⟩
    isplitl [P0 P1]
    · iapply (halves m ρ c (X c) (jn b c n.succ) h fullShare); isplitl [P0] <;> iassumption
    isplitl [Hz]; · iexact Hz
    isplitl [H0] <;> iassumption
  · rw [if_neg hj, if_neg hj]

/-- At the end a landing from across is whole, its cell closed. -/
theorem xp_end (c : Dev nD) (h : Fin 2) (j : Fin 4) : A m ρ c (.xp h j) (cnt 182 (.xp h j)) ⊢ iprop(pcIs m ρ c (1 - X c) j h fullShare ∗ Cl m ρ c (loc (.xr h j))) := by
  rw [cnt_xp]; exact .rfl

/-- The whole result in its pieces. -/
def OUTS (c : Dev nD) : sProp 𝕄 := bigSep Finset.univ fun p : Fin 2 × Fin 2 × Fin 4 => pcIs m ρ c p.1 p.2.2 p.2.1 fullShare
/-- All of a device's semaphores done. -/
def CLS (c : Dev nD) : sProp 𝕄 := bigSep Finset.univ fun i : Ci => Cl m ρ c (cl i)

/-- Three assertions, grouped. -/
theorem group {M : Type} [URA M] (P Q R : sProp M) : iprop(P ∗ Q ∗ R) ⊢ iprop((P ∗ Q) ∗ R) := by
  iintro ⟨H1, H2, H3⟩
  isplitr [H3]
  · isplitl [H1] <;> iassumption
  iexact H3

/-- At the end all parts give the slots, the finished result and the closed cells. -/
theorem parts_end (c : Dev nD) : iprop((bigSep Finset.univ fun s : Slot => A m ρ c s (cnt 182 s)) ∗ Cl m ρ c (loc (.bar 0))) ⊢ iprop(SLOTS c ∗ OUTS m ρ c ∗ CLS m ρ c) := by
  have hes : ∀ Φ : Fin 2 × Fin 4 × Fin 2 → sProp 𝕄, bigSep Finset.univ Φ
      = bigSep Finset.univ fun p : Fin 2 × Fin 4 => iprop(Φ (p.1, p.2, 0) ∗ Φ (p.1, p.2, 1)) := fun Φ => by
    rw [bigSep_univ_equiv (Equiv.prodAssoc (Fin 2) (Fin 4) (Fin 2)) Φ, bigSep_univ_prod]
    exact bigSep_congr fun p _ => bigSep_two _
  have hz : ∀ h : Fin 2, iprop(iprop(pcIs m ρ c (X c) (Z c) h fullShare ∗ zEnd m ρ c h (Z c)) ∗ bigSep Finset.univ fun p : Bool × Fin 3 => A m ρ c (.rl p.1 h p.2) (cnt 182 (.rl p.1 h p.2)))
      ⊢ bigSep Finset.univ fun j : Fin 4 => iprop(pcIs m ρ c (X c) j h fullShare ∗ zEnd m ρ c h j) := fun h => by
    rw [bigSep_z c (fun j => iprop(pcIs m ρ c (X c) j h fullShare ∗ zEnd m ρ c h j))]
    exact sep_mono_right (bigSep_mono fun p _ => rl_end m ρ c h p.1 p.2)
  rw [bigSep_slot]
  unfold SLOTS OUTS CLS
  rw [bigSep_ci]; simp only [cl_ci]
  rw [bigSep_univ_prod (fun p : Fin 2 × Fin 2 × Fin 4 => pcIs (F := F) m ρ c p.1 p.2.2 p.2.1 fullShare),
    bigSep_x c (fun x => bigSep Finset.univ fun p : Fin 2 × Fin 4 => pcIs (F := F) m ρ c x p.2 p.1 fullShare), hes]
  iintro ⟨⟨Hch, How, Hrl, Hxp⟩, Hbar⟩
  ihave Hch := (fam_mono fun p : Bool × Fin 2 × Fin 4 => ch_end m ρ c p.1 p.2.1 p.2.2) $$ Hch
  ihave Hch := (Entails.of_eq (show (bigSep Finset.univ fun p : Bool × Fin 2 × Fin 4 => chEnd (F := F) m ρ c p.1 p.2.1 p.2.2) = _ from by
    unfold chEnd; rw [bigSep_sep', bigSep_sep'])) $$ Hch
  icases Hch with ⟨HS, Hrc, Hsd⟩
  ihave How := (fam_mono fun h : Fin 2 => ow_end m ρ c h) $$ How
  ihave How := (Entails.of_eq (show (bigSep Finset.univ fun h : Fin 2 => iprop(pcIs (F := F) m ρ c (X c) (Z c) h fullShare ∗ (bigSep Finset.univ fun k : Fin 3 => Cl m ρ c (loc (.os h k))) ∗ zEnd m ρ c h (Z c))) = _ from by
    rw [bigSep_sep', bigSep_sep', ← bigSep_univ_prod (fun p : Fin 2 × Fin 3 => Cl (F := F) m ρ c (loc (.os p.1 p.2)))])) $$ How
  icases How with ⟨Hp, Hos, Hz⟩
  ihave Hxp := (fam_mono fun p : Fin 2 × Fin 4 => xp_end m ρ c p.1 p.2) $$ Hxp
  ihave Hxp := (Entails.of_eq (bigSep_sep' Finset.univ (fun p : Fin 2 × Fin 4 => pcIs (F := F) m ρ c (1 - X c) p.2 p.1 fullShare) fun p => Cl m ρ c (loc (.xr p.1 p.2)))) $$ Hxp
  icases Hxp with ⟨Hxp, Hxr⟩
  ihave HZ := (show iprop((bigSep Finset.univ fun h : Fin 2 => pcIs (F := F) m ρ c (X c) (Z c) h fullShare) ∗ (bigSep Finset.univ fun h : Fin 2 => zEnd m ρ c h (Z c))
      ∗ bigSep Finset.univ fun h : Fin 2 => bigSep Finset.univ fun p : Bool × Fin 3 => A m ρ c (.rl p.1 h p.2) (cnt 182 (.rl p.1 h p.2)))
      ⊢ iprop((bigSep Finset.univ fun p : Fin 2 × Fin 4 => pcIs m ρ c (X c) p.2 p.1 fullShare) ∗ (bigSep Finset.univ fun p : Fin 2 × Fin 4 => Cl m ρ c (loc (.zc false p.1 p.2)))
        ∗ bigSep Finset.univ fun p : Fin 2 × Fin 4 => iprop(Cl m ρ c (loc (.es p.1 p.2 0)) ∗ Cl m ρ c (loc (.es p.1 p.2 1)))) from by
    rw [← bigSep_sep', ← bigSep_sep', ← bigSep_sep', ← bigSep_sep']
    rw [bigSep_univ_prod (fun p : Fin 2 × Fin 4 => _)]
    exact bigSep_mono fun h _ => (group _ _ _).trans (hz h)) $$ [Hp Hz Hrl]
  · isplitl [Hp]; · iexact Hp
    isplitl [Hz] <;> iassumption
  icases HZ with ⟨Hp, Hz, He⟩
  isplitl [HS]; · iexact HS
  isplitl [Hp Hxp]
  · isplitl [Hp]; · iexact Hp
    iexact Hxp
  isplitl [Hbar]; · iexact Hbar
  isplitl [Hrc]; · iexact Hrc
  isplitl [Hsd]; · iexact Hsd
  isplitl [Hz]; · iexact Hz
  isplitl [Hxr]; · iexact Hxr
  isplitl [Hos] <;> iassumption

/-- The semaphores are closed, each at zero. -/
theorem close_all (c : Dev nD) : iprop(recs m ρ K ∗ CLS m ρ c) ⊢ |={Set.univ}=> bigSep Finset.univ fun i : Ci => semVal ((c : Thread nD τ), cl i) 0 := by
  have h : ∀ i : Ci, iprop(recs m ρ K ∗ Cl m ρ c (cl i)) ⊢ |={Set.univ}=> semVal ((c : Thread nD τ), cl i) 0 := fun i => by
    unfold Cl
    iintro ⟨#HI, %R, %hR, Hat⟩
    ihave H := (show recs m ρ K ⊢ iprop(cellInv ER (Rd m ρ) (K (c, i)) ((c : Thread nD τ), cl i) ∗ reached ER ((c : Thread nD τ), cl i) 0) from
      bigSep_elim (Finset.mem_univ (c, i))) $$ HI
    icases H with ⟨#HI1, -⟩
    iapply (Rounds.cell_close ER (Rd m ρ) (Set.mem_univ (K (c, i))) (fun h => h) (R := R) hR)
    isplitr; · iexact HI1
    iexact Hat
  unfold CLS
  refine .trans ((sep_mono_left (BI.bigSep_of_persistent (Finset.univ : Finset Ci) (recs m ρ K))).trans ?_) (bigSep_fupd _ _)
  rw [← bigSep_sep']
  exact bigSep_mono fun i _ => h i

end Cert.KernelIdeal.Relay
-- ==== Proof.Places.lean ====
module

public import proofs.«01_k».proof.Proof.Finish

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Ci → ℕ)

/-! ## The buffers and their parts -/

/-- An entry is in a slot when its first two coordinates say so. -/
theorem slot_mem (h : Fin 2) (q : Fin 4) (i : S2x4x256x256.Idx) : i ∈ (srect h q).set ↔ (i 0).val = h.val ∧ (i 1).val = q.val := by
  rw [Rect.mem_set_unit]
  have h2 : (i 2).val < 256 := (i 2).isLt
  have h3 : (i 3).val < 256 := (i 3).isLt
  constructor
  · intro hi
    have h0 : h.val ≤ (i 0).val ∧ (i 0).val < h.val + 1 := hi 0
    have h1 : q.val ≤ (i 1).val ∧ (i 1).val < q.val + 1 := hi 1
    omega
  · rintro ⟨h0, h1⟩ a
    match a with
    | 0 => show h.val ≤ (i 0).val ∧ (i 0).val < h.val + 1; omega
    | 1 => show q.val ≤ (i 1).val ∧ (i 1).val < q.val + 1; omega
    | 2 => show 0 ≤ (i 2).val ∧ (i 2).val < 0 + 256; omega
    | 3 => show 0 ≤ (i 3).val ∧ (i 3).val < 0 + 256; omega

/-- The slots cover a chain's buffer. -/
theorem slot_cover : (Finset.univ : Finset (Fin 2 × Fin 4)).biUnion (fun p => (srect p.1 p.2).set) = Finset.univ := by
  ext i
  rw [Finset.mem_biUnion]
  exact ⟨fun _ => Finset.mem_univ _, fun _ => ⟨((⟨(i 0).val, (i 0).isLt⟩ : Fin 2), (⟨(i 1).val, (i 1).isLt⟩ : Fin 4)), Finset.mem_univ _, (slot_mem _ _ i).mpr ⟨rfl, rfl⟩⟩⟩
/-- Different slots share nothing. -/
theorem slot_apart (p p' : Fin 2 × Fin 4) (hp : p ≠ p') : Disjoint (srect p.1 p.2).set (srect p'.1 p'.2).set := by
  rw [Finset.disjoint_left]
  intro i h1 h2
  have e1 := (slot_mem _ _ i).mp h1
  have e2 := (slot_mem _ _ i).mp h2
  exact hp (Prod.ext (Fin.ext (e1.1.symm.trans e2.1)) (Fin.ext (e1.2.symm.trans e2.2)))

/-- The column a piece starts at. -/
abbrev col (p : Fin 2 × Fin 2 × Fin 4) : ℕ := 2048 * p.1.val + 512 * p.2.2.val + 256 * p.2.1.val
/-- An entry is in a piece when its column says so. -/
theorem piece_mem (p : Fin 2 × Fin 2 × Fin 4) (i : S256x4096.Idx) : i ∈ (prect p.1 p.2.2 p.2.1).set ↔ col p ≤ (i 1).val ∧ (i 1).val < col p + 256 := by
  rw [Rect.mem_set_unit]
  have h0 : (i 0).val < 256 := (i 0).isLt
  constructor
  · intro hi; exact hi 1
  · intro hi a
    match a with
    | 0 => show 0 ≤ (i 0).val ∧ (i 0).val < 0 + 256; omega
    | 1 => exact hi
/-- The pieces cover the result. -/
theorem piece_cover : (Finset.univ : Finset (Fin 2 × Fin 2 × Fin 4)).biUnion (fun p => (prect p.1 p.2.2 p.2.1).set) = Finset.univ := by
  ext i
  rw [Finset.mem_biUnion]
  have h1 : (i 1).val < 4096 := (i 1).isLt
  refine ⟨fun _ => Finset.mem_univ _, fun _ => ⟨(⟨(i 1).val / 2048, by omega⟩, ⟨(i 1).val / 256 % 2, Nat.mod_lt _ (by decide)⟩, ⟨(i 1).val / 512 % 4, Nat.mod_lt _ (by decide)⟩), Finset.mem_univ _, ?_⟩⟩
  rw [piece_mem]; dsimp only [col]; omega
/-- Different pieces have columns apart. -/
theorem col_apart : ∀ p p' : Fin 2 × Fin 2 × Fin 4, p ≠ p' → col p + 256 ≤ col p' ∨ col p' + 256 ≤ col p := by decide +kernel
/-- So different pieces share nothing. -/
theorem piece_apart (p p' : Fin 2 × Fin 2 × Fin 4) (hp : p ≠ p') : Disjoint (prect p.1 p.2.2 p.2.1).set (prect p'.1 p'.2.2 p'.2.1).set := by
  rw [Finset.disjoint_left]
  intro i h1 h2
  have e1 := (piece_mem _ i).mp h1
  have e2 := (piece_mem _ i).mp h2
  have := col_apart p p' hp
  omega

/-- The entries of a piece are its rectangle's. -/
theorem pc_set (p : Fin 2 × Fin 2 × Fin 4) : (pcM p.1 p.2.2 p.2.1).view.set = (prect p.1 p.2.2 p.2.1).set := View.set_slice_whole _ _
/-- The entries of a slot are its rectangle's. -/
theorem ar_set (b : Bool) (p : Fin 2 × Fin 4) : (slotM b p.1 p.2).view.set = (match b with | false => (srect p.1 p.2).set | true => (srect p.1 p.2).set) := by
  rw [slot_set]; cases b <;> exact View.set_slice_whole _ _

/-- The staged result, whole, is its pieces. -/
theorem out_pieces (c : Dev nD) (f : Buf (Elt F) ((c : Thread nD τ).loc cc0_stg2_0)) :
    (((c : Thread nD τ).loc cc0_stg2_0) ↦{fullShare} f : sProp 𝕄) = bigSep Finset.univ fun p : Fin 2 × Fin 2 × Fin 4 => pcPts c p.1 p.2.2 p.2.1 fullShare f := by
  have e := pointsTo_biUnion (U := UU) (Ix := Unit) (Name := ℕ) (Lvl := ℕ) (ℓ := (c : Thread nD τ).loc cc0_stg2_0) (q := fullShare) (f := f)
    (Finset.univ : Finset (Fin 2 × Fin 2 × Fin 4)) (fun p => (prect p.1 p.2.2 p.2.1).set) (fun p _ p' _ h => piece_apart p p' h)
  rw [piece_cover] at e
  refine Eq.trans e (bigSep_congr fun p _ => ?_)
  unfold pcPts
  rw [pc_set]
/-- The result buffer, cut into pieces. -/
theorem pieces_start (c : Dev nD) : iprop(∃ f : Buf (Elt F) ((c : Thread nD τ).loc cc0_stg2_0), ((c : Thread nD τ).loc cc0_stg2_0) ↦{fullShare} f) ⊢ PIECES c := by
  unfold PIECES pcAny
  iintro ⟨%f, H⟩
  ihave H := (Entails.of_eq (out_pieces c f)) $$ H
  iapply (fam_mono (Φ := fun p : Fin 2 × Fin 2 × Fin 4 => pcPts (F := F) c p.1 p.2.2 p.2.1 fullShare f) fun p => by iintro H; iexists f; iexact H)
  iexact H
/-- The finished pieces are the finished result. -/
theorem outs_end (c : Dev nD) : OUTS m ρ c = (((c : Thread nD τ).loc cc0_stg2_0) ↦{fullShare} outAt m ρ c : sProp 𝕄) := (out_pieces c (outAt m ρ c)).symm

/-- A chain's buffer. -/
def bufAny (c : Dev nD) : Bool → sProp 𝕄
  | false => iprop(∃ f : Buf (Elt F) ((c : Thread nD τ).loc cc0_scratch0), ((c : Thread nD τ).loc cc0_scratch0) ↦{fullShare} f)
  | true => iprop(∃ f : Buf (Elt F) ((c : Thread nD τ).loc cc0_scratch1), ((c : Thread nD τ).loc cc0_scratch1) ↦{fullShare} f)

/-- A chain's buffer, cut into slots. -/
theorem buf_slots (c : Dev nD) (b : Bool) : bufAny (F := F) c b ⊢ bigSep Finset.univ fun p : Fin 2 × Fin 4 => slotAny c b p.1 p.2 := by
  have h : ∀ p : Fin 2 × Fin 4, ∀ f, slotPts (F := F) c b p.1 p.2 f ⊢ slotAny c b p.1 p.2 := fun p f => by
    unfold slotAny; iintro H; iexists f; iexact H
  cases b
  all_goals
    unfold bufAny
    iintro ⟨%f, H⟩
    iapply (fam_mono fun p => h p f)
    have e := pointsTo_biUnion (U := UU) (Ix := Unit) (Name := ℕ) (Lvl := ℕ) (Val := Elt F) (q := fullShare) (f := f)
      (Finset.univ : Finset (Fin 2 × Fin 4)) (fun p => (srect p.1 p.2).set) (fun p _ p' _ h => slot_apart p p' h)
    rw [slot_cover] at e
    iapply (Entails.of_eq (e.trans (bigSep_congr fun p _ => by unfold slotPts; rw [ar_set]; rfl)))
    iexact H

/-- The slots, joined into the buffer. -/
theorem slots_buf (c : Dev nD) (b : Bool) : (bigSep Finset.univ fun p : Fin 2 × Fin 4 => slotAny (F := F) c b p.1 p.2) ⊢ bufAny c b := by
  unfold slotAny
  refine (BI.bigSep_exists_pi Finset.univ (fun (p : Fin 2 × Fin 4) f => slotPts (F := F) c b p.1 p.2 f)).trans ?_
  cases b
  · unfold bufAny
    iintro ⟨%g, H⟩
    ihave H := (Entails.of_eq (bigSep_congr fun (p : Fin 2 × Fin 4) _ => show slotPts (F := F) c false p.1 p.2 (g p) = (((c : Thread nD τ).loc cc0_scratch0) ↦[(srect p.1 p.2).set]{fullShare} g p : sProp 𝕄) from by
      unfold slotPts; rw [ar_set]; rfl)) $$ H
    ihave H := (pointsTo_biUnion_join (ℓ := (c : Thread nD τ).loc cc0_scratch0) (q := fullShare) (Finset.univ : Finset (Fin 2 × Fin 4)) (fun p => (srect p.1 p.2).set) g (g (0, 0)) (fun p _ p' _ h => slot_apart p p' h)) $$ H
    icases H with ⟨%f, -, H⟩
    rw [slot_cover]
    iexists f; iexact H
  · unfold bufAny
    iintro ⟨%g, H⟩
    ihave H := (Entails.of_eq (bigSep_congr fun (p : Fin 2 × Fin 4) _ => show slotPts (F := F) c true p.1 p.2 (g p) = (((c : Thread nD τ).loc cc0_scratch1) ↦[(srect p.1 p.2).set]{fullShare} g p : sProp 𝕄) from by
      unfold slotPts; rw [ar_set]; rfl)) $$ H
    ihave H := (pointsTo_biUnion_join (ℓ := (c : Thread nD τ).loc cc0_scratch1) (q := fullShare) (Finset.univ : Finset (Fin 2 × Fin 4)) (fun p => (srect p.1 p.2).set) g (g (0, 0)) (fun p _ p' _ h => slot_apart p p' h)) $$ H
    icases H with ⟨%f, -, H⟩
    rw [slot_cover]
    iexists f; iexact H

/-- The slots of the two chains. -/
theorem slots_both (c : Dev nD) : SLOTS (F := F) c = iprop((bigSep Finset.univ fun p : Fin 2 × Fin 4 => slotAny c false p.1 p.2) ∗ bigSep Finset.univ fun p : Fin 2 × Fin 4 => slotAny c true p.1 p.2) := by
  unfold SLOTS
  rw [bigSep_univ_prod (fun p : Bool × Fin 2 × Fin 4 => slotAny (F := F) c p.1 p.2.1 p.2.2), bigSep_bit]
/-- Both buffers, cut into slots. -/
theorem slots_start (c : Dev nD) : iprop(bufAny (F := F) c false ∗ bufAny c true) ⊢ SLOTS c := by
  rw [slots_both]
  iintro ⟨H1, H2⟩
  isplitl [H1]
  · iapply (buf_slots c false); iexact H1
  · iapply (buf_slots c true); iexact H2
/-- The slots, joined into both buffers. -/
theorem slots_end (c : Dev nD) : SLOTS (F := F) c ⊢ iprop(bufAny (F := F) c false ∗ bufAny c true) := by
  rw [slots_both]
  iintro ⟨H1, H2⟩
  isplitl [H1]
  · iapply (slots_buf c false); iexact H1
  · iapply (slots_buf c true); iexact H2

end Cert.KernelIdeal.Relay
-- ==== Proof.Around.lean ====
module

public import proofs.«01_k».proof.Proof.Body
public import proofs.«01_k».proof.Proof.Places
public import proofs.«01_k».proof.Proof.Gen.KernelIdeal.Launch
public import proofs.«01_k».proof.Proof.Gen.KernelIdeal.Points

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Ci → ℕ)

/-! ## The device program between the staged buffers -/

/-- What a device has from the launch: the invariants, its semaphores, its payments' tokens, the levels. -/
def begun (c : Dev nD) : sProp 𝕄 := iprop((∃ K, recs m ρ K) ∗ levAts L lv ∗ POS c ∗ TOK c)
/-- Before the program: that, and the chains' buffers. -/
def before (c : Dev nD) : sProp 𝕄 := iprop(begun m ρ c ∗ bufAny c false ∗ bufAny c true)
/-- After it: the semaphores at zero, and the buffers. -/
def ended (c : Dev nD) : sProp 𝕄 := iprop((bigSep Finset.univ fun i : Ci => semVal ((c : Thread nD τ), cl i) 0) ∗ bufAny c false ∗ bufAny c true)

/-- What the pipeline's runs hold at their start and end. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => dstg m ρ c
    | ⟨2, _⟩ => outAt m ρ c
  Φ t := match t with
    | ⟨0, _⟩ => before m ρ c
    | ⟨_ + 1, _⟩ => ended c
  q _ := fullShare
  owed t := match t with
    | ⟨0, _⟩ => owed c (pays c)
    | ⟨_ + 1, _⟩ => 0

/-- A staged buffer at contents `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
/-- A staged buffer owned at contents is held at them. -/
theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns held; simp only [Memref.view_whole, View.read_whole, View.set_whole]

/-- What the body is handed. -/
def bodyIn (c : Dev nD) : sProp 𝕄 :=
  iprop(before m ρ c ∗ (dats m ρ 0 c).owesAt () t0_0.castSucc
    ∗ (∃ d, held c cc0_stg0_0 ((dats m ρ 0 c).before (0 : Fin 3) t0_0 d))
    ∗ (∃ d, held c cc0_stg1_0 ((dats m ρ 0 c).before (1 : Fin 3) t0_0 d))
    ∗ (∃ d, held c cc0_stg2_0 ((dats m ρ 0 c).before (2 : Fin 3) t0_0 d)))
/-- What the body hands back. -/
def bodyOut (c : Dev nD) : sProp 𝕄 :=
  iprop(ended c ∗ (dats m ρ 0 c).owesAt () t0_0.succ ∗ held c cc0_stg0_0 (xstg m ρ c) ∗ held c cc0_stg1_0 (dstg m ρ c) ∗ held c cc0_stg2_0 (outAt m ρ c))

/-- What is handed is what the program's proof starts from. -/
theorem body_in (c : Dev nD) : bodyIn m ρ c ⊢ iprop(∃ K, Init m ρ K c) := by
  unfold bodyIn before begun Init
  iintro ⟨⟨⟨⟨%K, #HI⟩, #HL, HP, HT⟩, Hb0, Hb1⟩, Ho, ⟨%d0, %g0, %h0, Hx⟩, ⟨%d1, %g1, %h1, Hd⟩, ⟨%d2, %g2, %h2, Hout⟩⟩
  have e0 : g0 = xstg m ρ c := by rw [h0]; unfold Dat.before; rw [if_pos (fetch0_0 t0_0)]; rfl
  have e1 : g1 = dstg m ρ c := by rw [h1]; unfold Dat.before; rw [if_pos (fetch0_1 t0_0)]; rfl
  subst e0 e1
  unfold Dat.owesAt Pipeline.owesWithin
  icases Ho with ⟨%W, %hW, HO⟩
  rw [show (dats m ρ 0 c).owed t0_0.castSucc = owed c (pays c) from rfl]
  iexists K
  isplitr; · iexact HI
  isplitr; · iexact HL
  isplitl [HO]; · iexists W; iexact HO
  isplitl [HP]; · iexact HP
  isplitl [HT]; · iexact HT
  isplitl [Hb0 Hb1 Hout]
  · isplitl [Hb0 Hb1]
    · iapply (slots_start c); isplitl [Hb0] <;> iassumption
    · iapply (pieces_start c); iexists g2; iexact Hout
  unfold xst dst
  isplitl [Hx] <;> iassumption

/-- What the program's proof ends with is what is handed back. -/
theorem body_out (c : Dev nD) : iprop(Core m ρ K c 63 182 ∗ Cl m ρ c (loc (.bar 0))) ⊢ |={Set.univ}=> bodyOut m ρ c := by
  unfold Core Base bodyOut
  iintro ⟨⟨⟨#HI, -, ⟨%W, HO⟩, -, Hx, Hd⟩, HA⟩, Hc⟩
  ihave H := (parts_end m ρ c) $$ [HA Hc]
  · isplitl [HA] <;> iassumption
  icases H with ⟨Hs, Ho, Hcl⟩
  imod (close_all m ρ K c) $$ [Hcl] with Hz
  · isplitr; · iexact HI
    iexact Hcl
  imodintro
  ihave Hs := (slots_end c) $$ Hs
  icases Hs with ⟨Hb0, Hb1⟩
  rw [show rest c 63 = [] from List.drop_eq_nil_of_le (Nat.le_of_eq (by revert c; decide +kernel))]
  isplitl [Hz Hb0 Hb1]
  · unfold ended
    isplitl [Hz]; · iexact Hz
    isplitl [Hb0] <;> iassumption
  isplitl [HO]
  · unfold Dat.owesAt Pipeline.owesWithin
    rw [show (dats m ρ 0 c).owed t0_0.succ = 0 from rfl]
    iexists W
    isplitr; · ipureintro; exact fun _ _ => Or.inl trivial
    iexact HO
  unfold held xst dst
  isplitl [Hx]; · iexists _; isplitr; · (ipureintro; rfl)
                  iexact Hx
  isplitl [Hd]; · iexists _; isplitr; · (ipureintro; rfl)
                  iexact Hd
  iexists (outAt m ρ c); isplitr; · (ipureintro; rfl)
  rw [← outs_end]; iexact Ho

set_option maxRecDepth 4000 in
/-- The device program, from its staged inputs to its staged result. -/
theorem body_obligation (c : Dev nD) : BodyObligation (dats (F := F) m ρ 0 c) (defs₀ (F := F)) 𝒱₀ () Set.univ := fun t => by
  rw [fin_N0 t]
  rw [bigSep_W0, bigSep_W0]
  simp only [owns_held]
  show bodyIn m ρ c ⊢ wp frame (wpE (defs₀ (F := F)) 𝒱₀ c none) Set.univ
    (cc0_body xM (Memref.isWhole_whole _) dM (Memref.isWhole_whole _) oM (Memref.isWhole_whole _) rM (Memref.isWhole_whole _) lM (Memref.isWhole_whole _)
      cc0_scratch2 cc0_scratch3 cc0_scratch4 cc0_scratch5 cc0_scratch6 cc0_scratch7 cc0_scratch8 cc0_scratch9) (fun _ => bodyOut m ρ c)
  refine (body_in m ρ c).trans ?_
  iintro ⟨%K, H⟩
  have h := ((body_runs m ρ K c (hx := Memref.isWhole_whole _) (hd := Memref.isWhole_whole _) (ho := Memref.isWhole_whole _) (hr := Memref.isWhole_whole _) (hl := Memref.isWhole_whole _)).out.trans
    (wp_mono _ _ _ fun _ => body_out m ρ K c)).trans (wp_fupd _ _ _ _ _)
  iapply h; iexact H

end Cert.KernelIdeal.Relay
-- ==== Proof.Launch.lean ====
module

public import proofs.«01_k».proof.Proof.Around
public import Idealize.ShloMosaic.Lib.Quiescent
public import Idealize.ShloMosaic.Lib.Pipeline.CollectiveSegs

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Ci → ℕ)

/-! ## The semaphores and tokens that the launch mints -/

/-- A device's semaphore. -/
abbrev scell (p : Dev nD × Ci) : GSem nD τ sig := ((p.1 : Thread nD τ), cl p.2)
/-- The numbers of the semaphores name different ones. -/
theorem cl_inj : Function.Injective cl := by decide +kernel
/-- A cell of the mesh belongs to one device and one number. -/
theorem scell_inj : Function.Injective scell := by
  rintro ⟨c, i⟩ ⟨c', i'⟩ h
  have h1 : c = c' := congrArg (fun g : GSem nD τ sig => g.1.1) h
  have h2 : cl i = cl i' := congrArg Prod.snd h
  rw [h1, cl_inj h2]
/-- All cells of the mesh. -/
def allCells : Finset (GSem nD τ sig) := Finset.univ.map ⟨scell, scell_inj⟩
/-- The token of a key at a device. -/
abbrev tokOf (p : Dev nD × Key) : GSem nD τ sig × ℕ × Key := (cell p.1 p.2, 0, p.2)
/-- Different keys and devices have different tokens. -/
theorem tokOf_inj : Function.Injective tokOf := by
  rintro ⟨c, k⟩ ⟨c', k'⟩ h
  have h1 : c = c' := congrArg (fun g : GSem nD τ sig × ℕ × Key => g.1.1.1) h
  have h2 : k = k' := congrArg (fun g : GSem nD τ sig × ℕ × Key => g.2.2) h
  rw [h1, h2]
/-- The tokens of all active keys. -/
def allToks : Finset (GSem nD τ sig × ℕ × Key) := (Finset.univ.filter fun p : Dev nD × Key => act p.1 p.2 = true).map ⟨tokOf, tokOf_inj⟩

/-- The resources that the launch starts from. -/
def u₀ : UU :=
  (initOf (Pipeline.cells cfgs cellOf_inj) (Pipeline.launchToks cfgs cellOf_inj), initOf allCells allToks)

/-- The tokens of a device's own semaphores. -/
def minted (c : Dev nD) : sProp 𝕄 := bigSep Finset.univ fun k : Key => if act c k = true then dutyTok ER (cell c k) 0 k else iprop(emp)
/-- What the launch deals a device. -/
def G (c : Dev nD) : sProp 𝕄 :=
  iprop((bigSep Finset.univ fun i : Ci => roundState ER (Rd m ρ) (scell (c, i)) 0)
    ∗ (bigSep Finset.univ fun i : Ci => iprop(atPos ER (scell (c, i)) 0 ∅ 0 ∗ reached ER (scell (c, i)) 0)) ∗ minted c)
/-- What the devices make of it together. -/
def G' (c : Dev nD) : sProp 𝕄 :=
  iprop((∃ K, recs m ρ K) ∗ (bigSep Finset.univ fun i : Ci => atPos ER (scell (c, i)) 0 ∅ 0) ∗ TOK c)

/-- They give every device its part. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : Ci => Φ (scell (c, i)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_filter, bigSep_univ_prod]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The kernel's semaphores at zero -/

/-- The semaphores that the kernel itself uses. -/
abbrev osem (n : Fin 70) : SemLoc sig := cl (some n)
/-- They are its own. -/
theorem ownSemFacts : Pipeline.OwnSemFacts cfg0.spec osem := by decide +kernel
/-- All cells: those of the copies and the barrier's. -/
theorem bigSep_opt {M : Type} [URA M] (Φ : Ci → sProp M) : bigSep Finset.univ Φ = iprop((bigSep Finset.univ fun n : Fin 70 => Φ (some n)) ∗ Φ none) := by
  rw [bigSep_univ_equiv (Equiv.optionEquivSumPUnit.{0} (Fin 70)).symm Φ, bigSep_univ_sum, Finset.univ_unique (α := PUnit.{1}), bigSep_singleton]; rfl
/-- The barrier's cell at zero. -/
theorem unscoped_zero (c : Dev nD) : (unscopedSems0 c : sProp 𝕄) = semVal (scell (c, none)) 0 := by
  unfold unscopedSems0
  rw [bigSep_eq_bigSepL_of_eq [SemLoc.reg (sig.barrier 0 rfl)] (by decide +kernel) (by decide)]; rfl
/-- All cells of a device at zero. -/
theorem sems_zero (c : Dev nD) : (bigSep Finset.univ fun i : Ci => semVal (scell (c, i)) 0 : sProp 𝕄)
    = iprop(Pipeline.ownSems0 (Ix := Unit) (Name := ℕ) (U := UU) (Lvl := ℕ) (Val := Elt F) (τ := τ) osem c ∗ unscopedSems0 c) := by
  rw [unscoped_zero, bigSep_opt]; rfl

/-- A device's cells put under their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Ci => iprop(∃ κ : ℕ, cellInv ER (Rd m ρ) κ (scell (c, i))))
          ∗ (bigSep Finset.univ fun i : Ci => iprop(atPos ER (scell (c, i)) 0 ∅ 0 ∗ reached ER (scell (c, i)) 0)) ∗ minted c) := by
  unfold G
  iintro ⟨Hos, Hus, Hst, Hat, Htok⟩
  ihave Hv := (Entails.of_eq (sems_zero (F := F) c).symm) $$ [Hos Hus]
  · isplitl [Hos] <;> iassumption
  imod (show iprop((bigSep Finset.univ fun i : Ci => semVal (scell (c, i)) 0) ∗ bigSep Finset.univ fun i : Ci => roundState ER (Rd m ρ) (scell (c, i)) 0)
      ⊢ (|={Set.univ}=> bigSep Finset.univ fun i : Ci => iprop(∃ κ : ℕ, cellInv ER (Rd m ρ) κ (scell (c, i))) : sProp 𝕄) from by
        rw [← bigSep_sep']
        exact (bigSep_mono fun i _ => (Rounds.body_intro ER (Rd m ρ) (scell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- A family over pairs, in either order. -/
theorem bigSep_swap {M I J : Type} [URA M] [Fintype I] [Fintype J] (Φ : I → J → sProp M) :
    (bigSep Finset.univ fun i => bigSep Finset.univ fun j => Φ i j) = bigSep Finset.univ fun j => bigSep Finset.univ fun i => Φ i j := by
  rw [← bigSep_univ_prod (fun p : I × J => Φ p.1 p.2), bigSep_univ_equiv (Equiv.prodComm J I), bigSep_univ_prod]; rfl
/-- Every token goes to the device that pays with it. -/
theorem toks_dealt : (bigSep Finset.univ fun c : Dev nD => (minted c : sProp 𝕄)) = bigSep Finset.univ fun c : Dev nD => TOK c := by
  unfold minted TOK tok
  rw [bigSep_swap, bigSep_swap (fun (c : Dev nD) (k : Key) => if act (tgt k c) k = true then (dutyTok ER (cell (tgt k c) k) 0 k : sProp 𝕄) else iprop(emp))]
  exact bigSep_congr fun k _ => bigSep_univ_equiv (perm k) (fun c : Dev nD => if act c k = true then (dutyTok ER (cell c k) 0 k : sProp 𝕄) else iprop(emp))

/-- What is known for good is known beside each member. -/
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The parts of all devices, regrouped by what each needs. -/
theorem regroup :
    (bigSep Finset.univ fun c : Dev nD => iprop((bigSep Finset.univ fun i : Ci => iprop(∃ κ : ℕ, cellInv ER (Rd m ρ) κ (scell (c, i))))
          ∗ (bigSep Finset.univ fun i : Ci => iprop(atPos ER (scell (c, i)) 0 ∅ 0 ∗ reached ER (scell (c, i)) 0)) ∗ minted c) : sProp 𝕄)
      ⊢ bigSep Finset.univ (G' m ρ) := by
  rw [bigSep_sep', bigSep_sep', ← bigSep_univ_prod (fun p : Dev nD × Ci => iprop(∃ κ : ℕ, cellInv ER (Rd m ρ) κ (scell p))),
    bigSep_congr (s := Finset.univ) (fun (c : Dev nD) _ => bigSep_sep' Finset.univ (fun i : Ci => (atPos ER (scell (c, i)) 0 ∅ 0 : sProp 𝕄)) (fun i => reached ER (scell (c, i)) 0)),
    bigSep_sep', ← bigSep_univ_prod (fun p : Dev nD × Ci => (reached ER (scell p) 0 : sProp 𝕄)), toks_dealt]
  iintro ⟨HI, ⟨Hat, HR⟩, Htok⟩
  ihave HK := (BI.bigSep_exists_pi Finset.univ (fun (p : Dev nD × Ci) (κ : ℕ) => (cellInv ER (Rd m ρ) κ (scell p) : sProp 𝕄))) $$ HI
  icases HK with ⟨%K, HI⟩
  ihave HA := (show iprop((bigSep Finset.univ fun p : Dev nD × Ci => (cellInv ER (Rd m ρ) (K p) (scell p) : sProp 𝕄)) ∗ bigSep Finset.univ fun p : Dev nD × Ci => (reached ER (scell p) 0 : sProp 𝕄))
      ⊢ recs m ρ K from by unfold recs; rw [← bigSep_sep']) $$ [HI HR]
  · isplitl [HI] <;> iassumption
  ihave HL := (Entails.of_eq (bigSep_sep' Finset.univ (fun c : Dev nD => bigSep Finset.univ fun i : Ci => (atPos ER (scell (c, i)) 0 ∅ 0 : sProp 𝕄)) (fun c => TOK c)).symm) $$ [Hat Htok]
  · isplitl [Hat] <;> iassumption
  iapply (with_all (R := recs m ρ K) (Φ := fun c : Dev nD => iprop((bigSep Finset.univ fun i : Ci => (atPos ER (scell (c, i)) 0 ∅ 0 : sProp 𝕄)) ∗ TOK c)) fun c _ => by
    unfold G'
    iintro ⟨HA, H1, H2⟩
    isplitl [HA]; · iexists K; iexact HA
    isplitl [H1] <;> iassumption)
  isplitl [HA] <;> iassumption

/-- The launch gives every device what its program starts from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What a device is owed -/

/-- What is owed on a cell, key by key. -/
theorem owed_sum (d : Dev nD) (g : GSem nD τ sig) : ∀ l : List (Option Key), owed d l g () = ∑ k : Key, l.count (some k) * (if g = cell (tgt k d) k then amt k else 0)
  | [] => by simp [owed]
  | none :: l => by
    rw [owed_none, owed_sum d g l]
    refine Finset.sum_congr rfl fun k _ => ?_
    rw [List.count_cons_of_ne (by simp)]
  | some j :: l => by
    rw [owed_some, Pi.add_apply, Finsupp.add_apply, owed_sum d g l, tallyAt_apply]
    have e : ∀ k : Key, (some j :: l).count (some k) * (if g = cell (tgt k d) k then amt k else 0)
        = l.count (some k) * (if g = cell (tgt k d) k then amt k else 0) + if k = j then (if g = cell (tgt j d) j then amt j else 0) else 0 := fun k => by
      by_cases h : k = j
      · subst h; rw [List.count_cons_self, if_pos rfl, Nat.add_mul, Nat.one_mul]
      · rw [List.count_cons_of_ne (fun h' => h (Option.some.inj h').symm), if_neg h, Nat.add_zero]
    rw [Finset.sum_congr rfl fun k _ => e k, Finset.sum_add_distrib, Finset.sum_ite_eq' Finset.univ j, if_pos (Finset.mem_univ j)]
    congr 1
    by_cases h : g = cell (tgt j d) j
    · rw [if_pos ⟨h, rfl⟩, if_pos h]
    · rw [if_neg (fun h' => h h'.1), if_neg h]

/-- All that is owed on a cell is the credit of its owner. -/
theorem owed_all (c : Dev nD) (s : SemLoc sig) : ∑ d : Dev nD, owed d (pays d) ((c : Thread nD τ), s) () = credN c s := by
  have e : ∀ d : Dev nD, owed d (pays d) ((c : Thread nD τ), s) ()
      = ∑ k : Key, (fun k (d' : Dev nD) => if d' = c then (if loc k = s ∧ act c k = true ∧ own k = false then amt k else 0) else 0) k (perm k d) := fun d => by
    rw [owed_sum]
    refine Finset.sum_congr rfl fun k _ => ?_
    rw [pays_count]
    show _ = if tgt k d = c then _ else _
    by_cases h : tgt k d = c
    · rw [if_pos h, h]
      by_cases h1 : loc k = s
      · subst h1
        rw [if_pos rfl]
        cases act c k <;> cases own k <;> simp
      · rw [if_neg (fun h' => h1 (congrArg Prod.snd h').symm), Nat.mul_zero]; exact (if_neg fun h' => h1 h'.1).symm
    · rw [if_neg h, if_neg (fun h' => h (congrArg (fun g : GSem nD τ sig => g.1.1) h').symm), Nat.mul_zero]
  rw [Finset.sum_congr rfl fun d _ => e d, Finset.sum_comm]
  unfold credN
  rw [Finset.sum_filter]
  refine Finset.sum_congr rfl fun k _ => ?_
  rw [Equiv.sum_comp (perm k) (fun d' : Dev nD => if d' = c then (if loc k = s ∧ act c k = true ∧ own k = false then amt k else 0) else 0),
    Finset.sum_ite_eq' Finset.univ c, if_pos (Finset.mem_univ c)]

/-- What a device owes at the launch. -/
abbrev O₀ (c : Dev nD) : CellTallies nD τ sig Unit := owed c (pays c)
/-- The launch's debt on a cell, over all devices, is its owner's credit. -/
theorem launch_at (c : Dev nD) (s : SemLoc sig) :
    tallyOn ((c : Thread nD τ), s) (launchCredit (Pipeline.owing O₀) 0 ((c : Thread nD τ), s)) = (tallyAt ((c : Thread nD τ), s) () (credN c s) : CellTallies nD τ sig Unit) := by
  unfold tallyAt; refine congrArg _ (Finsupp.ext fun u => ?_); cases u
  rw [Pipeline.launchCredit_owing, Finsupp.single_eq_same]; exact owed_all c s
/-- So the launch's credit of a device is that of its cells. -/
theorem creds (c : Dev nD) : (Pipeline.launchCred O₀ c : sProp 𝕄) ⊢ bigSep Finset.univ fun i : Ci => cred (tallyAt (scell (c, i)) () (credN c (cl i))) := by
  unfold Pipeline.launchCred
  refine (BI.bigSep_subset (Finset.subset_univ (Finset.univ.map ⟨cl, cl_inj⟩))).trans ?_
  rw [bigSep_map]
  exact Entails.of_eq (bigSep_congr fun i _ => congrArg cred (launch_at c (cl i)))

/-! ## The launch theorem's sides -/

/-- Every window's array is held whole. -/
theorem share_eq (c : Dev nD) (w : Fin cfg0.W) : (dats m ρ 0 c).share w = fullShare := by unfold Dat.share; split <;> rfl

/-- What a device starts from, from what the launch deals it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(begun m ρ c ∗ emp) := by
  iintro ⟨-, Hlev, Hcr, -, HG⟩
  ihave Hc := (creds (F := F) c) $$ Hcr
  unfold G'
  icases HG with ⟨HI, Hat, HT⟩
  imodintro
  unfold begun
  isplitl
  · isplitl [HI]; · iexact HI
    isplitl [Hlev]; · iexact Hlev
    isplitl [Hat Hc]
    · unfold POS posAt
      rw [bigSep_sep']
      isplitl [Hat] <;> iassumption
    iexact HT
  · iempintro

/-- The state before the body, from what a device starts from. -/
theorem phi0_intro (c : Dev nD) :
    iprop(begun m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before bufAny
  iintro ⟨Hs, -, H1, H2⟩
  isplitl [Hs]; · iexact Hs
  isplitl [H1] <;> iassumption

/-- The state after the body gives back the memory and the cells at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = ended c from rfl, scopedRest0_eq]
  unfold ended bufAny
  rw [sems_zero]
  iintro ⟨⟨Ho, Hu⟩, H1, H2⟩
  isplitl [Hu]; · iexact Hu
  isplitl [Ho]; · iexact Ho
  isplitl [H1] <;> iassumption

/-- The waits of the staging are allowed at the levels. -/
theorem stage_wait (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · have h : okWait c (.dma q) 0 = true := by revert c q; decide +kernel
    exact mayWait c (.dma q) 0 h
  · rw [MayWait_zero]; iintro -; iempintro

/-- So are all the waits of the pipeline. -/
theorem waits (c : Dev nD) : (levAts L lv : sProp 𝕄) ⊢ Pipeline.cellsWaits cfgs (dats m ρ) () 0 c :=
  Pipeline.cellsWaits_intro cfgs (dats m ρ) () 0 c fun w s t =>
    stage_wait c _ (by fin_cases w <;> fin_cases s <;> decide) _ (by
      rcases t with ⟨_ | _, ht⟩
      · exact Or.inl rfl
      · exact Or.inr rfl)

/-! ## The run -/

/-- Each array's final contents. -/
def finalA (c : Dev nD) (w : Fin cfg0.W) : Buf (Elt F) ((cfg0.win w).arr.view.loc (c : Thread nD τ)) := (dats m ρ 0 c).arrAt w cfg0.N
/-- What the run is proved to end in: every window's array as computed. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with every semaphore at zero, every fair run of the program on the mesh ends,
    with each device's arrays at their final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := begun m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The first argument ends as it began. -/
theorem final_x (c : Dev nD) : finalA m ρ c (0 : Fin 3) = (s₀ m ρ).mem (win0_0.arr.view.loc (c : Thread nD τ)) :=
  (dats (F := F) m ρ 0 c).arrAt_in (0 : Fin 3) rfl _
/-- So does the second. -/
theorem final_d (c : Dev nD) : finalA m ρ c (1 : Fin 3) = (s₀ m ρ).mem (win0_1.arr.view.loc (c : Thread nD τ)) :=
  (dats (F := F) m ρ 0 c).arrAt_in (1 : Fin 3) rfl _

end Cert.KernelIdeal.Relay
-- ==== Proof.Values.lean ====
module

public import proofs.«01_k».proof.Proof.Launch
public import Idealize.ShloMosaic.Lib.Pipeline.Value
public import Idealize.ShloMosaic.Lib.Pointwise

@[expose] public section

noncomputable section

namespace Cert.KernelIdeal.Relay

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × Ci → ℕ)

/-! ## The result array holds the result block -/

/-- The staged first operand is the device's argument. -/
theorem xstg_eq (c : Dev nD) : xstg m ρ c = m ((c : Thread nD τ).loc main_arg0) :=
  Memref.read_access_unit_zero (Elt F) main_arg0 (off := fun a => win0_0.index (0 : Fin 1) a * main_arg0.ty.shape.size a)
    (funext fun a => by fin_cases a <;> decide) _ _

/-- So is the staged second operand. -/
theorem dstg_eq (c : Dev nD) : dstg m ρ c = m ((c : Thread nD τ).loc main_arg1) :=
  Memref.read_access_unit_zero (Elt F) main_arg1 (off := fun a => win0_1.index (0 : Fin 1) a * main_arg1.ty.shape.size a)
    (funext fun a => by fin_cases a <;> decide) _ _

/-- The result block as contents of the result array. -/
abbrev result (c : Dev nD) : Buf (Elt F) ((cfg0.win (2 : Fin 3)).arr.view.loc (c : Thread nD τ)) := outAt m ρ c

/-- The one write-back writes the whole block. -/
theorem flushed_eq (c : Dev nD) (t : Fin cfg0.N) (hf : (cfg0.win (2 : Fin 3)).flush t = true) :
    (dats m ρ 0 c).flushed (2 : Fin 3) t = ((cfg0.win (2 : Fin 3)).blk t).view.read (Elt F) (result m ρ c) := by
  have hz : (fun a => win0_2.index t a * main_v1.ty.shape.size a) = fun _ => 0 :=
    funext fun a => by revert t; fin_cases a <;> decide
  exact (Memref.read_access_unit_zero (Elt F) main_v1 hz (fun a => by rw [congrFun hz a]; simp) (result m ρ c)).symm

/-- So the result array ends holding the result block. -/
theorem final_o (c : Dev nD) : finalA m ρ c (2 : Fin 3) = result m ρ c :=
  (dats m ρ 0 c).arrAt_eq_of_cover (2 : Fin 3) (result m ρ c) (flushed_eq m ρ c) fun i =>
    ⟨t0_0, flush0_2 _, by
      show i ∈ ((View.whole main_v1).slice (win0_2.rect t0_0)).set
      rw [View.set_slice_whole, Rect.mem_set_unit]
      intro a
      have h0 : (i 0 : Nat) < 256 := (i 0).isLt
      have h1 : (i 1 : Nat) < 4096 := (i 1).isLt
      match a with
      | ⟨0, _⟩ =>
        show win0_2.index t0_0 0 * win0_2.size 0 ≤ (i 0 : Nat) ∧ (i 0 : Nat) < win0_2.index t0_0 0 * win0_2.size 0 + win0_2.xsize (grid0.coords t0_0) 0
        rw [show win0_2.index t0_0 0 * win0_2.size 0 = 0 from by decide +kernel, show win0_2.xsize (grid0.coords t0_0) 0 = 256 from by decide +kernel]; omega
      | ⟨1, _⟩ =>
        show win0_2.index t0_0 1 * win0_2.size 1 ≤ (i 1 : Nat) ∧ (i 1 : Nat) < win0_2.index t0_0 1 * win0_2.size 1 + win0_2.xsize (grid0.coords t0_0) 1
        rw [show win0_2.index t0_0 1 * win0_2.size 1 = 0 from by decide +kernel, show win0_2.xsize (grid0.coords t0_0) 1 = 4096 from by decide +kernel]; omega⟩

/-! ## The sums along the chains -/

/-- A chain's sum as a block of rows and columns. -/
def cv (b : Bool) (h : Fin 2) (q : Fin 4) (n : ℕ) (c : Dev nD) : FVec F S256x256 .f32 :=
  shapeCast S256x256 (chain m ρ b h q n c) shapeCasts_S1x1x256x256_S256x256

/-- A chain starts at its first device's own product, -/
theorem cv_zero (b : Bool) (h : Fin 2) (q : Fin 4) (c : Dev nD) : cv m ρ b h q 0 c = part m ρ c h q := by
  unfold cv chain k0_pay8; exact shapeCast_shapeCast _ _ _

/-- and each step adds the device's own product to the sum it was given. -/
theorem cv_succ (b : Bool) (h : Fin 2) (q : Fin 4) (n : ℕ) (c : Dev nD) :
    cv m ρ b h q (n + 1) c = addf (cv m ρ b h q n (ypv b c)) (part m ρ c h q) := by
  unfold cv; rw [chain]; unfold k0_pay12; exact shapeCast_shapeCast _ _ _

/-- A block of zeros. -/
def zeros : FVec F S256x256 .f32 := broadcast S256x256 (Scalar.ofBits .f32 0x00000000#32)

/-- A finished piece: the device's own product, and what the two chains bring where they reach it. -/
theorem piece_parts (x : Fin 2) (y z : Fin 4) (h : Fin 2) : piece m ρ (dev x y z) h
    = addf (addf (part m ρ (dev x y z) h y)
        (if y.val = 0 then zeros else cv m ρ false h y (y.val - 1) (dev x (y - 1) z)))
        (if y.val = 3 then zeros else cv m ρ true h y (2 - y.val) (dev x (y + 1) z)) := by
  have hw5 : w5 (dev x y z) = BitVec.ofNat 32 y.val := by revert x y z; decide +kernel
  have hw14 : w14 (dev x y z) = if y.val = 0 then 0#1 else 1#1 := by revert x y z; decide +kernel
  have hw15 : w15 (dev x y z) = if y.val = 3 then 0#1 else 1#1 := by revert x y z; decide +kernel
  have hf : given m ρ false h y (dev x y z) = chain m ρ false h y (y.val - 1) (dev x (y - 1) z) := by
    unfold given
    rw [show yb false (dev x y z) = y.val from by clear hw5 hw14 hw15; revert x y z; decide +kernel,
      show ypv false (dev x y z) = dev x (y - 1) z from by clear hw5 hw14 hw15; revert x y z; decide +kernel]
  have ht : given m ρ true h y (dev x y z) = chain m ρ true h y (2 - y.val) (dev x (y + 1) z) := by
    unfold given
    rw [show yb true (dev x y z) - 1 = 2 - y.val from by clear hf hw5 hw14 hw15; revert x y z; decide +kernel,
      show ypv true (dev x y z) = dev x (y + 1) z from by clear hf hw5 hw14 hw15; revert x y z; decide +kernel]
  unfold piece
  rw [Y_dev, hw5, hw14, hw15, hf, ht]
  revert y
  intro y
  match y with
  | 0 => intros; rfl
  | 1 => intros; rfl
  | 2 => intros; rfl
  | 3 => intros; rfl

/-! ## The sums at exact values -/

section Exact

open Idealize.ShloMosaic.ValueIdx (idx2_lt0 idx2_lt1)

variable (mi : (ℓ : Loc nD τ sig) → Buf (Elt Ideal) ℓ) (ρi : Dev nD → PrngReg)

/-- A device's two operands, by row and column. -/
def xat (c : Dev nD) (k : Fin 1024) (a : Fin 1024) : EReal := (mi ((c : Thread nD τ).loc main_arg0) : S1024x1024.Idx → EReal) (ValueIdx.ix2 k a)
/-- A device's second operand, by row and column. -/
def dat (c : Dev nD) (k : Fin 1024) (b : Fin 4096) : EReal := (mi ((c : Thread nD τ).loc main_arg1) : S1024x4096.Idx → EReal) (ValueIdx.ix2 k b)

/-- The sum of the products of column `a` of a device's first operand with column `b` of its second. -/
def dotAt (c : Dev nD) (a : Fin 1024) (b : Fin 4096) : EReal := ∑ k : Fin 1024, xat mi c k a * dat mi c k b

/-- A row block's columns of the first operand, entry by entry. -/
theorem xs_apply (c : Dev nD) (q : Fin 4) (i : S1024x256.Idx) :
    xs mi ρi c q i = xat mi c (i 0) ⟨256 * q.val + (i 1).val, by have := idx2_lt1 i; omega⟩ := by
  unfold xs xat
  rw [xstg_eq]
  show (mi ((c : Thread nD τ).loc main_arg0) : S1024x1024.Idx → EReal) _ = _
  refine congrArg _ (Shape.idx_ext₂ ?_ ?_)
  · show 0 + 1 * (i 0).val = (i 0).val; omega
  · show 256 * q.val + 1 * (i 1).val = 256 * q.val + (i 1).val; omega

/-- The device's columns of the second operand, entry by entry. -/
theorem ds_apply (c : Dev nD) (h : Fin 2) (i : S1024x256.Idx) :
    ds mi ρi c h i = dat mi c (i 0) ⟨2048 * (X c).val + 512 * (Z c).val + 256 * h.val + (i 1).val, by have := idx2_lt1 i; omega⟩ := by
  unfold ds dat
  rw [dstg_eq]
  show (mi ((c : Thread nD τ).loc main_arg1) : S1024x4096.Idx → EReal) _ = _
  refine congrArg _ (Shape.idx_ext₂ ?_ ?_)
  · show k0_off1 c (BitVec.ofNat 32 (256 * h.val)) 0 + 1 * (i 0).val = (i 0).val
    rw [k0_off1_eq]; show 0 + 1 * (i 0).val = _; omega
  · show k0_off1 c (BitVec.ofNat 32 (256 * h.val)) 1 + 1 * (i 1).val = 2048 * (X c).val + 512 * (Z c).val + 256 * h.val + (i 1).val
    rw [k0_off1_eq]; show (2048 * (c.val / 16) + 512 * (c.val % 4) + 256 * h.val) + 1 * (i 1).val = 2048 * (c.val / 16) + 512 * (c.val % 4) + 256 * h.val + _
    omega

/-- A device's own product, entry by entry. -/
theorem part_apply (c : Dev nD) (h : Fin 2) (q : Fin 4) (i : S256x256.Idx) :
    part mi ρi c h q i = dotAt mi c ⟨256 * q.val + (i 0).val, by have := idx2_lt0 i; omega⟩
      ⟨2048 * (X c).val + 512 * (Z c).val + 256 * h.val + (i 1).val, by have := idx2_lt1 i; omega⟩ := by
  unfold part k0_pay1
  simp only [shapeCast_self]
  refine (Ideal.matmul_apply₁ dot_S1024x256_S1024x256_S256x256_0_0_1_1_n_n rfl rfl (xs mi ρi c q) (ds mi ρi c h) _ i).trans ?_
  rw [show constant (F := Ideal) S256x256 .f32 0x00000000#32 i = (0 : EReal) from Ideal.ofBits_zero_f32, zero_add]
  refine Finset.sum_congr rfl fun k _ => ?_
  rw [xs_apply, ds_apply]
  rfl

/-- A chain's sum, entry by entry. -/
theorem cv_succ_apply (b : Bool) (h : Fin 2) (q : Fin 4) (n : ℕ) (c : Dev nD) (i : S256x256.Idx) :
    (cv mi ρi b h q (n + 1) c i : EReal) = cv mi ρi b h q n (ypv b c) i + part mi ρi c h q i := by
  rw [cv_succ]; rfl

/-- The block of zeros is zero. -/
theorem zeros_apply (i : S256x256.Idx) : (zeros (F := Ideal) i : EReal) = 0 := Ideal.ofBits_zero_f32

/-- Back along the upward chain is one place down. -/
theorem ypv_false (x : Fin 2) (y z : Fin 4) : ypv false (dev x y z) = dev x (y - 1) z := by revert x y z; decide +kernel
/-- Back along the downward chain is one place up. -/
theorem ypv_true (x : Fin 2) (y z : Fin 4) : ypv true (dev x y z) = dev x (y + 1) z := by revert x y z; decide +kernel

/-- A finished piece is the sum of the products of the four devices along the second axis. -/
theorem piece_sum (x : Fin 2) (y z : Fin 4) (h : Fin 2) (i : S256x256.Idx) :
    (piece mi ρi (dev x y z) h i : EReal) = ∑ j : Fin 4, (part mi ρi (dev x j z) h y i : EReal) := by
  rw [piece_parts, Fin.sum_univ_four]
  show (part mi ρi (dev x y z) h y i + _ : EReal) + _ = _
  match y with
  | 0 =>
    show ((part mi ρi (dev x 0 z) h 0 i : EReal) + zeros (F := Ideal) i) + cv mi ρi true h 0 2 (dev x 1 z) i = _
    rw [zeros_apply, cv_succ_apply, ypv_true, cv_succ_apply, ypv_true, cv_zero]
    show ((part mi ρi (dev x 0 z) h 0 i : EReal) + 0) + ((part mi ρi (dev x 3 z) h 0 i + part mi ρi (dev x 2 z) h 0 i) + part mi ρi (dev x 1 z) h 0 i) = _
    abel
  | 1 =>
    show ((part mi ρi (dev x 1 z) h 1 i : EReal) + cv mi ρi false h 1 0 (dev x 0 z) i) + cv mi ρi true h 1 1 (dev x 2 z) i = _
    rw [cv_zero, cv_succ_apply, ypv_true, cv_zero]
    show ((part mi ρi (dev x 1 z) h 1 i : EReal) + part mi ρi (dev x 0 z) h 1 i) + (part mi ρi (dev x 3 z) h 1 i + part mi ρi (dev x 2 z) h 1 i) = _
    abel
  | 2 =>
    show ((part mi ρi (dev x 2 z) h 2 i : EReal) + cv mi ρi false h 2 1 (dev x 1 z) i) + cv mi ρi true h 2 0 (dev x 3 z) i = _
    rw [cv_zero, cv_succ_apply, ypv_false, cv_zero]
    show ((part mi ρi (dev x 2 z) h 2 i : EReal) + (part mi ρi (dev x 0 z) h 2 i + part mi ρi (dev x 1 z) h 2 i)) + part mi ρi (dev x 3 z) h 2 i = _
    abel
  | 3 =>
    show ((part mi ρi (dev x 3 z) h 3 i : EReal) + cv mi ρi false h 3 2 (dev x 2 z) i) + zeros (F := Ideal) i = _
    rw [zeros_apply, cv_succ_apply, ypv_false, cv_succ_apply, ypv_false, cv_zero]
    show ((part mi ρi (dev x 3 z) h 3 i : EReal) + ((part mi ρi (dev x 0 z) h 3 i + part mi ρi (dev x 1 z) h 3 i) + part mi ρi (dev x 2 z) h 3 i)) + 0 = _
    abel

/-- The result block, entry by entry: the sum over the four devices along the second axis. -/
theorem outAt_apply (c : Dev nD) (i : S256x4096.Idx) :
    (outAt mi ρi c i : EReal) = ∑ j : Fin 4, dotAt mi
      (dev ⟨(i 1).val / 2048, by have := idx2_lt1 i; omega⟩ j ⟨(i 1).val / 512 % 4, Nat.mod_lt _ (by decide)⟩)
      ⟨256 * (Y c).val + (i 0).val, by have := idx2_lt0 i; omega⟩ (i 1) := by
  unfold outAt
  refine (piece_sum mi ρi _ _ _ _ _).trans (Finset.sum_congr rfl fun j _ => ?_)
  refine (part_apply mi ρi _ _ _ _).trans (congrArg (dotAt mi _ _) (Fin.ext ?_))
  show 2048 * (X _).val + 512 * (Z _).val + _ + _ = _
  rw [X_dev, Z_dev]
  show 2048 * ((i 1).val / 2048) + 512 * ((i 1).val / 512 % 4) + 256 * ((i 1).val / 256 % 2) + (i 1).val % 256 = (i 1).val
  omega

end Exact

end Cert.KernelIdeal.Relay
-- ==== Proof.Product.lean ====
/- The result blocks of the kernel (Values.lean) are the blocks of the reference's product. -/
module

public import proofs.«01_k».proof.Defs
public import proofs.«01_k».proof.Proof.Values
public import proofs.«01_k».proof.Proof.Gen.ReferenceIdeal.Run
public import Idealize.ShloMosaic.Lib.Layout

@[expose] public section

noncomputable section

namespace Cert.Product

open Idealize.ShloMosaic Idealize.ShloMosaic.TcCoe
open Idealize.ShloMosaic.ValueIdx (idx2_lt0 idx2_lt1)
open Cert.KernelIdeal.Relay

/-- The reference's product of two whole operands. -/
def whole (x : Cert.ReferenceIdeal.S4096x1024.Idx → EReal) (d : Cert.ReferenceIdeal.S4096x4096.Idx → EReal) :
    Cert.ReferenceIdeal.S1024x4096.Idx → EReal :=
  Host.dotGeneral (F := Ideal) (φ₁ := .f32) (φ₂ := .f32) Cert.ReferenceIdeal.dot_S1024x4096_S4096x4096_S1024x4096_1_0_0_1_n_n none
    (transpose Cert.ReferenceIdeal.S1024x4096 [1, 0] x Cert.ReferenceIdeal.Facts₀.transposes_S4096x1024_S1024x4096_1_0) d

/-- Entry by entry: the sum over the rows of both operands. -/
theorem whole_apply (x : Cert.ReferenceIdeal.S4096x1024.Idx → EReal) (d : Cert.ReferenceIdeal.S4096x4096.Idx → EReal)
    (i : Cert.ReferenceIdeal.S1024x4096.Idx) :
    whole x d i = ∑ k : Fin 4096, x (ValueIdx.ix2 k (i 0)) * d (ValueIdx.ix2 k (i 1)) := by
  refine (Ideal.matmul_apply₁ Cert.ReferenceIdeal.dot_S1024x4096_S4096x4096_S1024x4096_1_0_0_1_n_n rfl rfl
    (transpose Cert.ReferenceIdeal.S1024x4096 [1, 0] x Cert.ReferenceIdeal.Facts₀.transposes_S4096x1024_S1024x4096_1_0) d (fun _ => 0) i).trans ?_
  rw [zero_add]
  refine Finset.sum_congr rfl fun k _ => ?_
  refine congrArg₂ (· * ·) (congrArg x (Shape.idx_ext₂ rfl rfl)) (congrArg d (Shape.idx_ext₂ rfl rfl))

/-- Device `c`'s block of the whole product is what the kernel leaves in its result. -/
theorem result_block (m : (ℓ : Loc Cert.KernelIdeal.nD Cert.KernelIdeal.τ Cert.KernelIdeal.sig) → Buf (Elt Ideal) ℓ)
    (ρ : Dev Cert.KernelIdeal.nD → PrngReg)
    (x : Cert.ReferenceIdeal.S4096x1024.Idx → EReal) (d : Cert.ReferenceIdeal.S4096x4096.Idx → EReal)
    (hx : ∀ c : Dev Cert.KernelIdeal.nD, (m ((c.tc : Thread Cert.KernelIdeal.nD Cert.KernelIdeal.τ).loc Cert.KernelIdeal.main_arg0) : Cert.KernelIdeal.S1024x1024.Idx → EReal)
      = Layout.blockN ⟨2, ![1024, 1024]⟩ ⟨2, ![4096, 1024]⟩ (Layout.meshBlock [2, 4, 4] ![[1], []] c) x)
    (hd : ∀ c : Dev Cert.KernelIdeal.nD, (m ((c.tc : Thread Cert.KernelIdeal.nD Cert.KernelIdeal.τ).loc Cert.KernelIdeal.main_arg1) : Cert.KernelIdeal.S1024x4096.Idx → EReal)
      = Layout.blockN ⟨2, ![1024, 4096]⟩ ⟨2, ![4096, 4096]⟩ (Layout.meshBlock [2, 4, 4] ![[1], []] c) d)
    (c : Dev Cert.KernelIdeal.nD) :
    (outAt m ρ c : Cert.KernelIdeal.S256x4096.Idx → EReal)
      = Layout.blockN ⟨2, ![256, 4096]⟩ ⟨2, ![1024, 4096]⟩ (Layout.meshBlock [2, 4, 4] ![[1], []] c) (whole x d) := by
  have ym : ∀ c : Dev Cert.KernelIdeal.nD, ((Layout.meshBlock [2, 4, 4] ![[1], []] c) 0).val = (Y c).val := by decide +kernel
  have zm : ∀ c : Dev Cert.KernelIdeal.nD, ((Layout.meshBlock [2, 4, 4] ![[1], []] c) 1).val = 0 := by decide +kernel
  funext i
  refine Eq.trans (α := EReal) (outAt_apply m ρ c i) ?_
  rw [Layout.blockN_apply, whole_apply, Fin.sum_univ_tiles 4 1024 rfl]
  refine Finset.sum_congr (M := EReal) rfl fun j _ => Finset.sum_congr (M := EReal) rfl fun k _ => ?_
  unfold xat dat
  rw [hx, hd, Layout.blockN_apply, Layout.blockN_apply]
  refine congrArg₂ (· * ·) (congrArg x (Shape.idx_ext₂ ?_ ?_)) (congrArg d (Shape.idx_ext₂ ?_ ?_))
  · show ((Layout.meshBlock [2, 4, 4] ![[1], []] _) 0).val * 1024 + k.val = j.val * 1024 + k.val
    rw [ym, Y_dev]
  · show ((Layout.meshBlock [2, 4, 4] ![[1], []] _) 1).val * 1024 + (256 * (Y c).val + (i 0).val) = ((Layout.meshBlock [2, 4, 4] ![[1], []] c) 0).val * 256 + (i 0).val
    rw [ym, zm]; omega
  · show ((Layout.meshBlock [2, 4, 4] ![[1], []] _) 0).val * 1024 + k.val = j.val * 1024 + k.val
    rw [ym, Y_dev]
  · show ((Layout.meshBlock [2, 4, 4] ![[1], []] _) 1).val * 4096 + (i 1).val = ((Layout.meshBlock [2, 4, 4] ![[1], []] c) 1).val * 4096 + (i 1).val
    rw [zm, zm]

end Cert.Product

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Product
public import Idealize.ShloMosaic.Adequacy
public import Idealize.ShloMosaic.Init

@[expose] public section

noncomputable section

namespace Cert.Proof

open Idealize.ShloMosaic Idealize.SL.Sem

/-- The run read at the two arguments: every run ends, with its arguments unchanged and every semaphore at zero. -/
theorem run_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.KernelIdeal.Relay.final_x m ρ c), (h.1 c (1 : Fin 3)).trans (Cert.KernelIdeal.Relay.final_d m ρ c)⟩, h.2⟩)
    (Cert.KernelIdeal.Relay.run_main (F := F) m ρ)

/-- The kernel read at exact values ends so. -/
theorem frame_kernel_ideal : Cert.quiescent_KernelIdeal := fun m ρ _ => run_frame m ρ

/-- The two texts of the kernel have one body. -/
theorem body_eq : @Cert.Kernel.cc0_body Bits _ _ = @Cert.KernelIdeal.cc0_body Bits _ _ := rfl

/-- So the two tables of procedures are one, at the only label there is. -/
theorem defs_eq : Cert.Kernel.defs (F := Bits) = Cert.KernelIdeal.defs (F := Bits) := by
  refine congrArg (Pipeline.defs (Cert.KernelIdeal.pcfgs (F := Bits))) ?_
  unfold Cert.Kernel.defs₀ Cert.KernelIdeal.defs₀
  refine congrArg Defs.onTc ?_
  funext l a
  match l, a with
  | 0, (t, s) =>
    exact congrFun (congrFun (congrFun (congrFun (congrFun (congrFun (congrFun (congrFun (congrFun (congrFun (congrFun (congrFun (congrFun
      (congrFun (congrFun (congrFun (congrFun (congrFun body_eq _) _) _) _) _) _) _) _) _) _) _) _) _) _) _) _) _) _

/-- The kernel at its own formats ends so too. -/
theorem frame_kernel : Cert.quiescent_Kernel := fun m ρ _ => by
  rw [defs_eq]
  exact run_frame (F := Bits) m ρ

/-- The reference: its two operations run on the host and leave its arguments unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel at exact values leaves on every device its block of the reference's product. -/
theorem product : Cert.algebraic_KernelIdeal_ReferenceIdeal := fun m ρ m' ρ' _ hb => by
  refine ⟨Cert.Product.whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨((h.1 c (2 : Fin 3)).trans (Cert.KernelIdeal.Relay.final_o m ρ c)).trans
          (Cert.Product.result_block m ρ _ _ (fun c => (hb c).1) (fun c => (hb c).2) c),
        (h.1 c (0 : Fin 3)).trans (Cert.KernelIdeal.Relay.final_x m ρ c), (h.1 c (1 : Fin 3)).trans (Cert.KernelIdeal.Relay.final_d m ρ c)⟩)
      (Cert.KernelIdeal.Relay.run_main (F := Ideal) m ρ)
  · exact (θ_run Cert.ReferenceIdeal.defs _ _).mono (fun _ h => h 0) (Cert.ReferenceIdeal.Value.run (F := Ideal) m' ρ')

/-- Everything the claim states. -/
theorem claim : Cert.Claim := ⟨Cert.Kernel.Gen.facts, Cert.KernelIdeal.Gen.facts, Cert.ReferenceIdeal.Gen.facts,
  frame_kernel, frame_kernel_ideal, frame_reference, trivial, product⟩

end Cert.Proof

end
